-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Dil0 (m : (ℓ : Loc Cert.Dil0.nD Cert.Dil0.τ Cert.Dil0.sig) → Buf (Elt Bits) ℓ) : Prop :=
  True

def Pre_Dil0Ideal (m : (ℓ : Loc Cert.Dil0Ideal.nD Cert.Dil0Ideal.τ Cert.Dil0Ideal.sig) → Buf (Elt Ideal) ℓ) : Prop :=
  True

def Pre_Dil0RefIdeal (m : (ℓ : Loc Cert.Dil0RefIdeal.nD Cert.Dil0RefIdeal.τ Cert.Dil0RefIdeal.sig) → Buf (Elt Ideal) ℓ) : Prop :=
  True

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1RefIdeal (m : (ℓ : Loc Cert.Dil1RefIdeal.nD Cert.Dil1RefIdeal.τ Cert.Dil1RefIdeal.sig) → Buf (Elt Ideal) ℓ) : Prop :=
  True

def Pre_Dil2 (m : (ℓ : Loc Cert.Dil2.nD Cert.Dil2.τ Cert.Dil2.sig) → Buf (Elt Bits) ℓ) : Prop :=
  True

def Pre_Dil2Ideal (m : (ℓ : Loc Cert.Dil2Ideal.nD Cert.Dil2Ideal.τ Cert.Dil2Ideal.sig) → Buf (Elt Ideal) ℓ) : Prop :=
  True

def Pre_Dil2RefIdeal (m : (ℓ : Loc Cert.Dil2RefIdeal.nD Cert.Dil2RefIdeal.τ Cert.Dil2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_weights [hPre_finite_weights : Cert.Pre_finite_weights.Facts] (m : (ℓ : Loc Cert.MergeIdeal.nD Cert.MergeIdeal.τ Cert.MergeIdeal.sig) → Buf (Elt Ideal) ℓ) : Prop :=
  ∀ c : Dev Cert.MergeIdeal.nD,
    (Cert.Pre_finite_weights.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_weights [hPre_finite_weights : Cert.Pre_finite_weights.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_weights.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Dil0 [hDil0 : Cert.Dil0.Facts] : Prop :=
  ∀ (m : (ℓ : Loc Cert.Dil0.nD Cert.Dil0.τ Cert.Dil0.sig) → Buf (Elt Bits) ℓ) (g : Dev Cert.Dil0.nD → PrngReg), Pre_Dil0 m →
    θ_run (Cert.Dil0.defs (F := Bits)) (onTc (τ := Cert.Dil0.τ) (Cert.Dil0.main (F := Bits))) ⟨m, fun _ => 0, g⟩ (fun r => (∀ c : Dev Cert.Dil0.nD,
      r.2.mem ((c.tc : Thread Cert.Dil0.nD Cert.Dil0.τ).loc Cert.Dil0.main_arg0) = m ((c.tc : Thread Cert.Dil0.nD Cert.Dil0.τ).loc Cert.Dil0.main_arg0)
      ∧ r.2.mem ((c.tc : Thread Cert.Dil0.nD Cert.Dil0.τ).loc Cert.Dil0.main_arg1) = m ((c.tc : Thread Cert.Dil0.nD Cert.Dil0.τ).loc Cert.Dil0.main_arg1))
      ∧ r.2.sem = fun _ => 0)

def quiescent_Dil0Ideal [hDil0Ideal : Cert.Dil0Ideal.Facts] : Prop :=
  ∀ (m : (ℓ : Loc Cert.Dil0Ideal.nD Cert.Dil0Ideal.τ Cert.Dil0Ideal.sig) → Buf (Elt Ideal) ℓ) (g : Dev Cert.Dil0Ideal.nD → PrngReg), Pre_Dil0Ideal m →
    θ_run (Cert.Dil0Ideal.defs (F := Ideal)) (onTc (τ := Cert.Dil0Ideal.τ) (Cert.Dil0Ideal.main (F := Ideal))) ⟨m, fun _ => 0, g⟩ (fun r => (∀ c : Dev Cert.Dil0Ideal.nD,
      r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
      ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ r.2.sem = fun _ => 0)

def quiescent_Dil0RefIdeal [hDil0RefIdeal : Cert.Dil0RefIdeal.Facts] : Prop :=
  ∀ (m : (ℓ : Loc Cert.Dil0RefIdeal.nD Cert.Dil0RefIdeal.τ Cert.Dil0RefIdeal.sig) → Buf (Elt Ideal) ℓ) (g : Dev Cert.Dil0RefIdeal.nD → PrngReg), Pre_Dil0RefIdeal m →
    θ_run (Cert.Dil0RefIdeal.defs (F := Ideal)) (onTc (τ := Cert.Dil0RefIdeal.τ) (Cert.Dil0RefIdeal.main (F := Ideal))) ⟨m, fun _ => 0, g⟩ (fun r => (∀ c : Dev Cert.Dil0RefIdeal.nD,
      r.2.mem ((c.tc : Thread Cert.Dil0RefIdeal.nD Cert.Dil0RefIdeal.τ).loc Cert.Dil0RefIdeal.main_arg0) = m ((c.tc : Thread Cert.Dil0RefIdeal.nD Cert.Dil0RefIdeal.τ).loc Cert.Dil0RefIdeal.main_arg0)
      ∧ r.2.mem ((c.tc : Thread Cert.Dil0RefIdeal.nD Cert.Dil0RefIdeal.τ).loc Cert.Dil0RefIdeal.main_arg1) = m ((c.tc : Thread Cert.Dil0RefIdeal.nD Cert.Dil0RefIdeal.τ).loc Cert.Dil0RefIdeal.main_arg1))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1))
      ∧ r.2.sem = fun _ => 0)

def quiescent_Dil2 [hDil2 : Cert.Dil2.Facts] : Prop :=
  ∀ (m : (ℓ : Loc Cert.Dil2.nD Cert.Dil2.τ Cert.Dil2.sig) → Buf (Elt Bits) ℓ) (g : Dev Cert.Dil2.nD → PrngReg), Pre_Dil2 m →
    θ_run (Cert.Dil2.defs (F := Bits)) (onTc (τ := Cert.Dil2.τ) (Cert.Dil2.main (F := Bits))) ⟨m, fun _ => 0, g⟩ (fun r => (∀ c : Dev Cert.Dil2.nD,
      r.2.mem ((c.tc : Thread Cert.Dil2.nD Cert.Dil2.τ).loc Cert.Dil2.main_arg0) = m ((c.tc : Thread Cert.Dil2.nD Cert.Dil2.τ).loc Cert.Dil2.main_arg0)
      ∧ r.2.mem ((c.tc : Thread Cert.Dil2.nD Cert.Dil2.τ).loc Cert.Dil2.main_arg1) = m ((c.tc : Thread Cert.Dil2.nD Cert.Dil2.τ).loc Cert.Dil2.main_arg1))
      ∧ r.2.sem = fun _ => 0)

def quiescent_Dil2Ideal [hDil2Ideal : Cert.Dil2Ideal.Facts] : Prop :=
  ∀ (m : (ℓ : Loc Cert.Dil2Ideal.nD Cert.Dil2Ideal.τ Cert.Dil2Ideal.sig) → Buf (Elt Ideal) ℓ) (g : Dev Cert.Dil2Ideal.nD → PrngReg), Pre_Dil2Ideal m →
    θ_run (Cert.Dil2Ideal.defs (F := Ideal)) (onTc (τ := Cert.Dil2Ideal.τ) (Cert.Dil2Ideal.main (F := Ideal))) ⟨m, fun _ => 0, g⟩ (fun r => (∀ c : Dev Cert.Dil2Ideal.nD,
      r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
      ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ r.2.sem = fun _ => 0)

def quiescent_Dil2RefIdeal [hDil2RefIdeal : Cert.Dil2RefIdeal.Facts] : Prop :=
  ∀ (m : (ℓ : Loc Cert.Dil2RefIdeal.nD Cert.Dil2RefIdeal.τ Cert.Dil2RefIdeal.sig) → Buf (Elt Ideal) ℓ) (g : Dev Cert.Dil2RefIdeal.nD → PrngReg), Pre_Dil2RefIdeal m →
    θ_run (Cert.Dil2RefIdeal.defs (F := Ideal)) (onTc (τ := Cert.Dil2RefIdeal.τ) (Cert.Dil2RefIdeal.main (F := Ideal))) ⟨m, fun _ => 0, g⟩ (fun r => (∀ c : Dev Cert.Dil2RefIdeal.nD,
      r.2.mem ((c.tc : Thread Cert.Dil2RefIdeal.nD Cert.Dil2RefIdeal.τ).loc Cert.Dil2RefIdeal.main_arg0) = m ((c.tc : Thread Cert.Dil2RefIdeal.nD Cert.Dil2RefIdeal.τ).loc Cert.Dil2RefIdeal.main_arg0)
      ∧ r.2.mem ((c.tc : Thread Cert.Dil2RefIdeal.nD Cert.Dil2RefIdeal.τ).loc Cert.Dil2RefIdeal.main_arg1) = m ((c.tc : Thread Cert.Dil2RefIdeal.nD Cert.Dil2RefIdeal.τ).loc Cert.Dil2RefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeIdeal_pre_finite_weights [hMergeIdeal : Cert.MergeIdeal.Facts] [hPre_finite_weights : Cert.Pre_finite_weights.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_weights m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_MergeRefIdeal_pre_finite_weights [hMergeRefIdeal : Cert.MergeRefIdeal.Facts] [hPre_finite_weights : Cert.Pre_finite_weights.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_weights m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v27) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Qkv_QkvIdeal : Prop :=
  IdealRules.named_const.Statement Cert.QkvIdeal.κ "qscale" .f32 0x3E0293EE#32 (((Real.sqrt 128)⁻¹ * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v29)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v29) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v76) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Dil0_Dil0Ideal : Prop :=
  IdealRules.named_const.Statement Cert.Dil0Ideal.κ "scale" .f32 0x3DB504F3#32 (((Real.sqrt 128)⁻¹ : ℝ) : EReal)

def algebraic_Dil0Ideal_Dil0RefIdeal [hDil0Ideal : Cert.Dil0Ideal.Facts] [hDil0RefIdeal : Cert.Dil0RefIdeal.Facts] : Prop :=
  ∀ (m : (ℓ : Loc Cert.Dil0Ideal.nD Cert.Dil0Ideal.τ Cert.Dil0Ideal.sig) → Buf (Elt Ideal) ℓ) (g : Dev Cert.Dil0Ideal.nD → PrngReg)
    (m' : (ℓ : Loc Cert.Dil0RefIdeal.nD Cert.Dil0RefIdeal.τ Cert.Dil0RefIdeal.sig) → Buf (Elt Ideal) ℓ) (g' : Dev Cert.Dil0RefIdeal.nD → PrngReg), Pre_Dil0Ideal m →
    (∀ c : Dev Cert.Dil0Ideal.nD,
      m' ((c.tc : Thread Cert.Dil0RefIdeal.nD Cert.Dil0RefIdeal.τ).loc Cert.Dil0RefIdeal.main_arg0) = m ((c.tc : Thread Cert.Dil0Ideal.nD Cert.Dil0Ideal.τ).loc Cert.Dil0Ideal.main_arg0)
      ∧ m' ((c.tc : Thread Cert.Dil0RefIdeal.nD Cert.Dil0RefIdeal.τ).loc Cert.Dil0RefIdeal.main_arg1) = m ((c.tc : Thread Cert.Dil0Ideal.nD Cert.Dil0Ideal.τ).loc Cert.Dil0Ideal.main_arg1)) →
    ∃ (v0 : (c : Dev Cert.Dil0Ideal.nD) → Buf (Elt Ideal) ((c.tc : Thread Cert.Dil0Ideal.nD Cert.Dil0Ideal.τ).loc Cert.Dil0Ideal.main_v29)),
      θ_run (Cert.Dil0Ideal.defs (F := Ideal)) (onTc (τ := Cert.Dil0Ideal.τ) (Cert.Dil0Ideal.main (F := Ideal))) ⟨m, fun _ => 0, g⟩ (fun r => ∀ c : Dev Cert.Dil0Ideal.nD,
          r.2.mem ((c.tc : Thread Cert.Dil0Ideal.nD Cert.Dil0Ideal.τ).loc Cert.Dil0Ideal.main_v29) = v0 c
          ∧ r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
          ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ θ_run (Cert.Dil0RefIdeal.defs (F := Ideal)) (onTc (τ := Cert.Dil0RefIdeal.τ) (Cert.Dil0RefIdeal.main (F := Ideal))) ⟨m', fun _ => 0, g'⟩ (fun r => ∀ c : Dev Cert.Dil0RefIdeal.nD,
          r.2.mem ((c.tc : Thread Cert.Dil0RefIdeal.nD Cert.Dil0RefIdeal.τ).loc Cert.Dil0RefIdeal.main_v81) = v0 c
          ∧ r.2.mem ((c.tc : Thread Cert.Dil0RefIdeal.nD Cert.Dil0RefIdeal.τ).loc Cert.Dil0RefIdeal.main_arg0) = m' ((c.tc : Thread Cert.Dil0RefIdeal.nD Cert.Dil0RefIdeal.τ).loc Cert.Dil0RefIdeal.main_arg0)
          ∧ r.2.mem ((c.tc : Thread Cert.Dil0RefIdeal.nD Cert.Dil0RefIdeal.τ).loc Cert.Dil0RefIdeal.main_arg1) = m' ((c.tc : Thread Cert.Dil0RefIdeal.nD Cert.Dil0RefIdeal.τ).loc Cert.Dil0RefIdeal.main_arg1))

def preserves_Dil1_Dil1Ideal : Prop :=
  IdealRules.named_const.Statement Cert.Dil1Ideal.κ "scale" .f32 0x3DB504F3#32 (((Real.sqrt 128)⁻¹ : ℝ) : EReal)

def algebraic_Dil1Ideal_Dil1RefIdeal [hDil1Ideal : Cert.Dil1Ideal.Facts] [hDil1RefIdeal : Cert.Dil1RefIdeal.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)
      ∧ m' ((c.tc : Thread Cert.Dil1RefIdeal.nD Cert.Dil1RefIdeal.τ).loc Cert.Dil1RefIdeal.main_arg1) = m ((c.tc : Thread Cert.Dil1Ideal.nD Cert.Dil1Ideal.τ).loc Cert.Dil1Ideal.main_arg1)) →
    ∃ (v0 : (c : Dev Cert.Dil1Ideal.nD) → Buf (Elt Ideal) ((c.tc : Thread Cert.Dil1Ideal.nD Cert.Dil1Ideal.τ).loc Cert.Dil1Ideal.main_v29)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v29) = v0 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v81) = v0 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0)
          ∧ r.2.mem ((c.tc : Thread Cert.Dil1RefIdeal.nD Cert.Dil1RefIdeal.τ).loc Cert.Dil1RefIdeal.main_arg1) = m' ((c.tc : Thread Cert.Dil1RefIdeal.nD Cert.Dil1RefIdeal.τ).loc Cert.Dil1RefIdeal.main_arg1))

def preserves_Dil2_Dil2Ideal : Prop :=
  IdealRules.named_const.Statement Cert.Dil2Ideal.κ "scale" .f32 0x3DB504F3#32 (((Real.sqrt 128)⁻¹ : ℝ) : EReal)

def algebraic_Dil2Ideal_Dil2RefIdeal [hDil2Ideal : Cert.Dil2Ideal.Facts] [hDil2RefIdeal : Cert.Dil2RefIdeal.Facts] : Prop :=
  ∀ (m : (ℓ : Loc Cert.Dil2Ideal.nD Cert.Dil2Ideal.τ Cert.Dil2Ideal.sig) → Buf (Elt Ideal) ℓ) (g : Dev Cert.Dil2Ideal.nD → PrngReg)
    (m' : (ℓ : Loc Cert.Dil2RefIdeal.nD Cert.Dil2RefIdeal.τ Cert.Dil2RefIdeal.sig) → Buf (Elt Ideal) ℓ) (g' : Dev Cert.Dil2RefIdeal.nD → PrngReg), Pre_Dil2Ideal m →
    (∀ c : Dev Cert.Dil2Ideal.nD,
      m' ((c.tc : Thread Cert.Dil2RefIdeal.nD Cert.Dil2RefIdeal.τ).loc Cert.Dil2RefIdeal.main_arg0) = m ((c.tc : Thread Cert.Dil2Ideal.nD Cert.Dil2Ideal.τ).loc Cert.Dil2Ideal.main_arg0)
      ∧ m' ((c.tc : Thread Cert.Dil2RefIdeal.nD Cert.Dil2RefIdeal.τ).loc Cert.Dil2RefIdeal.main_arg1) = m ((c.tc : Thread Cert.Dil2Ideal.nD Cert.Dil2Ideal.τ).loc Cert.Dil2Ideal.main_arg1)) →
    ∃ (v0 : (c : Dev Cert.Dil2Ideal.nD) → Buf (Elt Ideal) ((c.tc : Thread Cert.Dil2Ideal.nD Cert.Dil2Ideal.τ).loc Cert.Dil2Ideal.main_v29)),
      θ_run (Cert.Dil2Ideal.defs (F := Ideal)) (onTc (τ := Cert.Dil2Ideal.τ) (Cert.Dil2Ideal.main (F := Ideal))) ⟨m, fun _ => 0, g⟩ (fun r => ∀ c : Dev Cert.Dil2Ideal.nD,
          r.2.mem ((c.tc : Thread Cert.Dil2Ideal.nD Cert.Dil2Ideal.τ).loc Cert.Dil2Ideal.main_v29) = v0 c
          ∧ r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
          ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ θ_run (Cert.Dil2RefIdeal.defs (F := Ideal)) (onTc (τ := Cert.Dil2RefIdeal.τ) (Cert.Dil2RefIdeal.main (F := Ideal))) ⟨m', fun _ => 0, g'⟩ (fun r => ∀ c : Dev Cert.Dil2RefIdeal.nD,
          r.2.mem ((c.tc : Thread Cert.Dil2RefIdeal.nD Cert.Dil2RefIdeal.τ).loc Cert.Dil2RefIdeal.main_v81) = v0 c
          ∧ r.2.mem ((c.tc : Thread Cert.Dil2RefIdeal.nD Cert.Dil2RefIdeal.τ).loc Cert.Dil2RefIdeal.main_arg0) = m' ((c.tc : Thread Cert.Dil2RefIdeal.nD Cert.Dil2RefIdeal.τ).loc Cert.Dil2RefIdeal.main_arg0)
          ∧ r.2.mem ((c.tc : Thread Cert.Dil2RefIdeal.nD Cert.Dil2RefIdeal.τ).loc Cert.Dil2RefIdeal.main_arg1) = m' ((c.tc : Thread Cert.Dil2RefIdeal.nD Cert.Dil2RefIdeal.τ).loc Cert.Dil2RefIdeal.main_arg1))

def preserves_Merge_MergeIdeal : Prop :=
  True

def algebraic_MergeIdeal_MergeRefIdeal_pre_finite_weights [hMergeIdeal : Cert.MergeIdeal.Facts] [hMergeRefIdeal : Cert.MergeRefIdeal.Facts] [hPre_finite_weights : Cert.Pre_finite_weights.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_weights m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v72) = v0 c
          ∧ r.2.mem ((c.tc : Thread Cert.MergeRefIdeal.nD Cert.MergeRefIdeal.τ).loc Cert.MergeRefIdeal.main_v75) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesRefIdeal : Cert.GatesRefIdeal.Facts) (hQkv : Cert.Qkv.Facts) (hQkvIdeal : Cert.QkvIdeal.Facts) (hQkvRefIdeal : Cert.QkvRefIdeal.Facts) (hDil0 : Cert.Dil0.Facts) (hDil0Ideal : Cert.Dil0Ideal.Facts) (hDil0RefIdeal : Cert.Dil0RefIdeal.Facts) (hDil1 : Cert.Dil1.Facts) (hDil1Ideal : Cert.Dil1Ideal.Facts) (hDil1RefIdeal : Cert.Dil1RefIdeal.Facts) (hDil2 : Cert.Dil2.Facts) (hDil2Ideal : Cert.Dil2Ideal.Facts) (hDil2RefIdeal : Cert.Dil2RefIdeal.Facts) (hMerge : Cert.Merge.Facts) (hMergeIdeal : Cert.MergeIdeal.Facts) (hMergeRefIdeal : Cert.MergeRefIdeal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesRefIdeal (hGatesRefIdeal := hGatesRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Dil0 (hDil0 := hDil0)
    ∧ quiescent_Dil0Ideal (hDil0Ideal := hDil0Ideal)
    ∧ quiescent_Dil0RefIdeal (hDil0RefIdeal := hDil0RefIdeal)
    ∧ quiescent_Dil1 (hDil1 := hDil1)
    ∧ quiescent_Dil1Ideal (hDil1Ideal := hDil1Ideal)
    ∧ quiescent_Dil1RefIdeal (hDil1RefIdeal := hDil1RefIdeal)
    ∧ quiescent_Dil2 (hDil2 := hDil2)
    ∧ quiescent_Dil2Ideal (hDil2Ideal := hDil2Ideal)
    ∧ quiescent_Dil2RefIdeal (hDil2RefIdeal := hDil2RefIdeal)
    ∧ quiescent_Merge (hMerge := hMerge)
    ∧ quiescent_MergeIdeal (hMergeIdeal := hMergeIdeal)
    ∧ quiescent_MergeIdeal_pre_finite_weights (hMergeIdeal := hMergeIdeal) (hPre_finite_weights := hPre_finite_weights)
    ∧ quiescent_MergeRefIdeal (hMergeRefIdeal := hMergeRefIdeal)
    ∧ quiescent_MergeRefIdeal_pre_finite_weights (hMergeRefIdeal := hMergeRefIdeal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_GatesRefIdeal (hGatesIdeal := hGatesIdeal) (hGatesRefIdeal := hGatesRefIdeal)
    ∧ preserves_Qkv_QkvIdeal
    ∧ algebraic_QkvIdeal_QkvRefIdeal (hQkvIdeal := hQkvIdeal) (hQkvRefIdeal := hQkvRefIdeal)
    ∧ preserves_Dil0_Dil0Ideal
    ∧ algebraic_Dil0Ideal_Dil0RefIdeal (hDil0Ideal := hDil0Ideal) (hDil0RefIdeal := hDil0RefIdeal)
    ∧ preserves_Dil1_Dil1Ideal
    ∧ algebraic_Dil1Ideal_Dil1RefIdeal (hDil1Ideal := hDil1Ideal) (hDil1RefIdeal := hDil1RefIdeal)
    ∧ preserves_Dil2_Dil2Ideal
    ∧ algebraic_Dil2Ideal_Dil2RefIdeal (hDil2Ideal := hDil2Ideal) (hDil2RefIdeal := hDil2RefIdeal)
    ∧ preserves_Merge_MergeIdeal
    ∧ algebraic_MergeIdeal_MergeRefIdeal_pre_finite_weights (hMergeIdeal := hMergeIdeal) (hMergeRefIdeal := hMergeRefIdeal) (hPre_finite_weights := hPre_finite_weights)
-- ==== Pre_finite.lean ====
abbrev S8192x1024 : Shape := ⟨2, ![8192, 1024]⟩
abbrev S1x128 : Shape := ⟨2, ![1, 128]⟩
abbrev S1x256 : Shape := ⟨2, ![1, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_arg6 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S1x128 .f32) (main_arg4 : FVec F S1x128 .f32) (main_arg5 : FVec F S1x128 .f32) (main_arg6 : FVec F S1x128 .f32) (main_arg7 : FVec F S1x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_v13 main_v16
-- ==== Pre_finite_weights.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1x2048x256 : Shape := ⟨3, ![1, 2048, 256]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S1x8192x512 .f32) (main_arg1 : FVec F S4x2048x512 .f32) (main_arg2 : FVec F S16x512x512 .f32) (main_arg3 : FVec F S1x8192x512 .f32) (main_arg4 : FVec F S4x2048x512 .f32) (main_arg5 : FVec F S16x512x512 .f32) (main_arg6 : FVec F S8192x1024 .f32) (main_arg7 : FVec F S8192x4096 .f32) (main_arg8 : FVec F S8192x4096 .f32) (main_arg9 : FVec F S8192x2048 .f32) (main_arg10 : FVec F S1x1024x2048 .f32) (main_arg11 : FVec F S1x512x2048 .f32) (main_arg12 : FVec F S1x2048x2048 .f32) (main_arg13 : FVec F S1x2048 .f32) (main_arg14 : FVec F S1x2048 .f32) (main_arg15 : FVec F S1x2048x256 .f32) : IVec S_ 1 :=
  let main_v0 : FVec F S1x8192x512 .f32 := Host.absf main_arg3
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S4x2048x512 .f32 := Host.absf main_arg4
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S16x512x512 .f32 := Host.absf main_arg5
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  main_v13
-- ==== Kernel.lean ====
abbrev S8192x1024 : Shape := ⟨2, ![8192, 1024]⟩
abbrev S1x128 : Shape := ⟨2, ![1, 128]⟩
abbrev S1x256 : Shape := ⟨2, ![1, 256]⟩
abbrev S36 : Shape := ⟨1, ![36]⟩
abbrev S_ : Shape := ⟨0, ![]⟩
abbrev S8192x3072 : Shape := ⟨2, ![8192, 3072]⟩
abbrev S128 : Shape := ⟨1, ![128]⟩
abbrev S4x128 : Shape := ⟨2, ![4, 128]⟩
abbrev S256 : Shape := ⟨1, ![256]⟩
abbrev S1024x256 : Shape := ⟨2, ![1024, 256]⟩
abbrev S1 : Shape := ⟨1, ![1]⟩
abbrev S2x1024x128 : Shape := ⟨3, ![2, 1024, 128]⟩
abbrev S2x1024x256 : Shape := ⟨3, ![2, 1024, 256]⟩
abbrev S1024x128 : Shape := ⟨2, ![1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩
abbrev S1x1024x256 : Shape := ⟨3, ![1, 1024, 256]⟩
abbrev S512x256 : Shape := ⟨2, ![512, 256]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S512x1024 : Shape := ⟨2, ![512, 1024]⟩
abbrev S1x1 : Shape := ⟨2, ![1, 1]⟩

abbrev nBuf : Space → Nat
  | .hbm => 29
  | .vmem => 13
  | .smem => 2
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x3072, .f32⟩
  | .hbm, ⟨16, _⟩ => ⟨S8192x3072, .bf16⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S256, .f32⟩
  | .hbm, ⟨27, _⟩ => ⟨S1x256, .f32⟩
  | .hbm, ⟨28, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S4x128, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S2x1024x128, .f32⟩
  | .local _ .vmem, ⟨11, _⟩ => ⟨S2x1024x128, .f32⟩
  | .local _ .vmem, ⟨12, _⟩ => ⟨S2x1024x256, .f32⟩
  | .local _ .smem, ⟨0, _⟩ => ⟨S36, .i32⟩
  | .local _ .smem, ⟨1, _⟩ => ⟨S36, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c1_i32 : BitVec 32 := 1#32
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v1 c1_i32
  let c0_i32_3 : BitVec 32 := 0#32
  let v17 : BitVec 1 := Scalar.cmpi .ne v16 c0_i32_3
  let v18 : BitVec 1 := Scalar.andi v15 v17
  let v4 : BitVec 32 := Scalar.divsi v1 c1_i32
  let c1_i32_4 : BitVec 32 := 1#32
  let v19 : BitVec 32 := Scalar.subi v4 c1_i32_4
  let v20 : BitVec 32 := Scalar.select v18 v19 v4
  let v27 : BitVec 1 := Scalar.cmpi .eq v3 v20
  let v28 : BitVec 32 := Scalar.extui v27
  let c0_i32_8 : BitVec 32 := 0#32
  let v29 : BitVec 1 := Scalar.cmpi .ne v28 c0_i32_8
  v29

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S1x128 : Shape := ⟨2, ![1, 128]⟩
abbrev S1x256 : Shape := ⟨2, ![1, 256]⟩
abbrev S128 : Shape := ⟨1, ![128]⟩
abbrev S_ : Shape := ⟨0, ![]⟩
abbrev S8192x8x128 : Shape := ⟨3, ![8192, 8, 128]⟩
abbrev S8192x4x256 : Shape := ⟨3, ![8192, 4, 256]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S4x2x8192x8192 : Shape := ⟨4, ![4, 2, 8192, 8192]⟩
abbrev S4x1x8192x8192 : Shape := ⟨4, ![4, 1, 8192, 8192]⟩
abbrev S4x8192x8192 : Shape := ⟨3, ![4, 8192, 8192]⟩
abbrev S4x256x8192 : Shape := ⟨3, ![4, 256, 8192]⟩
abbrev S8192x4 : Shape := ⟨2, ![8192, 4]⟩
abbrev S8192x4x1 : Shape := ⟨3, ![8192, 4, 1]⟩
abbrev S256 : Shape := ⟨1, ![256]⟩
abbrev S1x1x256 : Shape := ⟨3, ![1, 1, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x8x128, .f32⟩
  | .hbm, ⟨24, _⟩ => ⟨S8192x8x128, .f32⟩
  | .hbm, ⟨25, _⟩ => ⟨S8192x4x256, .f32⟩
  | .hbm, ⟨26, _⟩ => ⟨S8x8192x8192, .f32⟩
  | .hbm, ⟨27, _⟩ => ⟨S_, .f32⟩
  | .hbm, ⟨28, _⟩ => ⟨S_, .f32⟩
  | .hbm, ⟨29, _⟩ => ⟨S8x8192x8192, .f32⟩
  | .hbm, ⟨30, _⟩ => ⟨S8x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S4x2x8192x8192, .f32⟩
  | .hbm, ⟨58, _⟩ => ⟨S4x1x8192x8192, .f32⟩
  | .hbm, ⟨59, _⟩ => ⟨S4x8192x8192, .f32⟩
  | .hbm, ⟨60, _⟩ => ⟨S4x1x8192x8192, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S4x256x8192, .f32⟩
  | .hbm, ⟨66, _⟩ => ⟨S8192x4x256, .f32⟩
  | .hbm, ⟨67, _⟩ => ⟨S8192x4x256, .f32⟩
  | .hbm, ⟨68, _⟩ => ⟨S_, .f32⟩
  | .hbm, ⟨69, _⟩ => ⟨S8192x4, .f32⟩
  | .hbm, ⟨70, _⟩ => ⟨S8192x4x1, .f32⟩
  | .hbm, ⟨71, _⟩ => ⟨S_, .f32⟩
  | .hbm, ⟨72, _⟩ => ⟨S8192x4x1, .f32⟩
  | .hbm, ⟨73, _⟩ => ⟨S8192x4x1, .f32⟩
  | .hbm, ⟨74, _⟩ => ⟨S_, .f32⟩
  | .hbm, ⟨75, _⟩ => ⟨S8192x4x1, .f32⟩
  | .hbm, ⟨76, _⟩ => ⟨S8192x4x1, .f32⟩
  | .hbm, ⟨77, _⟩ => ⟨S8192x4x1, .f32⟩
  | .hbm, ⟨78, _⟩ => ⟨S8192x4x256, .f32⟩
  | .hbm, ⟨79, _⟩ => ⟨S8192x4x256, .f32⟩
  | .hbm, ⟨80, _⟩ => ⟨S256, .f32⟩
  | .hbm, ⟨81, _⟩ => ⟨S1x1x256, .f32⟩
  | .hbm, ⟨82, _⟩ => ⟨S8192x4x256, .f32⟩
  | .hbm, ⟨83, _⟩ => ⟨S8192x4x256, .f32⟩
  | .hbm, ⟨84, _⟩ => ⟨S_, .f32⟩
  | .hbm, ⟨85, _⟩ => ⟨S8192x4x256, .f32⟩
  | .hbm, ⟨86, _⟩ => ⟨S8192x4x256, .f32⟩
  | .hbm, ⟨87, _⟩ => ⟨S8192x1024, .f32⟩
  | .hbm, ⟨88, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Gates.lean ====
abbrev S8192x2048 : Shape := ⟨2, ![8192, 2048]⟩
abbrev S1x2048x11776 : Shape := ⟨3, ![1, 2048, 11776]⟩
abbrev S1x4096 : Shape := ⟨2, ![1, 4096]⟩
abbrev S2048x11776 : Shape := ⟨2, ![2048, 11776]⟩
abbrev S4096 : Shape := ⟨1, ![4096]⟩
abbrev S8192x4096 : Shape := ⟨2, ![8192, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S1x4096, .f32⟩
  | .hbm, ⟨3, _⟩ => ⟨S8192x2048, .bf16⟩
  | .hbm, ⟨4, _⟩ => ⟨S2048x11776, .f32⟩
  | .hbm, ⟨5, _⟩ => ⟨S2048x11776, .bf16⟩
  | .hbm, ⟨6, _⟩ => ⟨S4096, .f32⟩
  | .hbm, ⟨7, _⟩ => ⟨S1x4096, .f32⟩
  | .hbm, ⟨8, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S8192x2048 : Shape := ⟨2, ![8192, 2048]⟩
abbrev S1x2048x11776 : Shape := ⟨3, ![1, 2048, 11776]⟩
abbrev S1x4096 : Shape := ⟨2, ![1, 4096]⟩
abbrev S2048x11776 : Shape := ⟨2, ![2048, 11776]⟩
abbrev S8192x11776 : Shape := ⟨2, ![8192, 11776]⟩
abbrev S1x2048 : Shape := ⟨2, ![1, 2048]⟩
abbrev S2048 : Shape := ⟨1, ![2048]⟩
abbrev S_ : Shape := ⟨0, ![]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S1x4096, .f32⟩
  | .hbm, ⟨3, _⟩ => ⟨S2048x11776, .f32⟩
  | .hbm, ⟨4, _⟩ => ⟨S8192x11776, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x4096, .f32⟩
  | .hbm, ⟨34, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Qkv.lean ====
abbrev S8192x2048 : Shape := ⟨2, ![8192, 2048]⟩
abbrev S1x2048x11776 : Shape := ⟨3, ![1, 2048, 11776]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x128 : Shape := ⟨3, ![1, 8192, 128]⟩
abbrev S2x8192x128 : Shape := ⟨3, ![2, 8192, 128]⟩
abbrev S2048x11776 : Shape := ⟨2, ![2048, 11776]⟩
abbrev S8192x3072 : Shape := ⟨2, ![8192, 3072]⟩
abbrev S1024x2048 : Shape := ⟨2, ![1024, 2048]⟩
abbrev S2048x512 : Shape := ⟨2, ![2048, 512]⟩
abbrev S1x1024x128 : Shape := ⟨3, ![1, 1024, 128]⟩
abbrev S1024x512 : Shape := ⟨2, ![1024, 512]⟩
abbrev S1024x128 : Shape := ⟨2, ![1024, 128]⟩

abbrev nBuf : Space → Nat
  | .hbm => 36
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S1x8192x128, .f32⟩
  | .hbm, ⟨25, _⟩ => ⟨S1x8192x128, .f32⟩
  | .hbm, ⟨26, _⟩ => ⟨S2x8192x128, .f32⟩
  | .hbm, ⟨27, _⟩ => ⟨S_, .f32⟩
  | .hbm, ⟨28, _⟩ => ⟨S8192x128, .f32⟩
  | .hbm, ⟨29, _⟩ => ⟨S1x8192x128, .f32⟩
  | .hbm, ⟨30, _⟩ => ⟨S1x8192x128, .f32⟩
  | .hbm, ⟨31, _⟩ => ⟨S2x8192x128, .f32⟩
  | .hbm, ⟨32, _⟩ => ⟨S8192x2048, .bf16⟩
  | .hbm, ⟨33, _⟩ => ⟨S2048x11776, .f32⟩
  | .hbm, ⟨34, _⟩ => ⟨S2048x11776, .bf16⟩
  | .hbm, ⟨35, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x512, .bf16⟩
  | .local _ .vmem, ⟨9, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  ![v1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvIdeal.lean ====
variable {F : FTy → Type} [FloatOps F] [Named F]
def κ : String → Option EReal := fun
  | "qscale" => some (((Real.sqrt 128)⁻¹ * (Real.log 2)⁻¹ : ℝ) : EReal)
  | _ => none
-- ==== QkvRefIdeal.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S8192x1024 : Shape := ⟨2, ![8192, 1024]⟩
abbrev S8192x8x128 : Shape := ⟨3, ![8192, 8, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x8x64 : Shape := ⟨3, ![8192, 8, 64]⟩
abbrev S8192x3072 : Shape := ⟨2, ![8192, 3072]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S2048x11776, .f32⟩
  | .hbm, ⟨3, _⟩ => ⟨S8192x11776, .f32⟩
  | .hbm, ⟨4, _⟩ => ⟨S8192x1024, .f32⟩
  | .hbm, ⟨5, _⟩ => ⟨S8192x8x128, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S8192, .i32⟩
  | .hbm, ⟨15, _⟩ => ⟨S8192, .f32⟩
  | .hbm, ⟨16, _⟩ => ⟨S8192x1, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x1x64, .f32⟩
  | .hbm, ⟨23, _⟩ => ⟨S8192x64, .f32⟩
  | .hbm, ⟨24, _⟩ => ⟨S8192x1x64, .f32⟩
  | .hbm, ⟨25, _⟩ => ⟨S8192x8x64, .f32⟩
  | .hbm, ⟨26, _⟩ => ⟨S8192x8x64, .f32⟩
  | .hbm, ⟨27, _⟩ => ⟨S8192x8x64, .f32⟩
  | .hbm, ⟨28, _⟩ => ⟨S8192x8x64, .f32⟩
  | .hbm, ⟨29, _⟩ => ⟨S8192x8x64, .f32⟩
  | .hbm, ⟨30, _⟩ => ⟨S8192x8x64, .f32⟩
  | .hbm, ⟨31, _⟩ => ⟨S8192x8x64, .f32⟩
  | .hbm, ⟨32, _⟩ => ⟨S8192x8x64, .f32⟩
  | .hbm, ⟨33, _⟩ => ⟨S8192x8x64, .f32⟩
  | .hbm, ⟨34, _⟩ => ⟨S8192x8x64, .f32⟩
  | .hbm, ⟨35, _⟩ => ⟨S8192x8x64, .f32⟩
  | .hbm, ⟨36, _⟩ => ⟨S8192x8x64, .f32⟩
  | .hbm, ⟨37, _⟩ => ⟨S8192x8x128, .f32⟩
  | .hbm, ⟨38, _⟩ => ⟨S8192x1024, .f32⟩
  | .hbm, ⟨39, _⟩ => ⟨S8192x1024, .f32⟩
  | .hbm, ⟨40, _⟩ => ⟨S8192x8x128, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S8192, .i32⟩
  | .hbm, ⟨50, _⟩ => ⟨S8192, .f32⟩
  | .hbm, ⟨51, _⟩ => ⟨S8192x1, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x1x64, .f32⟩
  | .hbm, ⟨58, _⟩ => ⟨S8192x64, .f32⟩
  | .hbm, ⟨59, _⟩ => ⟨S8192x1x64, .f32⟩
  | .hbm, ⟨60, _⟩ => ⟨S8192x8x64, .f32⟩
  | .hbm, ⟨61, _⟩ => ⟨S8192x8x64, .f32⟩
  | .hbm, ⟨62, _⟩ => ⟨S8192x8x64, .f32⟩
  | .hbm, ⟨63, _⟩ => ⟨S8192x8x64, .f32⟩
  | .hbm, ⟨64, _⟩ => ⟨S8192x8x64, .f32⟩
  | .hbm, ⟨65, _⟩ => ⟨S8192x8x64, .f32⟩
  | .hbm, ⟨66, _⟩ => ⟨S8192x8x64, .f32⟩
  | .hbm, ⟨67, _⟩ => ⟨S8192x8x64, .f32⟩
  | .hbm, ⟨68, _⟩ => ⟨S8192x8x64, .f32⟩
  | .hbm, ⟨69, _⟩ => ⟨S8192x8x64, .f32⟩
  | .hbm, ⟨70, _⟩ => ⟨S8192x8x64, .f32⟩
  | .hbm, ⟨71, _⟩ => ⟨S8192x8x64, .f32⟩
  | .hbm, ⟨72, _⟩ => ⟨S8192x8x128, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x3072, .f32⟩
  | .hbm, ⟨84, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩

abbrev nD : Nat := 1
abbrev τ : Topo := Topo.v7x

variable {F : FTy → Type} [FloatOps F]
-- ==== Dil0.lean ====
abbrev S8192x2048 : Shape := ⟨2, ![8192, 2048]⟩
abbrev S1x2048x11776 : Shape := ⟨3, ![1, 2048, 11776]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x128 : Shape := ⟨3, ![1, 8192, 128]⟩
abbrev S2x8192x128 : Shape := ⟨3, ![2, 8192, 128]⟩
abbrev S2048x11776 : Shape := ⟨2, ![2048, 11776]⟩
abbrev S1x8192x1536 : Shape := ⟨3, ![1, 8192, 1536]⟩
abbrev S1024x2048 : Shape := ⟨2, ![1024, 2048]⟩
abbrev S2048x512 : Shape := ⟨2, ![2048, 512]⟩
abbrev S1x1024x128 : Shape := ⟨3, ![1, 1024, 128]⟩
abbrev S1x1024x512 : Shape := ⟨3, ![1, 1024, 512]⟩
abbrev S4x1024x128 : Shape := ⟨3, ![4, 1024, 128]⟩
abbrev S1024x512 : Shape := ⟨2, ![1024, 512]⟩
abbrev S1024x128 : Shape := ⟨2, ![1024, 128]⟩

abbrev nBuf : Space → Nat
  | .hbm => 36
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S1x8192x128, .f32⟩
  | .hbm, ⟨25, _⟩ => ⟨S1x8192x128, .f32⟩
  | .hbm, ⟨26, _⟩ => ⟨S2x8192x128, .f32⟩
  | .hbm, ⟨27, _⟩ => ⟨S_, .f32⟩
  | .hbm, ⟨28, _⟩ => ⟨S8192x128, .f32⟩
  | .hbm, ⟨29, _⟩ => ⟨S1x8192x128, .f32⟩
  | .hbm, ⟨30, _⟩ => ⟨S1x8192x128, .f32⟩
  | .hbm, ⟨31, _⟩ => ⟨S2x8192x128, .f32⟩
  | .hbm, ⟨32, _⟩ => ⟨S8192x2048, .bf16⟩
  | .hbm, ⟨33, _⟩ => ⟨S2048x11776, .f32⟩
  | .hbm, ⟨34, _⟩ => ⟨S2048x11776, .bf16⟩
  | .hbm, ⟨35, _⟩ => ⟨S1x8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x512, .bf16⟩
  | .local _ .vmem, ⟨9, _⟩ => ⟨S1x1024x512, .bf16⟩
  | .local _ .vmem, ⟨10, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c6_i32 : BitVec 32 := 6#32
  let v1 : BitVec 32 := Scalar.addi c6_i32 v0
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dil0Ideal.lean ====
variable {F : FTy → Type} [FloatOps F] [Named F]
def κ : String → Option EReal := fun
  | "scale" => some (((Real.sqrt 128)⁻¹ : ℝ) : EReal)
  | _ => none
-- ==== Dil0RefIdeal.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S8192x8704 : Shape := ⟨2, ![8192, 8704]⟩
abbrev S8192x512 : Shape := ⟨2, ![8192, 512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S8192x7168 : Shape := ⟨2, ![8192, 7168]⟩
abbrev S8192x5632 : Shape := ⟨2, ![8192, 5632]⟩
abbrev S8192x1x512 : Shape := ⟨3, ![8192, 1, 512]⟩
abbrev S1x8192x512 : Shape := ⟨3, ![1, 8192, 512]⟩
abbrev S1x8192x1536 : Shape := ⟨3, ![1, 8192, 1536]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S2048x11776, .f32⟩
  | .hbm, ⟨3, _⟩ => ⟨S8192x11776, .f32⟩
  | .hbm, ⟨4, _⟩ => ⟨S8192x8704, .f32⟩
  | .hbm, ⟨5, _⟩ => ⟨S8192x512, .f32⟩
  | .hbm, ⟨6, _⟩ => ⟨S8192x4x128, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x1x64, .f32⟩
  | .hbm, ⟨24, _⟩ => ⟨S8192x64, .f32⟩
  | .hbm, ⟨25, _⟩ => ⟨S8192x1x64, .f32⟩
  | .hbm, ⟨26, _⟩ => ⟨S8192x4x64, .f32⟩
  | .hbm, ⟨27, _⟩ => ⟨S8192x4x64, .f32⟩
  | .hbm, ⟨28, _⟩ => ⟨S8192x4x64, .f32⟩
  | .hbm, ⟨29, _⟩ => ⟨S8192x4x64, .f32⟩
  | .hbm, ⟨30, _⟩ => ⟨S8192x4x64, .f32⟩
  | .hbm, ⟨31, _⟩ => ⟨S8192x4x64, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S8192x4x64, .f32⟩
  | .hbm, ⟨36, _⟩ => ⟨S8192x4x64, .f32⟩
  | .hbm, ⟨37, _⟩ => ⟨S8192x4x64, .f32⟩
  | .hbm, ⟨38, _⟩ => ⟨S8192x4x128, .f32⟩
  | .hbm, ⟨39, _⟩ => ⟨S_, .f32⟩
  | .hbm, ⟨40, _⟩ => ⟨S_, .f32⟩
  | .hbm, ⟨41, _⟩ => ⟨S8192x4x128, .f32⟩
  | .hbm, ⟨42, _⟩ => ⟨S8192x4x128, .f32⟩
  | .hbm, ⟨43, _⟩ => ⟨S8192x7168, .f32⟩
  | .hbm, ⟨44, _⟩ => ⟨S8192x512, .f32⟩
  | .hbm, ⟨45, _⟩ => ⟨S8192x4x128, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S8192, .i32⟩
  | .hbm, ⟨55, _⟩ => ⟨S8192, .f32⟩
  | .hbm, ⟨56, _⟩ => ⟨S8192x1, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S8192x1x64, .f32⟩
  | .hbm, ⟨63, _⟩ => ⟨S8192x64, .f32⟩
  | .hbm, ⟨64, _⟩ => ⟨S8192x1x64, .f32⟩
  | .hbm, ⟨65, _⟩ => ⟨S8192x4x64, .f32⟩
  | .hbm, ⟨66, _⟩ => ⟨S8192x4x64, .f32⟩
  | .hbm, ⟨67, _⟩ => ⟨S8192x4x64, .f32⟩
  | .hbm, ⟨68, _⟩ => ⟨S8192x4x64, .f32⟩
  | .hbm, ⟨69, _⟩ => ⟨S8192x4x64, .f32⟩
  | .hbm, ⟨70, _⟩ => ⟨S8192x4x64, .f32⟩
  | .hbm, ⟨71, _⟩ => ⟨S8192x4x64, .f32⟩
  | .hbm, ⟨72, _⟩ => ⟨S8192x4x64, .f32⟩
  | .hbm, ⟨73, _⟩ => ⟨S8192x4x64, .f32⟩
  | .hbm, ⟨74, _⟩ => ⟨S8192x4x64, .f32⟩
  | .hbm, ⟨75, _⟩ => ⟨S8192x4x64, .f32⟩
  | .hbm, ⟨76, _⟩ => ⟨S8192x4x64, .f32⟩
  | .hbm, ⟨77, _⟩ => ⟨S8192x4x128, .f32⟩
  | .hbm, ⟨78, _⟩ => ⟨S8192x5632, .f32⟩
  | .hbm, ⟨79, _⟩ => ⟨S8192x512, .f32⟩
  | .hbm, ⟨80, _⟩ => ⟨S8192x4x128, .f32⟩
  | .hbm, ⟨81, _⟩ => ⟨S8192x1x512, .f32⟩
  | .hbm, ⟨82, _⟩ => ⟨S1x8192x512, .f32⟩
  | .hbm, ⟨83, _⟩ => ⟨S8192x1x512, .f32⟩
  | .hbm, ⟨84, _⟩ => ⟨S1x8192x512, .f32⟩
  | .hbm, ⟨85, _⟩ => ⟨S8192x1x512, .f32⟩
  | .hbm, ⟨86, _⟩ => ⟨S1x8192x512, .f32⟩
  | .hbm, ⟨87, _⟩ => ⟨S1x8192x1536, .f32⟩
  | .hbm, ⟨88, _⟩ => ⟨S1x8192x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩

abbrev nD : Nat := 1
abbrev τ : Topo := Topo.v7x

variable {F : FTy → Type} [FloatOps F]
-- ==== Dil1.lean ====
abbrev S8192x2048 : Shape := ⟨2, ![8192, 2048]⟩
abbrev S1x2048x11776 : Shape := ⟨3, ![1, 2048, 11776]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x128 : Shape := ⟨3, ![1, 8192, 128]⟩
abbrev S2x8192x128 : Shape := ⟨3, ![2, 8192, 128]⟩
abbrev S2048x11776 : Shape := ⟨2, ![2048, 11776]⟩
abbrev S4x2048x1536 : Shape := ⟨3, ![4, 2048, 1536]⟩
abbrev S1024x2048 : Shape := ⟨2, ![1024, 2048]⟩
abbrev S2048x512 : Shape := ⟨2, ![2048, 512]⟩
abbrev S1x1024x128 : Shape := ⟨3, ![1, 1024, 128]⟩
abbrev S4x256x512 : Shape := ⟨3, ![4, 256, 512]⟩
abbrev S4x1024x128 : Shape := ⟨3, ![4, 1024, 128]⟩
abbrev S1024x512 : Shape := ⟨2, ![1024, 512]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 36
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S1x8192x128, .f32⟩
  | .hbm, ⟨25, _⟩ => ⟨S1x8192x128, .f32⟩
  | .hbm, ⟨26, _⟩ => ⟨S2x8192x128, .f32⟩
  | .hbm, ⟨27, _⟩ => ⟨S_, .f32⟩
  | .hbm, ⟨28, _⟩ => ⟨S8192x128, .f32⟩
  | .hbm, ⟨29, _⟩ => ⟨S1x8192x128, .f32⟩
  | .hbm, ⟨30, _⟩ => ⟨S1x8192x128, .f32⟩
  | .hbm, ⟨31, _⟩ => ⟨S2x8192x128, .f32⟩
  | .hbm, ⟨32, _⟩ => ⟨S8192x2048, .bf16⟩
  | .hbm, ⟨33, _⟩ => ⟨S2048x11776, .f32⟩
  | .hbm, ⟨34, _⟩ => ⟨S2048x11776, .bf16⟩
  | .hbm, ⟨35, _⟩ => ⟨S4x2048x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S4x256x512, .bf16⟩
  | .local _ .vmem, ⟨9, _⟩ => ⟨S4x256x512, .bf16⟩
  | .local _ .vmem, ⟨10, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c7_i32 : BitVec 32 := 7#32
  let v1 : BitVec 32 := Scalar.addi c7_i32 v0
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dil1Ideal.lean ====
variable {F : FTy → Type} [FloatOps F] [Named F]
def κ : String → Option EReal := fun
  | "scale" => some (((Real.sqrt 128)⁻¹ : ℝ) : EReal)
  | _ => none
-- ==== Dil1RefIdeal.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S8192x8192 : Shape := ⟨2, ![8192, 8192]⟩
abbrev S8192x512 : Shape := ⟨2, ![8192, 512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S8192x6656 : Shape := ⟨2, ![8192, 6656]⟩
abbrev S8192x5120 : Shape := ⟨2, ![8192, 5120]⟩
abbrev S2048x4x512 : Shape := ⟨3, ![2048, 4, 512]⟩
abbrev S4x2048x512 : Shape := ⟨3, ![4, 2048, 512]⟩
abbrev S4x2048x1536 : Shape := ⟨3, ![4, 2048, 1536]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S2048x11776, .f32⟩
  | .hbm, ⟨3, _⟩ => ⟨S8192x11776, .f32⟩
  | .hbm, ⟨4, _⟩ => ⟨S8192x8192, .f32⟩
  | .hbm, ⟨5, _⟩ => ⟨S8192x512, .f32⟩
  | .hbm, ⟨6, _⟩ => ⟨S8192x4x128, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x1x64, .f32⟩
  | .hbm, ⟨24, _⟩ => ⟨S8192x64, .f32⟩
  | .hbm, ⟨25, _⟩ => ⟨S8192x1x64, .f32⟩
  | .hbm, ⟨26, _⟩ => ⟨S8192x4x64, .f32⟩
  | .hbm, ⟨27, _⟩ => ⟨S8192x4x64, .f32⟩
  | .hbm, ⟨28, _⟩ => ⟨S8192x4x64, .f32⟩
  | .hbm, ⟨29, _⟩ => ⟨S8192x4x64, .f32⟩
  | .hbm, ⟨30, _⟩ => ⟨S8192x4x64, .f32⟩
  | .hbm, ⟨31, _⟩ => ⟨S8192x4x64, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S8192x4x64, .f32⟩
  | .hbm, ⟨36, _⟩ => ⟨S8192x4x64, .f32⟩
  | .hbm, ⟨37, _⟩ => ⟨S8192x4x64, .f32⟩
  | .hbm, ⟨38, _⟩ => ⟨S8192x4x128, .f32⟩
  | .hbm, ⟨39, _⟩ => ⟨S_, .f32⟩
  | .hbm, ⟨40, _⟩ => ⟨S_, .f32⟩
  | .hbm, ⟨41, _⟩ => ⟨S8192x4x128, .f32⟩
  | .hbm, ⟨42, _⟩ => ⟨S8192x4x128, .f32⟩
  | .hbm, ⟨43, _⟩ => ⟨S8192x6656, .f32⟩
  | .hbm, ⟨44, _⟩ => ⟨S8192x512, .f32⟩
  | .hbm, ⟨45, _⟩ => ⟨S8192x4x128, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S8192, .i32⟩
  | .hbm, ⟨55, _⟩ => ⟨S8192, .f32⟩
  | .hbm, ⟨56, _⟩ => ⟨S8192x1, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S8192x1x64, .f32⟩
  | .hbm, ⟨63, _⟩ => ⟨S8192x64, .f32⟩
  | .hbm, ⟨64, _⟩ => ⟨S8192x1x64, .f32⟩
  | .hbm, ⟨65, _⟩ => ⟨S8192x4x64, .f32⟩
  | .hbm, ⟨66, _⟩ => ⟨S8192x4x64, .f32⟩
  | .hbm, ⟨67, _⟩ => ⟨S8192x4x64, .f32⟩
  | .hbm, ⟨68, _⟩ => ⟨S8192x4x64, .f32⟩
  | .hbm, ⟨69, _⟩ => ⟨S8192x4x64, .f32⟩
  | .hbm, ⟨70, _⟩ => ⟨S8192x4x64, .f32⟩
  | .hbm, ⟨71, _⟩ => ⟨S8192x4x64, .f32⟩
  | .hbm, ⟨72, _⟩ => ⟨S8192x4x64, .f32⟩
  | .hbm, ⟨73, _⟩ => ⟨S8192x4x64, .f32⟩
  | .hbm, ⟨74, _⟩ => ⟨S8192x4x64, .f32⟩
  | .hbm, ⟨75, _⟩ => ⟨S8192x4x64, .f32⟩
  | .hbm, ⟨76, _⟩ => ⟨S8192x4x64, .f32⟩
  | .hbm, ⟨77, _⟩ => ⟨S8192x4x128, .f32⟩
  | .hbm, ⟨78, _⟩ => ⟨S8192x5120, .f32⟩
  | .hbm, ⟨79, _⟩ => ⟨S8192x512, .f32⟩
  | .hbm, ⟨80, _⟩ => ⟨S8192x4x128, .f32⟩
  | .hbm, ⟨81, _⟩ => ⟨S2048x4x512, .f32⟩
  | .hbm, ⟨82, _⟩ => ⟨S4x2048x512, .f32⟩
  | .hbm, ⟨83, _⟩ => ⟨S2048x4x512, .f32⟩
  | .hbm, ⟨84, _⟩ => ⟨S4x2048x512, .f32⟩
  | .hbm, ⟨85, _⟩ => ⟨S2048x4x512, .f32⟩
  | .hbm, ⟨86, _⟩ => ⟨S4x2048x512, .f32⟩
  | .hbm, ⟨87, _⟩ => ⟨S4x2048x1536, .f32⟩
  | .hbm, ⟨88, _⟩ => ⟨S4x2048x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩

abbrev nD : Nat := 1
abbrev τ : Topo := Topo.v7x

variable {F : FTy → Type} [FloatOps F]
-- ==== Dil2.lean ====
abbrev S8192x2048 : Shape := ⟨2, ![8192, 2048]⟩
abbrev S1x2048x11776 : Shape := ⟨3, ![1, 2048, 11776]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x128 : Shape := ⟨3, ![1, 8192, 128]⟩
abbrev S2x8192x128 : Shape := ⟨3, ![2, 8192, 128]⟩
abbrev S2048x11776 : Shape := ⟨2, ![2048, 11776]⟩
abbrev S16x512x1536 : Shape := ⟨3, ![16, 512, 1536]⟩
abbrev S1024x2048 : Shape := ⟨2, ![1024, 2048]⟩
abbrev S2048x512 : Shape := ⟨2, ![2048, 512]⟩
abbrev S1x1024x128 : Shape := ⟨3, ![1, 1024, 128]⟩
abbrev S16x64x512 : Shape := ⟨3, ![16, 64, 512]⟩
abbrev S4x1024x128 : Shape := ⟨3, ![4, 1024, 128]⟩
abbrev S1024x512 : Shape := ⟨2, ![1024, 512]⟩
abbrev S1024x128 : Shape := ⟨2, ![1024, 128]⟩
abbrev S1x64x128 : Shape := ⟨3, ![1, 64, 128]⟩
abbrev S64x128 : Shape := ⟨2, ![64, 128]⟩

abbrev nBuf : Space → Nat
  | .hbm => 36
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S1x8192x128, .f32⟩
  | .hbm, ⟨25, _⟩ => ⟨S1x8192x128, .f32⟩
  | .hbm, ⟨26, _⟩ => ⟨S2x8192x128, .f32⟩
  | .hbm, ⟨27, _⟩ => ⟨S_, .f32⟩
  | .hbm, ⟨28, _⟩ => ⟨S8192x128, .f32⟩
  | .hbm, ⟨29, _⟩ => ⟨S1x8192x128, .f32⟩
  | .hbm, ⟨30, _⟩ => ⟨S1x8192x128, .f32⟩
  | .hbm, ⟨31, _⟩ => ⟨S2x8192x128, .f32⟩
  | .hbm, ⟨32, _⟩ => ⟨S8192x2048, .bf16⟩
  | .hbm, ⟨33, _⟩ => ⟨S2048x11776, .f32⟩
  | .hbm, ⟨34, _⟩ => ⟨S2048x11776, .bf16⟩
  | .hbm, ⟨35, _⟩ => ⟨S16x512x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S16x64x512, .bf16⟩
  | .local _ .vmem, ⟨9, _⟩ => ⟨S16x64x512, .bf16⟩
  | .local _ .vmem, ⟨10, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c8_i32 : BitVec 32 := 8#32
  let v1 : BitVec 32 := Scalar.addi c8_i32 v0
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let v1 : BitVec 32 := Scalar.extui v0
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dil2Ideal.lean ====
variable {F : FTy → Type} [FloatOps F] [Named F]
def κ : String → Option EReal := fun
  | "scale" => some (((Real.sqrt 128)⁻¹ : ℝ) : EReal)
  | _ => none
-- ==== Dil2RefIdeal.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S8192x7680 : Shape := ⟨2, ![8192, 7680]⟩
abbrev S8192x512 : Shape := ⟨2, ![8192, 512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S8192x6144 : Shape := ⟨2, ![8192, 6144]⟩
abbrev S8192x4608 : Shape := ⟨2, ![8192, 4608]⟩
abbrev S512x16x512 : Shape := ⟨3, ![512, 16, 512]⟩
abbrev S16x512x512 : Shape := ⟨3, ![16, 512, 512]⟩
abbrev S16x512x1536 : Shape := ⟨3, ![16, 512, 1536]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11776, .f32⟩
  | .hbm, ⟨2, _⟩ => ⟨S2048x11776, .f32⟩
  | .hbm, ⟨3, _⟩ => ⟨S8192x11776, .f32⟩
  | .hbm, ⟨4, _⟩ => ⟨S8192x7680, .f32⟩
  | .hbm, ⟨5, _⟩ => ⟨S8192x512, .f32⟩
  | .hbm, ⟨6, _⟩ => ⟨S8192x4x128, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x1x64, .f32⟩
  | .hbm, ⟨24, _⟩ => ⟨S8192x64, .f32⟩
  | .hbm, ⟨25, _⟩ => ⟨S8192x1x64, .f32⟩
  | .hbm, ⟨26, _⟩ => ⟨S8192x4x64, .f32⟩
  | .hbm, ⟨27, _⟩ => ⟨S8192x4x64, .f32⟩
  | .hbm, ⟨28, _⟩ => ⟨S8192x4x64, .f32⟩
  | .hbm, ⟨29, _⟩ => ⟨S8192x4x64, .f32⟩
  | .hbm, ⟨30, _⟩ => ⟨S8192x4x64, .f32⟩
  | .hbm, ⟨31, _⟩ => ⟨S8192x4x64, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S8192x4x64, .f32⟩
  | .hbm, ⟨36, _⟩ => ⟨S8192x4x64, .f32⟩
  | .hbm, ⟨37, _⟩ => ⟨S8192x4x64, .f32⟩
  | .hbm, ⟨38, _⟩ => ⟨S8192x4x128, .f32⟩
  | .hbm, ⟨39, _⟩ => ⟨S_, .f32⟩
  | .hbm, ⟨40, _⟩ => ⟨S_, .f32⟩
  | .hbm, ⟨41, _⟩ => ⟨S8192x4x128, .f32⟩
  | .hbm, ⟨42, _⟩ => ⟨S8192x4x128, .f32⟩
  | .hbm, ⟨43, _⟩ => ⟨S8192x6144, .f32⟩
  | .hbm, ⟨44, _⟩ => ⟨S8192x512, .f32⟩
  | .hbm, ⟨45, _⟩ => ⟨S8192x4x128, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S8192, .i32⟩
  | .hbm, ⟨55, _⟩ => ⟨S8192, .f32⟩
  | .hbm, ⟨56, _⟩ => ⟨S8192x1, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S8192x1x64, .f32⟩
  | .hbm, ⟨63, _⟩ => ⟨S8192x64, .f32⟩
  | .hbm, ⟨64, _⟩ => ⟨S8192x1x64, .f32⟩
  | .hbm, ⟨65, _⟩ => ⟨S8192x4x64, .f32⟩
  | .hbm, ⟨66, _⟩ => ⟨S8192x4x64, .f32⟩
  | .hbm, ⟨67, _⟩ => ⟨S8192x4x64, .f32⟩
  | .hbm, ⟨68, _⟩ => ⟨S8192x4x64, .f32⟩
  | .hbm, ⟨69, _⟩ => ⟨S8192x4x64, .f32⟩
  | .hbm, ⟨70, _⟩ => ⟨S8192x4x64, .f32⟩
  | .hbm, ⟨71, _⟩ => ⟨S8192x4x64, .f32⟩
  | .hbm, ⟨72, _⟩ => ⟨S8192x4x64, .f32⟩
  | .hbm, ⟨73, _⟩ => ⟨S8192x4x64, .f32⟩
  | .hbm, ⟨74, _⟩ => ⟨S8192x4x64, .f32⟩
  | .hbm, ⟨75, _⟩ => ⟨S8192x4x64, .f32⟩
  | .hbm, ⟨76, _⟩ => ⟨S8192x4x64, .f32⟩
  | .hbm, ⟨77, _⟩ => ⟨S8192x4x128, .f32⟩
  | .hbm, ⟨78, _⟩ => ⟨S8192x4608, .f32⟩
  | .hbm, ⟨79, _⟩ => ⟨S8192x512, .f32⟩
  | .hbm, ⟨80, _⟩ => ⟨S8192x4x128, .f32⟩
  | .hbm, ⟨81, _⟩ => ⟨S512x16x512, .f32⟩
  | .hbm, ⟨82, _⟩ => ⟨S16x512x512, .f32⟩
  | .hbm, ⟨83, _⟩ => ⟨S512x16x512, .f32⟩
  | .hbm, ⟨84, _⟩ => ⟨S16x512x512, .f32⟩
  | .hbm, ⟨85, _⟩ => ⟨S512x16x512, .f32⟩
  | .hbm, ⟨86, _⟩ => ⟨S16x512x512, .f32⟩
  | .hbm, ⟨87, _⟩ => ⟨S16x512x1536, .f32⟩
  | .hbm, ⟨88, _⟩ => ⟨S16x512x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩

abbrev nD : Nat := 1
abbrev τ : Topo := Topo.v7x

variable {F : FTy → Type} [FloatOps F]
-- ==== Merge.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1x2048x256 : Shape := ⟨3, ![1, 2048, 256]⟩
abbrev S1024x2048 : Shape := ⟨2, ![1024, 2048]⟩
abbrev S512x2048 : Shape := ⟨2, ![512, 2048]⟩
abbrev S2048x2048 : Shape := ⟨2, ![2048, 2048]⟩
abbrev S2048x256 : Shape := ⟨2, ![2048, 256]⟩
abbrev S256x2048 : Shape := ⟨2, ![256, 2048]⟩
abbrev S2048 : Shape := ⟨1, ![2048]⟩
abbrev S256x8192 : Shape := ⟨2, ![256, 8192]⟩
abbrev S1x256x512 : Shape := ⟨3, ![1, 256, 512]⟩
abbrev S4x64x512 : Shape := ⟨3, ![4, 64, 512]⟩
abbrev S16x16x512 : Shape := ⟨3, ![16, 16, 512]⟩
abbrev S256x1024 : Shape := ⟨2, ![256, 1024]⟩
abbrev S256x256 : Shape := ⟨2, ![256, 256]⟩
abbrev S4x4x256x128 : Shape := ⟨4, ![4, 4, 256, 128]⟩
abbrev S256x512 : Shape := ⟨2, ![256, 512]⟩
abbrev S1x64x128 : Shape := ⟨3, ![1, 64, 128]⟩
abbrev S64x128 : Shape := ⟨2, ![64, 128]⟩
abbrev S1x1x64x128 : Shape := ⟨4, ![1, 1, 64, 128]⟩
abbrev S1x1x256x128 : Shape := ⟨4, ![1, 1, 256, 128]⟩
abbrev S256x128 : Shape := ⟨2, ![256, 128]⟩
abbrev S1x16x128 : Shape := ⟨3, ![1, 16, 128]⟩
abbrev S16x128 : Shape := ⟨2, ![16, 128]⟩
abbrev S1x1x16x128 : Shape := ⟨4, ![1, 1, 16, 128]⟩
abbrev S256 : Shape := ⟨1, ![256]⟩
abbrev S256x1 : Shape := ⟨2, ![256, 1]⟩

abbrev nBuf : Space → Nat
  | .hbm => 34
  | .vmem => 31
  | .smem => 0
  | _ => 0

abbrev bufTy : (tb : Table) → Fin (tcTables nBuf tb) → BufTy
  | .hbm, ⟨0, _⟩ => ⟨S1x8192x512, .f32⟩
  | .hbm, ⟨1, _⟩ => ⟨S4x2048x512, .f32⟩
  | .hbm, ⟨2, _⟩ => ⟨S16x512x512, .f32⟩
  | .hbm, ⟨3, _⟩ => ⟨S1x8192x512, .f32⟩
  | .hbm, ⟨4, _⟩ => ⟨S4x2048x512, .f32⟩
  | .hbm, ⟨5, _⟩ => ⟨S16x512x512, .f32⟩
  | .hbm, ⟨6, _⟩ => ⟨S8192x1024, .f32⟩
  | .hbm, ⟨7, _⟩ => ⟨S8192x4096, .f32⟩
  | .hbm, ⟨8, _⟩ => ⟨S8192x4096, .f32⟩
  | .hbm, ⟨9, _⟩ => ⟨S8192x2048, .f32⟩
  | .hbm, ⟨10, _⟩ => ⟨S1x1024x2048, .f32⟩
  | .hbm, ⟨11, _⟩ => ⟨S1x512x2048, .f32⟩
  | .hbm, ⟨12, _⟩ => ⟨S1x2048x2048, .f32⟩
  | .hbm, ⟨13, _⟩ => ⟨S1x2048, .f32⟩
  | .hbm, ⟨14, _⟩ => ⟨S1x2048, .f32⟩
  | .hbm, ⟨15, _⟩ => ⟨S1x2048x256, .f32⟩
  | .hbm, ⟨16, _⟩ => ⟨S8192x1024, .bf16⟩
  | .hbm, ⟨17, _⟩ => ⟨S8192x4096, .bf16⟩
  | .hbm, ⟨18, _⟩ => ⟨S8192x4096, .bf16⟩
  | .hbm, ⟨19, _⟩ => ⟨S1024x2048, .f32⟩
  | .hbm, ⟨20, _⟩ => ⟨S1024x2048, .bf16⟩
  | .hbm, ⟨21, _⟩ => ⟨S512x2048, .f32⟩
  | .hbm, ⟨22, _⟩ => ⟨S512x2048, .bf16⟩
  | .hbm, ⟨23, _⟩ => ⟨S2048x2048, .f32⟩
  | .hbm, ⟨24, _⟩ => ⟨S2048x2048, .bf16⟩
  | .hbm, ⟨25, _⟩ => ⟨S2048x256, .f32⟩
  | .hbm, ⟨26, _⟩ => ⟨S256x2048, .f32⟩
  | .hbm, ⟨27, _⟩ => ⟨S256x2048, .bf16⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S256x8192, .f32⟩
  | .local _ .vmem, ⟨0, _⟩ => ⟨S1x256x512, .f32⟩
  | .local _ .vmem, ⟨1, _⟩ => ⟨S1x256x512, .f32⟩
  | .local _ .vmem, ⟨2, _⟩ => ⟨S4x64x512, .f32⟩
  | .local _ .vmem, ⟨3, _⟩ => ⟨S4x64x512, .f32⟩
  | .local _ .vmem, ⟨4, _⟩ => ⟨S16x16x512, .f32⟩
  | .local _ .vmem, ⟨5, _⟩ => ⟨S16x16x512, .f32⟩
  | .local _ .vmem, ⟨6, _⟩ => ⟨S1x256x512, .f32⟩
  | .local _ .vmem, ⟨7, _⟩ => ⟨S1x256x512, .f32⟩
  | .local _ .vmem, ⟨8, _⟩ => ⟨S4x64x512, .f32⟩
  | .local _ .vmem, ⟨9, _⟩ => ⟨S4x64x512, .f32⟩
  | .local _ .vmem, ⟨10, _⟩ => ⟨S16x16x512, .f32⟩
  | .local _ .vmem, ⟨11, _⟩ => ⟨S16x16x512, .f32⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | .local _ .vmem, ⟨20, _⟩ => ⟨S1024x2048, .bf16⟩
  | .local _ .vmem, ⟨21, _⟩ => ⟨S512x2048, .bf16⟩
  | .local _ .vmem, ⟨22, _⟩ => ⟨S2048x2048, .bf16⟩
  | .local _ .vmem, ⟨23, _⟩ => ⟨S256x2048, .bf16⟩
  | .local _ .vmem, ⟨24, _⟩ => ⟨S1x2048, .f32⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | .local _ .vmem, ⟨28, _⟩ => ⟨S256x256, .f32⟩
  | .local _ .vmem, ⟨29, _⟩ => ⟨S256x256, .f32⟩
  | .local _ .vmem, ⟨30, _⟩ => ⟨S4x4x256x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1x2048x256 : Shape := ⟨3, ![1, 2048, 256]⟩
abbrev S8192x1x512 : Shape := ⟨3, ![8192, 1, 512]⟩
abbrev S8192x512 : Shape := ⟨2, ![8192, 512]⟩
abbrev S2048x4x512 : Shape := ⟨3, ![2048, 4, 512]⟩
abbrev S512x16x512 : Shape := ⟨3, ![512, 16, 512]⟩
abbrev S3x8192x512 : Shape := ⟨3, ![3, 8192, 512]⟩
abbrev S_ : Shape := ⟨0, ![]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩
abbrev S2048x256 : Shape := ⟨2, ![2048, 256]⟩
abbrev S8192x256 : Shape := ⟨2, ![8192, 256]⟩
abbrev S256x8192 : Shape := ⟨2, ![256, 8192]⟩

abbrev nBuf : Space → Nat
  | .hbm => 102
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S4x2048x512, .f32⟩
  | .hbm, ⟨2, _⟩ => ⟨S16x512x512, .f32⟩
  | .hbm, ⟨3, _⟩ => ⟨S1x8192x512, .f32⟩
  | .hbm, ⟨4, _⟩ => ⟨S4x2048x512, .f32⟩
  | .hbm, ⟨5, _⟩ => ⟨S16x512x512, .f32⟩
  | .hbm, ⟨6, _⟩ => ⟨S8192x1024, .f32⟩
  | .hbm, ⟨7, _⟩ => ⟨S8192x4096, .f32⟩
  | .hbm, ⟨8, _⟩ => ⟨S8192x4096, .f32⟩
  | .hbm, ⟨9, _⟩ => ⟨S8192x2048, .f32⟩
  | .hbm, ⟨10, _⟩ => ⟨S1x1024x2048, .f32⟩
  | .hbm, ⟨11, _⟩ => ⟨S1x512x2048, .f32⟩
  | .hbm, ⟨12, _⟩ => ⟨S1x2048x2048, .f32⟩
  | .hbm, ⟨13, _⟩ => ⟨S1x2048, .f32⟩
  | .hbm, ⟨14, _⟩ => ⟨S1x2048, .f32⟩
  | .hbm, ⟨15, _⟩ => ⟨S1x2048x256, .f32⟩
  | .hbm, ⟨16, _⟩ => ⟨S8192x1x512, .f32⟩
  | .hbm, ⟨17, _⟩ => ⟨S8192x512, .f32⟩
  | .hbm, ⟨18, _⟩ => ⟨S2048x4x512, .f32⟩
  | .hbm, ⟨19, _⟩ => ⟨S8192x512, .f32⟩
  | .hbm, ⟨20, _⟩ => ⟨S512x16x512, .f32⟩
  | .hbm, ⟨21, _⟩ => ⟨S8192x512, .f32⟩
  | .hbm, ⟨22, _⟩ => ⟨S1x8192x512, .f32⟩
  | .hbm, ⟨23, _⟩ => ⟨S1x8192x512, .f32⟩
  | .hbm, ⟨24, _⟩ => ⟨S1x8192x512, .f32⟩
  | .hbm, ⟨25, _⟩ => ⟨S3x8192x512, .f32⟩
  | .hbm, ⟨26, _⟩ => ⟨S8192x1x512, .f32⟩
  | .hbm, ⟨27, _⟩ => ⟨S8192x512, .f32⟩
  | .hbm, ⟨28, _⟩ => ⟨S2048x4x512, .f32⟩
  | .hbm, ⟨29, _⟩ => ⟨S8192x512, .f32⟩
  | .hbm, ⟨30, _⟩ => ⟨S512x16x512, .f32⟩
  | .hbm, ⟨31, _⟩ => ⟨S8192x512, .f32⟩
  | .hbm, ⟨32, _⟩ => ⟨S1x8192x512, .f32⟩
  | .hbm, ⟨33, _⟩ => ⟨S1x8192x512, .f32⟩
  | .hbm, ⟨34, _⟩ => ⟨S1x8192x512, .f32⟩
  | .hbm, ⟨35, _⟩ => ⟨S3x8192x512, .f32⟩
  | .hbm, ⟨36, _⟩ => ⟨S_, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S1x8192x512, .f32⟩
  | .hbm, ⟨42, _⟩ => ⟨S3x8192x512, .f32⟩
  | .hbm, ⟨43, _⟩ => ⟨S3x8192x512, .f32⟩
  | .hbm, ⟨44, _⟩ => ⟨S3x8192x512, .f32⟩
  | .hbm, ⟨45, _⟩ => ⟨S_, .f32⟩
  | .hbm, ⟨46, _⟩ => ⟨S8192x512, .f32⟩
  | .hbm, ⟨47, _⟩ => ⟨S1x8192x512, .f32⟩
  | .hbm, ⟨48, _⟩ => ⟨S3x8192x512, .f32⟩
  | .hbm, ⟨49, _⟩ => ⟨S3x8192x512, .f32⟩
  | .hbm, ⟨50, _⟩ => ⟨S3x8192x512, .f32⟩
  | .hbm, ⟨51, _⟩ => ⟨S_, .f32⟩
  | .hbm, ⟨52, _⟩ => ⟨S8192x512, .f32⟩
  | .hbm, ⟨53, _⟩ => ⟨S1024x2048, .f32⟩
  | .hbm, ⟨54, _⟩ => ⟨S8192x2048, .f32⟩
  | .hbm, ⟨55, _⟩ => ⟨S512x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S2048x2048, .f32⟩
  | .hbm, ⟨66, _⟩ => ⟨S8192x2048, .f32⟩
  | .hbm, ⟨67, _⟩ => ⟨S8192x2048, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x2048, .f32⟩
  | .hbm, ⟨92, _⟩ => ⟨S8192x2048, .f32⟩
  | .hbm, ⟨93, _⟩ => ⟨S1x2048, .f32⟩
  | .hbm, ⟨94, _⟩ => ⟨S8192x2048, .f32⟩
  | .hbm, ⟨95, _⟩ => ⟨S8192x2048, .f32⟩
  | .hbm, ⟨96, _⟩ => ⟨S1x2048, .f32⟩
  | .hbm, ⟨97, _⟩ => ⟨S8192x2048, .f32⟩
  | .hbm, ⟨98, _⟩ => ⟨S8192x2048, .f32⟩
  | .hbm, ⟨99, _⟩ => ⟨S2048x256, .f32⟩
  | .hbm, ⟨100, _⟩ => ⟨S8192x256, .f32⟩
  | .hbm, ⟨101, _⟩ => ⟨S256x8192, .f32⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Proof.Diff.Runs.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

/-! # The body of the attention, run once per control path

The body reads two words of its tables (the query tile and the key tile of the step), clears the
running maximum, sum and accumulator when the key tile is the first, updates them by the whole tile
when it lies before the diagonal, and by the two masked halves, with the final division and the
result's store, when it lies on it. Each of the four combinations that occur is run here on symbolic
staging buffers; what it leaves in the scratches and in the result's block is found by the run. -/

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The two tables and the three scratches the body is handed, whole. -/
abbrev tbQ : Memref sig .tc .smem S36 .i32 := Memref.whole main_c
abbrev tbK : Memref sig .tc .smem S36 .i32 := Memref.whole main_c_0
abbrev scM : Memref sig .tc .vmem S2x1024x128 .f32 := Memref.whole cc0_scratch0
abbrev scL : Memref sig .tc .vmem S2x1024x128 .f32 := Memref.whole cc0_scratch1
abbrev scA : Memref sig .tc .vmem S2x1024x256 .f32 := Memref.whole cc0_scratch2

/-- The word the body reads of the query table, of the key table. -/
abbrev wordQ (i : grid0.Coords) (T : S36.Idx → BitVec 32) : BitVec 32 :=
  View.readAt (Elt F) tbQ.view (Rect.unit (s := S36) (k0_off1 i) S1.size (k0_off1_inb i)).toLoadRect T (Shape.Idx.first (numel1_S1.symm ▸ Nat.one_pos))
abbrev wordK (i : grid0.Coords) (T : S36.Idx → BitVec 32) : BitVec 32 :=
  View.readAt (Elt F) tbK.view (Rect.unit (s := S36) (k0_off1 i) S1.size (k0_off1_inb i)).toLoadRect T (Shape.Idx.first (numel1_S1.symm ▸ Nat.one_pos))

/-- The key tile is the first. -/
abbrev isFirst (b : BitVec 32) : Prop := Scalar.cmpi .ne (Scalar.extui (Scalar.cmpi .eq b 0#32)) 0#32 = 1#1
/-- The key tile lies before the diagonal, as the body computes it. -/
abbrev isBefore (a b : BitVec 32) : Prop :=
  Scalar.cmpi .ne (Scalar.extui (Scalar.cmpi .slt b (Scalar.select (Scalar.andi (Scalar.cmpi .ne (Scalar.subi (Scalar.extui (Scalar.cmpi .sgt a 0#32)) (Scalar.extui (Scalar.cmpi .slt a 0#32))) (Scalar.subi (Scalar.extui (Scalar.cmpi .sgt 1#32 0#32)) (Scalar.extui (Scalar.cmpi .slt 1#32 0#32)))) (Scalar.cmpi .ne (Scalar.remsi a 1#32) 0#32)) (Scalar.subi (Scalar.divsi a 1#32) 1#32) (Scalar.divsi a 1#32)))) 0#32 = 1#1

/-- A block's contents and the scratches', by shape. -/
abbrev BlkT (F : FTy → Type) : Type := S1024x256.Idx → Elt F .bf16
abbrev LamT (F : FTy → Type) : Type := S4x128.Idx → Elt F .f32
abbrev GT (F : FTy → Type) : Type := S1x256.Idx → Elt F .f32
abbrev ST (F : FTy → Type) : Type := S2x1024x128.Idx → Elt F .f32
abbrev AT (F : FTy → Type) : Type := S2x1024x256.Idx → Elt F .f32

set_option backward.proofsInPublic true in
set_option maxHeartbeats 8000000 in
/-- A tile before the diagonal, not the first: what the body leaves in the scratches, with the proof that it runs to them. -/
noncomputable def runFull (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT F) (x3 : LamT F) (x4 : GT F) (a0 a1 : ST F) (a2 : AT F)
    (hc0 : ¬isFirst (wordK (F := F) i T1)) (hc1 : isBefore (wordQ (F := F) i T0) (wordK (F := F) i T1)) (hc2 : ¬(k0_cond3 (wordQ (F := F) i T0) (wordK (F := F) i T1) = 1#1)) :
    Σ' (o0 : ST F) (o1 : ST F), { o2 : AT F //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (scM.view.loc (c : Thread nD τ) ↦{fullShare} a0)
          ∗ (scL.view.loc (c : Thread nD τ) ↦{fullShare} a1)
          ∗ (scA.view.loc (c : Thread nD τ) ↦{fullShare} a2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (scM.view.loc (c : Thread nD τ) ↦{fullShare} o0)
          ∗ (scL.view.loc (c : Thread nD τ) ↦{fullShare} o1)
          ∗ (scA.view.loc (c : Thread nD τ) ↦{fullShare} o2)) -∗ K ⟨⟩))
          ⊢ wp frame (wpE (defs₀ (F := F)) Variants.none c none) Set.univ (cc0_diffattn i tbQ (Memref.isWhole_whole _) tbK (Memref.isWhole_whole _) arg4 harg4 arg5 harg5 arg6 harg6 arg7 harg7 arg8 harg8 arg9 harg9 scM (Memref.isWhole_whole _) scL (Memref.isWhole_whole _) scA (Memref.isWhole_whole _)) K } :=
  ⟨_, _, _, fun K => by
    rw [cc0_diffattn_eq_skeleton]; unfold cc0_diffattn_skel
    iintro ⟨H0, H1, H2, H3, H4, HT0, HT1, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | (guard_target = ¬(Scalar.cmpi = _); exact hc0) | (guard_target = Scalar.cmpi = _; exact hc1) | (guard_target = ¬(k0_cond3 _ _ = _); exact hc2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS0]; · iexact HS0
    isplitl [HS1]; · iexact HS1
    iexact HS2⟩

set_option backward.proofsInPublic true in
set_option maxHeartbeats 8000000 in
/-- A tile before the diagonal, the first of its row: the scratches are cleared before the update. -/
noncomputable def runFirstFull (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT F) (x3 : LamT F) (x4 : GT F)
    (hc0 : isFirst (wordK (F := F) i T1)) (hc1 : isBefore (wordQ (F := F) i T0) (wordK (F := F) i T1)) (hc2 : ¬(k0_cond3 (wordQ (F := F) i T0) (wordK (F := F) i T1) = 1#1)) :
    Σ' (o0 : ST F) (o1 : ST F), { o2 : AT F //
      ∀ (a0 a1 : ST F) (a2 : AT F) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (scM.view.loc (c : Thread nD τ) ↦{fullShare} a0)
          ∗ (scL.view.loc (c : Thread nD τ) ↦{fullShare} a1)
          ∗ (scA.view.loc (c : Thread nD τ) ↦{fullShare} a2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (scM.view.loc (c : Thread nD τ) ↦{fullShare} o0)
          ∗ (scL.view.loc (c : Thread nD τ) ↦{fullShare} o1)
          ∗ (scA.view.loc (c : Thread nD τ) ↦{fullShare} o2)) -∗ K ⟨⟩))
          ⊢ wp frame (wpE (defs₀ (F := F)) Variants.none c none) Set.univ (cc0_diffattn i tbQ (Memref.isWhole_whole _) tbK (Memref.isWhole_whole _) arg4 harg4 arg5 harg5 arg6 harg6 arg7 harg7 arg8 harg8 arg9 harg9 scM (Memref.isWhole_whole _) scL (Memref.isWhole_whole _) scA (Memref.isWhole_whole _)) K } :=
  ⟨_, _, _, fun (a0 a1 : ST F) (a2 : AT F) K => by
    rw [cc0_diffattn_eq_skeleton]; unfold cc0_diffattn_skel
    iintro ⟨H0, H1, H2, H3, H4, HT0, HT1, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | (guard_target = Scalar.cmpi = _; exact hc0) | (guard_target = Scalar.cmpi = _; exact hc1) | (guard_target = ¬(k0_cond3 _ _ = _); exact hc2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS0]; · iexact HS0
    isplitl [HS1]; · iexact HS1
    iexact HS2⟩

set_option backward.proofsInPublic true in
set_option maxHeartbeats 8000000 in
/-- A tile on the diagonal, not the first: the two masked updates, the division and the store of the result block. -/
noncomputable def runDiag (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT F) (x3 : LamT F) (x4 : GT F) (a0 a1 : ST F) (a2 : AT F)
    (hc0 : ¬isFirst (wordK (F := F) i T1)) (hc1 : ¬isBefore (wordQ (F := F) i T0) (wordK (F := F) i T1)) (hc2 : (k0_cond3 (wordQ (F := F) i T0) (wordK (F := F) i T1) = 1#1)) :
    Σ' (out : List (View.Piece (Elt F) S1024x256 .bf16)) (o0 : ST F) (o1 : ST F), { o2 : AT F //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (∃ d, owns (c : Thread nD τ) arg9 fullShare d)
          ∗ (scM.view.loc (c : Thread nD τ) ↦{fullShare} a0)
          ∗ (scL.view.loc (c : Thread nD τ) ↦{fullShare} a1)
          ∗ (scA.view.loc (c : Thread nD τ) ↦{fullShare} a2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (∃ f, arg9.view.loc (c : Thread nD τ) ↦[arg9.view.set]{fullShare} arg9.view.writes (Elt F) f out)
          ∗ (scM.view.loc (c : Thread nD τ) ↦{fullShare} o0)
          ∗ (scL.view.loc (c : Thread nD τ) ↦{fullShare} o1)
          ∗ (scA.view.loc (c : Thread nD τ) ↦{fullShare} o2)) -∗ K ⟨⟩))
          ⊢ wp frame (wpE (defs₀ (F := F)) Variants.none c none) Set.univ (cc0_diffattn i tbQ (Memref.isWhole_whole _) tbK (Memref.isWhole_whole _) arg4 harg4 arg5 harg5 arg6 harg6 arg7 harg7 arg8 harg8 arg9 harg9 scM (Memref.isWhole_whole _) scL (Memref.isWhole_whole _) scA (Memref.isWhole_whole _)) K } :=
  ⟨_, _, _, _, fun K => by
    unfold owns
    rw [cc0_diffattn_eq_skeleton]; unfold cc0_diffattn_skel
    iintro ⟨H0, H1, H2, H3, H4, HT0, HT1, ⟨%d, %f, -, HO⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | (guard_target = ¬(Scalar.cmpi = _); exact hc0) | (guard_target = ¬(Scalar.cmpi = _); exact hc1) | (guard_target = k0_cond3 _ _ = _; exact hc2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    isplitl [HS1]; · iexact HS1
    iexact HS2⟩

set_option backward.proofsInPublic true in
set_option maxHeartbeats 8000000 in
/-- A tile on the diagonal that is also the first: the scratches cleared, the two masked updates, the division and the store. -/
noncomputable def runFirstDiag (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT F) (x3 : LamT F) (x4 : GT F)
    (hc0 : isFirst (wordK (F := F) i T1)) (hc1 : ¬isBefore (wordQ (F := F) i T0) (wordK (F := F) i T1)) (hc2 : (k0_cond3 (wordQ (F := F) i T0) (wordK (F := F) i T1) = 1#1)) :
    Σ' (out : List (View.Piece (Elt F) S1024x256 .bf16)) (o0 : ST F) (o1 : ST F), { o2 : AT F //
      ∀ (a0 a1 : ST F) (a2 : AT F) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (∃ d, owns (c : Thread nD τ) arg9 fullShare d)
          ∗ (scM.view.loc (c : Thread nD τ) ↦{fullShare} a0)
          ∗ (scL.view.loc (c : Thread nD τ) ↦{fullShare} a1)
          ∗ (scA.view.loc (c : Thread nD τ) ↦{fullShare} a2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbQ.view.loc (c : Thread nD τ) ↦{fullShare.right} T0)
          ∗ (tbK.view.loc (c : Thread nD τ) ↦{fullShare.right} T1)
          ∗ (∃ f, arg9.view.loc (c : Thread nD τ) ↦[arg9.view.set]{fullShare} arg9.view.writes (Elt F) f out)
          ∗ (scM.view.loc (c : Thread nD τ) ↦{fullShare} o0)
          ∗ (scL.view.loc (c : Thread nD τ) ↦{fullShare} o1)
          ∗ (scA.view.loc (c : Thread nD τ) ↦{fullShare} o2)) -∗ K ⟨⟩))
          ⊢ wp frame (wpE (defs₀ (F := F)) Variants.none c none) Set.univ (cc0_diffattn i tbQ (Memref.isWhole_whole _) tbK (Memref.isWhole_whole _) arg4 harg4 arg5 harg5 arg6 harg6 arg7 harg7 arg8 harg8 arg9 harg9 scM (Memref.isWhole_whole _) scL (Memref.isWhole_whole _) scA (Memref.isWhole_whole _)) K } :=
  ⟨_, _, _, _, fun (a0 a1 : ST F) (a2 : AT F) K => by
    unfold owns
    rw [cc0_diffattn_eq_skeleton]; unfold cc0_diffattn_skel
    iintro ⟨H0, H1, H2, H3, H4, HT0, HT1, ⟨%d, %f, -, HO⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | (guard_target = Scalar.cmpi = _; exact hc0) | (guard_target = ¬(Scalar.cmpi = _); exact hc1) | (guard_target = k0_cond3 _ _ = _; exact hc2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    isplitl [HS1]; · iexact HS1
    iexact HS2⟩

end Cert.KernelIdeal.Diff

end
-- ==== Proof.Diff.Cfg.lean ====
module

public import proofs.«01_k».proof.Proof.Diff.Runs

@[expose] public section

set_option maxRecDepth 16384
set_option Elab.async false

/-! # The attention pipeline at its two tables

The tables are the literals the host writes before the launch: the query tile and the key tile of each of
the 36 steps. Here: the pipeline at them, the steps' coordinates, and the finitely many facts about the
schedule that the proof needs, each decided over the 144 points. -/

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The tables' words. -/
def tQ : S36.Idx → BitVec 32 := fun i => lit0 (S36.rowMajor i)
def tK : S36.Idx → BitVec 32 := fun i => lit1 (S36.rowMajor i)

set_option backward.proofsInPublic true in
/-- The tables' contents. -/
def tabs : pre0.Contents (Elt F) := fun | ⟨0, _⟩ => tQ | ⟨1, _⟩ => tK | ⟨_ + 2, h⟩ => absurd h (by simp)

theorem inb0 : ∀ i : grid0.Coords, ∀ a, (cc0_transform_0 (F := F) k0_off1_inb numel1_S1 tabs i a + 1) * S1024x256.size a ≤ S8192x3072.size a :=
  of_decide_eq_true (by sl_kernel_rfl)
theorem inb1 : ∀ i : grid0.Coords, ∀ a, (cc0_transform_1 (F := F) k0_off1_inb numel1_S1 tabs i a + 1) * S1024x256.size a ≤ S8192x3072.size a :=
  of_decide_eq_true (by sl_kernel_rfl)
theorem inb2 : ∀ i : grid0.Coords, ∀ a, (cc0_transform_2 (F := F) k0_off1_inb numel1_S1 tabs i a + 1) * S1024x256.size a ≤ S8192x3072.size a :=
  of_decide_eq_true (by sl_kernel_rfl)
theorem inb5 : ∀ i : grid0.Coords, ∀ a, (cc0_transform_5 (F := F) k0_off1_inb numel1_S1 tabs i a + 1) * S1024x256.size a ≤ S8192x1024.size a :=
  of_decide_eq_true (by sl_kernel_rfl)

/-- Every block the tables name lies in its array. -/
theorem ok_tabs : ok0 (F := F) tabs :=
  ⟨fun i => ⟨inb0 i, .inr (Affine.block_words_dvd (s := S8192x3072) (p := EltTy.packing .bf16) (by decide) (by decide))⟩,
   fun i => ⟨inb1 i, .inr (Affine.block_words_dvd (s := S8192x3072) (p := EltTy.packing .bf16) (by decide) (by decide))⟩,
   fun i => ⟨inb2 i, .inr (Affine.block_words_dvd (s := S8192x3072) (p := EltTy.packing .bf16) (by decide) (by decide))⟩,
   fun i => ⟨inb5 i, .inr (Affine.block_words_dvd (s := S8192x1024) (p := EltTy.packing .bf16) (by decide) (by decide))⟩⟩

/-- The pipeline at the tables. -/
def adm : (pcfg0 (F := F)).Adm := ⟨tabs, ok_tabs⟩
variable (F) in
abbrev cfgA : Cfg sig Λ₀ := cfg0 (F := F) adm
variable (F) in
abbrev pcs : Fin 1 → Cfg sig Λ₀ := Pipeline.pin (pcfgs (F := F)) fun _ => adm

/-- A point's coordinates: the head, the step. -/
abbrev crd (t : Fin (cfgA F).N) : grid0.Coords := (cfgA F).grid.coords t

/-- The step's tiles decide the path: first tile of a row or not, before the diagonal or on it. -/
abbrev First (t : Fin (cfgA F).N) : Prop := isFirst (wordK (F := F) (crd t) tK)
abbrev Before (t : Fin (cfgA F).N) : Prop := isBefore (wordQ (F := F) (crd t) tQ) (wordK (F := F) (crd t) tK)
abbrev OnDiag (t : Fin (cfgA F).N) : Prop := k0_cond3 (wordQ (F := F) (crd t) tQ) (wordK (F := F) (crd t) tK) = 1#1

/-- What is decided of a point. -/
abbrev FactsAt (t : Fin (cfgA F).N) : Prop :=
  (Before t ↔ ¬OnDiag t)
  ∧ ((cfgA F).idle (5 : Fin 6) ((cfgA F).grid.coords t) = true ↔ ¬OnDiag t)
  ∧ (((cfgA F).win (5 : Fin 6)).flush t = true ↔ OnDiag t)
  ∧ (t.val = 0 → First t)

theorem facts_a : ∀ t : Fin (cfgA F).N, t.val < 36 → FactsAt t := of_decide_eq_true (by sl_kernel_rfl)
theorem facts_b : ∀ t : Fin (cfgA F).N, 36 ≤ t.val → t.val < 72 → FactsAt t := of_decide_eq_true (by sl_kernel_rfl)
theorem facts_c : ∀ t : Fin (cfgA F).N, 72 ≤ t.val → t.val < 108 → FactsAt t := of_decide_eq_true (by sl_kernel_rfl)
theorem facts_d : ∀ t : Fin (cfgA F).N, 108 ≤ t.val → FactsAt t := of_decide_eq_true (by sl_kernel_rfl)
theorem facts (t : Fin (cfgA F).N) : FactsAt t := by
  rcases Nat.lt_or_ge t.val 36 with h1 | h1; · exact facts_a t h1
  rcases Nat.lt_or_ge t.val 72 with h2 | h2; · exact facts_b t h1 h2
  rcases Nat.lt_or_ge t.val 108 with h3 | h3; · exact facts_c t h2 h3
  exact facts_d t h3

/-- The result's staging buffer never carries a value from one point to the next. -/
theorem fresh5 (t : Fin (cfgA F).N) : (cfgA F).fresh (5 : Fin 6) t.val = true :=
  Pipeline.Cfg.fresh_tab (cfgA F) (5 : Fin 6) (fun _ => true) rfl (fun t => by
    have h := facts t
    by_cases hd : OnDiag t
    · rw [h.2.2.1.2 hd]; rfl
    · rw [h.2.1.2 hd]; simp) t.val (Nat.le_of_lt t.isLt)

/-- Each window's current staging memref at point `t`, and its wholeness. -/
abbrev ms0 (t : Fin (cfgA F).N) : Memref sig .tc .vmem S1024x256 .bf16 := spec0_0.stage ((cfgA F).slots t (0 : Fin 6))
abbrev hs0 (t : Fin (cfgA F).N) : (ms0 t).IsWhole := hstage0_0 (((cfgA F).slots t (0 : Fin 6)).cast nbuf0_0)
abbrev ms1 (t : Fin (cfgA F).N) : Memref sig .tc .vmem S1024x256 .bf16 := spec0_1.stage ((cfgA F).slots t (1 : Fin 6))
abbrev hs1 (t : Fin (cfgA F).N) : (ms1 t).IsWhole := hstage0_1 (((cfgA F).slots t (1 : Fin 6)).cast nbuf0_1)
abbrev ms2 (t : Fin (cfgA F).N) : Memref sig .tc .vmem S1024x256 .bf16 := spec0_2.stage ((cfgA F).slots t (2 : Fin 6))
abbrev hs2 (t : Fin (cfgA F).N) : (ms2 t).IsWhole := hstage0_2 (((cfgA F).slots t (2 : Fin 6)).cast nbuf0_2)
abbrev ms3 (t : Fin (cfgA F).N) : Memref sig .tc .vmem S4x128 .f32 := spec0_3.stage ((cfgA F).slots t (3 : Fin 6))
abbrev hs3 (t : Fin (cfgA F).N) : (ms3 t).IsWhole := hstage0_3 (((cfgA F).slots t (3 : Fin 6)).cast nbuf0_3)
abbrev ms4 (t : Fin (cfgA F).N) : Memref sig .tc .vmem S1x256 .f32 := spec0_4.stage ((cfgA F).slots t (4 : Fin 6))
abbrev hs4 (t : Fin (cfgA F).N) : (ms4 t).IsWhole := hstage0_4 (((cfgA F).slots t (4 : Fin 6)).cast nbuf0_4)
abbrev ms5 (t : Fin (cfgA F).N) : Memref sig .tc .vmem S1024x256 .bf16 := spec0_5.stage ((cfgA F).slots t (5 : Fin 6))
abbrev hs5 (t : Fin (cfgA F).N) : (ms5 t).IsWhole := hstage0_5 (((cfgA F).slots t (5 : Fin 6)).cast nbuf0_5)

end Cert.KernelIdeal.Diff

end
-- ==== Proof.Diff.Body.lean ====
module

public import proofs.«01_k».proof.Proof.Diff.Cfg

@[expose] public section

set_option maxRecDepth 16384
set_option Elab.async false

/-! # What the attention's scratches and result hold from point to point, and the body's obligation -/

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the arrays hold when the pipeline is launched, core by core. -/
abbrev Held (F : FTy → Type) : Type := (c : Dev nD) → (b : Ref sig .tc) → Buf (Elt F) ((c.tc : Thread nD τ).loc b)

variable (V : Held F)

/-- Window `w`'s block at point `t`, of its array at launch. -/
def iblk (c : Dev nD) (w : Fin (cfgA F).W) (t : Fin (cfgA F).N) : (((cfgA F).win w).xblock (crd t)).Idx → Elt F ((cfgA F).win w).elt :=
  (((cfgA F).win w).blk t).view.read (Elt F) (V c (Pipeline.arrRef spec0 w))

/-- The three scratches: running maximum, running sum, accumulator. -/
abbrev Scr (F : FTy → Type) : Type := ST F × ST F × AT F

/-- What the body at point `t` leaves in the scratches, from what they held. -/
def step (c : Dev nD) (t : Fin (cfgA F).N) (s : Scr F) : Scr F :=
  if hf : First t then
    if hd : OnDiag t then
      let R := runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd; (R.2.1, R.2.2.1, R.2.2.2.1)
    else
      let R := runFirstFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf ((facts t).1.2 hd) hd; (R.1, R.2.1, R.2.2.1)
  else
    if hd : OnDiag t then
      let R := runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd; (R.2.1, R.2.2.1, R.2.2.2.1)
    else
      let R := runFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf ((facts t).1.2 hd) hd; (R.1, R.2.1, R.2.2.1)

/-- The pieces the body at point `t` writes of the result's block: none before the diagonal. -/
def pieces (c : Dev nD) (t : Fin (cfgA F).N) (s : Scr F) : List (View.Piece (Elt F) S1024x256 .bf16) :=
  if hf : First t then
    if hd : OnDiag t then (runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).1 else []
  else
    if hd : OnDiag t then (runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd).1 else []

/-- The result's block as the pieces leave it. -/
abbrev VO := (Memref.whole cc0_stg5_0 : Memref sig .tc .vmem S1024x256 .bf16).view
def outOf (ps : List (View.Piece (Elt F) S1024x256 .bf16)) : BlkT F := VO.read (Elt F) (VO.writes (Elt F) VO.junk ps)

/-- The scratches before point `n`. -/
def scr (c : Dev nD) : ℕ → Scr F
  | 0 => (constant S2x1024x128 .f32 0x00000000#32, constant S2x1024x128 .f32 0x00000000#32, constant S2x1024x256 .f32 0x00000000#32)
  | n + 1 => if h : n < (cfgA F).N then step V c ⟨n, h⟩ (scr c n) else scr c n

theorem scr_succ (c : Dev nD) (t : Fin (cfgA F).N) : scr V c (t.val + 1) = step V c t (scr V c t.val) := by
  rw [scr, dif_pos t.isLt]

/-- The result's block after point `t`. -/
def outB (c : Dev nD) (t : Fin (cfgA F).N) : BlkT F := outOf (pieces V c t (scr V c t.val))

theorem step_runFirstDiag (c : Dev nD) (t : Fin (cfgA F).N) (s : Scr F) (hf : First t) (hd : OnDiag t) :
    step V c t s = (let R := runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd; (R.2.1, R.2.2.1, R.2.2.2.1)) := by
  unfold step; rw [dif_pos hf, dif_pos hd]
theorem pieces_runFirstDiag (c : Dev nD) (t : Fin (cfgA F).N) (s : Scr F) (hf : First t) (hd : OnDiag t) :
    pieces V c t s = (runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).1 := by
  unfold pieces; rw [dif_pos hf, dif_pos hd]
theorem cover_runFirstDiag (c : Dev nD) (t : Fin (cfgA F).N) (s : Scr F) (hf : First t) (hd : OnDiag t) : ∀ y : S1024x256.Idx, ∃ pc ∈ (runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).1, y ∈ pc.1.set :=
  fun y => View.cover_of_tiledL ((runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).1) S1024x256.size (by sl_kernel_rfl) y
theorem step_runFirstFull (c : Dev nD) (t : Fin (cfgA F).N) (s : Scr F) (hf : First t) (hd : ¬OnDiag t) :
    step V c t s = (let R := runFirstFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf ((facts t).1.2 hd) hd; (R.1, R.2.1, R.2.2.1)) := by
  unfold step; rw [dif_pos hf, dif_neg hd]
theorem step_runDiag (c : Dev nD) (t : Fin (cfgA F).N) (s : Scr F) (hf : ¬First t) (hd : OnDiag t) :
    step V c t s = (let R := runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd; (R.2.1, R.2.2.1, R.2.2.2.1)) := by
  unfold step; rw [dif_neg hf, dif_pos hd]
theorem pieces_runDiag (c : Dev nD) (t : Fin (cfgA F).N) (s : Scr F) (hf : ¬First t) (hd : OnDiag t) :
    pieces V c t s = (runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd).1 := by
  unfold pieces; rw [dif_neg hf, dif_pos hd]
theorem cover_runDiag (c : Dev nD) (t : Fin (cfgA F).N) (s : Scr F) (hf : ¬First t) (hd : OnDiag t) : ∀ y : S1024x256.Idx, ∃ pc ∈ (runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd).1, y ∈ pc.1.set :=
  fun y => View.cover_of_tiledL ((runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hd) hd).1) S1024x256.size (by sl_kernel_rfl) y
theorem step_runFull (c : Dev nD) (t : Fin (cfgA F).N) (s : Scr F) (hf : ¬First t) (hd : ¬OnDiag t) :
    step V c t s = (let R := runFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf ((facts t).1.2 hd) hd; (R.1, R.2.1, R.2.2.1)) := by
  unfold step; rw [dif_neg hf, dif_neg hd]

/-- The invariant before point `t`: the scratches at their contents from the second point on, the body's
    halves of the tables, the core's generator register. -/
def Phi (c : Dev nD) (t : Fin ((cfgA F).N + 1)) : sProp 𝕄 :=
  iprop((∃ a, ⌜t.val ≠ 0 → a = (scr V c t.val).1⌝ ∗ (scM.view.loc (c : Thread nD τ) ↦{fullShare} a))
    ∗ (∃ a, ⌜t.val ≠ 0 → a = (scr V c t.val).2.1⌝ ∗ (scL.view.loc (c : Thread nD τ) ↦{fullShare} a))
    ∗ (∃ a, ⌜t.val ≠ 0 → a = (scr V c t.val).2.2⌝ ∗ (scA.view.loc (c : Thread nD τ) ↦{fullShare} a))
    ∗ (tbQ.view.loc (c : Thread nD τ) ↦{fullShare.right} tQ)
    ∗ (tbK.view.loc (c : Thread nD τ) ↦{fullShare.right} tK)
    ∗ (∃ r, prngReg c r))

/-- The proof data of the pipeline on core `c`. -/
def dats (_ : Fin 1) (c : Dev nD) : Dat τ (Elt F) Unit ℕ (UR sig nD τ) ℕ (cfgA F) c where
  A w := V c (Pipeline.arrRef spec0 w)
  after w t := match w with
    | ⟨0, _⟩ => iblk V c (0 : Fin 6) t
    | ⟨1, _⟩ => iblk V c (1 : Fin 6) t
    | ⟨2, _⟩ => iblk V c (2 : Fin 6) t
    | ⟨3, _⟩ => iblk V c (3 : Fin 6) t
    | ⟨4, _⟩ => iblk V c (4 : Fin 6) t
    | ⟨5, _⟩ => outB V c t
  Φ t := Phi V c t
  q w := Pipeline.shareOf spec0 w
  owed _ := 0

theorem after0 (c : Dev nD) (t : Fin (cfgA F).N) : (dats V 0 c).after (0 : Fin 6) t = iblk V c (0 : Fin 6) t := rfl
theorem after1 (c : Dev nD) (t : Fin (cfgA F).N) : (dats V 0 c).after (1 : Fin 6) t = iblk V c (1 : Fin 6) t := rfl
theorem after2 (c : Dev nD) (t : Fin (cfgA F).N) : (dats V 0 c).after (2 : Fin 6) t = iblk V c (2 : Fin 6) t := rfl
theorem after3 (c : Dev nD) (t : Fin (cfgA F).N) : (dats V 0 c).after (3 : Fin 6) t = iblk V c (3 : Fin 6) t := rfl
theorem after4 (c : Dev nD) (t : Fin (cfgA F).N) : (dats V 0 c).after (4 : Fin 6) t = iblk V c (4 : Fin 6) t := rfl
theorem after5 (c : Dev nD) (t : Fin (cfgA F).N) : (dats V 0 c).after (5 : Fin 6) t = outB V c t := rfl

/-! An input window's buffer holds its block, fetched at the point or before it. -/

theorem before0 (c : Dev nD) (t : Fin (cfgA F).N) (d) : (dats V 0 c).before (0 : Fin 6) t d = iblk V c (0 : Fin 6) t :=
  ((dats V 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA F).N) (d) : (dats V 0 c).before (1 : Fin 6) t d = iblk V c (1 : Fin 6) t :=
  ((dats V 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA F).N) (d) : (dats V 0 c).before (2 : Fin 6) t d = iblk V c (2 : Fin 6) t :=
  ((dats V 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA F).N) (d) : (dats V 0 c).before (3 : Fin 6) t d = iblk V c (3 : Fin 6) t :=
  ((dats V 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA F).N) (d) : (dats V 0 c).before (4 : Fin 6) t d = iblk V c (4 : Fin 6) t :=
  ((dats V 0 c).before_in_eq_fetched (4 : Fin 6) rfl (fun _ => rfl) (fun _ _ _ => rfl) (fun t => by rw [after4]; unfold Dat.blockOf iblk; rfl) t d).trans
    (by unfold Dat.fetched Dat.blockOf iblk; rfl)

/-- The result's buffer holds anything when the body runs. -/
theorem before5 (c : Dev nD) (t : Fin (cfgA F).N) (d) : (dats V 0 c).before (5 : Fin 6) t d = d := by
  rw [(dats V 0 c).before_out_traj (5 : Fin 6) rfl (fun _ _ => rfl)
    (fun t ht _ hf => absurd ((fresh5 t).symm.trans hf) (by decide)) t.val t rfl d]
  exact if_pos (fresh5 t)

theorem idle5 (t : Fin (cfgA F).N) (h : ¬OnDiag t) : (cfgA F).idle (5 : Fin 6) ((cfgA F).grid.coords t) = true := (facts t).2.1.2 h
theorem busy5 (t : Fin (cfgA F).N) (h : OnDiag t) : (cfgA F).idle (5 : Fin 6) ((cfgA F).grid.coords t) = false :=
  Bool.eq_false_iff.2 fun e => (facts t).2.1.1 e h
theorem flush5 (t : Fin (cfgA F).N) (h : OnDiag t) : ((cfgA F).win (5 : Fin 6)).flush t = true := (facts t).2.2.1.2 h
theorem keep5 (t : Fin (cfgA F).N) (h : ¬OnDiag t) : ((cfgA F).win (5 : Fin 6)).flush t = false :=
  Bool.eq_false_iff.2 fun e => h ((facts t).2.2.1.1 e)

set_option maxHeartbeats 4000000 in
/-- The body's triple at point `t`, path by path. -/
theorem sound_body (c : Dev nD) (t : Fin (cfgA F).N) :
    iprop((dats V 0 c).Φ t.castSucc ∗ (dats V 0 c).owesAt () t.castSucc
      ∗ bigSep Finset.univ fun w : Fin (cfgA F).W =>
          iprop(∃ d, owns (c : Thread nD τ) (((cfgA F).win w).stage ((cfgA F).slots t w)) fullShare ((dats V 0 c).before w t d)))
      ⊢ wp frame (wpE (defs₀ (F := F)) Variants.none c none) Set.univ (cc0_diffattn (crd t) tbQ (Memref.isWhole_whole _) tbK (Memref.isWhole_whole _) (ms0 t) (hs0 t) (ms1 t) (hs1 t) (ms2 t) (hs2 t) (ms3 t) (hs3 t) (ms4 t) (hs4 t) (ms5 t) (hs5 t) scM (Memref.isWhole_whole _) scL (Memref.isWhole_whole _) scA (Memref.isWhole_whole _))
          fun _ => iprop((dats V 0 c).Φ t.succ ∗ (dats V 0 c).owesAt () t.succ
            ∗ bigSep Finset.univ fun w : Fin (cfgA F).W =>
              match (cfgA F).idle w ((cfgA F).grid.coords t) with
              | true =>
                match ((cfgA F).win w).flush t with
                | false => iprop(∃ d, owns (c : Thread nD τ) (((cfgA F).win w).stage ((cfgA F).slots t w)) fullShare ((dats V 0 c).before w t d))
                | true => owns (c : Thread nD τ) (((cfgA F).win w).stage ((cfgA F).slots t w)) fullShare ((dats V 0 c).after w t)
              | false => owns (c : Thread nD τ) (((cfgA F).win w).stage ((cfgA F).slots t w)) fullShare ((dats V 0 c).after w t)) := by
  rw [bigSep_W0, bigSep_W0]
  by_cases hf : First t
  · by_cases hd : OnDiag t
    · rewrite [busy5 t hd]
      simp only [before0, before1, before2, before3, before4, before5, after0, after1, after2, after3, after4, after5]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      unfold Phi; simp only [Fin.val_castSucc, Fin.val_succ, scr_succ]
      rw [show outB V c t = outOf ((runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).1) from by unfold outB; rw [pieces_runFirstDiag V c t _ hf hd]]
      simp only [step_runFirstDiag V c t _ hf hd]
      iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩, ⟨%d4, H4⟩, ⟨%d5, H5⟩⟩
      iapply ((runFirstDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hd) hd).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 HR]
      · isplitl [HS0]
        · iexists _; isplitr; swap
          · iexact HS0
          · ipureintro; exact fun _ => rfl
        isplitl [HS1]
        · iexists _; isplitr; swap
          · iexact HS1
          · ipureintro; exact fun _ => rfl
        isplitl [HS2]
        · iexists _; isplitr; swap
          · iexact HS2
          · ipureintro; exact fun _ => rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact View.read_writes_of_cover _ _ _ _ _ (cover_runFirstDiag V c t (scr V c t.val) hf hd)
    · rewrite [idle5 t hd]
      simp only [before0, before1, before2, before3, before4, before5, after0, after1, after2, after3, after4, after5, keep5 t hd]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      unfold Phi; simp only [Fin.val_castSucc, Fin.val_succ, scr_succ]
      simp only [step_runFirstFull V c t _ hf hd]
      iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩, ⟨%d4, H4⟩, ⟨%d5, H5⟩⟩
      iapply ((runFirstFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf ((facts t).1.2 hd) hd).2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HS0]; · iexact HS0
      isplitl [HS1]; · iexact HS1
      isplitl [HS2]; · iexact HS2
      iintro ⟨H0, H1, H2, H3, H4, HT0, HT1, HS0, HS1, HS2⟩
      isplitl [HS0 HS1 HS2 HT0 HT1 HR]
      · isplitl [HS0]
        · iexists _; isplitr; swap
          · iexact HS0
          · ipureintro; exact fun _ => rfl
        isplitl [HS1]
        · iexists _; isplitr; swap
          · iexact HS1
          · ipureintro; exact fun _ => rfl
        isplitl [HS2]
        · iexists _; isplitr; swap
          · iexact HS2
          · ipureintro; exact fun _ => rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
  · by_cases hd : OnDiag t
    · have h0 : t.val ≠ 0 := fun e => hf ((facts t).2.2.2 e)
      rewrite [busy5 t hd]
      simp only [before0, before1, before2, before3, before4, before5, after0, after1, after2, after3, after4, after5]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      unfold Phi; simp only [Fin.val_castSucc, Fin.val_succ, scr_succ]
      rw [show outB V c t = outOf ((runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) (scr V c t.val).1 (scr V c t.val).2.1 (scr V c t.val).2.2 hf (fun h => (facts t).1.1 h hd) hd).1) from by unfold outB; rw [pieces_runDiag V c t _ hf hd]]
      simp only [step_runDiag V c t _ hf hd]
      simp only [exists_held h0]
      iintro ⟨⟨HS0, HS1, HS2, HT0, HT1, HR⟩, Ho, ⟨%d0, H0⟩, ⟨%d1, H1⟩, ⟨%d2, H2⟩, ⟨%d3, H3⟩, ⟨%d4, H4⟩, ⟨%d5, H5⟩⟩
      iapply ((runDiag (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) (scr V c t.val).1 (scr V c t.val).2.1 (scr V c t.val).2.2 hf (fun h => (facts t).1.1 h hd) hd).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 HR]
      · isplitl [HS0]
        · iexists _; isplitr; swap
          · iexact HS0
          · ipureintro; exact fun _ => rfl
        isplitl [HS1]
        · iexists _; isplitr; swap
          · iexact HS1
          · ipureintro; exact fun _ => rfl
        isplitl [HS2]
        · iexists _; isplitr; swap
          · iexact HS2
          · ipureintro; exact fun _ => rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact View.read_writes_of_cover _ _ _ _ _ (cover_runDiag V c t (scr V c t.val) hf hd)
    · have h0 : t.val ≠ 0 := fun e => hf ((facts t).2.2.2 e)
      rewrite [idle5 t hd]
      simp only [before0, before1, before2, before3, before4, before5, after0, after1, after2, after3, after4, after5, keep5 t hd]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      unfold Phi; simp only [Fin.val_castSucc, Fin.val_succ, scr_succ]
      simp only [step_runFull V c t _ hf hd]
      simp only [exists_held h0]
      iintro ⟨⟨HS0, HS1, HS2, HT0, HT1, HR⟩, Ho, ⟨%d0, H0⟩, ⟨%d1, H1⟩, ⟨%d2, H2⟩, ⟨%d3, H3⟩, ⟨%d4, H4⟩, ⟨%d5, H5⟩⟩
      iapply ((runFull (F := F) c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) (scr V c t.val).1 (scr V c t.val).2.1 (scr V c t.val).2.2 hf ((facts t).1.2 hd) hd).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HS0]; · iexact HS0
      isplitl [HS1]; · iexact HS1
      isplitl [HS2]; · iexact HS2
      iintro ⟨H0, H1, H2, H3, H4, HT0, HT1, HS0, HS1, HS2⟩
      isplitl [HS0 HS1 HS2 HT0 HT1 HR]
      · isplitl [HS0]
        · iexists _; isplitr; swap
          · iexact HS0
          · ipureintro; exact fun _ => rfl
        isplitl [HS1]
        · iexists _; isplitr; swap
          · iexact HS1
          · ipureintro; exact fun _ => rfl
        isplitl [HS2]
        · iexists _; isplitr; swap
          · iexact HS2
          · ipureintro; exact fun _ => rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5

/-- The library's body obligation, at every point. -/
theorem body_obligation (c : Dev nD) : BodyObligation (dats V 0 c) (defs₀ (F := F)) Variants.none () Set.univ := fun t => sound_body V c t

end Cert.KernelIdeal.Diff

end
-- ==== Proof.Diff.Frame.lean ====
module

public import proofs.«01_k».proof.Proof.Diff.Body
public import Idealize.ShloMosaic.Lib.Pipeline.Frame
public import Idealize.ShloMosaic.Lib.StableHlo.RunRead

@[expose] public section

set_option maxRecDepth 16384

/-! # The run of the attention program -/

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the buffers hold when the pipeline is launched: the launch memory after the host's operations. -/
def VV : Held F := fun c b => StableHlo.after (τ := τ) (hostOps0 (F := F)) (fun b => m (c, b)) b

/-- The references the host's operations write. -/
abbrev hostW : List (Ref sig .tc) :=
  [main_c, main_c_0, main_cst, main_v0, main_cst_1, main_v1, main_v2, main_v3, main_v4, main_v5, main_v6, main_v7, main_v8, main_v9,
   main_v10, main_v11, main_v12, main_v13, main_v14, main_v15, main_v16, main_v17]

/-- A buffer the host does not write holds what it held. -/
theorem VV_kept (c : Dev nD) (b : Ref sig .tc) (hb : b ∉ hostW) : VV m c b = m ((c.tc : Thread nD τ).loc b) :=
  StableHlo.after_unwritten hostW rfl hb _

theorem prefHeld_tabs (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, of the scratches, the tables and the register as the launch hands them over. -/
theorem phi_first (V : Held F) (c : Dev nD) :
    iprop(Pipeline.ΦA spec0 c ∗ Pipeline.ΦT pre0 (adm (F := F)).1 c) ⊢ (dats V 0 c).Φ 0 := by
  unfold Pipeline.ΦA Pipeline.ΦT
  rw [prefHeld_tabs, scopedRest0_eq, show (dats V 0 c).Φ 0 = Phi V c 0 from rfl]
  unfold Phi
  iintro ⟨⟨⟨⟨%a0, HS0⟩, ⟨%a1, HS1⟩, ⟨%a2, HS2⟩⟩, HR⟩, ⟨HT0, HT1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]
  · iexact HT0
  isplitl [HT1]
  · iexact HT1
  iexact HR

/-- The scratches and the register given back after the last point. -/
theorem phi_last (V : Held F) (c : Dev nD) : (dats V 0 c).Φ (Fin.last (cfgA F).N) ⊢ Pipeline.ΦA spec0 c := by
  unfold Pipeline.ΦA
  rw [scopedRest0_eq, show (dats V 0 c).Φ (Fin.last (cfgA F).N) = Phi V c (Fin.last _) from rfl]
  unfold Phi
  iintro ⟨⟨%a0, -, HS0⟩, ⟨%a1, -, HS1⟩, ⟨%a2, -, HS2⟩, -, -, HR⟩
  isplitr [HR]
  · isplitl [HS0]
    · iexists a0; iexact HS0
    isplitl [HS1]
    · iexists a1; iexact HS1
    iexists a2; iexact HS2
  iexact HR

set_option backward.isDefEq.respectTransparency.types false in
set_option maxHeartbeats 4000000 in
/-- From any memory with zero counters the program runs to its end: every array then holds what the pipeline's
    data says, every other buffer what the host's operations left there, every semaphore reads zero. -/
theorem run_main : θ_run (defs (F := F)) (onTc (τ := τ) (main (F := F))) (s₀ m ρ)
    (fun r => Pipeline.FramePost (pcs F) (dats (VV m)) 0 (VV m) r ∧ r.2.sem = fun _ => 0) :=
  Pipeline.θ_run_frameP_track_shared pcfgs (fun _ => adm) (dats (VV m)) (0 : Fin 1) launch₀0 defs₀ Variants.none m ρ main
    (hbody := fun c => (body_obligation (VV m) c).loose)
    (hq := fun _ _ _ => rfl) (howed := fun _ _ => rfl) (V := VV m)
    (hmain := Pipeline.hmainP_prefix pcfgs 0 defs₀ Variants.none m main hostOps0 hostOps0_sub
      ⟨rfl, rfl, rfl, rfl, rfl, rfl, rfl, rfl, rfl, rfl, rfl, rfl, rfl, rfl, rfl, rfl, rfl, rfl, rfl, rfl, rfl, rfl⟩ main_chain)
    (hA := fun _ _ => rfl)
    (hpf := fun c k => by fin_cases k <;> rfl)
    (hin := fun c => phi_first (VV m) c) (hout := fun c => phi_last (VV m) c)
    (Q' := fun r => Pipeline.FramePost (pcs F) (dats (VV m)) 0 (VV m) r ∧ r.2.sem = fun _ => 0) (hQ' := fun _ h => h)

theorem result_eq {r : PUnit × MemSt nD τ sig (Elt F)} (h : Pipeline.FramePost (pcs F) (dats (VV m)) 0 (VV m) r) (c : Dev nD) :
    r.2.mem ((c.tc : Thread nD τ).loc main_v18) = (dats (VV m) 0 c).arrAt (5 : Fin 6) (cfgA F).N := (h c).1 (5 : Fin 6)

theorem kept {r : PUnit × MemSt nD τ sig (Elt F)} (h : Pipeline.FramePost (pcs F) (dats (VV m)) 0 (VV m) r) (c : Dev nD)
    (b : Ref sig .tc) (hb : b ∈ Pipeline.restRefs sig spec0) (hw : b ∉ hostW) :
    r.2.mem ((c.tc : Thread nD τ).loc b) = m ((c.tc : Thread nD τ).loc b) := ((h c).2 b hb).trans (VV_kept m c b hw)

/-- The program runs, its arguments end unchanged, and every semaphore reads zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨kept m h.1 c main_arg0 (by decide) (by decide), kept m h.1 c main_arg1 (by decide) (by decide),
     kept m h.1 c main_arg2 (by decide) (by decide), kept m h.1 c main_arg3 (by decide) (by decide),
     kept m h.1 c main_arg4 (by decide) (by decide), kept m h.1 c main_arg5 (by decide) (by decide),
     kept m h.1 c main_arg6 (by decide) (by decide), kept m h.1 c main_arg7 (by decide) (by decide)⟩, h.2⟩) (run_main m ρ)

end Cert.KernelIdeal.Diff

end
-- ==== Proof.Diff.Plain.lean ====
module

public import proofs.«01_k».proof.Proof.Diff.Frame
public import proofs.«01_k».proof.Proof.Gen.Kernel

@[expose] public section

set_option maxRecDepth 65536

/-! # The unidealized program's frame

Its text is the idealized one's, with the mask's constant a plain one: it is the idealized program read at the
bit-patterns, the named constant standing for its own bits. -/

noncomputable section

namespace Cert.KernelIdeal.Diff

open Idealize.ShloMosaic
open Idealize.ShloMosaic.TcCoe Idealize.ShloMosaic.Tactic

/-- A named constant read at the bit-patterns is its bits. -/
local instance plainNamed : Named Bits where
  named _ _ {φ} bits := Scalar.ofBits φ bits

set_option maxHeartbeats 4000000 in
theorem main_plain : Cert.Kernel.main (F := Bits) = Cert.KernelIdeal.main (F := Bits) := by sl_kernel_rfl

set_option maxHeartbeats 4000000 in
theorem defs_plain : Cert.Kernel.defs (F := Bits) = Cert.KernelIdeal.defs (F := Bits) := by sl_kernel_rfl

set_option maxHeartbeats 4000000 in
set_option backward.isDefEq.respectTransparency.types false in
/-- The unidealized program runs, its arguments end unchanged, and every semaphore reads zero. -/
theorem quiescent_plain : Cert.quiescent_Kernel (hKernel := Cert.Kernel.Gen.facts) := fun m g _ => by
  rw [main_plain, defs_plain]
  exact quiescent (F := Bits) m g

end Cert.KernelIdeal.Diff

end
-- ==== Proof.Diff.Sched.lean ====
module

public import proofs.«01_k».proof.Proof.Diff.Cfg

@[expose] public section

set_option maxRecDepth 16384

/-! # The schedule: which tiles a point works on, decided over the 144 points -/

noncomputable section

namespace Cert.KernelIdeal.Diff

open Cert.KernelIdeal Cert.KernelIdeal.Gen
open Idealize.ShloMosaic Idealize.ShloMosaic.Tactic

variable {F : FTy → Type} [FloatOps F] [Named F]

/-- A point's head, query tile and key tile. -/
abbrev hd (t : Fin (cfgA F).N) : ℕ := ((crd (F := F) t) (0 : Fin 2)).val
abbrev qi (t : Fin (cfgA F).N) : ℕ := (wordQ (F := F) (crd t) tQ).toNat
abbrev kj (t : Fin (cfgA F).N) : ℕ := (wordK (F := F) (crd t) tK).toNat

/-- The tiles lie in range, and say which path the body takes. -/
abbrev TilesAt (t : Fin (cfgA F).N) : Prop :=
  hd t < 4 ∧ qi t < 8 ∧ kj t ≤ qi t ∧ (OnDiag t ↔ kj t = qi t) ∧ (First t ↔ kj t = 0)

/-- Which blocks of the arrays the windows are at. -/
abbrev BlocksAt (t : Fin (cfgA F).N) : Prop :=
  (((cfgA F).win (0 : Fin 6)).index t (0 : Fin 2) = qi t ∧ ((cfgA F).win (0 : Fin 6)).index t (1 : Fin 2) = hd t)
  ∧ (((cfgA F).win (1 : Fin 6)).index t (0 : Fin 2) = kj t ∧ ((cfgA F).win (1 : Fin 6)).index t (1 : Fin 2) = 4 + hd t)
  ∧ (((cfgA F).win (2 : Fin 6)).index t (0 : Fin 2) = kj t ∧ ((cfgA F).win (2 : Fin 6)).index t (1 : Fin 2) = 8 + hd t)
  ∧ (((cfgA F).win (3 : Fin 6)).index t (0 : Fin 2) = 0 ∧ ((cfgA F).win (3 : Fin 6)).index t (1 : Fin 2) = 0)
  ∧ (((cfgA F).win (4 : Fin 6)).index t (0 : Fin 2) = 0 ∧ ((cfgA F).win (4 : Fin 6)).index t (1 : Fin 2) = 0)
  ∧ (((cfgA F).win (5 : Fin 6)).index t (0 : Fin 2) = qi t ∧ ((cfgA F).win (5 : Fin 6)).index t (1 : Fin 2) = hd t)

abbrev SchedAt (t : Fin (cfgA F).N) : Prop := TilesAt t ∧ BlocksAt t

theorem sched_a : ∀ t : Fin (cfgA F).N, t.val < 36 → SchedAt t := of_decide_eq_true (by sl_kernel_rfl)
theorem sched_b : ∀ t : Fin (cfgA F).N, 36 ≤ t.val → t.val < 72 → SchedAt t := of_decide_eq_true (by sl_kernel_rfl)
theorem sched_c : ∀ t : Fin (cfgA F).N, 72 ≤ t.val → t.val < 108 → SchedAt t := of_decide_eq_true (by sl_kernel_rfl)
theorem sched_d : ∀ t : Fin (cfgA F).N, 108 ≤ t.val → SchedAt t := of_decide_eq_true (by sl_kernel_rfl)
theorem sched (t : Fin (cfgA F).N) : SchedAt t := by
  rcases Nat.lt_or_ge t.val 36 with h1 | h1; · exact sched_a t h1
  rcases Nat.lt_or_ge t.val 72 with h2 | h2; · exact sched_b t h1 h2
  rcases Nat.lt_or_ge t.val 108 with h3 | h3; · exact sched_c t h2 h3
  exact sched_d t h3

/-- The point before. -/
abbrev prev (t : Fin (cfgA F).N) : Fin (cfgA F).N := ⟨t.val - 1, lt_of_le_of_lt (Nat.sub_le _ _) t.isLt⟩
abbrev PrevAt (t : Fin (cfgA F).N) : Prop :=
  kj t ≠ 0 → t.val ≠ 0 ∧ hd (prev t) = hd t ∧ qi (prev t) = qi t ∧ kj (prev t) + 1 = kj t

theorem prev_a : ∀ t : Fin (cfgA F).N, t.val < 36 → PrevAt t := of_decide_eq_true (by sl_kernel_rfl)
theorem prev_b : ∀ t : Fin (cfgA F).N, 36 ≤ t.val → t.val < 72 → PrevAt t := of_decide_eq_true (by sl_kernel_rfl)
theorem prev_c : ∀ t : Fin (cfgA F).N, 72 ≤ t.val → t.val < 108 → PrevAt t := of_decide_eq_true (by sl_kernel_rfl)
theorem prev_d : ∀ t : Fin (cfgA F).N, 108 ≤ t.val → PrevAt t := of_decide_eq_true (by sl_kernel_rfl)
theorem prevs (t : Fin (cfgA F).N) : PrevAt t := by
  rcases Nat.lt_or_ge t.val 36 with h1 | h1; · exact prev_a t h1
  rcases Nat.lt_or_ge t.val 72 with h2 | h2; · exact prev_b t h1 h2
  rcases Nat.lt_or_ge t.val 108 with h3 | h3; · exact prev_c t h2 h3
  exact prev_d t h3

/-- The point at which a head's query tile is finished. -/
theorem inN (h : Fin 4) (q : Fin 8) : 36 * h.val + q.val * (q.val + 3) / 2 < (cfgA F).N := by
  have e : (cfgA F).N = 144 := rfl
  have := h.isLt
  have := q.isLt
  have : q.val * (q.val + 3) ≤ 7 * 10 := Nat.mul_le_mul (by omega) (by omega)
  omega
abbrev fin (h : Fin 4) (q : Fin 8) : Fin (cfgA F).N := ⟨_, inN h q⟩
theorem fin_at : ∀ (h : Fin 4) (q : Fin 8), hd (fin (F := F) h q) = h.val ∧ qi (fin (F := F) h q) = q.val ∧ kj (fin (F := F) h q) = q.val :=
  of_decide_eq_true (by sl_kernel_rfl)

end Cert.KernelIdeal.Diff

end
-- ==== Proof.Diff.Math.lean ====
module

public import Idealize.ShloMosaic.PureOps.Ideal
public import Mathlib.Analysis.SpecialFunctions.Pow.Real
public import Mathlib.Data.EReal.Operations

@[expose] public section

/-! # A row of the attention, tile by tile

The running maximum, sum and accumulator of one query row, as extended reals: what one tile of keys
makes of them, and what they hold after the first `n` keys. -/

noncomputable section

namespace Cert.KernelIdeal.Diff

open Idealize.ShloMosaic

/-- The new maximum of a row: the old one and the tile's scores. -/
def upM {K : ℕ} (m : EReal) (x : Fin K → EReal) : EReal := max m (Finset.fold max ⊥ x Finset.univ)

/-- The new sum of a row. -/
def upL {K : ℕ} (m : EReal) (x : Fin K → EReal) (l : EReal) : EReal :=
  Ideal.exp2 (m - upM m x) * l + ∑ j, Ideal.exp2 (x j - upM m x)

/-- The new accumulator of a row, at one lane whose values are `w`. -/
def upA {K : ℕ} (m : EReal) (x : Fin K → EReal) (a : EReal) (w : Fin K → EReal) : EReal :=
  Ideal.exp2 (m - upM m x) * a + ∑ j, Ideal.exp2 (x j - upM m x) * w j

/-- Two to a real power. -/
abbrev two (r : ℝ) : ℝ := Real.rpow 2 r

theorem two_add (a b : ℝ) : two (a + b) = two a * two b := Real.rpow_add (by norm_num) a b
theorem two_pos (a : ℝ) : 0 < two a := Real.rpow_pos_of_pos (by norm_num) a

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- What the three running values of a row hold after its first `n` keys, of scores `s` and values `w`:
their start values when `n` is zero, else the sums weighted by powers of two relative to some real. -/
def Held1 (n : ℕ) (s : ℕ → ℝ) {D : ℕ} (w : ℕ → Fin D → ℝ) (m l : EReal) (a : Fin D → EReal) : Prop :=
  (n = 0 ∧ m = ⊥ ∧ l = 0 ∧ ∀ d, a d = 0) ∨
    ∃ M : ℝ, m = (M : EReal) ∧ l = ((∑ k ∈ Finset.range n, two (s k - M) : ℝ) : EReal)
      ∧ ∀ d, a d = ((∑ k ∈ Finset.range n, two (s k - M) * w k d : ℝ) : EReal)

/-- A maximum over a tile, one of whose scores is real and none of which is `⊤`, is real or below. -/
theorem fold_real {K : ℕ} (x : Fin K → EReal) (hx : ∀ j, x j ≠ ⊤) (j0 : Fin K) (h0 : x j0 ≠ ⊥) :
    ∃ M : ℝ, Finset.fold max ⊥ x Finset.univ = (M : EReal) := by
  have hlt : Finset.fold max ⊥ x Finset.univ < ⊤ := by
    rw [Finset.fold_max_lt]
    exact ⟨bot_lt_top, fun j _ => lt_top_iff_ne_top.mpr (hx j)⟩
  have hgt : ⊥ < Finset.fold max ⊥ x Finset.univ := by
    rw [Finset.lt_fold_max]
    exact Or.inr ⟨j0, Finset.mem_univ _, bot_lt_iff_ne_bot.mpr h0⟩
  exact ⟨_, (EReal.coe_toReal hlt.ne hgt.ne').symm⟩

/-- A sum over a range that goes on by a tile, the tile's later places left out. -/
theorem sum_tile {n n' K : ℕ} (h1 : n ≤ n') (h2 : n' ≤ n + K) (f : ℕ → ℝ) :
    ∑ k ∈ Finset.range n', f k = ∑ k ∈ Finset.range n, f k + ∑ j : Fin K, if n + j.val < n' then f (n + j.val) else 0 := by
  obtain ⟨e, rfl⟩ := Nat.exists_eq_add_of_le h1
  rw [Finset.sum_range_add]
  congr 1
  rw [Fin.sum_univ_eq_sum_range (fun j => if n + j < n + e then f (n + j) else 0) K, ← Finset.sum_filter]
  refine Finset.sum_congr ?_ fun _ _ => rfl
  ext j
  simp only [Finset.mem_range, Finset.mem_filter]
  omega

/-- A tile that brings the keys from `n` to `n'` keeps the row's description. -/
theorem Held1.up {n n' K : ℕ} {s : ℕ → ℝ} {D : ℕ} {w : ℕ → Fin D → ℝ} {m l : EReal} {a : Fin D → EReal}
    (H : Held1 n s w m l a) (h1 : n < n') (h2 : n' ≤ n + K) (x : Fin K → EReal)
    (hx : ∀ j : Fin K, x j = if n + j.val < n' then (s (n + j.val) : EReal) else ⊥)
    (y : Fin K → Fin D → EReal) (hy : ∀ (j : Fin K), ∀ d, y j d = (w (n + j.val) d : EReal))
    {m' l' : EReal} {a' : Fin D → EReal}
    (hm : m' = upM m x) (hl : l' = upL m x l) (ha : ∀ d, a' d = upA m x (a d) (fun j => y j d)) :
    Held1 n' s w m' l' a' := by
  obtain ⟨M1, hM1⟩ : ∃ M : ℝ, Finset.fold max ⊥ x Finset.univ = (M : EReal) :=
    fold_real x (fun j => by rw [hx]; split <;> simp) ⟨0, by omega⟩ (by
      rw [hx, if_pos (show n + 0 < n' by omega)]; exact EReal.coe_ne_bot _)
  have hp (M' : ℝ) (j : Fin K) : Ideal.exp2 (x j - (M' : EReal)) = ((if n + j.val < n' then two (s (n + j.val) - M') else 0 : ℝ) : EReal) := by
    rw [hx]
    split
    · rw [← EReal.coe_sub, Ideal.exp2_coe]
    · rw [EReal.bot_sub, Ideal.exp2_bot]; rfl
  have hsum (M' : ℝ) : ∑ j, Ideal.exp2 (x j - (M' : EReal)) = ((∑ j : Fin K, if n + j.val < n' then two (s (n + j.val) - M') else 0 : ℝ) : EReal) := by
    rw [coe_sum]; exact Finset.sum_congr rfl fun j _ => hp M' j
  have hsumw (M' : ℝ) (d : Fin D) : ∑ j, Ideal.exp2 (x j - (M' : EReal)) * y j d = ((∑ j : Fin K, if n + j.val < n' then two (s (n + j.val) - M') * w (n + j.val) d else 0 : ℝ) : EReal) := by
    rw [coe_sum]; refine Finset.sum_congr rfl fun j _ => ?_
    rw [hp, hy j d, ← EReal.coe_mul]; split <;> simp
  rcases H with ⟨rfl, rfl, rfl, ha0⟩ | ⟨M, rfl, rfl, haM⟩
  · have hM : upM ⊥ x = (M1 : EReal) := by rw [upM, hM1, max_eq_right bot_le]
    refine Or.inr ⟨M1, hm.trans hM, ?_, fun d => ?_⟩
    · rw [hl, upL, hM, hsum, mul_zero, zero_add, sum_tile (Nat.zero_le n') (by omega : n' ≤ 0 + K), Finset.range_zero, Finset.sum_empty, zero_add]
    · rw [ha d, upA, hM, ha0 d, hsumw M1 d, mul_zero, zero_add, sum_tile (Nat.zero_le n') (by omega : n' ≤ 0 + K), Finset.range_zero, Finset.sum_empty, zero_add]
  · have hM : upM (M : EReal) x = ((max M M1 : ℝ) : EReal) := by rw [upM, hM1]; exact (EReal.coe_strictMono.monotone.map_max).symm
    generalize max M M1 = M' at hM
    have hal : Ideal.exp2 ((M : EReal) - (M' : EReal)) = ((two (M - M') : ℝ) : EReal) := by rw [← EReal.coe_sub, Ideal.exp2_coe]
    have hsh (k : ℕ) : two (M - M') * two (s k - M) = two (s k - M') := by rw [← two_add]; congr 1; ring
    refine Or.inr ⟨M', hm.trans hM, ?_, fun d => ?_⟩
    · rw [hl, upL, hM, hsum, hal, ← EReal.coe_mul, ← EReal.coe_add, sum_tile h1.le h2 (fun k => two (s k - M')), Finset.mul_sum]
      simp only [hsh]
    · rw [ha d, upA, hM, haM d, hsumw M' d, hal, ← EReal.coe_mul, ← EReal.coe_add, sum_tile h1.le h2 (fun k => two (s k - M') * w k d), Finset.mul_sum]
      simp only [← mul_assoc, hsh]

/-- The start values hold no keys. -/
theorem Held1.zero (s : ℕ → ℝ) {D : ℕ} (w : ℕ → Fin D → ℝ) : Held1 0 s w ⊥ 0 (fun _ => 0) := Or.inl ⟨rfl, rfl, rfl, fun _ => rfl⟩

/-- The weighted mean of the first `n` keys' values. -/
def mean (n : ℕ) (s : ℕ → ℝ) (w : ℕ → ℝ) : ℝ :=
  (∑ k ∈ Finset.range n, two (s k) * w k) / ∑ k ∈ Finset.range n, two (s k)

/-- The accumulator over the sum is the weighted mean, whatever real the sums are relative to. -/
theorem Held1.div {n : ℕ} {s : ℕ → ℝ} {D : ℕ} {w : ℕ → Fin D → ℝ} {m l : EReal} {a : Fin D → EReal}
    (H : Held1 n s w m l a) (hn : 0 < n) (d : Fin D) :
    Ideal.div (a d) l = ((mean n s (fun k => w k d) : ℝ) : EReal) := by
  rcases H with ⟨rfl, -⟩ | ⟨M, -, rfl, haM⟩
  · exact absurd hn (lt_irrefl _)
  have hs (k : ℕ) : two (s k - M) = two (-M) * two (s k) := by rw [← two_add]; congr 1; ring
  have hpos : 0 < ∑ k ∈ Finset.range n, two (s k) :=
    Finset.sum_pos (fun k _ => two_pos _) ⟨0, Finset.mem_range.mpr hn⟩
  have hne : (∑ k ∈ Finset.range n, two (s k - M)) ≠ 0 :=
    (Finset.sum_pos (fun k _ => two_pos _) ⟨0, Finset.mem_range.mpr hn⟩).ne'
  rw [haM d, Ideal.div_coe hne, ← EReal.coe_mul]
  congr 1
  rw [mul_one_div]
  simp only [hs, mul_assoc, ← Finset.mul_sum]
  rw [mean, mul_div_mul_left _ _ (two_pos _).ne']

end Cert.KernelIdeal.Diff
-- ==== Proof.Diff.Rows.lean ====
module

public import proofs.«01_k».proof.Proof.Diff.Runs
public import proofs.«01_k».proof.Proof.Diff.Math
public import Idealize.ShloMosaic.Lib.Pointwise

@[expose] public section

set_option maxRecDepth 16384

/-! # The body's updates, row by row

Each of the six updates of the attention's body (a whole tile for either map, and the two masked
halves of the diagonal tile for either map), at ideal numbers: if the row's three running values
describe its first `n` keys before, they describe its first `n'` keys after. -/

noncomputable section

namespace Cert.KernelIdeal.Diff

open Cert.KernelIdeal Cert.KernelIdeal.Gen
open Idealize.ShloMosaic

/-- The three running values of a row, the same in every lane of the first two, describe its first
`n` keys, of scores `s` and values `w`. -/
def Row (fm fl : Fin 128 → EReal) (fa : Fin 256 → EReal) (n : ℕ) (s : ℕ → ℝ) (w : ℕ → Fin 256 → ℝ) : Prop :=
  ∃ m l, (∀ c, fm c = m) ∧ (∀ c, fl c = l) ∧ Held1 n s w m l fa

theorem ofBits_ninf : Ideal.ofBits FTy.f32 4286578688#32 = (⊥ : EReal) := by
  simp [Ideal.ofBits, Ideal.ieee]

/-- The mask, ideally. -/
theorem mask_bot : (Named.named (F := Ideal) κ "mask" 0xF149F2CA#32 : Ideal .f32) = (⊥ : EReal) := rfl

/-- A whole tile, the first map. -/
theorem row_full0 (q : Vec Ideal S1024x128 .bf16) (k : Vec Ideal S1024x128 .bf16) (v : Vec Ideal S1024x256 .bf16)
    (mp lp : Vec Ideal S1x1024x128 .f32) (ap : Vec Ideal S1x1024x256 .f32) (r : Fin 1024) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 1024)
    (hx : ∀ j : Fin 1024, k0_pay8 q k (ix2 r j) = if n + j.val < n' then (s (n + j.val) : EReal) else ⊥)
    (hy : ∀ (j : Fin 1024) (d : Fin 256), v (ix2 j d) = (w (n + j.val) d : EReal)) :
    Row (fun c => k0_pay16 (k0_pay10 q k mp) (ix3 0 r c)) (fun c => k0_pay13 q k mp lp (ix3 0 r c)) (fun d => k0_pay15 (k0_pay14 v q k mp ap) (ix3 0 r d)) n' s w := by
  obtain ⟨m, l, hm, hl, H⟩ := H
  have eM : ∀ c : Fin 128, k0_pay10 q k mp (ix2 r c) = upM m (fun j => k0_pay8 q k (ix2 r j)) := fun c => by
    pointwise [k0_pay10, k0_pay9]
    rw [ofBits_ninf]
    exact congrArg (max · _) (hm c)
  have eA : ∀ c : Fin 128, k0_pay11 q k mp (ix2 r c) = Ideal.exp2 (m - upM m (fun j => k0_pay8 q k (ix2 r j))) := fun c => by
    pointwise [k0_pay11, k0_pay9]
    rw [eM]
    exact congrArg (fun y => Ideal.exp2 (y - _)) (hm c)
  have eP : ∀ j : Fin 1024, k0_pay12 q k mp (ix2 r j) = Ideal.exp2 (k0_pay8 q k (ix2 r j) - upM m (fun j => k0_pay8 q k (ix2 r j))) := fun j => by
    pointwise [k0_pay12]
    simp only [eM, dite_eq_ite, ite_self]
    rfl
  refine ⟨upM m (fun j => k0_pay8 q k (ix2 r j)), upL m (fun j => k0_pay8 q k (ix2 r j)) l, fun c => ?_, fun c => ?_,
    H.up h1 h2 (fun j => k0_pay8 q k (ix2 r j)) hx (fun j d => v (ix2 j d)) hy rfl rfl fun d => ?_⟩
  · pointwise [k0_pay16]
    exact eM c
  · pointwise [k0_pay13]
    simp only [eA, eP, hm, hl, eM]
    rfl
  · pointwise [k0_pay15, k0_pay14, k0_pay7]
    simp only [eA, eP, dite_eq_ite, ite_self]
    rfl

/-- A whole tile, the second map. -/
theorem row_full1 (q : Vec Ideal S1024x128 .bf16) (k : Vec Ideal S1024x128 .bf16) (v : Vec Ideal S1024x256 .bf16)
    (mp lp : Vec Ideal S1x1024x128 .f32) (ap : Vec Ideal S1x1024x256 .f32) (r : Fin 1024) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 1024)
    (hx : ∀ j : Fin 1024, k0_pay17 q k (ix2 r j) = if n + j.val < n' then (s (n + j.val) : EReal) else ⊥)
    (hy : ∀ (j : Fin 1024) (d : Fin 256), v (ix2 j d) = (w (n + j.val) d : EReal)) :
    Row (fun c => k0_pay5 (k0_pay19 q k mp) (ix3 0 r c)) (fun c => k0_pay22 q k mp lp (ix3 0 r c)) (fun d => k0_pay4 (k0_pay23 (k0_pay7 v) q k mp) (k0_pay24 q k mp) ap (ix3 0 r d)) n' s w := by
  obtain ⟨m, l, hm, hl, H⟩ := H
  have eM : ∀ c : Fin 128, k0_pay19 q k mp (ix2 r c) = upM m (fun j => k0_pay17 q k (ix2 r j)) := fun c => by
    pointwise [k0_pay19, k0_pay18]
    rw [ofBits_ninf]
    exact congrArg (max · _) (hm c)
  have eA : ∀ c : Fin 128, k0_pay20 q k mp (ix2 r c) = Ideal.exp2 (m - upM m (fun j => k0_pay17 q k (ix2 r j))) := fun c => by
    pointwise [k0_pay20, k0_pay18]
    rw [eM]
    exact congrArg (fun y => Ideal.exp2 (y - _)) (hm c)
  have eP : ∀ j : Fin 1024, k0_pay21 q k mp (ix2 r j) = Ideal.exp2 (k0_pay17 q k (ix2 r j) - upM m (fun j => k0_pay17 q k (ix2 r j))) := fun j => by
    pointwise [k0_pay21]
    simp only [eM, dite_eq_ite, ite_self]
    rfl
  refine ⟨upM m (fun j => k0_pay17 q k (ix2 r j)), upL m (fun j => k0_pay17 q k (ix2 r j)) l, fun c => ?_, fun c => ?_,
    H.up h1 h2 (fun j => k0_pay17 q k (ix2 r j)) hx (fun j d => v (ix2 j d)) hy rfl rfl fun d => ?_⟩
  · pointwise [k0_pay5]
    exact eM c
  · pointwise [k0_pay22]
    simp only [eA, eP, hm, hl, eM]
    rfl
  · pointwise [k0_pay4, k0_pay23, k0_pay24, k0_pay7]
    simp only [eA, eP, dite_eq_ite, ite_self]
    rfl

/-- The upper half of a diagonal tile, the first map. -/
theorem row_a0 (v1 v3 : BitVec 32) (q : Vec Ideal S512x128 .bf16) (k : Vec Ideal S512x128 .bf16) (v : Vec Ideal S512x256 .bf16)
    (mp lp : Vec Ideal S1x512x128 .f32) (ap : Vec Ideal S1x512x256 .f32) (r : Fin 512) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 512)
    (hx : ∀ j : Fin 512, k0_pay27 (F := Ideal) v1 v3 q k (ix2 r j) = if n + j.val < n' then (s (n + j.val) : EReal) else ⊥)
    (hy : ∀ (j : Fin 512) (d : Fin 256), v (ix2 j d) = (w (n + j.val) d : EReal)) :
    Row (fun c => k0_pay35 (k0_pay29 (F := Ideal) v1 v3 q k mp) (ix3 0 r c)) (fun c => k0_pay33 (k0_pay32 (F := Ideal) v1 v3 q k mp lp) (ix3 0 r c)) (fun d => k0_pay34 (k0_pay25 v) (k0_pay30 (F := Ideal) v1 v3 q k mp) (k0_pay31 (F := Ideal) v1 v3 q k mp) ap (ix3 0 r d)) n' s w := by
  obtain ⟨m, l, hm, hl, H⟩ := H
  have eM : ∀ c : Fin 128, k0_pay29 (F := Ideal) v1 v3 q k mp (ix2 r c) = upM m (fun j => k0_pay27 (F := Ideal) v1 v3 q k (ix2 r j)) := fun c => by
    pointwise [k0_pay29, k0_pay28]
    rw [ofBits_ninf]
    exact congrArg (max · _) (hm c)
  have eA : ∀ c : Fin 128, k0_pay30 (F := Ideal) v1 v3 q k mp (ix2 r c) = Ideal.exp2 (m - upM m (fun j => k0_pay27 (F := Ideal) v1 v3 q k (ix2 r j))) := fun c => by
    pointwise [k0_pay30, k0_pay28]
    rw [eM]
    exact congrArg (fun y => Ideal.exp2 (y - _)) (hm c)
  have eP : ∀ j : Fin 512, k0_pay31 (F := Ideal) v1 v3 q k mp (ix2 r j) = Ideal.exp2 (k0_pay27 (F := Ideal) v1 v3 q k (ix2 r j) - upM m (fun j => k0_pay27 (F := Ideal) v1 v3 q k (ix2 r j))) := fun j => by
    pointwise [k0_pay31]
    simp only [eM, dite_eq_ite, ite_self]
    rfl
  refine ⟨upM m (fun j => k0_pay27 (F := Ideal) v1 v3 q k (ix2 r j)), upL m (fun j => k0_pay27 (F := Ideal) v1 v3 q k (ix2 r j)) l, fun c => ?_, fun c => ?_,
    H.up h1 h2 (fun j => k0_pay27 (F := Ideal) v1 v3 q k (ix2 r j)) hx (fun j d => v (ix2 j d)) hy rfl rfl fun d => ?_⟩
  · pointwise [k0_pay35]
    exact eM c
  · pointwise [k0_pay33, k0_pay32]
    simp only [eA, eP, hm, hl, eM]
    rfl
  · pointwise [k0_pay34, k0_pay25]
    simp only [eA, eP, dite_eq_ite, ite_self]
    rfl

/-- The upper half of a diagonal tile, the second map. -/
theorem row_a1 (b : IVec S512x512 1) (q : Vec Ideal S512x128 .bf16) (k : Vec Ideal S512x128 .bf16) (v : Vec Ideal S512x256 .bf16)
    (mp lp : Vec Ideal S1x512x128 .f32) (ap : Vec Ideal S1x512x256 .f32) (r : Fin 512) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 512)
    (hx : ∀ j : Fin 512, k0_pay36 (F := Ideal) b q k (ix2 r j) = if n + j.val < n' then (s (n + j.val) : EReal) else ⊥)
    (hy : ∀ (j : Fin 512) (d : Fin 256), v (ix2 j d) = (w (n + j.val) d : EReal)) :
    Row (fun c => k0_pay43 (k0_pay38 (F := Ideal) b q k mp) (ix3 0 r c)) (fun c => k0_pay41 (k0_pay39 (F := Ideal) b q k mp) (k0_pay40 (F := Ideal) b q k mp) lp (ix3 0 r c)) (fun d => k0_pay42 (k0_pay25 v) (k0_pay39 (F := Ideal) b q k mp) (k0_pay40 (F := Ideal) b q k mp) ap (ix3 0 r d)) n' s w := by
  obtain ⟨m, l, hm, hl, H⟩ := H
  have eM : ∀ c : Fin 128, k0_pay38 (F := Ideal) b q k mp (ix2 r c) = upM m (fun j => k0_pay36 (F := Ideal) b q k (ix2 r j)) := fun c => by
    pointwise [k0_pay38, k0_pay37]
    rw [ofBits_ninf]
    exact congrArg (max · _) (hm c)
  have eA : ∀ c : Fin 128, k0_pay39 (F := Ideal) b q k mp (ix2 r c) = Ideal.exp2 (m - upM m (fun j => k0_pay36 (F := Ideal) b q k (ix2 r j))) := fun c => by
    pointwise [k0_pay39, k0_pay37]
    rw [eM]
    exact congrArg (fun y => Ideal.exp2 (y - _)) (hm c)
  have eP : ∀ j : Fin 512, k0_pay40 (F := Ideal) b q k mp (ix2 r j) = Ideal.exp2 (k0_pay36 (F := Ideal) b q k (ix2 r j) - upM m (fun j => k0_pay36 (F := Ideal) b q k (ix2 r j))) := fun j => by
    pointwise [k0_pay40]
    simp only [eM, dite_eq_ite, ite_self]
    rfl
  refine ⟨upM m (fun j => k0_pay36 (F := Ideal) b q k (ix2 r j)), upL m (fun j => k0_pay36 (F := Ideal) b q k (ix2 r j)) l, fun c => ?_, fun c => ?_,
    H.up h1 h2 (fun j => k0_pay36 (F := Ideal) b q k (ix2 r j)) hx (fun j d => v (ix2 j d)) hy rfl rfl fun d => ?_⟩
  · pointwise [k0_pay43]
    exact eM c
  · pointwise [k0_pay41]
    simp only [eA, eP, hm, hl, eM]
    rfl
  · pointwise [k0_pay42, k0_pay25]
    simp only [eA, eP, dite_eq_ite, ite_self]
    rfl

/-- The lower half of a diagonal tile, the first map. -/
theorem row_b0 (b : IVec S512x1024 1) (q : Vec Ideal S512x128 .bf16) (k : Vec Ideal S1024x128 .bf16) (v : Vec Ideal S1024x256 .bf16)
    (mp lp : Vec Ideal S1x512x128 .f32) (ap : Vec Ideal S1x512x256 .f32) (r : Fin 512) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 1024)
    (hx : ∀ j : Fin 1024, k0_pay46 (F := Ideal) b q k (ix2 r j) = if n + j.val < n' then (s (n + j.val) : EReal) else ⊥)
    (hy : ∀ (j : Fin 1024) (d : Fin 256), v (ix2 j d) = (w (n + j.val) d : EReal)) :
    Row (fun c => k0_pay54 (k0_pay48 (F := Ideal) b q k mp) (ix3 0 r c)) (fun c => k0_pay51 (F := Ideal) b q k mp lp (ix3 0 r c)) (fun d => k0_pay53 (k0_pay52 (k0_pay44 v) b q k mp ap) (ix3 0 r d)) n' s w := by
  obtain ⟨m, l, hm, hl, H⟩ := H
  have eM : ∀ c : Fin 128, k0_pay48 (F := Ideal) b q k mp (ix2 r c) = upM m (fun j => k0_pay46 (F := Ideal) b q k (ix2 r j)) := fun c => by
    pointwise [k0_pay48, k0_pay47]
    rw [ofBits_ninf]
    exact congrArg (max · _) (hm c)
  have eA : ∀ c : Fin 128, k0_pay49 (F := Ideal) b q k mp (ix2 r c) = Ideal.exp2 (m - upM m (fun j => k0_pay46 (F := Ideal) b q k (ix2 r j))) := fun c => by
    pointwise [k0_pay49, k0_pay47]
    rw [eM]
    exact congrArg (fun y => Ideal.exp2 (y - _)) (hm c)
  have eP : ∀ j : Fin 1024, k0_pay50 (F := Ideal) b q k mp (ix2 r j) = Ideal.exp2 (k0_pay46 (F := Ideal) b q k (ix2 r j) - upM m (fun j => k0_pay46 (F := Ideal) b q k (ix2 r j))) := fun j => by
    pointwise [k0_pay50]
    simp only [eM, dite_eq_ite, ite_self]
    rfl
  refine ⟨upM m (fun j => k0_pay46 (F := Ideal) b q k (ix2 r j)), upL m (fun j => k0_pay46 (F := Ideal) b q k (ix2 r j)) l, fun c => ?_, fun c => ?_,
    H.up h1 h2 (fun j => k0_pay46 (F := Ideal) b q k (ix2 r j)) hx (fun j d => v (ix2 j d)) hy rfl rfl fun d => ?_⟩
  · pointwise [k0_pay54]
    exact eM c
  · pointwise [k0_pay51]
    simp only [eA, eP, hm, hl, eM]
    rfl
  · pointwise [k0_pay53, k0_pay52, k0_pay44]
    simp only [eA, eP, dite_eq_ite, ite_self]
    rfl

/-- The lower half of a diagonal tile, the second map. -/
theorem row_b1 (b : IVec S512x1024 1) (q : Vec Ideal S512x128 .bf16) (k : Vec Ideal S1024x128 .bf16) (v : Vec Ideal S1024x256 .bf16)
    (mp lp : Vec Ideal S1x512x128 .f32) (ap : Vec Ideal S1x512x256 .f32) (r : Fin 512) {n n' : ℕ} {s : ℕ → ℝ} {w : ℕ → Fin 256 → ℝ}
    (H : Row (fun c => mp (ix3 0 r c)) (fun c => lp (ix3 0 r c)) (fun d => ap (ix3 0 r d)) n s w) (h1 : n < n') (h2 : n' ≤ n + 1024)
    (hx : ∀ j : Fin 1024, k0_pay55 (F := Ideal) b q k (ix2 r j) = if n + j.val < n' then (s (n + j.val) : EReal) else ⊥)
    (hy : ∀ (j : Fin 1024) (d : Fin 256), v (ix2 j d) = (w (n + j.val) d : EReal)) :
    Row (fun c => k0_pay63 (k0_pay57 (F := Ideal) b q k mp) (ix3 0 r c)) (fun c => k0_pay60 (F := Ideal) b q k mp lp (ix3 0 r c)) (fun d => k0_pay62 (k0_pay58 (F := Ideal) b q k mp) (k0_pay61 (k0_pay44 v) b q k mp) ap (ix3 0 r d)) n' s w := by
  obtain ⟨m, l, hm, hl, H⟩ := H
  have eM : ∀ c : Fin 128, k0_pay57 (F := Ideal) b q k mp (ix2 r c) = upM m (fun j => k0_pay55 (F := Ideal) b q k (ix2 r j)) := fun c => by
    pointwise [k0_pay57, k0_pay56]
    rw [ofBits_ninf]
    exact congrArg (max · _) (hm c)
  have eA : ∀ c : Fin 128, k0_pay58 (F := Ideal) b q k mp (ix2 r c) = Ideal.exp2 (m - upM m (fun j => k0_pay55 (F := Ideal) b q k (ix2 r j))) := fun c => by
    pointwise [k0_pay58, k0_pay56]
    rw [eM]
    exact congrArg (fun y => Ideal.exp2 (y - _)) (hm c)
  have eP : ∀ j : Fin 1024, k0_pay59 (F := Ideal) b q k mp (ix2 r j) = Ideal.exp2 (k0_pay55 (F := Ideal) b q k (ix2 r j) - upM m (fun j => k0_pay55 (F := Ideal) b q k (ix2 r j))) := fun j => by
    pointwise [k0_pay59]
    simp only [eM, dite_eq_ite, ite_self]
    rfl
  refine ⟨upM m (fun j => k0_pay55 (F := Ideal) b q k (ix2 r j)), upL m (fun j => k0_pay55 (F := Ideal) b q k (ix2 r j)) l, fun c => ?_, fun c => ?_,
    H.up h1 h2 (fun j => k0_pay55 (F := Ideal) b q k (ix2 r j)) hx (fun j d => v (ix2 j d)) hy rfl rfl fun d => ?_⟩
  · pointwise [k0_pay63]
    exact eM c
  · pointwise [k0_pay60]
    simp only [eA, eP, hm, hl, eM]
    rfl
  · pointwise [k0_pay62, k0_pay61, k0_pay44]
    simp only [eA, eP, dite_eq_ite, ite_self]
    rfl

end Cert.KernelIdeal.Diff
-- ==== Proof.Diff.Reads.lean ====
module

public import proofs.«01_k».proof.Proof.Diff.Runs
public import proofs.«01_k».proof.Proof.Diff.Rows
public import Idealize.ShloMosaic.Lib.WritesUnit
public import Idealize.ShloMosaic.Lib.WordCmp

@[expose] public section

set_option maxRecDepth 16384

/-! # Loads and stores of the attention's body at an index

A load of a block, a load of a scratch, the newest of a scratch's stores over an index, and the
scores of a tile with and without the causal mask, as sums over the blocks. -/

noncomputable section

namespace Cert.KernelIdeal.Diff

open Cert.KernelIdeal Cert.KernelIdeal.Gen
open Idealize.ShloMosaic Idealize.ShloMosaic.TcCoe

/-- A load of a block's rows and lanes. -/
theorem blk_read (M : Memref sig .tc .vmem S1024x256 .bf16) (x : BlkT Ideal) {ro co : ℕ} {size : Fin 2 → ℕ}
    (inb : ∀ a : Fin 2, (![ro, co] : Fin 2 → ℕ) a + size a ≤ S1024x256.size a) (r : Fin (size 0)) (e : Fin (size 1)) (r' : Fin 1024) (e' : Fin 256)
    (hr : r'.val = ro + r.val) (he : e'.val = co + e.val) (y : (⟨2, size⟩ : Shape).Idx) (y0 : (y 0).val = r.val) (y1 : (y 1).val = e.val) :
    View.readAt (Elt Ideal) M.view (Rect.unit (s := S1024x256) ![ro, co] size inb).toLoadRect (M.view.rep x) y = x (ix2 r' e') := by
  rw [View.readAt_rep]
  refine congrArg x (funext fun a => Fin.ext ?_)
  fin_cases a
  · show ro + 1 * (y 0).val = r'.val
    omega
  · show co + 1 * (y 1).val = e'.val
    omega

section Scratch
variable {W : ℕ} (v : View sig .tc .vmem (⟨3, ![2, 1024, W]⟩ : Shape) .f32) (f : v.ty.Contents (Elt Ideal))

/-- The newest store, over an index it holds. -/
theorem rd_hit {mo ro R : ℕ} (inb : ∀ a : Fin 3, (![mo, ro, 0] : Fin 3 → ℕ) a + (![1, R, W] : Fin 3 → ℕ) a ≤ (![2, 1024, W] : Fin 3 → ℕ) a)
    (w : (Rect.unit (s := ⟨3, ![2, 1024, W]⟩) ![mo, ro, 0] ![1, R, W] inb).shape.Idx → Elt Ideal .f32) (L : List (View.Piece (Elt Ideal) (⟨3, ![2, 1024, W]⟩ : Shape) .f32))
    (m : Fin 2) (r : Fin 1024) (c : Fin W) (r' : Fin R) (hm : m.val = mo) (hr : r.val = ro + r'.val) :
    v.read (Elt Ideal) (v.writes (Elt Ideal) f ((⟨Rect.unit (s := ⟨3, ![2, 1024, W]⟩) ![mo, ro, 0] ![1, R, W] inb, w⟩ : View.Piece (Elt Ideal) (⟨3, ![2, 1024, W]⟩ : Shape) .f32) :: L)) (ix3 m r c)
      = w (ix3 (n0 := 1) 0 r' c) := by
  refine View.read_writes_cons_unit_of_mem v f inb w L (ix3 m r c) (ix3 (n0 := 1) 0 r' c) rfl fun a => ?_
  fin_cases a
  · show m.val = mo + 0; omega
  · exact hr
  · show c.val = 0 + c.val; omega

/-- The newest store, over an index of another map. -/
theorem rd_other {mo ro R : ℕ} (inb : ∀ a : Fin 3, (![mo, ro, 0] : Fin 3 → ℕ) a + (![1, R, W] : Fin 3 → ℕ) a ≤ (![2, 1024, W] : Fin 3 → ℕ) a)
    (w : (Rect.unit (s := ⟨3, ![2, 1024, W]⟩) ![mo, ro, 0] ![1, R, W] inb).shape.Idx → Elt Ideal .f32) (L : List (View.Piece (Elt Ideal) (⟨3, ![2, 1024, W]⟩ : Shape) .f32))
    (m : Fin 2) (r : Fin 1024) (c : Fin W) (hm : m.val < mo ∨ mo < m.val) :
    v.read (Elt Ideal) (v.writes (Elt Ideal) f ((⟨Rect.unit (s := ⟨3, ![2, 1024, W]⟩) ![mo, ro, 0] ![1, R, W] inb, w⟩ : View.Piece (Elt Ideal) (⟨3, ![2, 1024, W]⟩ : Shape) .f32) :: L)) (ix3 m r c)
      = v.read (Elt Ideal) (v.writes (Elt Ideal) f L) (ix3 m r c) :=
  View.read_writes_cons_unit_of_not_mem v f inb w L (ix3 m r c) rfl 0 (by
    show m.val < mo ∨ mo + 1 ≤ m.val; omega)

/-- The newest store, over an index of other rows. -/
theorem rd_rows {mo ro R : ℕ} (inb : ∀ a : Fin 3, (![mo, ro, 0] : Fin 3 → ℕ) a + (![1, R, W] : Fin 3 → ℕ) a ≤ (![2, 1024, W] : Fin 3 → ℕ) a)
    (w : (Rect.unit (s := ⟨3, ![2, 1024, W]⟩) ![mo, ro, 0] ![1, R, W] inb).shape.Idx → Elt Ideal .f32) (L : List (View.Piece (Elt Ideal) (⟨3, ![2, 1024, W]⟩ : Shape) .f32))
    (m : Fin 2) (r : Fin 1024) (c : Fin W) (hr : r.val < ro ∨ ro + R ≤ r.val) :
    v.read (Elt Ideal) (v.writes (Elt Ideal) f ((⟨Rect.unit (s := ⟨3, ![2, 1024, W]⟩) ![mo, ro, 0] ![1, R, W] inb, w⟩ : View.Piece (Elt Ideal) (⟨3, ![2, 1024, W]⟩ : Shape) .f32) :: L)) (ix3 m r c)
      = v.read (Elt Ideal) (v.writes (Elt Ideal) f L) (ix3 m r c) :=
  View.read_writes_cons_unit_of_not_mem v f inb w L (ix3 m r c) rfl 1 hr

/-- The store of the whole scratch. -/
theorem rd_whole (inb : ∀ a : Fin 3, (![0, 0, 0] : Fin 3 → ℕ) a + (![2, 1024, W] : Fin 3 → ℕ) a ≤ (![2, 1024, W] : Fin 3 → ℕ) a)
    (w : (Rect.unit (s := ⟨3, ![2, 1024, W]⟩) ![0, 0, 0] ![2, 1024, W] inb).shape.Idx → Elt Ideal .f32) (L : List (View.Piece (Elt Ideal) (⟨3, ![2, 1024, W]⟩ : Shape) .f32))
    (m : Fin 2) (r : Fin 1024) (c : Fin W) :
    v.read (Elt Ideal) (v.writes (Elt Ideal) f ((⟨Rect.unit (s := ⟨3, ![2, 1024, W]⟩) ![0, 0, 0] ![2, 1024, W] inb, w⟩ : View.Piece (Elt Ideal) (⟨3, ![2, 1024, W]⟩ : Shape) .f32) :: L)) (ix3 m r c)
      = w (ix3 m r c) := by
  refine View.read_writes_cons_unit_of_mem v f inb w L (ix3 m r c) (ix3 m r c) rfl fun a => ?_
  fin_cases a
  · show m.val = 0 + m.val; omega
  · show r.val = 0 + r.val; omega
  · show c.val = 0 + c.val; omega

/-- A load of one map's rows, of any contents. -/
theorem scr_read {mo ro R : ℕ} (inb : ∀ a : Fin 3, (![mo, ro, 0] : Fin 3 → ℕ) a + (![1, R, W] : Fin 3 → ℕ) a ≤ (![2, 1024, W] : Fin 3 → ℕ) a)
    (m : Fin 2) (r : Fin 1024) (c : Fin W) (r' : Fin R) (hm : m.val = mo) (hr : r.val = ro + r'.val) :
    View.readAt (Elt Ideal) v (Rect.unit (s := ⟨3, ![2, 1024, W]⟩) ![mo, ro, 0] ![1, R, W] inb).toLoadRect f (ix3 (n0 := 1) 0 r' c)
      = v.read (Elt Ideal) f (ix3 m r c) := by
  refine congrArg (v.read (Elt Ideal) f) (funext fun a => Fin.ext ?_)
  fin_cases a
  · show mo + 1 * 0 = m.val; omega
  · show ro + 1 * r'.val = r.val; omega
  · show 0 + 1 * c.val = c.val; omega
end Scratch

/-- The score of a query row and a key row of two blocks, in map `mm`. -/
def dotB (x0 x1 : BlkT Ideal) (mm : Fin 2) (r j : Fin 1024) : EReal :=
  ∑ e : Fin 128, (x0 (ix2 r (⟨mm.val * 128 + e.val, by omega⟩ : Fin 256)) * x1 (ix2 j (⟨mm.val * 128 + e.val, by omega⟩ : Fin 256)) : EReal)

/-- A comparison of the diagonal tile's words: a key of the tile against a query of it. -/
theorem word_le (g a b : ℕ) (hg : g < 8) (ha : a < 1024) (hb : b < 1024) :
    IntOp.cmpi .sle (BitVec.ofNat 32 (g * 1024 + b)) (BitVec.ofNat 32 (g * 1024 + a)) = BitVec.ofBool (decide (b ≤ a)) := by
  rw [WordCmp.cmpi_sle_ofNat (by norm_num; omega) (by norm_num; omega)]
  congr 1
  exact decide_eq_decide.mpr (by omega)

theorem word_sum (g o a : ℕ) : IntOp.addi (Scalar.addi (Scalar.muli (BitVec.ofNat 32 g) 1024#32) (BitVec.ofNat 32 o)) (BitVec.ofNat 32 a) = BitVec.ofNat 32 (g * 1024 + (o + a)) := by
  apply BitVec.eq_of_toNat_eq
  simp [IntOp.addi, Scalar.addi, Scalar.muli, IntOp.muli, BitVec.toNat_add, BitVec.toNat_mul, BitVec.toNat_ofNat]
  omega

/-- The mask of the upper half. -/
theorem mask_a (g : ℕ) (hg : g < 8) (r j : Fin 512) :
    k0_pay26 (F := Ideal) (BitVec.ofNat 32 g) (BitVec.ofNat 32 g) (ix2 r j) = BitVec.ofBool (decide (j.val ≤ r.val)) := by
  pointwise [k0_pay26]
  rw [show (0#32) = BitVec.ofNat 32 0 from rfl, word_sum, word_sum, word_le g _ _ hg (by omega) (by omega)]
  congr 1
  exact decide_eq_decide.mpr (by omega)

/-- The mask of the lower half. -/
theorem mask_b (g : ℕ) (hg : g < 8) (r : Fin 512) (j : Fin 1024) :
    k0_pay45 (F := Ideal) (BitVec.ofNat 32 g) (BitVec.ofNat 32 g) (ix2 r j) = BitVec.ofBool (decide (j.val ≤ 512 + r.val)) := by
  pointwise [k0_pay45]
  rw [show (0#32) = BitVec.ofNat 32 0 from rfl, show (512#32) = BitVec.ofNat 32 512 from rfl, word_sum, word_sum, word_le g _ _ hg (by omega) (by omega)]
  congr 1
  exact decide_eq_decide.mpr (by omega)

theorem score_full0 (q k : Vec Ideal S1024x128 .bf16) (r j : Fin 1024) :
    k0_pay8 q k (ix2 r j) = ∑ e : Fin 128, (q (ix2 r e) * k (ix2 j e) : EReal) := by pointwise [k0_pay8]
theorem score_full1 (q k : Vec Ideal S1024x128 .bf16) (r j : Fin 1024) :
    k0_pay17 q k (ix2 r j) = ∑ e : Fin 128, (q (ix2 r e) * k (ix2 j e) : EReal) := by pointwise [k0_pay17]

theorem score_a0 (g : ℕ) (hg : g < 8) (q k : Vec Ideal S512x128 .bf16) (r j : Fin 512) :
    k0_pay27 (F := Ideal) (BitVec.ofNat 32 g) (BitVec.ofNat 32 g) q k (ix2 r j) = if j.val ≤ r.val then ∑ e : Fin 128, (q (ix2 r e) * k (ix2 j e) : EReal) else ⊥ := by
  pointwise [k0_pay27]
  rw [mask_a g hg, mask_bot]
  by_cases h : j.val ≤ r.val <;> simp [h, Scalar.select]
theorem score_a1 (g : ℕ) (hg : g < 8) (q k : Vec Ideal S512x128 .bf16) (r j : Fin 512) :
    k0_pay36 (F := Ideal) (k0_pay26 (F := Ideal) (BitVec.ofNat 32 g) (BitVec.ofNat 32 g)) q k (ix2 r j) = if j.val ≤ r.val then ∑ e : Fin 128, (q (ix2 r e) * k (ix2 j e) : EReal) else ⊥ := by
  pointwise [k0_pay36]
  rw [mask_a g hg, mask_bot]
  by_cases h : j.val ≤ r.val <;> simp [h, Scalar.select]
theorem score_b0 (g : ℕ) (hg : g < 8) (q : Vec Ideal S512x128 .bf16) (k : Vec Ideal S1024x128 .bf16) (r : Fin 512) (j : Fin 1024) :
    k0_pay46 (F := Ideal) (k0_pay45 (F := Ideal) (BitVec.ofNat 32 g) (BitVec.ofNat 32 g)) q k (ix2 r j) = if j.val ≤ 512 + r.val then ∑ e : Fin 128, (q (ix2 r e) * k (ix2 j e) : EReal) else ⊥ := by
  pointwise [k0_pay46]
  rw [mask_b g hg, mask_bot]
  by_cases h : j.val ≤ 512 + r.val <;> simp [h, Scalar.select]
theorem score_b1 (g : ℕ) (hg : g < 8) (q : Vec Ideal S512x128 .bf16) (k : Vec Ideal S1024x128 .bf16) (r : Fin 512) (j : Fin 1024) :
    k0_pay55 (F := Ideal) (k0_pay45 (F := Ideal) (BitVec.ofNat 32 g) (BitVec.ofNat 32 g)) q k (ix2 r j) = if j.val ≤ 512 + r.val then ∑ e : Fin 128, (q (ix2 r e) * k (ix2 j e) : EReal) else ⊥ := by
  pointwise [k0_pay55]
  rw [mask_b g hg, mask_bot]
  by_cases h : j.val ≤ 512 + r.val <;> simp [h, Scalar.select]

theorem Row.congr {fm fm' fl fl' : Fin 128 → EReal} {fa fa' : Fin 256 → EReal} {n : ℕ} {s : ℕ → ℝ} {w : ℕ → Fin 256 → ℝ}
    (H : Row fm fl fa n s w) (h1 : ∀ c, fm' c = fm c) (h2 : ∀ c, fl' c = fl c) (h3 : ∀ d, fa' d = fa d) : Row fm' fl' fa' n s w := by
  rw [funext h1, funext h2, funext h3]; exact H

/-- What the body starts from holds no keys. -/
theorem row_zero (mm : Fin 2) (r : Fin 1024) (s : ℕ → ℝ) (w : ℕ → Fin 256 → ℝ) :
    Row (fun c => k0_pay1 (F := Ideal) (ix3 mm r c)) (fun c => k0_pay2 (F := Ideal) (ix3 mm r c)) (fun d => k0_pay3 (F := Ideal) (ix3 mm r d)) 0 s w := by
  refine ⟨⊥, 0, fun c => ?_, fun c => ?_, Or.inl ⟨rfl, rfl, rfl, fun d => ?_⟩⟩
  · pointwise [k0_pay1]; exact mask_bot
  · pointwise [k0_pay2]
  · pointwise [k0_pay3]

end Cert.KernelIdeal.Diff
-- ==== Proof.Diff.Contents.lean ====
module

public import proofs.«01_k».proof.Proof.Diff.Runs
public import proofs.«01_k».proof.Proof.Diff.Rows
public import proofs.«01_k».proof.Proof.Diff.Reads

@[expose] public section

set_option maxRecDepth 16384

/-! # What the four runs leave in the scratches -/

noncomputable section

namespace Cert.KernelIdeal.Diff

open Cert.KernelIdeal Cert.KernelIdeal.Gen
open Idealize.ShloMosaic Idealize.ShloMosaic.TcCoe

/-- A scratch is read whole. -/
theorem read_scM (f : ST Ideal) : f = scM.view.read (Elt Ideal) f := rfl

/-- A scratch is read whole. -/
theorem read_scL (f : ST Ideal) : f = scL.view.read (Elt Ideal) f := rfl

/-- A scratch is read whole. -/
theorem read_scA (f : AT Ideal) : f = scA.view.read (Elt Ideal) f := rfl

/-- The maximum the body leaves, as its stores, newest first. -/
theorem runFull_m0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).1 = scM.view.writes (Elt Ideal) scM.view.junk (runFull.sl.HS0_2 (F := Ideal) arg4 arg5 x0 x1 a0) := by
  rw [runFull]

/-- The same, read whole. -/
theorem runFull_m (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).1 = scM.view.read (Elt Ideal) (scM.view.writes (Elt Ideal) scM.view.junk (runFull.sl.HS0_2 (F := Ideal) arg4 arg5 x0 x1 a0)) :=
  (runFull_m0 c i arg4 harg4 arg5 harg5 arg6 harg6 arg7 harg7 arg8 harg8 arg9 harg9 T0 T1 x0 x1 x2 x3 x4 a0 a1 a2 hc0 hc1 hc2).trans (read_scM _)

/-- The sum the body leaves, as its stores, newest first. -/
theorem runFull_l0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).2.1 = scL.view.writes (Elt Ideal) scL.view.junk (runFull.sl.HS1_2 (F := Ideal) arg4 arg5 x0 x1 a0 a1) := by
  rw [runFull]

/-- The same, read whole. -/
theorem runFull_l (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).2.1 = scL.view.read (Elt Ideal) (scL.view.writes (Elt Ideal) scL.view.junk (runFull.sl.HS1_2 (F := Ideal) arg4 arg5 x0 x1 a0 a1)) :=
  (runFull_l0 c i arg4 harg4 arg5 harg5 arg6 harg6 arg7 harg7 arg8 harg8 arg9 harg9 T0 T1 x0 x1 x2 x3 x4 a0 a1 a2 hc0 hc1 hc2).trans (read_scL _)

/-- The accumulator the body leaves, as its stores, newest first. -/
theorem runFull_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).2.2.1 = scA.view.writes (Elt Ideal) scA.view.junk (runFull.sl.HS2_2 (F := Ideal) arg4 arg5 arg6 x0 x1 x2 a0 a2) := by
  rw [runFull]

/-- The same, read whole. -/
theorem runFull_a (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFull (F := Ideal) c i arg4 harg4 arg5 harg5 arg6 harg6 arg7 harg7 arg8 harg8 arg9 harg9 T0 T1 x0 x1 x2 x3 x4 a0 a1 a2 hc0 hc1 hc2).2.2.1 = scA.view.read (Elt Ideal) (scA.view.writes (Elt Ideal) scA.view.junk (runFull.sl.HS2_2 (F := Ideal) arg4 arg5 arg6 x0 x1 x2 a0 a2)) :=
  (runFull_a0 c i arg4 harg4 arg5 harg5 arg6 harg6 arg7 harg7 arg8 harg8 arg9 harg9 T0 T1 x0 x1 x2 x3 x4 a0 a1 a2 hc0 hc1 hc2).trans (read_scA _)

/-- The maximum the body leaves, as its stores, newest first. -/
theorem runFirstFull_m0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).1 = scM.view.writes (Elt Ideal) scM.view.junk (runFirstFull.sl.HS0_3 (F := Ideal) arg4 arg5 x0 x1) := by
  rw [runFirstFull]

/-- The same, read whole. -/
theorem runFirstFull_m (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).1 = scM.view.read (Elt Ideal) (scM.view.writes (Elt Ideal) scM.view.junk (runFirstFull.sl.HS0_3 (F := Ideal) arg4 arg5 x0 x1)) :=
  (runFirstFull_m0 c i arg4 harg4 arg5 harg5 arg6 harg6 arg7 harg7 arg8 harg8 arg9 harg9 T0 T1 x0 x1 x2 x3 x4 hc0 hc1 hc2).trans (read_scM _)

/-- The sum the body leaves, as its stores, newest first. -/
theorem runFirstFull_l0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).2.1 = scL.view.writes (Elt Ideal) scL.view.junk (runFirstFull.sl.HS1_3 (F := Ideal) arg4 arg5 x0 x1) := by
  rw [runFirstFull]

/-- The same, read whole. -/
theorem runFirstFull_l (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).2.1 = scL.view.read (Elt Ideal) (scL.view.writes (Elt Ideal) scL.view.junk (runFirstFull.sl.HS1_3 (F := Ideal) arg4 arg5 x0 x1)) :=
  (runFirstFull_l0 c i arg4 harg4 arg5 harg5 arg6 harg6 arg7 harg7 arg8 harg8 arg9 harg9 T0 T1 x0 x1 x2 x3 x4 hc0 hc1 hc2).trans (read_scL _)

/-- The accumulator the body leaves, as its stores, newest first. -/
theorem runFirstFull_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).2.2.1 = scA.view.writes (Elt Ideal) scA.view.junk (runFirstFull.sl.HS2_3 (F := Ideal) arg4 arg5 arg6 x0 x1 x2) := by
  rw [runFirstFull]

/-- The same, read whole. -/
theorem runFirstFull_a (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1)) :
    (runFirstFull (F := Ideal) c i arg4 harg4 arg5 harg5 arg6 harg6 arg7 harg7 arg8 harg8 arg9 harg9 T0 T1 x0 x1 x2 x3 x4 hc0 hc1 hc2).2.2.1 = scA.view.read (Elt Ideal) (scA.view.writes (Elt Ideal) scA.view.junk (runFirstFull.sl.HS2_3 (F := Ideal) arg4 arg5 arg6 x0 x1 x2)) :=
  (runFirstFull_a0 c i arg4 harg4 arg5 harg5 arg6 harg6 arg7 harg7 arg8 harg8 arg9 harg9 T0 T1 x0 x1 x2 x3 x4 hc0 hc1 hc2).trans (read_scA _)

/-- The maximum the body leaves, as its stores, newest first. -/
theorem runDiag_m0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.1 = scM.view.writes (Elt Ideal) scM.view.junk (runDiag.sl.HS0_4 (F := Ideal) i arg4 arg5 T0 T1 x0 x1 a0) := by
  rw [runDiag]

/-- The same, read whole. -/
theorem runDiag_m (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.1 = scM.view.read (Elt Ideal) (scM.view.writes (Elt Ideal) scM.view.junk (runDiag.sl.HS0_4 (F := Ideal) i arg4 arg5 T0 T1 x0 x1 a0)) :=
  (runDiag_m0 c i arg4 harg4 arg5 harg5 arg6 harg6 arg7 harg7 arg8 harg8 arg9 harg9 T0 T1 x0 x1 x2 x3 x4 a0 a1 a2 hc0 hc1 hc2).trans (read_scM _)

/-- The sum the body leaves, as its stores, newest first. -/
theorem runDiag_l0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.2.1 = scL.view.writes (Elt Ideal) scL.view.junk (runDiag.sl.HS1_4 (F := Ideal) i arg4 arg5 T0 T1 x0 x1 a0 a1) := by
  rw [runDiag]

/-- The same, read whole. -/
theorem runDiag_l (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.2.1 = scL.view.read (Elt Ideal) (scL.view.writes (Elt Ideal) scL.view.junk (runDiag.sl.HS1_4 (F := Ideal) i arg4 arg5 T0 T1 x0 x1 a0 a1)) :=
  (runDiag_l0 c i arg4 harg4 arg5 harg5 arg6 harg6 arg7 harg7 arg8 harg8 arg9 harg9 T0 T1 x0 x1 x2 x3 x4 a0 a1 a2 hc0 hc1 hc2).trans (read_scL _)

/-- The accumulator the body leaves, as its stores, newest first. -/
theorem runDiag_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.2.2.1 = scA.view.writes (Elt Ideal) scA.view.junk (runDiag.sl.HS2_4 (F := Ideal) i arg4 arg5 arg6 T0 T1 x0 x1 x2 a0 a2) := by
  rw [runDiag]

/-- The same, read whole. -/
theorem runDiag_a (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).2.2.2.1 = scA.view.read (Elt Ideal) (scA.view.writes (Elt Ideal) scA.view.junk (runDiag.sl.HS2_4 (F := Ideal) i arg4 arg5 arg6 T0 T1 x0 x1 x2 a0 a2)) :=
  (runDiag_a0 c i arg4 harg4 arg5 harg5 arg6 harg6 arg7 harg7 arg8 harg8 arg9 harg9 T0 T1 x0 x1 x2 x3 x4 a0 a1 a2 hc0 hc1 hc2).trans (read_scA _)

/-- The maximum the body leaves, as its stores, newest first. -/
theorem runFirstDiag_m0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.1 = scM.view.writes (Elt Ideal) scM.view.junk (runFirstDiag.sl.HS0_5 (F := Ideal) i arg4 arg5 T0 T1 x0 x1) := by
  rw [runFirstDiag]

/-- The same, read whole. -/
theorem runFirstDiag_m (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.1 = scM.view.read (Elt Ideal) (scM.view.writes (Elt Ideal) scM.view.junk (runFirstDiag.sl.HS0_5 (F := Ideal) i arg4 arg5 T0 T1 x0 x1)) :=
  (runFirstDiag_m0 c i arg4 harg4 arg5 harg5 arg6 harg6 arg7 harg7 arg8 harg8 arg9 harg9 T0 T1 x0 x1 x2 x3 x4 hc0 hc1 hc2).trans (read_scM _)

/-- The sum the body leaves, as its stores, newest first. -/
theorem runFirstDiag_l0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.2.1 = scL.view.writes (Elt Ideal) scL.view.junk (runFirstDiag.sl.HS1_5 (F := Ideal) i arg4 arg5 T0 T1 x0 x1) := by
  rw [runFirstDiag]

/-- The same, read whole. -/
theorem runFirstDiag_l (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.2.1 = scL.view.read (Elt Ideal) (scL.view.writes (Elt Ideal) scL.view.junk (runFirstDiag.sl.HS1_5 (F := Ideal) i arg4 arg5 T0 T1 x0 x1)) :=
  (runFirstDiag_l0 c i arg4 harg4 arg5 harg5 arg6 harg6 arg7 harg7 arg8 harg8 arg9 harg9 T0 T1 x0 x1 x2 x3 x4 hc0 hc1 hc2).trans (read_scL _)

/-- The accumulator the body leaves, as its stores, newest first. -/
theorem runFirstDiag_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.2.2.1 = scA.view.writes (Elt Ideal) scA.view.junk (runFirstDiag.sl.HS2_5 (F := Ideal) i arg4 arg5 arg6 T0 T1 x0 x1 x2) := by
  rw [runFirstDiag]

/-- The same, read whole. -/
theorem runFirstDiag_a (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).2.2.2.1 = scA.view.read (Elt Ideal) (scA.view.writes (Elt Ideal) scA.view.junk (runFirstDiag.sl.HS2_5 (F := Ideal) i arg4 arg5 arg6 T0 T1 x0 x1 x2)) :=
  (runFirstDiag_a0 c i arg4 harg4 arg5 harg5 arg6 harg6 arg7 harg7 arg8 harg8 arg9 harg9 T0 T1 x0 x1 x2 x3 x4 hc0 hc1 hc2).trans (read_scA _)

end Cert.KernelIdeal.Diff
-- ==== Proof.Diff.Tail.lean ====
module

public import proofs.«01_k».proof.Proof.Diff.Reads

@[expose] public section

set_option maxRecDepth 16384

/-! # What the last tile of a row of tiles writes of the result -/

noncomputable section

namespace Cert.KernelIdeal.Diff

open Cert.KernelIdeal Cert.KernelIdeal.Gen
open Idealize.ShloMosaic Idealize.ShloMosaic.TcCoe

/-- The attention's mixing weight, of the four vectors. -/
def lamE (l1 l2 l3 l4 : Fin 128 → EReal) : EReal :=
  Ideal.exp (∑ e, l1 e * l2 e) - Ideal.exp (∑ e, l3 e * l4 e) + Ideal.ofBits .f32 0x3E4CCCCD#32

/-- The difference of the two attentions, normalised over its 256 features, with its gain. -/
def finish (o : Fin 256 → EReal) (g : Fin 256 → EReal) (d : Fin 256) : EReal :=
  o d * Ideal.rsqrt (Ideal.div (∑ e, o e * o e) (Ideal.ofBits .f32 0x43800000#32) + Ideal.ofBits .f32 0x3727C5AC#32) * g d
    * Ideal.ofBits .f32 0x3F4CCCCD#32

/-- The mixing weight the body computes. -/
theorem pay_lam (lp : FVec Ideal S4x128 .f32) :
    k0_pay64 (F := Ideal) lp (ix2 0 0) = lamE (fun e => lp (ix2 0 e)) (fun e => lp (ix2 1 e)) (fun e => lp (ix2 2 e)) (fun e => lp (ix2 3 e)) := by
  unfold lamE
  pointwise [k0_pay64]

/-- One map's quotient. -/
theorem pay_quot (A : FVec Ideal S1x1024x256 .f32) (l : FVec Ideal S1x1024x128 .f32) (r : Fin 1024) (L : EReal)
    (hl : ∀ cc : Fin 128, l (ix3 0 r cc) = L) (d : Fin 256) :
    k0_pay65 (F := Ideal) A l (ix2 r d) = Ideal.div (A (ix3 0 r d)) L := by
  pointwise [k0_pay65]
  split_ifs <;> rw [hl]

/-- A sum over 256 features, by halves. -/
theorem sum_halves (f : Fin 256 → EReal) :
    ∑ x, f x = ∑ x : Fin 128, f ⟨x.val, by omega⟩ + ∑ x : Fin 128, f ⟨128 + x.val, by omega⟩ :=
  Fin.sum_univ_add (a := 128) (b := 128) f

/-- The result's block the body writes. -/
theorem pay_out (lam : FVec Ideal S1x1 .f32) (o0 : FVec Ideal S1024x256 .f32) (A : FVec Ideal S1x1024x256 .f32) (l : FVec Ideal S1x1024x128 .f32)
    (g : FVec Ideal S1x256 .f32) (r : Fin 1024) (L : EReal) (hl : ∀ cc : Fin 128, l (ix3 0 r cc) = L) (d : Fin 256) :
    k0_pay6 (F := Ideal) lam o0 A l g (ix2 r d)
      = finish (fun e => o0 (ix2 r e) - lam (ix2 0 0) * Ideal.div (A (ix3 0 r e)) L) (fun e => g (ix2 0 e)) d := by
  unfold finish
  pointwise [k0_pay6]
  simp only [hl, dite_eq_ite, ite_self]
  rw [sum_halves fun x : Fin 256 => (o0 (ix2 r x) - lam (ix2 0 0) * Ideal.div (A (ix3 0 r x)) L) * (o0 (ix2 r x) - lam (ix2 0 0) * Ideal.div (A (ix3 0 r x)) L)]

end Cert.KernelIdeal.Diff
-- ==== Proof.Diff.Last.lean ====
module

public import proofs.«01_k».proof.Proof.Diff.Runs
public import proofs.«01_k».proof.Proof.Diff.Rows
public import proofs.«01_k».proof.Proof.Diff.Contents
public import proofs.«01_k».proof.Proof.Diff.Body
public import proofs.«01_k».proof.Proof.Diff.Tail

@[expose] public section

set_option maxRecDepth 16384

/-! # The result's block -/

noncomputable section

namespace Cert.KernelIdeal.Diff

open Cert.KernelIdeal Cert.KernelIdeal.Gen
open Idealize.ShloMosaic Idealize.ShloMosaic.TcCoe

/-- A load of the four vectors. -/
theorem lam_read (M : Memref sig .tc .vmem S4x128 .f32) (x : LamT Ideal) (inb : ∀ a : Fin 2, (![0, 0] : Fin 2 → ℕ) a + S4x128.size a ≤ S4x128.size a)
    (a : Fin 4) (e : Fin 128) : View.readAt (Elt Ideal) M.view (Rect.unit (s := S4x128) ![0, 0] S4x128.size inb).toLoadRect (M.view.rep x) (ix2 a e) = x (ix2 a e) := by
  rw [View.readAt_rep]
  refine congrArg x (funext fun b => Fin.ext ?_)
  fin_cases b
  · show 0 + 1 * a.val = a.val; omega
  · show 0 + 1 * e.val = e.val; omega

/-- A load of the gain. -/
theorem gain_read (M : Memref sig .tc .vmem S1x256 .f32) (x : GT Ideal) (inb : ∀ a : Fin 2, (![0, 0] : Fin 2 → ℕ) a + S1x256.size a ≤ S1x256.size a)
    (e : Fin 256) : View.readAt (Elt Ideal) M.view (Rect.unit (s := S1x256) ![0, 0] S1x256.size inb).toLoadRect (M.view.rep x) (ix2 0 e) = x (ix2 0 e) := by
  rw [View.readAt_rep]
  refine congrArg x (funext fun b => Fin.ext ?_)
  fin_cases b
  · show 0 + 1 * 0 = 0; omega
  · show 0 + 1 * e.val = e.val; omega

/-- The one store of the result's block, read. -/
theorem out_whole (inb : ∀ a : Fin 2, (![0, 0] : Fin 2 → ℕ) a + S1024x256.size a ≤ S1024x256.size a)
    (w : (Rect.unit (s := S1024x256) ![0, 0] S1024x256.size inb).shape.Idx → Elt Ideal .bf16) (r : Fin 1024) (d : Fin 256) :
    outOf [(⟨Rect.unit (s := S1024x256) ![0, 0] S1024x256.size inb, w⟩ : View.Piece (Elt Ideal) S1024x256 .bf16)] (ix2 r d) = w (ix2 r d) := by
  refine View.read_writes_cons_unit_of_mem VO VO.junk inb w [] (ix2 r d) (ix2 r d) rfl fun a => ?_
  fin_cases a
  · show r.val = 0 + r.val; omega
  · show d.val = 0 + d.val; omega

/-- The result's block, as the body's one store of it. -/
theorem runDiag_o (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runDiag (F := Ideal) c i arg4 harg4 arg5 harg5 arg6 harg6 arg7 harg7 arg8 harg8 arg9 harg9 T0 T1 x0 x1 x2 x3 x4 a0 a1 a2 hc0 hc1 hc2).1 = runDiag.sl.HO_1 (F := Ideal) i arg4 arg5 arg6 arg7 arg8 T0 T1 x0 x1 x2 x3 x4 a0 a1 a2 := by
  rw [runDiag]

/-- The result's block after the diagonal tile: of the sums and accumulators the body leaves. -/
theorem runDiag_out (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1))
    (r : Fin 1024) (L0 L1 : EReal) (h0 : ∀ cc : Fin 128, (runDiag (F := Ideal) c i arg4 harg4 arg5 harg5 arg6 harg6 arg7 harg7 arg8 harg8 arg9 harg9 T0 T1 x0 x1 x2 x3 x4 a0 a1 a2 hc0 hc1 hc2).2.2.1 (ix3 0 r cc) = L0) (h1 : ∀ cc : Fin 128, (runDiag (F := Ideal) c i arg4 harg4 arg5 harg5 arg6 harg6 arg7 harg7 arg8 harg8 arg9 harg9 T0 T1 x0 x1 x2 x3 x4 a0 a1 a2 hc0 hc1 hc2).2.2.1 (ix3 1 r cc) = L1) (d : Fin 256) :
    outOf (runDiag (F := Ideal) c i arg4 harg4 arg5 harg5 arg6 harg6 arg7 harg7 arg8 harg8 arg9 harg9 T0 T1 x0 x1 x2 x3 x4 a0 a1 a2 hc0 hc1 hc2).1 (ix2 r d)
      = finish (fun e => Ideal.div ((runDiag (F := Ideal) c i arg4 harg4 arg5 harg5 arg6 harg6 arg7 harg7 arg8 harg8 arg9 harg9 T0 T1 x0 x1 x2 x3 x4 a0 a1 a2 hc0 hc1 hc2).2.2.2.1 (ix3 0 r e)) L0
          - lamE (fun e => x3 (ix2 0 e)) (fun e => x3 (ix2 1 e)) (fun e => x3 (ix2 2 e)) (fun e => x3 (ix2 3 e)) * Ideal.div ((runDiag (F := Ideal) c i arg4 harg4 arg5 harg5 arg6 harg6 arg7 harg7 arg8 harg8 arg9 harg9 T0 T1 x0 x1 x2 x3 x4 a0 a1 a2 hc0 hc1 hc2).2.2.2.1 (ix3 1 r e)) L1) (fun e => x4 (ix2 0 e)) d := by
  have hl0 : ∀ cc : Fin 128, (View.readAt (Elt Ideal) scL.view (Rect.unit (s := S2x1024x128) ![0, 0, 0] S1x1024x128.size (by decide)).toLoadRect (scL.view.writes (Elt Ideal) scL.view.junk (runDiag.sl.HS1_4 (F := Ideal) i arg4 arg5 T0 T1 x0 x1 a0 a1))) (ix3 0 r cc) = L0 := fun cc =>
    ((scr_read scL.view _ (by decide) 0 r cc r rfl (Nat.zero_add _).symm).trans (congrFun (runDiag_l c i arg4 harg4 arg5 harg5 arg6 harg6 arg7 harg7 arg8 harg8 arg9 harg9 T0 T1 x0 x1 x2 x3 x4 a0 a1 a2 hc0 hc1 hc2) _).symm).trans (h0 cc)
  have hl1 : ∀ cc : Fin 128, (View.readAt (Elt Ideal) scL.view (Rect.unit (s := S2x1024x128) ![1, 0, 0] S1x1024x128.size (by decide)).toLoadRect (scL.view.writes (Elt Ideal) scL.view.junk (runDiag.sl.HS1_4 (F := Ideal) i arg4 arg5 T0 T1 x0 x1 a0 a1))) (ix3 0 r cc) = L1 := fun cc =>
    ((scr_read scL.view _ (by decide) 1 r cc r rfl (Nat.zero_add _).symm).trans (congrFun (runDiag_l c i arg4 harg4 arg5 harg5 arg6 harg6 arg7 harg7 arg8 harg8 arg9 harg9 T0 T1 x0 x1 x2 x3 x4 a0 a1 a2 hc0 hc1 hc2) _).symm).trans (h1 cc)
  have ea0 : ∀ e : Fin 256, (View.readAt (Elt Ideal) scA.view (Rect.unit (s := S2x1024x256) ![0, 0, 0] S1x1024x256.size (by decide)).toLoadRect (scA.view.writes (Elt Ideal) scA.view.junk (runDiag.sl.HS2_4 (F := Ideal) i arg4 arg5 arg6 T0 T1 x0 x1 x2 a0 a2))) (ix3 0 r e) = (runDiag (F := Ideal) c i arg4 harg4 arg5 harg5 arg6 harg6 arg7 harg7 arg8 harg8 arg9 harg9 T0 T1 x0 x1 x2 x3 x4 a0 a1 a2 hc0 hc1 hc2).2.2.2.1 (ix3 0 r e) := fun e =>
    (scr_read scA.view _ (by decide) 0 r e r rfl (Nat.zero_add _).symm).trans (congrFun (runDiag_a c i arg4 harg4 arg5 harg5 arg6 harg6 arg7 harg7 arg8 harg8 arg9 harg9 T0 T1 x0 x1 x2 x3 x4 a0 a1 a2 hc0 hc1 hc2) _).symm
  have ea1 : ∀ e : Fin 256, (View.readAt (Elt Ideal) scA.view (Rect.unit (s := S2x1024x256) ![1, 0, 0] S1x1024x256.size (by decide)).toLoadRect (scA.view.writes (Elt Ideal) scA.view.junk (runDiag.sl.HS2_4 (F := Ideal) i arg4 arg5 arg6 T0 T1 x0 x1 x2 a0 a2))) (ix3 0 r e) = (runDiag (F := Ideal) c i arg4 harg4 arg5 harg5 arg6 harg6 arg7 harg7 arg8 harg8 arg9 harg9 T0 T1 x0 x1 x2 x3 x4 a0 a1 a2 hc0 hc1 hc2).2.2.2.1 (ix3 1 r e) := fun e =>
    (scr_read scA.view _ (by decide) 1 r e r rfl (Nat.zero_add _).symm).trans (congrFun (runDiag_a c i arg4 harg4 arg5 harg5 arg6 harg6 arg7 harg7 arg8 harg8 arg9 harg9 T0 T1 x0 x1 x2 x3 x4 a0 a1 a2 hc0 hc1 hc2) _).symm
  have elp : ∀ (a : Fin 4) (e : Fin 128), (View.readAt (Elt Ideal) arg7.view (Rect.unit (s := S4x128) ![0, 0] S4x128.size (by decide)).toLoadRect (arg7.view.rep x3)) (ix2 a e) = x3 (ix2 a e) := fun a e => lam_read arg7 x3 (by decide) a e
  have eg : ∀ e : Fin 256, (View.readAt (Elt Ideal) arg8.view (Rect.unit (s := S1x256) ![0, 0] S1x256.size (by decide)).toLoadRect (arg8.view.rep x4)) (ix2 0 e) = x4 (ix2 0 e) := fun e => gain_read arg8 x4 (by decide) e
  refine (congrFun (congrArg outOf (runDiag_o c i arg4 harg4 arg5 harg5 arg6 harg6 arg7 harg7 arg8 harg8 arg9 harg9 T0 T1 x0 x1 x2 x3 x4 a0 a1 a2 hc0 hc1 hc2)) _).trans ?_
  rw [runDiag.sl.HO_1]
  refine (out_whole (by decide) _ r d).trans ?_
  refine (congrFun (?_ : _ = k0_pay6 (F := Ideal) (k0_pay64 (View.readAt (Elt Ideal) arg7.view (Rect.unit (s := S4x128) ![0, 0] S4x128.size (by decide)).toLoadRect (arg7.view.rep x3))) (k0_pay65 (View.readAt (Elt Ideal) scA.view (Rect.unit (s := S2x1024x256) ![0, 0, 0] S1x1024x256.size (by decide)).toLoadRect (scA.view.writes (Elt Ideal) scA.view.junk (runDiag.sl.HS2_4 (F := Ideal) i arg4 arg5 arg6 T0 T1 x0 x1 x2 a0 a2))) (View.readAt (Elt Ideal) scL.view (Rect.unit (s := S2x1024x128) ![0, 0, 0] S1x1024x128.size (by decide)).toLoadRect (scL.view.writes (Elt Ideal) scL.view.junk (runDiag.sl.HS1_4 (F := Ideal) i arg4 arg5 T0 T1 x0 x1 a0 a1)))) (View.readAt (Elt Ideal) scA.view (Rect.unit (s := S2x1024x256) ![1, 0, 0] S1x1024x256.size (by decide)).toLoadRect (scA.view.writes (Elt Ideal) scA.view.junk (runDiag.sl.HS2_4 (F := Ideal) i arg4 arg5 arg6 T0 T1 x0 x1 x2 a0 a2))) (View.readAt (Elt Ideal) scL.view (Rect.unit (s := S2x1024x128) ![1, 0, 0] S1x1024x128.size (by decide)).toLoadRect (scL.view.writes (Elt Ideal) scL.view.junk (runDiag.sl.HS1_4 (F := Ideal) i arg4 arg5 T0 T1 x0 x1 a0 a1))) (View.readAt (Elt Ideal) arg8.view (Rect.unit (s := S1x256) ![0, 0] S1x256.size (by decide)).toLoadRect (arg8.view.rep x4))) _).trans ?_
  · rfl
  refine (pay_out _ _ _ _ _ r L1 hl1 d).trans ?_
  simp only [eg, ea1, pay_quot _ _ r L0 hl0, ea0, pay_lam, elp]

/-- The result's block, as the body's one store of it. -/
theorem runFirstDiag_o (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1)) :
    (runFirstDiag (F := Ideal) c i arg4 harg4 arg5 harg5 arg6 harg6 arg7 harg7 arg8 harg8 arg9 harg9 T0 T1 x0 x1 x2 x3 x4 hc0 hc1 hc2).1 = runFirstDiag.sl.HO_1 (F := Ideal) i arg4 arg5 arg6 arg7 arg8 T0 T1 x0 x1 x2 x3 x4 := by
  rw [runFirstDiag]

/-- The result's block after the diagonal tile, the first of its row: of the sums and accumulators the body leaves. -/
theorem runFirstDiag_out (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1))
    (r : Fin 1024) (L0 L1 : EReal) (h0 : ∀ cc : Fin 128, (runFirstDiag (F := Ideal) c i arg4 harg4 arg5 harg5 arg6 harg6 arg7 harg7 arg8 harg8 arg9 harg9 T0 T1 x0 x1 x2 x3 x4 hc0 hc1 hc2).2.2.1 (ix3 0 r cc) = L0) (h1 : ∀ cc : Fin 128, (runFirstDiag (F := Ideal) c i arg4 harg4 arg5 harg5 arg6 harg6 arg7 harg7 arg8 harg8 arg9 harg9 T0 T1 x0 x1 x2 x3 x4 hc0 hc1 hc2).2.2.1 (ix3 1 r cc) = L1) (d : Fin 256) :
    outOf (runFirstDiag (F := Ideal) c i arg4 harg4 arg5 harg5 arg6 harg6 arg7 harg7 arg8 harg8 arg9 harg9 T0 T1 x0 x1 x2 x3 x4 hc0 hc1 hc2).1 (ix2 r d)
      = finish (fun e => Ideal.div ((runFirstDiag (F := Ideal) c i arg4 harg4 arg5 harg5 arg6 harg6 arg7 harg7 arg8 harg8 arg9 harg9 T0 T1 x0 x1 x2 x3 x4 hc0 hc1 hc2).2.2.2.1 (ix3 0 r e)) L0
          - lamE (fun e => x3 (ix2 0 e)) (fun e => x3 (ix2 1 e)) (fun e => x3 (ix2 2 e)) (fun e => x3 (ix2 3 e)) * Ideal.div ((runFirstDiag (F := Ideal) c i arg4 harg4 arg5 harg5 arg6 harg6 arg7 harg7 arg8 harg8 arg9 harg9 T0 T1 x0 x1 x2 x3 x4 hc0 hc1 hc2).2.2.2.1 (ix3 1 r e)) L1) (fun e => x4 (ix2 0 e)) d := by
  have hl0 : ∀ cc : Fin 128, (View.readAt (Elt Ideal) scL.view (Rect.unit (s := S2x1024x128) ![0, 0, 0] S1x1024x128.size (by decide)).toLoadRect (scL.view.writes (Elt Ideal) scL.view.junk (runFirstDiag.sl.HS1_5 (F := Ideal) i arg4 arg5 T0 T1 x0 x1))) (ix3 0 r cc) = L0 := fun cc =>
    ((scr_read scL.view _ (by decide) 0 r cc r rfl (Nat.zero_add _).symm).trans (congrFun (runFirstDiag_l c i arg4 harg4 arg5 harg5 arg6 harg6 arg7 harg7 arg8 harg8 arg9 harg9 T0 T1 x0 x1 x2 x3 x4 hc0 hc1 hc2) _).symm).trans (h0 cc)
  have hl1 : ∀ cc : Fin 128, (View.readAt (Elt Ideal) scL.view (Rect.unit (s := S2x1024x128) ![1, 0, 0] S1x1024x128.size (by decide)).toLoadRect (scL.view.writes (Elt Ideal) scL.view.junk (runFirstDiag.sl.HS1_5 (F := Ideal) i arg4 arg5 T0 T1 x0 x1))) (ix3 0 r cc) = L1 := fun cc =>
    ((scr_read scL.view _ (by decide) 1 r cc r rfl (Nat.zero_add _).symm).trans (congrFun (runFirstDiag_l c i arg4 harg4 arg5 harg5 arg6 harg6 arg7 harg7 arg8 harg8 arg9 harg9 T0 T1 x0 x1 x2 x3 x4 hc0 hc1 hc2) _).symm).trans (h1 cc)
  have ea0 : ∀ e : Fin 256, (View.readAt (Elt Ideal) scA.view (Rect.unit (s := S2x1024x256) ![0, 0, 0] S1x1024x256.size (by decide)).toLoadRect (scA.view.writes (Elt Ideal) scA.view.junk (runFirstDiag.sl.HS2_5 (F := Ideal) i arg4 arg5 arg6 T0 T1 x0 x1 x2))) (ix3 0 r e) = (runFirstDiag (F := Ideal) c i arg4 harg4 arg5 harg5 arg6 harg6 arg7 harg7 arg8 harg8 arg9 harg9 T0 T1 x0 x1 x2 x3 x4 hc0 hc1 hc2).2.2.2.1 (ix3 0 r e) := fun e =>
    (scr_read scA.view _ (by decide) 0 r e r rfl (Nat.zero_add _).symm).trans (congrFun (runFirstDiag_a c i arg4 harg4 arg5 harg5 arg6 harg6 arg7 harg7 arg8 harg8 arg9 harg9 T0 T1 x0 x1 x2 x3 x4 hc0 hc1 hc2) _).symm
  have ea1 : ∀ e : Fin 256, (View.readAt (Elt Ideal) scA.view (Rect.unit (s := S2x1024x256) ![1, 0, 0] S1x1024x256.size (by decide)).toLoadRect (scA.view.writes (Elt Ideal) scA.view.junk (runFirstDiag.sl.HS2_5 (F := Ideal) i arg4 arg5 arg6 T0 T1 x0 x1 x2))) (ix3 0 r e) = (runFirstDiag (F := Ideal) c i arg4 harg4 arg5 harg5 arg6 harg6 arg7 harg7 arg8 harg8 arg9 harg9 T0 T1 x0 x1 x2 x3 x4 hc0 hc1 hc2).2.2.2.1 (ix3 1 r e) := fun e =>
    (scr_read scA.view _ (by decide) 1 r e r rfl (Nat.zero_add _).symm).trans (congrFun (runFirstDiag_a c i arg4 harg4 arg5 harg5 arg6 harg6 arg7 harg7 arg8 harg8 arg9 harg9 T0 T1 x0 x1 x2 x3 x4 hc0 hc1 hc2) _).symm
  have elp : ∀ (a : Fin 4) (e : Fin 128), (View.readAt (Elt Ideal) arg7.view (Rect.unit (s := S4x128) ![0, 0] S4x128.size (by decide)).toLoadRect (arg7.view.rep x3)) (ix2 a e) = x3 (ix2 a e) := fun a e => lam_read arg7 x3 (by decide) a e
  have eg : ∀ e : Fin 256, (View.readAt (Elt Ideal) arg8.view (Rect.unit (s := S1x256) ![0, 0] S1x256.size (by decide)).toLoadRect (arg8.view.rep x4)) (ix2 0 e) = x4 (ix2 0 e) := fun e => gain_read arg8 x4 (by decide) e
  refine (congrFun (congrArg outOf (runFirstDiag_o c i arg4 harg4 arg5 harg5 arg6 harg6 arg7 harg7 arg8 harg8 arg9 harg9 T0 T1 x0 x1 x2 x3 x4 hc0 hc1 hc2)) _).trans ?_
  rw [runFirstDiag.sl.HO_1]
  refine (out_whole (by decide) _ r d).trans ?_
  refine (congrFun (?_ : _ = k0_pay6 (F := Ideal) (k0_pay64 (View.readAt (Elt Ideal) arg7.view (Rect.unit (s := S4x128) ![0, 0] S4x128.size (by decide)).toLoadRect (arg7.view.rep x3))) (k0_pay65 (View.readAt (Elt Ideal) scA.view (Rect.unit (s := S2x1024x256) ![0, 0, 0] S1x1024x256.size (by decide)).toLoadRect (scA.view.writes (Elt Ideal) scA.view.junk (runFirstDiag.sl.HS2_5 (F := Ideal) i arg4 arg5 arg6 T0 T1 x0 x1 x2))) (View.readAt (Elt Ideal) scL.view (Rect.unit (s := S2x1024x128) ![0, 0, 0] S1x1024x128.size (by decide)).toLoadRect (scL.view.writes (Elt Ideal) scL.view.junk (runFirstDiag.sl.HS1_5 (F := Ideal) i arg4 arg5 T0 T1 x0 x1)))) (View.readAt (Elt Ideal) scA.view (Rect.unit (s := S2x1024x256) ![1, 0, 0] S1x1024x256.size (by decide)).toLoadRect (scA.view.writes (Elt Ideal) scA.view.junk (runFirstDiag.sl.HS2_5 (F := Ideal) i arg4 arg5 arg6 T0 T1 x0 x1 x2))) (View.readAt (Elt Ideal) scL.view (Rect.unit (s := S2x1024x128) ![1, 0, 0] S1x1024x128.size (by decide)).toLoadRect (scL.view.writes (Elt Ideal) scL.view.junk (runFirstDiag.sl.HS1_5 (F := Ideal) i arg4 arg5 T0 T1 x0 x1))) (View.readAt (Elt Ideal) arg8.view (Rect.unit (s := S1x256) ![0, 0] S1x256.size (by decide)).toLoadRect (arg8.view.rep x4))) _).trans ?_
  · rfl
  refine (pay_out _ _ _ _ _ r L1 hl1 d).trans ?_
  simp only [eg, ea1, pay_quot _ _ r L0 hl0, ea0, pay_lam, elp]

end Cert.KernelIdeal.Diff
-- ==== Proof.Diff.StepFull.lean ====
module

public import proofs.«01_k».proof.Proof.Diff.Runs
public import proofs.«01_k».proof.Proof.Diff.Rows
public import proofs.«01_k».proof.Proof.Diff.Contents

@[expose] public section

set_option maxRecDepth 16384

/-! # Rows through a tile before the diagonal -/

noncomputable section

namespace Cert.KernelIdeal.Diff

open Cert.KernelIdeal Cert.KernelIdeal.Gen
open Idealize.ShloMosaic Idealize.ShloMosaic.TcCoe

/-- A whole tile, map 0: the row's three values after the body. -/
theorem runFull_row_full0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1))
    (r : Fin 1024) {n : ℕ} (s : ℕ → ℝ) (w : ℕ → Fin 256 → ℝ)
    (H : Row (fun cc => a0 (ix3 0 r cc)) (fun cc => a1 (ix3 0 r cc)) (fun d => a2 (ix3 0 r d)) n s w)
    (hs : ∀ j : Fin 1024, dotB x0 x1 0 r j = (s (n + j.val) : EReal)) (hv : ∀ (j : Fin 1024) (d : Fin 256), x2 (ix2 j d) = (w (n + j.val) d : EReal)) :
    Row (fun cc => (runFull (F := Ideal) c i arg4 harg4 arg5 harg5 arg6 harg6 arg7 harg7 arg8 harg8 arg9 harg9 T0 T1 x0 x1 x2 x3 x4 a0 a1 a2 hc0 hc1 hc2).1 (ix3 0 r cc)) (fun cc => (runFull (F := Ideal) c i arg4 harg4 arg5 harg5 arg6 harg6 arg7 harg7 arg8 harg8 arg9 harg9 T0 T1 x0 x1 x2 x3 x4 a0 a1 a2 hc0 hc1 hc2).2.1 (ix3 0 r cc)) (fun d => (runFull (F := Ideal) c i arg4 harg4 arg5 harg5 arg6 harg6 arg7 harg7 arg8 harg8 arg9 harg9 T0 T1 x0 x1 x2 x3 x4 a0 a1 a2 hc0 hc1 hc2).2.2.1 (ix3 0 r d)) (n + 1024) s w := by
  have hq : ∀ e : Fin 128, (View.readAt (Elt Ideal) arg4.view (Rect.unit (s := S1024x256) ![0, 0] S1024x128.size (by decide)).toLoadRect (arg4.view.rep x0)) (ix2 r e) = x0 (ix2 r (⟨0 * 128 + e.val, by omega⟩ : Fin 256)) := fun e =>
    blk_read arg4 x0 _ r e _ _ (by simp) (by simp) _ rfl rfl
  have hk : ∀ (j : Fin 1024) (e : Fin 128), (View.readAt (Elt Ideal) arg5.view (Rect.unit (s := S1024x256) ![0, 0] S1024x128.size (by decide)).toLoadRect (arg5.view.rep x1)) (ix2 j e) = x1 (ix2 j (⟨0 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (n + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![0, 0] S1024x128.size (by decide)).toLoadRect (arg4.view.rep x0)) (ix2 r e) * (View.readAt (Elt Ideal) arg5.view (Rect.unit (s := S1024x256) ![0, 0] S1024x128.size (by decide)).toLoadRect (arg5.view.rep x1)) (ix2 j e) : EReal)) = (s (n + j.val) : EReal) := fun j => by
    rw [← hs j]
    exact Finset.sum_congr rfl fun e _ => by rw [hq, hk]; rfl
  have hx : ∀ j : Fin 1024, k0_pay8 (View.readAt (Elt Ideal) arg4.view (Rect.unit (s := S1024x256) ![0, 0] S1024x128.size (by decide)).toLoadRect (arg4.view.rep x0)) (View.readAt (Elt Ideal) arg5.view (Rect.unit (s := S1024x256) ![0, 0] S1024x128.size (by decide)).toLoadRect (arg5.view.rep x1)) (ix2 r j) = if n + j.val < (n + 1024) then (s (n + j.val) : EReal) else ⊥ := fun j => by
    rw [score_full0, hsum, if_pos (by omega)]
  have H' : Row (fun cc => (View.readAt (Elt Ideal) scM.view (Rect.unit (s := S2x1024x128) ![0, 0, 0] S1x1024x128.size (by decide)).toLoadRect a0) (ix3 0 r cc)) (fun cc => (View.readAt (Elt Ideal) scL.view (Rect.unit (s := S2x1024x128) ![0, 0, 0] S1x1024x128.size (by decide)).toLoadRect a1) (ix3 0 r cc)) (fun d => (View.readAt (Elt Ideal) scA.view (Rect.unit (s := S2x1024x256) ![0, 0, 0] S1x1024x256.size (by decide)).toLoadRect a2) (ix3 0 r d)) n s w :=
    H.congr (fun cc => scr_read _ _ _ 0 r cc r rfl (by simp)) (fun cc => scr_read _ _ _ 0 r cc r rfl (by simp)) (fun d => scr_read _ _ _ 0 r d r rfl (by simp))
  refine (row_full0 (View.readAt (Elt Ideal) arg4.view (Rect.unit (s := S1024x256) ![0, 0] S1024x128.size (by decide)).toLoadRect (arg4.view.rep x0)) (View.readAt (Elt Ideal) arg5.view (Rect.unit (s := S1024x256) ![0, 0] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![0, 0, 0] S1x1024x128.size (by decide)).toLoadRect a0) (View.readAt (Elt Ideal) scL.view (Rect.unit (s := S2x1024x128) ![0, 0, 0] S1x1024x128.size (by decide)).toLoadRect a1) (View.readAt (Elt Ideal) scA.view (Rect.unit (s := S2x1024x256) ![0, 0, 0] S1x1024x256.size (by decide)).toLoadRect a2) r H' (by omega) (by omega) hx hv').congr (fun cc => ?_) (fun cc => ?_) (fun d => ?_)
  · refine (congrFun (runFull_m c i arg4 harg4 arg5 harg5 arg6 harg6 arg7 harg7 arg8 harg8 arg9 harg9 T0 T1 x0 x1 x2 x3 x4 a0 a1 a2 hc0 hc1 hc2) _).trans ?_
    rw [runFull.sl.HS0_2]
    refine (rd_other (W := 128) scM.view scM.view.junk (mo := 1) (ro := 0) (R := 1024) (by decide) _ _ 0 r cc (by decide)).trans ?_
    refine (rd_hit (W := 128) scM.view scM.view.junk (mo := 0) (ro := 0) (R := 1024) (by decide) _ _ 0 r cc r rfl (Nat.zero_add _).symm).trans (congrFun ?_ _)
    rfl
  · refine (congrFun (runFull_l c i arg4 harg4 arg5 harg5 arg6 harg6 arg7 harg7 arg8 harg8 arg9 harg9 T0 T1 x0 x1 x2 x3 x4 a0 a1 a2 hc0 hc1 hc2) _).trans ?_
    rw [runFull.sl.HS1_2]
    refine (rd_other (W := 128) scL.view scL.view.junk (mo := 1) (ro := 0) (R := 1024) (by decide) _ _ 0 r cc (by decide)).trans ?_
    refine (rd_hit (W := 128) scL.view scL.view.junk (mo := 0) (ro := 0) (R := 1024) (by decide) _ _ 0 r cc r rfl (Nat.zero_add _).symm).trans (congrFun ?_ _)
    rfl
  · refine (congrFun (runFull_a c i arg4 harg4 arg5 harg5 arg6 harg6 arg7 harg7 arg8 harg8 arg9 harg9 T0 T1 x0 x1 x2 x3 x4 a0 a1 a2 hc0 hc1 hc2) _).trans ?_
    rw [runFull.sl.HS2_2]
    refine (rd_other (W := 256) scA.view scA.view.junk (mo := 1) (ro := 0) (R := 1024) (by decide) _ _ 0 r d (by decide)).trans ?_
    refine (rd_hit (W := 256) scA.view scA.view.junk (mo := 0) (ro := 0) (R := 1024) (by decide) _ _ 0 r d r rfl (Nat.zero_add _).symm).trans (congrFun ?_ _)
    rfl

/-- A whole tile, map 1: the row's three values after the body. -/
theorem runFull_row_full1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : isBefore (wordQ (F := Ideal) i T0) (wordK (F := Ideal) i T1)) (hc2 : ¬(k0_cond3 (wordQ (F := Ideal) i T0) (wordK (F := Ideal) i T1) = 1#1))
    (r : Fin 1024) {n : ℕ} (s : ℕ → ℝ) (w : ℕ → Fin 256 → ℝ)
    (H : Row (fun cc => a0 (ix3 1 r cc)) (fun cc => a1 (ix3 1 r cc)) (fun d => a2 (ix3 1 r d)) n s w)
    (hs : ∀ j : Fin 1024, dotB x0 x1 1 r j = (s (n + j.val) : EReal)) (hv : ∀ (j : Fin 1024) (d : Fin 256), x2 (ix2 j d) = (w (n + j.val) d : EReal)) :
    Row (fun cc => (runFull (F := Ideal) c i arg4 harg4 arg5 harg5 arg6 harg6 arg7 harg7 arg8 harg8 arg9 harg9 T0 T1 x0 x1 x2 x3 x4 a0 a1 a2 hc0 hc1 hc2).1 (ix3 1 r cc)) (fun cc => (runFull (F := Ideal) c i arg4 harg4 arg5 harg5 arg6 harg6 arg7 harg7 arg8 harg8 arg9 harg9 T0 T1 x0 x1 x2 x3 x4 a0 a1 a2 hc0 hc1 hc2).2.1 (ix3 1 r cc)) (fun d => (runFull (F := Ideal) c i arg4 harg4 arg5 harg5 arg6 harg6 arg7 harg7 arg8 harg8 arg9 harg9 T0 T1 x0 x1 x2 x3 x4 a0 a1 a2 hc0 hc1 hc2).2.2.1 (ix3 1 r d)) (n + 1024) s w := by
  have hq : ∀ e : Fin 128, (View.readAt (Elt Ideal) arg4.view (Rect.unit (s := S1024x256) ![0, 128] S1024x128.size (by decide)).toLoadRect (arg4.view.rep x0)) (ix2 r e) = x0 (ix2 r (⟨1 * 128 + e.val, by omega⟩ : Fin 256)) := fun e =>
    blk_read arg4 x0 _ r e _ _ (by simp) (by simp) _ rfl rfl
  have hk : ∀ (j : Fin 1024) (e : Fin 128), (View.readAt (Elt Ideal) arg5.view (Rect.unit (s := S1024x256) ![0, 128] S1024x128.size (by decide)).toLoadRect (arg5.view.rep x1)) (ix2 j e) = x1 (ix2 j (⟨1 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (n + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![0, 128] S1024x128.size (by decide)).toLoadRect (arg4.view.rep x0)) (ix2 r e) * (View.readAt (Elt Ideal) arg5.view (Rect.unit (s := S1024x256) ![0, 128] S1024x128.size (by decide)).toLoadRect (arg5.view.rep x1)) (ix2 j e) : EReal)) = (s (n + j.val) : EReal) := fun j => by
    rw [← hs j]
    exact Finset.sum_congr rfl fun e _ => by rw [hq, hk]; rfl
  have hx : ∀ j : Fin 1024, k0_pay17 (View.readAt (Elt Ideal) arg4.view (Rect.unit (s := S1024x256) ![0, 128] S1024x128.size (by decide)).toLoadRect (arg4.view.rep x0)) (View.readAt (Elt Ideal) arg5.view (Rect.unit (s := S1024x256) ![0, 128] S1024x128.size (by decide)).toLoadRect (arg5.view.rep x1)) (ix2 r j) = if n + j.val < (n + 1024) then (s (n + j.val) : EReal) else ⊥ := fun j => by
    rw [score_full1, hsum, if_pos (by omega)]
  have H' : Row (fun cc => (View.readAt (Elt Ideal) scM.view (Rect.unit (s := S2x1024x128) ![1, 0, 0] S1x1024x128.size (by decide)).toLoadRect a0) (ix3 0 r cc)) (fun cc => (View.readAt (Elt Ideal) scL.view (Rect.unit (s := S2x1024x128) ![1, 0, 0] S1x1024x128.size (by decide)).toLoadRect a1) (ix3 0 r cc)) (fun d => (View.readAt (Elt Ideal) scA.view (Rect.unit (s := S2x1024x256) ![1, 0, 0] S1x1024x256.size (by decide)).toLoadRect a2) (ix3 0 r d)) n s w :=
    H.congr (fun cc => scr_read _ _ _ 1 r cc r rfl (by simp)) (fun cc => scr_read _ _ _ 1 r cc r rfl (by simp)) (fun d => scr_read _ _ _ 1 r d r rfl (by simp))
  refine (row_full1 (View.readAt (Elt Ideal) arg4.view (Rect.unit (s := S1024x256) ![0, 128] S1024x128.size (by decide)).toLoadRect (arg4.view.rep x0)) (View.readAt (Elt Ideal) arg5.view (Rect.unit (s := S1024x256) ![0, 128] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![1, 0, 0] S1x1024x128.size (by decide)).toLoadRect a0) (View.readAt (Elt Ideal) scL.view (Rect.unit (s := S2x1024x128) ![1, 0, 0] S1x1024x128.size (by decide)).toLoadRect a1) (View.readAt (Elt Ideal) scA.view (Rect.unit (s := S2x1024x256) ![1, 0, 0] S1x1024x256.size (by decide)).toLoadRect a2) r H' (by omega) (by omega) hx hv').congr (fun cc => ?_) (fun cc => ?_) (fun d => ?_)
  · refine (congrFun (runFull_m c i arg4 harg4 arg5 harg5 arg6 harg6 arg7 harg7 arg8 harg8 arg9 harg9 T0 T1 x0 x1 x2 x3 x4 a0 a1 a2 hc0 hc1 hc2) _).trans ?_
    rw [runFull.sl.HS0_2]
    refine (rd_hit (W := 128) scM.view scM.view.junk (mo := 1) (ro := 0) (R := 1024) (by decide) _ _ 1 r cc r rfl (Nat.zero_add _).symm).trans (congrFun ?_ _)
    rfl
  · refine (congrFun (runFull_l c i arg4 harg4 arg5 harg5 arg6 harg6 arg7 harg7 arg8 harg8 arg9 harg9 T0 T1 x0 x1 x2 x3 x4 a0 a1 a2 hc0 hc1 hc2) _).trans ?_
    rw [runFull.sl.HS1_2]
    refine (rd_hit (W := 128) scL.view scL.view.junk (mo := 1) (ro := 0) (R := 1024) (by decide) _ _ 1 r cc r rfl (Nat.zero_add _).symm).trans (congrFun ?_ _)
    rfl
  · refine (congrFun (runFull_a c i arg4 harg4 arg5 harg5 arg6 harg6 arg7 harg7 arg8 harg8 arg9 harg9 T0 T1 x0 x1 x2 x3 x4 a0 a1 a2 hc0 hc1 hc2) _).trans ?_
    rw [runFull.sl.HS2_2]
    refine (rd_hit (W := 256) scA.view scA.view.junk (mo := 1) (ro := 0) (R := 1024) (by decide) _ _ 1 r d r rfl (Nat.zero_add _).symm).trans (congrFun ?_ _)
    rfl

end Cert.KernelIdeal.Diff
-- ==== Proof.Diff.StepFirstFull.lean ====
module

public import proofs.«01_k».proof.Proof.Diff.Runs
public import proofs.«01_k».proof.Proof.Diff.Rows
public import proofs.«01_k».proof.Proof.Diff.Contents

@[expose] public section

set_option maxRecDepth 16384

/-! # Rows through the first tile, before the diagonal -/

noncomputable section

namespace Cert.KernelIdeal.Diff

open Cert.KernelIdeal Cert.KernelIdeal.Gen
open Idealize.ShloMosaic Idealize.ShloMosaic.TcCoe

/-- A whole tile, map 0, the first tile of the row: the row's three values after the body. -/
theorem runFirstFull_row_full0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1))
    (r : Fin 1024) (s : ℕ → ℝ) (w : ℕ → Fin 256 → ℝ)
    (hs : ∀ j : Fin 1024, dotB x0 x1 0 r j = (s (0 + j.val) : EReal)) (hv : ∀ (j : Fin 1024) (d : Fin 256), x2 (ix2 j d) = (w (0 + j.val) d : EReal)) :
    Row (fun cc => (runFirstFull (F := Ideal) c i arg4 harg4 arg5 harg5 arg6 harg6 arg7 harg7 arg8 harg8 arg9 harg9 T0 T1 x0 x1 x2 x3 x4 hc0 hc1 hc2).1 (ix3 0 r cc)) (fun cc => (runFirstFull (F := Ideal) c i arg4 harg4 arg5 harg5 arg6 harg6 arg7 harg7 arg8 harg8 arg9 harg9 T0 T1 x0 x1 x2 x3 x4 hc0 hc1 hc2).2.1 (ix3 0 r cc)) (fun d => (runFirstFull (F := Ideal) c i arg4 harg4 arg5 harg5 arg6 harg6 arg7 harg7 arg8 harg8 arg9 harg9 T0 T1 x0 x1 x2 x3 x4 hc0 hc1 hc2).2.2.1 (ix3 0 r d)) (0 + 1024) s w := by
  have hq : ∀ e : Fin 128, (View.readAt (Elt Ideal) arg4.view (Rect.unit (s := S1024x256) ![0, 0] S1024x128.size (by decide)).toLoadRect (arg4.view.rep x0)) (ix2 r e) = x0 (ix2 r (⟨0 * 128 + e.val, by omega⟩ : Fin 256)) := fun e =>
    blk_read arg4 x0 _ r e _ _ (by simp) (by simp) _ rfl rfl
  have hk : ∀ (j : Fin 1024) (e : Fin 128), (View.readAt (Elt Ideal) arg5.view (Rect.unit (s := S1024x256) ![0, 0] S1024x128.size (by decide)).toLoadRect (arg5.view.rep x1)) (ix2 j e) = x1 (ix2 j (⟨0 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (0 + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![0, 0] S1024x128.size (by decide)).toLoadRect (arg4.view.rep x0)) (ix2 r e) * (View.readAt (Elt Ideal) arg5.view (Rect.unit (s := S1024x256) ![0, 0] S1024x128.size (by decide)).toLoadRect (arg5.view.rep x1)) (ix2 j e) : EReal)) = (s (0 + j.val) : EReal) := fun j => by
    rw [← hs j]
    exact Finset.sum_congr rfl fun e _ => by rw [hq, hk]; rfl
  have hx : ∀ j : Fin 1024, k0_pay8 (View.readAt (Elt Ideal) arg4.view (Rect.unit (s := S1024x256) ![0, 0] S1024x128.size (by decide)).toLoadRect (arg4.view.rep x0)) (View.readAt (Elt Ideal) arg5.view (Rect.unit (s := S1024x256) ![0, 0] S1024x128.size (by decide)).toLoadRect (arg5.view.rep x1)) (ix2 r j) = if 0 + j.val < (0 + 1024) then (s (0 + j.val) : EReal) else ⊥ := fun j => by
    rw [score_full0, hsum, if_pos (by omega)]
  have em : ∀ cc : Fin 128, (View.readAt (Elt Ideal) scM.view (Rect.unit (s := S2x1024x128) ![0, 0, 0] S1x1024x128.size (by decide)).toLoadRect (scM.view.writes (Elt Ideal) scM.view.junk (runFirstFull.sl.HS0_1 (F := Ideal)))) (ix3 0 r cc) = k0_pay1 (F := Ideal) (ix3 0 r cc) := fun cc => by
      refine (scr_read scM.view _ (by decide) 0 r cc r rfl (Nat.zero_add _).symm).trans ?_
      rw [runFirstFull.sl.HS0_1]
      exact rd_whole (W := 128) scM.view scM.view.junk (by decide) _ _ 0 r cc
  have el : ∀ cc : Fin 128, (View.readAt (Elt Ideal) scL.view (Rect.unit (s := S2x1024x128) ![0, 0, 0] S1x1024x128.size (by decide)).toLoadRect (scL.view.writes (Elt Ideal) scL.view.junk (runFirstFull.sl.HS1_1 (F := Ideal)))) (ix3 0 r cc) = k0_pay2 (F := Ideal) (ix3 0 r cc) := fun cc => by
      refine (scr_read scL.view _ (by decide) 0 r cc r rfl (Nat.zero_add _).symm).trans ?_
      rw [runFirstFull.sl.HS1_1]
      exact rd_whole (W := 128) scL.view scL.view.junk (by decide) _ _ 0 r cc
  have ea : ∀ d : Fin 256, (View.readAt (Elt Ideal) scA.view (Rect.unit (s := S2x1024x256) ![0, 0, 0] S1x1024x256.size (by decide)).toLoadRect (scA.view.writes (Elt Ideal) scA.view.junk (runFirstFull.sl.HS2_1 (F := Ideal)))) (ix3 0 r d) = k0_pay3 (F := Ideal) (ix3 0 r d) := fun d => by
      refine (scr_read scA.view _ (by decide) 0 r d r rfl (Nat.zero_add _).symm).trans ?_
      rw [runFirstFull.sl.HS2_1]
      exact rd_whole (W := 256) scA.view scA.view.junk (by decide) _ _ 0 r d
  have H' : Row (fun cc => (View.readAt (Elt Ideal) scM.view (Rect.unit (s := S2x1024x128) ![0, 0, 0] S1x1024x128.size (by decide)).toLoadRect (scM.view.writes (Elt Ideal) scM.view.junk (runFirstFull.sl.HS0_1 (F := Ideal)))) (ix3 0 r cc)) (fun cc => (View.readAt (Elt Ideal) scL.view (Rect.unit (s := S2x1024x128) ![0, 0, 0] S1x1024x128.size (by decide)).toLoadRect (scL.view.writes (Elt Ideal) scL.view.junk (runFirstFull.sl.HS1_1 (F := Ideal)))) (ix3 0 r cc)) (fun d => (View.readAt (Elt Ideal) scA.view (Rect.unit (s := S2x1024x256) ![0, 0, 0] S1x1024x256.size (by decide)).toLoadRect (scA.view.writes (Elt Ideal) scA.view.junk (runFirstFull.sl.HS2_1 (F := Ideal)))) (ix3 0 r d)) 0 s w :=
    (row_zero 0 r s w).congr em el ea
  refine (row_full0 (View.readAt (Elt Ideal) arg4.view (Rect.unit (s := S1024x256) ![0, 0] S1024x128.size (by decide)).toLoadRect (arg4.view.rep x0)) (View.readAt (Elt Ideal) arg5.view (Rect.unit (s := S1024x256) ![0, 0] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![0, 0, 0] S1x1024x128.size (by decide)).toLoadRect (scM.view.writes (Elt Ideal) scM.view.junk (runFirstFull.sl.HS0_1 (F := Ideal)))) (View.readAt (Elt Ideal) scL.view (Rect.unit (s := S2x1024x128) ![0, 0, 0] S1x1024x128.size (by decide)).toLoadRect (scL.view.writes (Elt Ideal) scL.view.junk (runFirstFull.sl.HS1_1 (F := Ideal)))) (View.readAt (Elt Ideal) scA.view (Rect.unit (s := S2x1024x256) ![0, 0, 0] S1x1024x256.size (by decide)).toLoadRect (scA.view.writes (Elt Ideal) scA.view.junk (runFirstFull.sl.HS2_1 (F := Ideal)))) r H' (by omega) (by omega) hx hv').congr (fun cc => ?_) (fun cc => ?_) (fun d => ?_)
  · refine (congrFun (runFirstFull_m c i arg4 harg4 arg5 harg5 arg6 harg6 arg7 harg7 arg8 harg8 arg9 harg9 T0 T1 x0 x1 x2 x3 x4 hc0 hc1 hc2) _).trans ?_
    rw [runFirstFull.sl.HS0_3, runFirstFull.sl.HS0_2, runFirstFull.sl.HS0_1]
    refine (rd_other (W := 128) scM.view scM.view.junk (mo := 1) (ro := 0) (R := 1024) (by decide) _ _ 0 r cc (by decide)).trans ?_
    refine (rd_hit (W := 128) scM.view scM.view.junk (mo := 0) (ro := 0) (R := 1024) (by decide) _ _ 0 r cc r rfl (Nat.zero_add _).symm).trans (congrFun ?_ _)
    rfl
  · refine (congrFun (runFirstFull_l c i arg4 harg4 arg5 harg5 arg6 harg6 arg7 harg7 arg8 harg8 arg9 harg9 T0 T1 x0 x1 x2 x3 x4 hc0 hc1 hc2) _).trans ?_
    rw [runFirstFull.sl.HS1_3, runFirstFull.sl.HS1_2, runFirstFull.sl.HS1_1]
    refine (rd_other (W := 128) scL.view scL.view.junk (mo := 1) (ro := 0) (R := 1024) (by decide) _ _ 0 r cc (by decide)).trans ?_
    refine (rd_hit (W := 128) scL.view scL.view.junk (mo := 0) (ro := 0) (R := 1024) (by decide) _ _ 0 r cc r rfl (Nat.zero_add _).symm).trans (congrFun ?_ _)
    rfl
  · refine (congrFun (runFirstFull_a c i arg4 harg4 arg5 harg5 arg6 harg6 arg7 harg7 arg8 harg8 arg9 harg9 T0 T1 x0 x1 x2 x3 x4 hc0 hc1 hc2) _).trans ?_
    rw [runFirstFull.sl.HS2_3, runFirstFull.sl.HS2_2, runFirstFull.sl.HS2_1]
    refine (rd_other (W := 256) scA.view scA.view.junk (mo := 1) (ro := 0) (R := 1024) (by decide) _ _ 0 r d (by decide)).trans ?_
    refine (rd_hit (W := 256) scA.view scA.view.junk (mo := 0) (ro := 0) (R := 1024) (by decide) _ _ 0 r d r rfl (Nat.zero_add _).symm).trans (congrFun ?_ _)
    rfl

/-- A whole tile, map 1, the first tile of the row: the row's three values after the body. -/
theorem runFirstFull_row_full1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : isBefore (wordQ (F := Ideal) i T0) (wordK (F := Ideal) i T1)) (hc2 : ¬(k0_cond3 (wordQ (F := Ideal) i T0) (wordK (F := Ideal) i T1) = 1#1))
    (r : Fin 1024) (s : ℕ → ℝ) (w : ℕ → Fin 256 → ℝ)
    (hs : ∀ j : Fin 1024, dotB x0 x1 1 r j = (s (0 + j.val) : EReal)) (hv : ∀ (j : Fin 1024) (d : Fin 256), x2 (ix2 j d) = (w (0 + j.val) d : EReal)) :
    Row (fun cc => (runFirstFull (F := Ideal) c i arg4 harg4 arg5 harg5 arg6 harg6 arg7 harg7 arg8 harg8 arg9 harg9 T0 T1 x0 x1 x2 x3 x4 hc0 hc1 hc2).1 (ix3 1 r cc)) (fun cc => (runFirstFull (F := Ideal) c i arg4 harg4 arg5 harg5 arg6 harg6 arg7 harg7 arg8 harg8 arg9 harg9 T0 T1 x0 x1 x2 x3 x4 hc0 hc1 hc2).2.1 (ix3 1 r cc)) (fun d => (runFirstFull (F := Ideal) c i arg4 harg4 arg5 harg5 arg6 harg6 arg7 harg7 arg8 harg8 arg9 harg9 T0 T1 x0 x1 x2 x3 x4 hc0 hc1 hc2).2.2.1 (ix3 1 r d)) (0 + 1024) s w := by
  have hq : ∀ e : Fin 128, (View.readAt (Elt Ideal) arg4.view (Rect.unit (s := S1024x256) ![0, 128] S1024x128.size (by decide)).toLoadRect (arg4.view.rep x0)) (ix2 r e) = x0 (ix2 r (⟨1 * 128 + e.val, by omega⟩ : Fin 256)) := fun e =>
    blk_read arg4 x0 _ r e _ _ (by simp) (by simp) _ rfl rfl
  have hk : ∀ (j : Fin 1024) (e : Fin 128), (View.readAt (Elt Ideal) arg5.view (Rect.unit (s := S1024x256) ![0, 128] S1024x128.size (by decide)).toLoadRect (arg5.view.rep x1)) (ix2 j e) = x1 (ix2 j (⟨1 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (0 + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![0, 128] S1024x128.size (by decide)).toLoadRect (arg4.view.rep x0)) (ix2 r e) * (View.readAt (Elt Ideal) arg5.view (Rect.unit (s := S1024x256) ![0, 128] S1024x128.size (by decide)).toLoadRect (arg5.view.rep x1)) (ix2 j e) : EReal)) = (s (0 + j.val) : EReal) := fun j => by
    rw [← hs j]
    exact Finset.sum_congr rfl fun e _ => by rw [hq, hk]; rfl
  have hx : ∀ j : Fin 1024, k0_pay17 (View.readAt (Elt Ideal) arg4.view (Rect.unit (s := S1024x256) ![0, 128] S1024x128.size (by decide)).toLoadRect (arg4.view.rep x0)) (View.readAt (Elt Ideal) arg5.view (Rect.unit (s := S1024x256) ![0, 128] S1024x128.size (by decide)).toLoadRect (arg5.view.rep x1)) (ix2 r j) = if 0 + j.val < (0 + 1024) then (s (0 + j.val) : EReal) else ⊥ := fun j => by
    rw [score_full1, hsum, if_pos (by omega)]
  have em : ∀ cc : Fin 128, (View.readAt (Elt Ideal) scM.view (Rect.unit (s := S2x1024x128) ![1, 0, 0] S1x1024x128.size (by decide)).toLoadRect (scM.view.writes (Elt Ideal) scM.view.junk (runFirstFull.sl.HS0_2 (F := Ideal) arg4 arg5 x0 x1))) (ix3 0 r cc) = k0_pay1 (F := Ideal) (ix3 1 r cc) := fun cc => by
      refine (scr_read scM.view _ (by decide) 1 r cc r rfl (Nat.zero_add _).symm).trans ?_
      rw [runFirstFull.sl.HS0_2, runFirstFull.sl.HS0_1]
      refine (rd_other (W := 128) scM.view scM.view.junk (mo := 0) (ro := 0) (R := 1024) (by decide) _ _ 1 r cc (by decide)).trans ?_
      exact rd_whole (W := 128) scM.view scM.view.junk (by decide) _ _ 1 r cc
  have el : ∀ cc : Fin 128, (View.readAt (Elt Ideal) scL.view (Rect.unit (s := S2x1024x128) ![1, 0, 0] S1x1024x128.size (by decide)).toLoadRect (scL.view.writes (Elt Ideal) scL.view.junk (runFirstFull.sl.HS1_2 (F := Ideal) arg4 arg5 x0 x1))) (ix3 0 r cc) = k0_pay2 (F := Ideal) (ix3 1 r cc) := fun cc => by
      refine (scr_read scL.view _ (by decide) 1 r cc r rfl (Nat.zero_add _).symm).trans ?_
      rw [runFirstFull.sl.HS1_2, runFirstFull.sl.HS1_1]
      refine (rd_other (W := 128) scL.view scL.view.junk (mo := 0) (ro := 0) (R := 1024) (by decide) _ _ 1 r cc (by decide)).trans ?_
      exact rd_whole (W := 128) scL.view scL.view.junk (by decide) _ _ 1 r cc
  have ea : ∀ d : Fin 256, (View.readAt (Elt Ideal) scA.view (Rect.unit (s := S2x1024x256) ![1, 0, 0] S1x1024x256.size (by decide)).toLoadRect (scA.view.writes (Elt Ideal) scA.view.junk (runFirstFull.sl.HS2_2 (F := Ideal) arg4 arg5 arg6 x0 x1 x2))) (ix3 0 r d) = k0_pay3 (F := Ideal) (ix3 1 r d) := fun d => by
      refine (scr_read scA.view _ (by decide) 1 r d r rfl (Nat.zero_add _).symm).trans ?_
      rw [runFirstFull.sl.HS2_2, runFirstFull.sl.HS2_1]
      refine (rd_other (W := 256) scA.view scA.view.junk (mo := 0) (ro := 0) (R := 1024) (by decide) _ _ 1 r d (by decide)).trans ?_
      exact rd_whole (W := 256) scA.view scA.view.junk (by decide) _ _ 1 r d
  have H' : Row (fun cc => (View.readAt (Elt Ideal) scM.view (Rect.unit (s := S2x1024x128) ![1, 0, 0] S1x1024x128.size (by decide)).toLoadRect (scM.view.writes (Elt Ideal) scM.view.junk (runFirstFull.sl.HS0_2 (F := Ideal) arg4 arg5 x0 x1))) (ix3 0 r cc)) (fun cc => (View.readAt (Elt Ideal) scL.view (Rect.unit (s := S2x1024x128) ![1, 0, 0] S1x1024x128.size (by decide)).toLoadRect (scL.view.writes (Elt Ideal) scL.view.junk (runFirstFull.sl.HS1_2 (F := Ideal) arg4 arg5 x0 x1))) (ix3 0 r cc)) (fun d => (View.readAt (Elt Ideal) scA.view (Rect.unit (s := S2x1024x256) ![1, 0, 0] S1x1024x256.size (by decide)).toLoadRect (scA.view.writes (Elt Ideal) scA.view.junk (runFirstFull.sl.HS2_2 (F := Ideal) arg4 arg5 arg6 x0 x1 x2))) (ix3 0 r d)) 0 s w :=
    (row_zero 1 r s w).congr em el ea
  refine (row_full1 (View.readAt (Elt Ideal) arg4.view (Rect.unit (s := S1024x256) ![0, 128] S1024x128.size (by decide)).toLoadRect (arg4.view.rep x0)) (View.readAt (Elt Ideal) arg5.view (Rect.unit (s := S1024x256) ![0, 128] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![1, 0, 0] S1x1024x128.size (by decide)).toLoadRect (scM.view.writes (Elt Ideal) scM.view.junk (runFirstFull.sl.HS0_2 (F := Ideal) arg4 arg5 x0 x1))) (View.readAt (Elt Ideal) scL.view (Rect.unit (s := S2x1024x128) ![1, 0, 0] S1x1024x128.size (by decide)).toLoadRect (scL.view.writes (Elt Ideal) scL.view.junk (runFirstFull.sl.HS1_2 (F := Ideal) arg4 arg5 x0 x1))) (View.readAt (Elt Ideal) scA.view (Rect.unit (s := S2x1024x256) ![1, 0, 0] S1x1024x256.size (by decide)).toLoadRect (scA.view.writes (Elt Ideal) scA.view.junk (runFirstFull.sl.HS2_2 (F := Ideal) arg4 arg5 arg6 x0 x1 x2))) r H' (by omega) (by omega) hx hv').congr (fun cc => ?_) (fun cc => ?_) (fun d => ?_)
  · refine (congrFun (runFirstFull_m c i arg4 harg4 arg5 harg5 arg6 harg6 arg7 harg7 arg8 harg8 arg9 harg9 T0 T1 x0 x1 x2 x3 x4 hc0 hc1 hc2) _).trans ?_
    rw [runFirstFull.sl.HS0_3, runFirstFull.sl.HS0_2, runFirstFull.sl.HS0_1]
    refine (rd_hit (W := 128) scM.view scM.view.junk (mo := 1) (ro := 0) (R := 1024) (by decide) _ _ 1 r cc r rfl (Nat.zero_add _).symm).trans (congrFun ?_ _)
    rfl
  · refine (congrFun (runFirstFull_l c i arg4 harg4 arg5 harg5 arg6 harg6 arg7 harg7 arg8 harg8 arg9 harg9 T0 T1 x0 x1 x2 x3 x4 hc0 hc1 hc2) _).trans ?_
    rw [runFirstFull.sl.HS1_3, runFirstFull.sl.HS1_2, runFirstFull.sl.HS1_1]
    refine (rd_hit (W := 128) scL.view scL.view.junk (mo := 1) (ro := 0) (R := 1024) (by decide) _ _ 1 r cc r rfl (Nat.zero_add _).symm).trans (congrFun ?_ _)
    rfl
  · refine (congrFun (runFirstFull_a c i arg4 harg4 arg5 harg5 arg6 harg6 arg7 harg7 arg8 harg8 arg9 harg9 T0 T1 x0 x1 x2 x3 x4 hc0 hc1 hc2) _).trans ?_
    rw [runFirstFull.sl.HS2_3, runFirstFull.sl.HS2_2, runFirstFull.sl.HS2_1]
    refine (rd_hit (W := 256) scA.view scA.view.junk (mo := 1) (ro := 0) (R := 1024) (by decide) _ _ 1 r d r rfl (Nat.zero_add _).symm).trans (congrFun ?_ _)
    rfl

end Cert.KernelIdeal.Diff
-- ==== Proof.Diff.StepDiag.lean ====
module

public import proofs.«01_k».proof.Proof.Diff.Runs
public import proofs.«01_k».proof.Proof.Diff.Rows
public import proofs.«01_k».proof.Proof.Diff.Contents

@[expose] public section

set_option maxRecDepth 16384

/-! # Rows through the diagonal tile -/

noncomputable section

namespace Cert.KernelIdeal.Diff

open Cert.KernelIdeal Cert.KernelIdeal.Gen
open Idealize.ShloMosaic Idealize.ShloMosaic.TcCoe

/-- The upper half of the diagonal tile, map 0: the row's three values after the body. -/
theorem runDiag_row_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) {n : ℕ} (s : ℕ → ℝ) (w : ℕ → Fin 256 → ℝ)
    (H : Row (fun cc => a0 (ix3 0 (⟨r.val, by omega⟩ : Fin 1024) cc)) (fun cc => a1 (ix3 0 (⟨r.val, by omega⟩ : Fin 1024) cc)) (fun d => a2 (ix3 0 (⟨r.val, by omega⟩ : Fin 1024) d)) n s w)
    (hs : ∀ j : Fin 1024, dotB x0 x1 0 (⟨r.val, by omega⟩ : Fin 1024) j = (s (n + j.val) : EReal)) (hv : ∀ (j : Fin 1024) (d : Fin 256), x2 (ix2 j d) = (w (n + j.val) d : EReal)) :
    Row (fun cc => (runDiag (F := Ideal) c i arg4 harg4 arg5 harg5 arg6 harg6 arg7 harg7 arg8 harg8 arg9 harg9 T0 T1 x0 x1 x2 x3 x4 a0 a1 a2 hc0 hc1 hc2).2.1 (ix3 0 (⟨r.val, by omega⟩ : Fin 1024) cc)) (fun cc => (runDiag (F := Ideal) c i arg4 harg4 arg5 harg5 arg6 harg6 arg7 harg7 arg8 harg8 arg9 harg9 T0 T1 x0 x1 x2 x3 x4 a0 a1 a2 hc0 hc1 hc2).2.2.1 (ix3 0 (⟨r.val, by omega⟩ : Fin 1024) cc)) (fun d => (runDiag (F := Ideal) c i arg4 harg4 arg5 harg5 arg6 harg6 arg7 harg7 arg8 harg8 arg9 harg9 T0 T1 x0 x1 x2 x3 x4 a0 a1 a2 hc0 hc1 hc2).2.2.2.1 (ix3 0 (⟨r.val, by omega⟩ : Fin 1024) d)) (n + (r.val + 1)) s w := by
  have hq : ∀ e : Fin 128, (View.readAt (Elt Ideal) arg4.view (Rect.unit (s := S1024x256) ![0, 0] S512x128.size (by decide)).toLoadRect (arg4.view.rep x0)) (ix2 r e) = x0 (ix2 (⟨r.val, by omega⟩ : Fin 1024) (⟨0 * 128 + e.val, by omega⟩ : Fin 256)) := fun e =>
    blk_read arg4 x0 _ r e _ _ (by simp) (by simp) _ rfl rfl
  have hk : ∀ (j : Fin 512) (e : Fin 128), (View.readAt (Elt Ideal) arg5.view (Rect.unit (s := S1024x256) ![0, 0] S512x128.size (by decide)).toLoadRect (arg5.view.rep x1)) (ix2 j e) = x1 (ix2 (⟨j.val, by omega⟩ : Fin 1024) (⟨0 * 128 + e.val, by omega⟩ : Fin 256)) := fun j e =>
    blk_read arg5 x1 _ j e _ _ (by simp) (by simp) _ rfl rfl
  have hv' : ∀ (j : Fin 512) (d : Fin 256), (View.readAt (Elt Ideal) arg6.view (Rect.unit (s := S1024x256) ![0, 0] S512x256.size (by decide)).toLoadRect (arg6.view.rep x2)) (ix2 j d) = (w (n + j.val) d : EReal) := fun j d =>
    (blk_read arg6 x2 _ j d (⟨j.val, by omega⟩ : Fin 1024) d (by simp) (by simp) _ rfl rfl).trans (hv _ _)
  have hsum : ∀ j : Fin 512, (∑ e : Fin 128, ((View.readAt (Elt Ideal) arg4.view (Rect.unit (s := S1024x256) ![0, 0] S512x128.size (by decide)).toLoadRect (arg4.view.rep x0)) (ix2 r e) * (View.readAt (Elt Ideal) arg5.view (Rect.unit (s := S1024x256) ![0, 0] S512x128.size (by decide)).toLoadRect (arg5.view.rep x1)) (ix2 j e) : EReal)) = (s (n + j.val) : EReal) := fun j => by
    rw [← hs (⟨j.val, by omega⟩ : Fin 1024)]
    exact Finset.sum_congr rfl fun e _ => by rw [hq, hk]; rfl
  have hx : ∀ j : Fin 512, k0_pay27 (F := Ideal) (wordQ (F := Ideal) i T0) (wordK (F := Ideal) i T1) (View.readAt (Elt Ideal) arg4.view (Rect.unit (s := S1024x256) ![0, 0] S512x128.size (by decide)).toLoadRect (arg4.view.rep x0)) (View.readAt (Elt Ideal) arg5.view (Rect.unit (s := S1024x256) ![0, 0] S512x128.size (by decide)).toLoadRect (arg5.view.rep x1)) (ix2 r j) = if n + j.val < (n + (r.val + 1)) then (s (n + j.val) : EReal) else ⊥ := fun j => by
    rw [hw0, hw1, score_a0 g hg, hsum]
    exact if_congr (by omega) rfl rfl
  have H' : Row (fun cc => (View.readAt (Elt Ideal) scM.view (Rect.unit (s := S2x1024x128) ![0, 0, 0] S1x512x128.size (by decide)).toLoadRect a0) (ix3 0 r cc)) (fun cc => (View.readAt (Elt Ideal) scL.view (Rect.unit (s := S2x1024x128) ![0, 0, 0] S1x512x128.size (by decide)).toLoadRect a1) (ix3 0 r cc)) (fun d => (View.readAt (Elt Ideal) scA.view (Rect.unit (s := S2x1024x256) ![0, 0, 0] S1x512x256.size (by decide)).toLoadRect a2) (ix3 0 r d)) n s w :=
    H.congr (fun cc => scr_read _ _ _ 0 (⟨r.val, by omega⟩ : Fin 1024) cc r rfl (by simp)) (fun cc => scr_read _ _ _ 0 (⟨r.val, by omega⟩ : Fin 1024) cc r rfl (by simp)) (fun d => scr_read _ _ _ 0 (⟨r.val, by omega⟩ : Fin 1024) d r rfl (by simp))
  refine (row_a0 (wordQ (F := Ideal) i T0) (wordK (F := Ideal) i T1) (View.readAt (Elt Ideal) arg4.view (Rect.unit (s := S1024x256) ![0, 0] S512x128.size (by decide)).toLoadRect (arg4.view.rep x0)) (View.readAt (Elt Ideal) arg5.view (Rect.unit (s := S1024x256) ![0, 0] S512x128.size (by decide)).toLoadRect (arg5.view.rep x1)) (View.readAt (Elt Ideal) arg6.view (Rect.unit (s := S1024x256) ![0, 0] S512x256.size (by decide)).toLoadRect (arg6.view.rep x2)) (View.readAt (Elt Ideal) scM.view (Rect.unit (s := S2x1024x128) ![0, 0, 0] S1x512x128.size (by decide)).toLoadRect a0) (View.readAt (Elt Ideal) scL.view (Rect.unit (s := S2x1024x128) ![0, 0, 0] S1x512x128.size (by decide)).toLoadRect a1) (View.readAt (Elt Ideal) scA.view (Rect.unit (s := S2x1024x256) ![0, 0, 0] S1x512x256.size (by decide)).toLoadRect a2) r H' (by omega) (by omega) hx hv').congr (fun cc => ?_) (fun cc => ?_) (fun d => ?_)
  · refine (congrFun (runDiag_m c i arg4 harg4 arg5 harg5 arg6 harg6 arg7 harg7 arg8 harg8 arg9 harg9 T0 T1 x0 x1 x2 x3 x4 a0 a1 a2 hc0 hc1 hc2) _).trans ?_
    rw [runDiag.sl.HS0_4]
    refine (rd_other (W := 128) scM.view scM.view.junk (mo := 1) (ro := 512) (R := 512) (by decide) _ _ 0 (⟨r.val, by omega⟩ : Fin 1024) cc (by decide)).trans ?_
    refine (rd_rows (W := 128) scM.view scM.view.junk (mo := 0) (ro := 512) (R := 512) (by decide) _ _ 0 (⟨r.val, by omega⟩ : Fin 1024) cc (by show _ < _ ∨ _ ≤ _; simp only []; omega)).trans ?_
    refine (rd_other (W := 128) scM.view scM.view.junk (mo := 1) (ro := 0) (R := 512) (by decide) _ _ 0 (⟨r.val, by omega⟩ : Fin 1024) cc (by decide)).trans ?_
    refine (rd_hit (W := 128) scM.view scM.view.junk (mo := 0) (ro := 0) (R := 512) (by decide) _ _ 0 (⟨r.val, by omega⟩ : Fin 1024) cc r rfl (Nat.zero_add _).symm).trans (congrFun ?_ _)
    rfl
  · refine (congrFun (runDiag_l c i arg4 harg4 arg5 harg5 arg6 harg6 arg7 harg7 arg8 harg8 arg9 harg9 T0 T1 x0 x1 x2 x3 x4 a0 a1 a2 hc0 hc1 hc2) _).trans ?_
    rw [runDiag.sl.HS1_4]
    refine (rd_other (W := 128) scL.view scL.view.junk (mo := 1) (ro := 512) (R := 512) (by decide) _ _ 0 (⟨r.val, by omega⟩ : Fin 1024) cc (by decide)).trans ?_
    refine (rd_rows (W := 128) scL.view scL.view.junk (mo := 0) (ro := 512) (R := 512) (by decide) _ _ 0 (⟨r.val, by omega⟩ : Fin 1024) cc (by show _ < _ ∨ _ ≤ _; simp only []; omega)).trans ?_
    refine (rd_other (W := 128) scL.view scL.view.junk (mo := 1) (ro := 0) (R := 512) (by decide) _ _ 0 (⟨r.val, by omega⟩ : Fin 1024) cc (by decide)).trans ?_
    refine (rd_hit (W := 128) scL.view scL.view.junk (mo := 0) (ro := 0) (R := 512) (by decide) _ _ 0 (⟨r.val, by omega⟩ : Fin 1024) cc r rfl (Nat.zero_add _).symm).trans (congrFun ?_ _)
    rfl
  · refine (congrFun (runDiag_a c i arg4 harg4 arg5 harg5 arg6 harg6 arg7 harg7 arg8 harg8 arg9 harg9 T0 T1 x0 x1 x2 x3 x4 a0 a1 a2 hc0 hc1 hc2) _).trans ?_
    rw [runDiag.sl.HS2_4]
    refine (rd_other (W := 256) scA.view scA.view.junk (mo := 1) (ro := 512) (R := 512) (by decide) _ _ 0 (⟨r.val, by omega⟩ : Fin 1024) d (by decide)).trans ?_
    refine (rd_rows (W := 256) scA.view scA.view.junk (mo := 0) (ro := 512) (R := 512) (by decide) _ _ 0 (⟨r.val, by omega⟩ : Fin 1024) d (by show _ < _ ∨ _ ≤ _; simp only []; omega)).trans ?_
    refine (rd_other (W := 256) scA.view scA.view.junk (mo := 1) (ro := 0) (R := 512) (by decide) _ _ 0 (⟨r.val, by omega⟩ : Fin 1024) d (by decide)).trans ?_
    refine (rd_hit (W := 256) scA.view scA.view.junk (mo := 0) (ro := 0) (R := 512) (by decide) _ _ 0 (⟨r.val, by omega⟩ : Fin 1024) d r rfl (Nat.zero_add _).symm).trans (congrFun ?_ _)
    rfl

/-- The upper half of the diagonal tile, map 1: the row's three values after the body. -/
theorem runDiag_row_a1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) {n : ℕ} (s : ℕ → ℝ) (w : ℕ → Fin 256 → ℝ)
    (H : Row (fun cc => a0 (ix3 1 (⟨r.val, by omega⟩ : Fin 1024) cc)) (fun cc => a1 (ix3 1 (⟨r.val, by omega⟩ : Fin 1024) cc)) (fun d => a2 (ix3 1 (⟨r.val, by omega⟩ : Fin 1024) d)) n s w)
    (hs : ∀ j : Fin 1024, dotB x0 x1 1 (⟨r.val, by omega⟩ : Fin 1024) j = (s (n + j.val) : EReal)) (hv : ∀ (j : Fin 1024) (d : Fin 256), x2 (ix2 j d) = (w (n + j.val) d : EReal)) :
    Row (fun cc => (runDiag (F := Ideal) c i arg4 harg4 arg5 harg5 arg6 harg6 arg7 harg7 arg8 harg8 arg9 harg9 T0 T1 x0 x1 x2 x3 x4 a0 a1 a2 hc0 hc1 hc2).2.1 (ix3 1 (⟨r.val, by omega⟩ : Fin 1024) cc)) (fun cc => (runDiag (F := Ideal) c i arg4 harg4 arg5 harg5 arg6 harg6 arg7 harg7 arg8 harg8 arg9 harg9 T0 T1 x0 x1 x2 x3 x4 a0 a1 a2 hc0 hc1 hc2).2.2.1 (ix3 1 (⟨r.val, by omega⟩ : Fin 1024) cc)) (fun d => (runDiag (F := Ideal) c i arg4 harg4 arg5 harg5 arg6 harg6 arg7 harg7 arg8 harg8 arg9 harg9 T0 T1 x0 x1 x2 x3 x4 a0 a1 a2 hc0 hc1 hc2).2.2.2.1 (ix3 1 (⟨r.val, by omega⟩ : Fin 1024) d)) (n + (r.val + 1)) s w := by
  have hq : ∀ e : Fin 128, (View.readAt (Elt Ideal) arg4.view (Rect.unit (s := S1024x256) ![0, 128] S512x128.size (by decide)).toLoadRect (arg4.view.rep x0)) (ix2 r e) = x0 (ix2 (⟨r.val, by omega⟩ : Fin 1024) (⟨1 * 128 + e.val, by omega⟩ : Fin 256)) := fun e =>
    blk_read arg4 x0 _ r e _ _ (by simp) (by simp) _ rfl rfl
  have hk : ∀ (j : Fin 512) (e : Fin 128), (View.readAt (Elt Ideal) arg5.view (Rect.unit (s := S1024x256) ![0, 128] S512x128.size (by decide)).toLoadRect (arg5.view.rep x1)) (ix2 j e) = x1 (ix2 (⟨j.val, by omega⟩ : Fin 1024) (⟨1 * 128 + e.val, by omega⟩ : Fin 256)) := fun j e =>
    blk_read arg5 x1 _ j e _ _ (by simp) (by simp) _ rfl rfl
  have hv' : ∀ (j : Fin 512) (d : Fin 256), (View.readAt (Elt Ideal) arg6.view (Rect.unit (s := S1024x256) ![0, 0] S512x256.size (by decide)).toLoadRect (arg6.view.rep x2)) (ix2 j d) = (w (n + j.val) d : EReal) := fun j d =>
    (blk_read arg6 x2 _ j d (⟨j.val, by omega⟩ : Fin 1024) d (by simp) (by simp) _ rfl rfl).trans (hv _ _)
  have hsum : ∀ j : Fin 512, (∑ e : Fin 128, ((View.readAt (Elt Ideal) arg4.view (Rect.unit (s := S1024x256) ![0, 128] S512x128.size (by decide)).toLoadRect (arg4.view.rep x0)) (ix2 r e) * (View.readAt (Elt Ideal) arg5.view (Rect.unit (s := S1024x256) ![0, 128] S512x128.size (by decide)).toLoadRect (arg5.view.rep x1)) (ix2 j e) : EReal)) = (s (n + j.val) : EReal) := fun j => by
    rw [← hs (⟨j.val, by omega⟩ : Fin 1024)]
    exact Finset.sum_congr rfl fun e _ => by rw [hq, hk]; rfl
  have hx : ∀ j : Fin 512, k0_pay36 (F := Ideal) (k0_pay26 (F := Ideal) (wordQ (F := Ideal) i T0) (wordK (F := Ideal) i T1)) (View.readAt (Elt Ideal) arg4.view (Rect.unit (s := S1024x256) ![0, 128] S512x128.size (by decide)).toLoadRect (arg4.view.rep x0)) (View.readAt (Elt Ideal) arg5.view (Rect.unit (s := S1024x256) ![0, 128] S512x128.size (by decide)).toLoadRect (arg5.view.rep x1)) (ix2 r j) = if n + j.val < (n + (r.val + 1)) then (s (n + j.val) : EReal) else ⊥ := fun j => by
    rw [hw0, hw1, score_a1 g hg, hsum]
    exact if_congr (by omega) rfl rfl
  have H' : Row (fun cc => (View.readAt (Elt Ideal) scM.view (Rect.unit (s := S2x1024x128) ![1, 0, 0] S1x512x128.size (by decide)).toLoadRect a0) (ix3 0 r cc)) (fun cc => (View.readAt (Elt Ideal) scL.view (Rect.unit (s := S2x1024x128) ![1, 0, 0] S1x512x128.size (by decide)).toLoadRect a1) (ix3 0 r cc)) (fun d => (View.readAt (Elt Ideal) scA.view (Rect.unit (s := S2x1024x256) ![1, 0, 0] S1x512x256.size (by decide)).toLoadRect a2) (ix3 0 r d)) n s w :=
    H.congr (fun cc => scr_read _ _ _ 1 (⟨r.val, by omega⟩ : Fin 1024) cc r rfl (by simp)) (fun cc => scr_read _ _ _ 1 (⟨r.val, by omega⟩ : Fin 1024) cc r rfl (by simp)) (fun d => scr_read _ _ _ 1 (⟨r.val, by omega⟩ : Fin 1024) d r rfl (by simp))
  refine (row_a1 (k0_pay26 (F := Ideal) (wordQ (F := Ideal) i T0) (wordK (F := Ideal) i T1)) (View.readAt (Elt Ideal) arg4.view (Rect.unit (s := S1024x256) ![0, 128] S512x128.size (by decide)).toLoadRect (arg4.view.rep x0)) (View.readAt (Elt Ideal) arg5.view (Rect.unit (s := S1024x256) ![0, 128] S512x128.size (by decide)).toLoadRect (arg5.view.rep x1)) (View.readAt (Elt Ideal) arg6.view (Rect.unit (s := S1024x256) ![0, 0] S512x256.size (by decide)).toLoadRect (arg6.view.rep x2)) (View.readAt (Elt Ideal) scM.view (Rect.unit (s := S2x1024x128) ![1, 0, 0] S1x512x128.size (by decide)).toLoadRect a0) (View.readAt (Elt Ideal) scL.view (Rect.unit (s := S2x1024x128) ![1, 0, 0] S1x512x128.size (by decide)).toLoadRect a1) (View.readAt (Elt Ideal) scA.view (Rect.unit (s := S2x1024x256) ![1, 0, 0] S1x512x256.size (by decide)).toLoadRect a2) r H' (by omega) (by omega) hx hv').congr (fun cc => ?_) (fun cc => ?_) (fun d => ?_)
  · refine (congrFun (runDiag_m c i arg4 harg4 arg5 harg5 arg6 harg6 arg7 harg7 arg8 harg8 arg9 harg9 T0 T1 x0 x1 x2 x3 x4 a0 a1 a2 hc0 hc1 hc2) _).trans ?_
    rw [runDiag.sl.HS0_4]
    refine (rd_rows (W := 128) scM.view scM.view.junk (mo := 1) (ro := 512) (R := 512) (by decide) _ _ 1 (⟨r.val, by omega⟩ : Fin 1024) cc (by show _ < _ ∨ _ ≤ _; simp only []; omega)).trans ?_
    refine (rd_other (W := 128) scM.view scM.view.junk (mo := 0) (ro := 512) (R := 512) (by decide) _ _ 1 (⟨r.val, by omega⟩ : Fin 1024) cc (by decide)).trans ?_
    refine (rd_hit (W := 128) scM.view scM.view.junk (mo := 1) (ro := 0) (R := 512) (by decide) _ _ 1 (⟨r.val, by omega⟩ : Fin 1024) cc r rfl (Nat.zero_add _).symm).trans (congrFun ?_ _)
    rfl
  · refine (congrFun (runDiag_l c i arg4 harg4 arg5 harg5 arg6 harg6 arg7 harg7 arg8 harg8 arg9 harg9 T0 T1 x0 x1 x2 x3 x4 a0 a1 a2 hc0 hc1 hc2) _).trans ?_
    rw [runDiag.sl.HS1_4]
    refine (rd_rows (W := 128) scL.view scL.view.junk (mo := 1) (ro := 512) (R := 512) (by decide) _ _ 1 (⟨r.val, by omega⟩ : Fin 1024) cc (by show _ < _ ∨ _ ≤ _; simp only []; omega)).trans ?_
    refine (rd_other (W := 128) scL.view scL.view.junk (mo := 0) (ro := 512) (R := 512) (by decide) _ _ 1 (⟨r.val, by omega⟩ : Fin 1024) cc (by decide)).trans ?_
    refine (rd_hit (W := 128) scL.view scL.view.junk (mo := 1) (ro := 0) (R := 512) (by decide) _ _ 1 (⟨r.val, by omega⟩ : Fin 1024) cc r rfl (Nat.zero_add _).symm).trans (congrFun ?_ _)
    rfl
  · refine (congrFun (runDiag_a c i arg4 harg4 arg5 harg5 arg6 harg6 arg7 harg7 arg8 harg8 arg9 harg9 T0 T1 x0 x1 x2 x3 x4 a0 a1 a2 hc0 hc1 hc2) _).trans ?_
    rw [runDiag.sl.HS2_4]
    refine (rd_rows (W := 256) scA.view scA.view.junk (mo := 1) (ro := 512) (R := 512) (by decide) _ _ 1 (⟨r.val, by omega⟩ : Fin 1024) d (by show _ < _ ∨ _ ≤ _; simp only []; omega)).trans ?_
    refine (rd_other (W := 256) scA.view scA.view.junk (mo := 0) (ro := 512) (R := 512) (by decide) _ _ 1 (⟨r.val, by omega⟩ : Fin 1024) d (by decide)).trans ?_
    refine (rd_hit (W := 256) scA.view scA.view.junk (mo := 1) (ro := 0) (R := 512) (by decide) _ _ 1 (⟨r.val, by omega⟩ : Fin 1024) d r rfl (Nat.zero_add _).symm).trans (congrFun ?_ _)
    rfl

/-- The lower half of the diagonal tile, map 0: the row's three values after the body. -/
theorem runDiag_row_b0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) {n : ℕ} (s : ℕ → ℝ) (w : ℕ → Fin 256 → ℝ)
    (H : Row (fun cc => a0 (ix3 0 (⟨512 + r.val, by omega⟩ : Fin 1024) cc)) (fun cc => a1 (ix3 0 (⟨512 + r.val, by omega⟩ : Fin 1024) cc)) (fun d => a2 (ix3 0 (⟨512 + r.val, by omega⟩ : Fin 1024) d)) n s w)
    (hs : ∀ j : Fin 1024, dotB x0 x1 0 (⟨512 + r.val, by omega⟩ : Fin 1024) j = (s (n + j.val) : EReal)) (hv : ∀ (j : Fin 1024) (d : Fin 256), x2 (ix2 j d) = (w (n + j.val) d : EReal)) :
    Row (fun cc => (runDiag (F := Ideal) c i arg4 harg4 arg5 harg5 arg6 harg6 arg7 harg7 arg8 harg8 arg9 harg9 T0 T1 x0 x1 x2 x3 x4 a0 a1 a2 hc0 hc1 hc2).2.1 (ix3 0 (⟨512 + r.val, by omega⟩ : Fin 1024) cc)) (fun cc => (runDiag (F := Ideal) c i arg4 harg4 arg5 harg5 arg6 harg6 arg7 harg7 arg8 harg8 arg9 harg9 T0 T1 x0 x1 x2 x3 x4 a0 a1 a2 hc0 hc1 hc2).2.2.1 (ix3 0 (⟨512 + r.val, by omega⟩ : Fin 1024) cc)) (fun d => (runDiag (F := Ideal) c i arg4 harg4 arg5 harg5 arg6 harg6 arg7 harg7 arg8 harg8 arg9 harg9 T0 T1 x0 x1 x2 x3 x4 a0 a1 a2 hc0 hc1 hc2).2.2.2.1 (ix3 0 (⟨512 + r.val, by omega⟩ : Fin 1024) d)) (n + (512 + r.val + 1)) s w := by
  have hq : ∀ e : Fin 128, (View.readAt (Elt Ideal) arg4.view (Rect.unit (s := S1024x256) ![512, 0] S512x128.size (by decide)).toLoadRect (arg4.view.rep x0)) (ix2 r e) = x0 (ix2 (⟨512 + r.val, by omega⟩ : Fin 1024) (⟨0 * 128 + e.val, by omega⟩ : Fin 256)) := fun e =>
    blk_read arg4 x0 _ r e _ _ (by rfl) (by simp) _ rfl rfl
  have hk : ∀ (j : Fin 1024) (e : Fin 128), (View.readAt (Elt Ideal) arg5.view (Rect.unit (s := S1024x256) ![0, 0] S1024x128.size (by decide)).toLoadRect (arg5.view.rep x1)) (ix2 j e) = x1 (ix2 j (⟨0 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (n + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![512, 0] S512x128.size (by decide)).toLoadRect (arg4.view.rep x0)) (ix2 r e) * (View.readAt (Elt Ideal) arg5.view (Rect.unit (s := S1024x256) ![0, 0] S1024x128.size (by decide)).toLoadRect (arg5.view.rep x1)) (ix2 j e) : EReal)) = (s (n + j.val) : EReal) := fun j => by
    rw [← hs j]
    exact Finset.sum_congr rfl fun e _ => by rw [hq, hk]; rfl
  have hx : ∀ j : Fin 1024, k0_pay46 (F := Ideal) (k0_pay45 (F := Ideal) (wordQ (F := Ideal) i T0) (wordK (F := Ideal) i T1)) (View.readAt (Elt Ideal) arg4.view (Rect.unit (s := S1024x256) ![512, 0] S512x128.size (by decide)).toLoadRect (arg4.view.rep x0)) (View.readAt (Elt Ideal) arg5.view (Rect.unit (s := S1024x256) ![0, 0] S1024x128.size (by decide)).toLoadRect (arg5.view.rep x1)) (ix2 r j) = if n + j.val < (n + (512 + r.val + 1)) then (s (n + j.val) : EReal) else ⊥ := fun j => by
    rw [hw0, hw1, score_b0 g hg, hsum]
    exact if_congr (by omega) rfl rfl
  have H' : Row (fun cc => (View.readAt (Elt Ideal) scM.view (Rect.unit (s := S2x1024x128) ![0, 512, 0] S1x512x128.size (by decide)).toLoadRect a0) (ix3 0 r cc)) (fun cc => (View.readAt (Elt Ideal) scL.view (Rect.unit (s := S2x1024x128) ![0, 512, 0] S1x512x128.size (by decide)).toLoadRect a1) (ix3 0 r cc)) (fun d => (View.readAt (Elt Ideal) scA.view (Rect.unit (s := S2x1024x256) ![0, 512, 0] S1x512x256.size (by decide)).toLoadRect a2) (ix3 0 r d)) n s w :=
    H.congr (fun cc => scr_read _ _ _ 0 (⟨512 + r.val, by omega⟩ : Fin 1024) cc r rfl (by simp)) (fun cc => scr_read _ _ _ 0 (⟨512 + r.val, by omega⟩ : Fin 1024) cc r rfl (by simp)) (fun d => scr_read _ _ _ 0 (⟨512 + r.val, by omega⟩ : Fin 1024) d r rfl (by simp))
  refine (row_b0 (k0_pay45 (F := Ideal) (wordQ (F := Ideal) i T0) (wordK (F := Ideal) i T1)) (View.readAt (Elt Ideal) arg4.view (Rect.unit (s := S1024x256) ![512, 0] S512x128.size (by decide)).toLoadRect (arg4.view.rep x0)) (View.readAt (Elt Ideal) arg5.view (Rect.unit (s := S1024x256) ![0, 0] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![0, 512, 0] S1x512x128.size (by decide)).toLoadRect a0) (View.readAt (Elt Ideal) scL.view (Rect.unit (s := S2x1024x128) ![0, 512, 0] S1x512x128.size (by decide)).toLoadRect a1) (View.readAt (Elt Ideal) scA.view (Rect.unit (s := S2x1024x256) ![0, 512, 0] S1x512x256.size (by decide)).toLoadRect a2) r H' (by omega) (by omega) hx hv').congr (fun cc => ?_) (fun cc => ?_) (fun d => ?_)
  · refine (congrFun (runDiag_m c i arg4 harg4 arg5 harg5 arg6 harg6 arg7 harg7 arg8 harg8 arg9 harg9 T0 T1 x0 x1 x2 x3 x4 a0 a1 a2 hc0 hc1 hc2) _).trans ?_
    rw [runDiag.sl.HS0_4]
    refine (rd_other (W := 128) scM.view scM.view.junk (mo := 1) (ro := 512) (R := 512) (by decide) _ _ 0 (⟨512 + r.val, by omega⟩ : Fin 1024) cc (by decide)).trans ?_
    refine (rd_hit (W := 128) scM.view scM.view.junk (mo := 0) (ro := 512) (R := 512) (by decide) _ _ 0 (⟨512 + r.val, by omega⟩ : Fin 1024) cc r rfl rfl).trans (congrFun ?_ _)
    rfl
  · refine (congrFun (runDiag_l c i arg4 harg4 arg5 harg5 arg6 harg6 arg7 harg7 arg8 harg8 arg9 harg9 T0 T1 x0 x1 x2 x3 x4 a0 a1 a2 hc0 hc1 hc2) _).trans ?_
    rw [runDiag.sl.HS1_4]
    refine (rd_other (W := 128) scL.view scL.view.junk (mo := 1) (ro := 512) (R := 512) (by decide) _ _ 0 (⟨512 + r.val, by omega⟩ : Fin 1024) cc (by decide)).trans ?_
    refine (rd_hit (W := 128) scL.view scL.view.junk (mo := 0) (ro := 512) (R := 512) (by decide) _ _ 0 (⟨512 + r.val, by omega⟩ : Fin 1024) cc r rfl rfl).trans (congrFun ?_ _)
    rfl
  · refine (congrFun (runDiag_a c i arg4 harg4 arg5 harg5 arg6 harg6 arg7 harg7 arg8 harg8 arg9 harg9 T0 T1 x0 x1 x2 x3 x4 a0 a1 a2 hc0 hc1 hc2) _).trans ?_
    rw [runDiag.sl.HS2_4]
    refine (rd_other (W := 256) scA.view scA.view.junk (mo := 1) (ro := 512) (R := 512) (by decide) _ _ 0 (⟨512 + r.val, by omega⟩ : Fin 1024) d (by decide)).trans ?_
    refine (rd_hit (W := 256) scA.view scA.view.junk (mo := 0) (ro := 512) (R := 512) (by decide) _ _ 0 (⟨512 + r.val, by omega⟩ : Fin 1024) d r rfl rfl).trans (congrFun ?_ _)
    rfl

/-- The lower half of the diagonal tile, map 1: the row's three values after the body. -/
theorem runDiag_row_b1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal) (a0 a1 : ST Ideal) (a2 : AT Ideal)
    (hc0 : ¬isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) {n : ℕ} (s : ℕ → ℝ) (w : ℕ → Fin 256 → ℝ)
    (H : Row (fun cc => a0 (ix3 1 (⟨512 + r.val, by omega⟩ : Fin 1024) cc)) (fun cc => a1 (ix3 1 (⟨512 + r.val, by omega⟩ : Fin 1024) cc)) (fun d => a2 (ix3 1 (⟨512 + r.val, by omega⟩ : Fin 1024) d)) n s w)
    (hs : ∀ j : Fin 1024, dotB x0 x1 1 (⟨512 + r.val, by omega⟩ : Fin 1024) j = (s (n + j.val) : EReal)) (hv : ∀ (j : Fin 1024) (d : Fin 256), x2 (ix2 j d) = (w (n + j.val) d : EReal)) :
    Row (fun cc => (runDiag (F := Ideal) c i arg4 harg4 arg5 harg5 arg6 harg6 arg7 harg7 arg8 harg8 arg9 harg9 T0 T1 x0 x1 x2 x3 x4 a0 a1 a2 hc0 hc1 hc2).2.1 (ix3 1 (⟨512 + r.val, by omega⟩ : Fin 1024) cc)) (fun cc => (runDiag (F := Ideal) c i arg4 harg4 arg5 harg5 arg6 harg6 arg7 harg7 arg8 harg8 arg9 harg9 T0 T1 x0 x1 x2 x3 x4 a0 a1 a2 hc0 hc1 hc2).2.2.1 (ix3 1 (⟨512 + r.val, by omega⟩ : Fin 1024) cc)) (fun d => (runDiag (F := Ideal) c i arg4 harg4 arg5 harg5 arg6 harg6 arg7 harg7 arg8 harg8 arg9 harg9 T0 T1 x0 x1 x2 x3 x4 a0 a1 a2 hc0 hc1 hc2).2.2.2.1 (ix3 1 (⟨512 + r.val, by omega⟩ : Fin 1024) d)) (n + (512 + r.val + 1)) s w := by
  have hq : ∀ e : Fin 128, (View.readAt (Elt Ideal) arg4.view (Rect.unit (s := S1024x256) ![512, 128] S512x128.size (by decide)).toLoadRect (arg4.view.rep x0)) (ix2 r e) = x0 (ix2 (⟨512 + r.val, by omega⟩ : Fin 1024) (⟨1 * 128 + e.val, by omega⟩ : Fin 256)) := fun e =>
    blk_read arg4 x0 _ r e _ _ (by rfl) (by simp) _ rfl rfl
  have hk : ∀ (j : Fin 1024) (e : Fin 128), (View.readAt (Elt Ideal) arg5.view (Rect.unit (s := S1024x256) ![0, 128] S1024x128.size (by decide)).toLoadRect (arg5.view.rep x1)) (ix2 j e) = x1 (ix2 j (⟨1 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (n + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![512, 128] S512x128.size (by decide)).toLoadRect (arg4.view.rep x0)) (ix2 r e) * (View.readAt (Elt Ideal) arg5.view (Rect.unit (s := S1024x256) ![0, 128] S1024x128.size (by decide)).toLoadRect (arg5.view.rep x1)) (ix2 j e) : EReal)) = (s (n + j.val) : EReal) := fun j => by
    rw [← hs j]
    exact Finset.sum_congr rfl fun e _ => by rw [hq, hk]; rfl
  have hx : ∀ j : Fin 1024, k0_pay55 (F := Ideal) (k0_pay45 (F := Ideal) (wordQ (F := Ideal) i T0) (wordK (F := Ideal) i T1)) (View.readAt (Elt Ideal) arg4.view (Rect.unit (s := S1024x256) ![512, 128] S512x128.size (by decide)).toLoadRect (arg4.view.rep x0)) (View.readAt (Elt Ideal) arg5.view (Rect.unit (s := S1024x256) ![0, 128] S1024x128.size (by decide)).toLoadRect (arg5.view.rep x1)) (ix2 r j) = if n + j.val < (n + (512 + r.val + 1)) then (s (n + j.val) : EReal) else ⊥ := fun j => by
    rw [hw0, hw1, score_b1 g hg, hsum]
    exact if_congr (by omega) rfl rfl
  have H' : Row (fun cc => (View.readAt (Elt Ideal) scM.view (Rect.unit (s := S2x1024x128) ![1, 512, 0] S1x512x128.size (by decide)).toLoadRect a0) (ix3 0 r cc)) (fun cc => (View.readAt (Elt Ideal) scL.view (Rect.unit (s := S2x1024x128) ![1, 512, 0] S1x512x128.size (by decide)).toLoadRect a1) (ix3 0 r cc)) (fun d => (View.readAt (Elt Ideal) scA.view (Rect.unit (s := S2x1024x256) ![1, 512, 0] S1x512x256.size (by decide)).toLoadRect a2) (ix3 0 r d)) n s w :=
    H.congr (fun cc => scr_read _ _ _ 1 (⟨512 + r.val, by omega⟩ : Fin 1024) cc r rfl (by simp)) (fun cc => scr_read _ _ _ 1 (⟨512 + r.val, by omega⟩ : Fin 1024) cc r rfl (by simp)) (fun d => scr_read _ _ _ 1 (⟨512 + r.val, by omega⟩ : Fin 1024) d r rfl (by simp))
  refine (row_b1 (k0_pay45 (F := Ideal) (wordQ (F := Ideal) i T0) (wordK (F := Ideal) i T1)) (View.readAt (Elt Ideal) arg4.view (Rect.unit (s := S1024x256) ![512, 128] S512x128.size (by decide)).toLoadRect (arg4.view.rep x0)) (View.readAt (Elt Ideal) arg5.view (Rect.unit (s := S1024x256) ![0, 128] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![1, 512, 0] S1x512x128.size (by decide)).toLoadRect a0) (View.readAt (Elt Ideal) scL.view (Rect.unit (s := S2x1024x128) ![1, 512, 0] S1x512x128.size (by decide)).toLoadRect a1) (View.readAt (Elt Ideal) scA.view (Rect.unit (s := S2x1024x256) ![1, 512, 0] S1x512x256.size (by decide)).toLoadRect a2) r H' (by omega) (by omega) hx hv').congr (fun cc => ?_) (fun cc => ?_) (fun d => ?_)
  · refine (congrFun (runDiag_m c i arg4 harg4 arg5 harg5 arg6 harg6 arg7 harg7 arg8 harg8 arg9 harg9 T0 T1 x0 x1 x2 x3 x4 a0 a1 a2 hc0 hc1 hc2) _).trans ?_
    rw [runDiag.sl.HS0_4]
    refine (rd_hit (W := 128) scM.view scM.view.junk (mo := 1) (ro := 512) (R := 512) (by decide) _ _ 1 (⟨512 + r.val, by omega⟩ : Fin 1024) cc r rfl rfl).trans (congrFun ?_ _)
    rfl
  · refine (congrFun (runDiag_l c i arg4 harg4 arg5 harg5 arg6 harg6 arg7 harg7 arg8 harg8 arg9 harg9 T0 T1 x0 x1 x2 x3 x4 a0 a1 a2 hc0 hc1 hc2) _).trans ?_
    rw [runDiag.sl.HS1_4]
    refine (rd_hit (W := 128) scL.view scL.view.junk (mo := 1) (ro := 512) (R := 512) (by decide) _ _ 1 (⟨512 + r.val, by omega⟩ : Fin 1024) cc r rfl rfl).trans (congrFun ?_ _)
    rfl
  · refine (congrFun (runDiag_a c i arg4 harg4 arg5 harg5 arg6 harg6 arg7 harg7 arg8 harg8 arg9 harg9 T0 T1 x0 x1 x2 x3 x4 a0 a1 a2 hc0 hc1 hc2) _).trans ?_
    rw [runDiag.sl.HS2_4]
    refine (rd_hit (W := 256) scA.view scA.view.junk (mo := 1) (ro := 512) (R := 512) (by decide) _ _ 1 (⟨512 + r.val, by omega⟩ : Fin 1024) d r rfl rfl).trans (congrFun ?_ _)
    rfl

end Cert.KernelIdeal.Diff
-- ==== Proof.Diff.StepFirstDiag.lean ====
module

public import proofs.«01_k».proof.Proof.Diff.Runs
public import proofs.«01_k».proof.Proof.Diff.Rows
public import proofs.«01_k».proof.Proof.Diff.Contents

@[expose] public section

set_option maxRecDepth 16384

/-! # Rows through the diagonal tile that is the first -/

noncomputable section

namespace Cert.KernelIdeal.Diff

open Cert.KernelIdeal Cert.KernelIdeal.Gen
open Idealize.ShloMosaic Idealize.ShloMosaic.TcCoe

/-- The upper half of the diagonal tile, map 0, the first tile of the row: the row's three values after the body. -/
theorem runFirstDiag_row_a0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) (s : ℕ → ℝ) (w : ℕ → Fin 256 → ℝ)
    (hs : ∀ j : Fin 1024, dotB x0 x1 0 (⟨r.val, by omega⟩ : Fin 1024) j = (s (0 + j.val) : EReal)) (hv : ∀ (j : Fin 1024) (d : Fin 256), x2 (ix2 j d) = (w (0 + j.val) d : EReal)) :
    Row (fun cc => (runFirstDiag (F := Ideal) c i arg4 harg4 arg5 harg5 arg6 harg6 arg7 harg7 arg8 harg8 arg9 harg9 T0 T1 x0 x1 x2 x3 x4 hc0 hc1 hc2).2.1 (ix3 0 (⟨r.val, by omega⟩ : Fin 1024) cc)) (fun cc => (runFirstDiag (F := Ideal) c i arg4 harg4 arg5 harg5 arg6 harg6 arg7 harg7 arg8 harg8 arg9 harg9 T0 T1 x0 x1 x2 x3 x4 hc0 hc1 hc2).2.2.1 (ix3 0 (⟨r.val, by omega⟩ : Fin 1024) cc)) (fun d => (runFirstDiag (F := Ideal) c i arg4 harg4 arg5 harg5 arg6 harg6 arg7 harg7 arg8 harg8 arg9 harg9 T0 T1 x0 x1 x2 x3 x4 hc0 hc1 hc2).2.2.2.1 (ix3 0 (⟨r.val, by omega⟩ : Fin 1024) d)) (0 + (r.val + 1)) s w := by
  have hq : ∀ e : Fin 128, (View.readAt (Elt Ideal) arg4.view (Rect.unit (s := S1024x256) ![0, 0] S512x128.size (by decide)).toLoadRect (arg4.view.rep x0)) (ix2 r e) = x0 (ix2 (⟨r.val, by omega⟩ : Fin 1024) (⟨0 * 128 + e.val, by omega⟩ : Fin 256)) := fun e =>
    blk_read arg4 x0 _ r e _ _ (by simp) (by simp) _ rfl rfl
  have hk : ∀ (j : Fin 512) (e : Fin 128), (View.readAt (Elt Ideal) arg5.view (Rect.unit (s := S1024x256) ![0, 0] S512x128.size (by decide)).toLoadRect (arg5.view.rep x1)) (ix2 j e) = x1 (ix2 (⟨j.val, by omega⟩ : Fin 1024) (⟨0 * 128 + e.val, by omega⟩ : Fin 256)) := fun j e =>
    blk_read arg5 x1 _ j e _ _ (by simp) (by simp) _ rfl rfl
  have hv' : ∀ (j : Fin 512) (d : Fin 256), (View.readAt (Elt Ideal) arg6.view (Rect.unit (s := S1024x256) ![0, 0] S512x256.size (by decide)).toLoadRect (arg6.view.rep x2)) (ix2 j d) = (w (0 + j.val) d : EReal) := fun j d =>
    (blk_read arg6 x2 _ j d (⟨j.val, by omega⟩ : Fin 1024) d (by simp) (by simp) _ rfl rfl).trans (hv _ _)
  have hsum : ∀ j : Fin 512, (∑ e : Fin 128, ((View.readAt (Elt Ideal) arg4.view (Rect.unit (s := S1024x256) ![0, 0] S512x128.size (by decide)).toLoadRect (arg4.view.rep x0)) (ix2 r e) * (View.readAt (Elt Ideal) arg5.view (Rect.unit (s := S1024x256) ![0, 0] S512x128.size (by decide)).toLoadRect (arg5.view.rep x1)) (ix2 j e) : EReal)) = (s (0 + j.val) : EReal) := fun j => by
    rw [← hs (⟨j.val, by omega⟩ : Fin 1024)]
    exact Finset.sum_congr rfl fun e _ => by rw [hq, hk]; rfl
  have hx : ∀ j : Fin 512, k0_pay27 (F := Ideal) (wordQ (F := Ideal) i T0) (wordK (F := Ideal) i T1) (View.readAt (Elt Ideal) arg4.view (Rect.unit (s := S1024x256) ![0, 0] S512x128.size (by decide)).toLoadRect (arg4.view.rep x0)) (View.readAt (Elt Ideal) arg5.view (Rect.unit (s := S1024x256) ![0, 0] S512x128.size (by decide)).toLoadRect (arg5.view.rep x1)) (ix2 r j) = if 0 + j.val < (0 + (r.val + 1)) then (s (0 + j.val) : EReal) else ⊥ := fun j => by
    rw [hw0, hw1, score_a0 g hg, hsum]
    exact if_congr (by omega) rfl rfl
  have em : ∀ cc : Fin 128, (View.readAt (Elt Ideal) scM.view (Rect.unit (s := S2x1024x128) ![0, 0, 0] S1x512x128.size (by decide)).toLoadRect (scM.view.writes (Elt Ideal) scM.view.junk (runFirstDiag.sl.HS0_1 (F := Ideal)))) (ix3 0 r cc) = k0_pay1 (F := Ideal) (ix3 0 (⟨r.val, by omega⟩ : Fin 1024) cc) := fun cc => by
      refine (scr_read scM.view _ (by decide) 0 (⟨r.val, by omega⟩ : Fin 1024) cc r rfl (Nat.zero_add _).symm).trans ?_
      rw [runFirstDiag.sl.HS0_1]
      exact rd_whole (W := 128) scM.view scM.view.junk (by decide) _ _ 0 (⟨r.val, by omega⟩ : Fin 1024) cc
  have el : ∀ cc : Fin 128, (View.readAt (Elt Ideal) scL.view (Rect.unit (s := S2x1024x128) ![0, 0, 0] S1x512x128.size (by decide)).toLoadRect (scL.view.writes (Elt Ideal) scL.view.junk (runFirstDiag.sl.HS1_1 (F := Ideal)))) (ix3 0 r cc) = k0_pay2 (F := Ideal) (ix3 0 (⟨r.val, by omega⟩ : Fin 1024) cc) := fun cc => by
      refine (scr_read scL.view _ (by decide) 0 (⟨r.val, by omega⟩ : Fin 1024) cc r rfl (Nat.zero_add _).symm).trans ?_
      rw [runFirstDiag.sl.HS1_1]
      exact rd_whole (W := 128) scL.view scL.view.junk (by decide) _ _ 0 (⟨r.val, by omega⟩ : Fin 1024) cc
  have ea : ∀ d : Fin 256, (View.readAt (Elt Ideal) scA.view (Rect.unit (s := S2x1024x256) ![0, 0, 0] S1x512x256.size (by decide)).toLoadRect (scA.view.writes (Elt Ideal) scA.view.junk (runFirstDiag.sl.HS2_1 (F := Ideal)))) (ix3 0 r d) = k0_pay3 (F := Ideal) (ix3 0 (⟨r.val, by omega⟩ : Fin 1024) d) := fun d => by
      refine (scr_read scA.view _ (by decide) 0 (⟨r.val, by omega⟩ : Fin 1024) d r rfl (Nat.zero_add _).symm).trans ?_
      rw [runFirstDiag.sl.HS2_1]
      exact rd_whole (W := 256) scA.view scA.view.junk (by decide) _ _ 0 (⟨r.val, by omega⟩ : Fin 1024) d
  have H' : Row (fun cc => (View.readAt (Elt Ideal) scM.view (Rect.unit (s := S2x1024x128) ![0, 0, 0] S1x512x128.size (by decide)).toLoadRect (scM.view.writes (Elt Ideal) scM.view.junk (runFirstDiag.sl.HS0_1 (F := Ideal)))) (ix3 0 r cc)) (fun cc => (View.readAt (Elt Ideal) scL.view (Rect.unit (s := S2x1024x128) ![0, 0, 0] S1x512x128.size (by decide)).toLoadRect (scL.view.writes (Elt Ideal) scL.view.junk (runFirstDiag.sl.HS1_1 (F := Ideal)))) (ix3 0 r cc)) (fun d => (View.readAt (Elt Ideal) scA.view (Rect.unit (s := S2x1024x256) ![0, 0, 0] S1x512x256.size (by decide)).toLoadRect (scA.view.writes (Elt Ideal) scA.view.junk (runFirstDiag.sl.HS2_1 (F := Ideal)))) (ix3 0 r d)) 0 s w :=
    (row_zero 0 (⟨r.val, by omega⟩ : Fin 1024) s w).congr em el ea
  refine (row_a0 (wordQ (F := Ideal) i T0) (wordK (F := Ideal) i T1) (View.readAt (Elt Ideal) arg4.view (Rect.unit (s := S1024x256) ![0, 0] S512x128.size (by decide)).toLoadRect (arg4.view.rep x0)) (View.readAt (Elt Ideal) arg5.view (Rect.unit (s := S1024x256) ![0, 0] S512x128.size (by decide)).toLoadRect (arg5.view.rep x1)) (View.readAt (Elt Ideal) arg6.view (Rect.unit (s := S1024x256) ![0, 0] S512x256.size (by decide)).toLoadRect (arg6.view.rep x2)) (View.readAt (Elt Ideal) scM.view (Rect.unit (s := S2x1024x128) ![0, 0, 0] S1x512x128.size (by decide)).toLoadRect (scM.view.writes (Elt Ideal) scM.view.junk (runFirstDiag.sl.HS0_1 (F := Ideal)))) (View.readAt (Elt Ideal) scL.view (Rect.unit (s := S2x1024x128) ![0, 0, 0] S1x512x128.size (by decide)).toLoadRect (scL.view.writes (Elt Ideal) scL.view.junk (runFirstDiag.sl.HS1_1 (F := Ideal)))) (View.readAt (Elt Ideal) scA.view (Rect.unit (s := S2x1024x256) ![0, 0, 0] S1x512x256.size (by decide)).toLoadRect (scA.view.writes (Elt Ideal) scA.view.junk (runFirstDiag.sl.HS2_1 (F := Ideal)))) r H' (by omega) (by omega) hx hv').congr (fun cc => ?_) (fun cc => ?_) (fun d => ?_)
  · refine (congrFun (runFirstDiag_m c i arg4 harg4 arg5 harg5 arg6 harg6 arg7 harg7 arg8 harg8 arg9 harg9 T0 T1 x0 x1 x2 x3 x4 hc0 hc1 hc2) _).trans ?_
    rw [runFirstDiag.sl.HS0_5, runFirstDiag.sl.HS0_4, runFirstDiag.sl.HS0_3, runFirstDiag.sl.HS0_2, runFirstDiag.sl.HS0_1]
    refine (rd_other (W := 128) scM.view scM.view.junk (mo := 1) (ro := 512) (R := 512) (by decide) _ _ 0 (⟨r.val, by omega⟩ : Fin 1024) cc (by decide)).trans ?_
    refine (rd_rows (W := 128) scM.view scM.view.junk (mo := 0) (ro := 512) (R := 512) (by decide) _ _ 0 (⟨r.val, by omega⟩ : Fin 1024) cc (by show _ < _ ∨ _ ≤ _; simp only []; omega)).trans ?_
    refine (rd_other (W := 128) scM.view scM.view.junk (mo := 1) (ro := 0) (R := 512) (by decide) _ _ 0 (⟨r.val, by omega⟩ : Fin 1024) cc (by decide)).trans ?_
    refine (rd_hit (W := 128) scM.view scM.view.junk (mo := 0) (ro := 0) (R := 512) (by decide) _ _ 0 (⟨r.val, by omega⟩ : Fin 1024) cc r rfl (Nat.zero_add _).symm).trans (congrFun ?_ _)
    rfl
  · refine (congrFun (runFirstDiag_l c i arg4 harg4 arg5 harg5 arg6 harg6 arg7 harg7 arg8 harg8 arg9 harg9 T0 T1 x0 x1 x2 x3 x4 hc0 hc1 hc2) _).trans ?_
    rw [runFirstDiag.sl.HS1_5, runFirstDiag.sl.HS1_4, runFirstDiag.sl.HS1_3, runFirstDiag.sl.HS1_2, runFirstDiag.sl.HS1_1]
    refine (rd_other (W := 128) scL.view scL.view.junk (mo := 1) (ro := 512) (R := 512) (by decide) _ _ 0 (⟨r.val, by omega⟩ : Fin 1024) cc (by decide)).trans ?_
    refine (rd_rows (W := 128) scL.view scL.view.junk (mo := 0) (ro := 512) (R := 512) (by decide) _ _ 0 (⟨r.val, by omega⟩ : Fin 1024) cc (by show _ < _ ∨ _ ≤ _; simp only []; omega)).trans ?_
    refine (rd_other (W := 128) scL.view scL.view.junk (mo := 1) (ro := 0) (R := 512) (by decide) _ _ 0 (⟨r.val, by omega⟩ : Fin 1024) cc (by decide)).trans ?_
    refine (rd_hit (W := 128) scL.view scL.view.junk (mo := 0) (ro := 0) (R := 512) (by decide) _ _ 0 (⟨r.val, by omega⟩ : Fin 1024) cc r rfl (Nat.zero_add _).symm).trans (congrFun ?_ _)
    rfl
  · refine (congrFun (runFirstDiag_a c i arg4 harg4 arg5 harg5 arg6 harg6 arg7 harg7 arg8 harg8 arg9 harg9 T0 T1 x0 x1 x2 x3 x4 hc0 hc1 hc2) _).trans ?_
    rw [runFirstDiag.sl.HS2_5, runFirstDiag.sl.HS2_4, runFirstDiag.sl.HS2_3, runFirstDiag.sl.HS2_2, runFirstDiag.sl.HS2_1]
    refine (rd_other (W := 256) scA.view scA.view.junk (mo := 1) (ro := 512) (R := 512) (by decide) _ _ 0 (⟨r.val, by omega⟩ : Fin 1024) d (by decide)).trans ?_
    refine (rd_rows (W := 256) scA.view scA.view.junk (mo := 0) (ro := 512) (R := 512) (by decide) _ _ 0 (⟨r.val, by omega⟩ : Fin 1024) d (by show _ < _ ∨ _ ≤ _; simp only []; omega)).trans ?_
    refine (rd_other (W := 256) scA.view scA.view.junk (mo := 1) (ro := 0) (R := 512) (by decide) _ _ 0 (⟨r.val, by omega⟩ : Fin 1024) d (by decide)).trans ?_
    refine (rd_hit (W := 256) scA.view scA.view.junk (mo := 0) (ro := 0) (R := 512) (by decide) _ _ 0 (⟨r.val, by omega⟩ : Fin 1024) d r rfl (Nat.zero_add _).symm).trans (congrFun ?_ _)
    rfl

/-- The upper half of the diagonal tile, map 1, the first tile of the row: the row's three values after the body. -/
theorem runFirstDiag_row_a1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) (s : ℕ → ℝ) (w : ℕ → Fin 256 → ℝ)
    (hs : ∀ j : Fin 1024, dotB x0 x1 1 (⟨r.val, by omega⟩ : Fin 1024) j = (s (0 + j.val) : EReal)) (hv : ∀ (j : Fin 1024) (d : Fin 256), x2 (ix2 j d) = (w (0 + j.val) d : EReal)) :
    Row (fun cc => (runFirstDiag (F := Ideal) c i arg4 harg4 arg5 harg5 arg6 harg6 arg7 harg7 arg8 harg8 arg9 harg9 T0 T1 x0 x1 x2 x3 x4 hc0 hc1 hc2).2.1 (ix3 1 (⟨r.val, by omega⟩ : Fin 1024) cc)) (fun cc => (runFirstDiag (F := Ideal) c i arg4 harg4 arg5 harg5 arg6 harg6 arg7 harg7 arg8 harg8 arg9 harg9 T0 T1 x0 x1 x2 x3 x4 hc0 hc1 hc2).2.2.1 (ix3 1 (⟨r.val, by omega⟩ : Fin 1024) cc)) (fun d => (runFirstDiag (F := Ideal) c i arg4 harg4 arg5 harg5 arg6 harg6 arg7 harg7 arg8 harg8 arg9 harg9 T0 T1 x0 x1 x2 x3 x4 hc0 hc1 hc2).2.2.2.1 (ix3 1 (⟨r.val, by omega⟩ : Fin 1024) d)) (0 + (r.val + 1)) s w := by
  have hq : ∀ e : Fin 128, (View.readAt (Elt Ideal) arg4.view (Rect.unit (s := S1024x256) ![0, 128] S512x128.size (by decide)).toLoadRect (arg4.view.rep x0)) (ix2 r e) = x0 (ix2 (⟨r.val, by omega⟩ : Fin 1024) (⟨1 * 128 + e.val, by omega⟩ : Fin 256)) := fun e =>
    blk_read arg4 x0 _ r e _ _ (by simp) (by simp) _ rfl rfl
  have hk : ∀ (j : Fin 512) (e : Fin 128), (View.readAt (Elt Ideal) arg5.view (Rect.unit (s := S1024x256) ![0, 128] S512x128.size (by decide)).toLoadRect (arg5.view.rep x1)) (ix2 j e) = x1 (ix2 (⟨j.val, by omega⟩ : Fin 1024) (⟨1 * 128 + e.val, by omega⟩ : Fin 256)) := fun j e =>
    blk_read arg5 x1 _ j e _ _ (by simp) (by simp) _ rfl rfl
  have hv' : ∀ (j : Fin 512) (d : Fin 256), (View.readAt (Elt Ideal) arg6.view (Rect.unit (s := S1024x256) ![0, 0] S512x256.size (by decide)).toLoadRect (arg6.view.rep x2)) (ix2 j d) = (w (0 + j.val) d : EReal) := fun j d =>
    (blk_read arg6 x2 _ j d (⟨j.val, by omega⟩ : Fin 1024) d (by simp) (by simp) _ rfl rfl).trans (hv _ _)
  have hsum : ∀ j : Fin 512, (∑ e : Fin 128, ((View.readAt (Elt Ideal) arg4.view (Rect.unit (s := S1024x256) ![0, 128] S512x128.size (by decide)).toLoadRect (arg4.view.rep x0)) (ix2 r e) * (View.readAt (Elt Ideal) arg5.view (Rect.unit (s := S1024x256) ![0, 128] S512x128.size (by decide)).toLoadRect (arg5.view.rep x1)) (ix2 j e) : EReal)) = (s (0 + j.val) : EReal) := fun j => by
    rw [← hs (⟨j.val, by omega⟩ : Fin 1024)]
    exact Finset.sum_congr rfl fun e _ => by rw [hq, hk]; rfl
  have hx : ∀ j : Fin 512, k0_pay36 (F := Ideal) (k0_pay26 (F := Ideal) (wordQ (F := Ideal) i T0) (wordK (F := Ideal) i T1)) (View.readAt (Elt Ideal) arg4.view (Rect.unit (s := S1024x256) ![0, 128] S512x128.size (by decide)).toLoadRect (arg4.view.rep x0)) (View.readAt (Elt Ideal) arg5.view (Rect.unit (s := S1024x256) ![0, 128] S512x128.size (by decide)).toLoadRect (arg5.view.rep x1)) (ix2 r j) = if 0 + j.val < (0 + (r.val + 1)) then (s (0 + j.val) : EReal) else ⊥ := fun j => by
    rw [hw0, hw1, score_a1 g hg, hsum]
    exact if_congr (by omega) rfl rfl
  have em : ∀ cc : Fin 128, (View.readAt (Elt Ideal) scM.view (Rect.unit (s := S2x1024x128) ![1, 0, 0] S1x512x128.size (by decide)).toLoadRect (scM.view.writes (Elt Ideal) scM.view.junk (runFirstDiag.sl.HS0_2 (F := Ideal) i arg4 arg5 T0 T1 x0 x1))) (ix3 0 r cc) = k0_pay1 (F := Ideal) (ix3 1 (⟨r.val, by omega⟩ : Fin 1024) cc) := fun cc => by
      refine (scr_read scM.view _ (by decide) 1 (⟨r.val, by omega⟩ : Fin 1024) cc r rfl (Nat.zero_add _).symm).trans ?_
      rw [runFirstDiag.sl.HS0_2, runFirstDiag.sl.HS0_1]
      refine (rd_other (W := 128) scM.view scM.view.junk (mo := 0) (ro := 0) (R := 512) (by decide) _ _ 1 (⟨r.val, by omega⟩ : Fin 1024) cc (by decide)).trans ?_
      exact rd_whole (W := 128) scM.view scM.view.junk (by decide) _ _ 1 (⟨r.val, by omega⟩ : Fin 1024) cc
  have el : ∀ cc : Fin 128, (View.readAt (Elt Ideal) scL.view (Rect.unit (s := S2x1024x128) ![1, 0, 0] S1x512x128.size (by decide)).toLoadRect (scL.view.writes (Elt Ideal) scL.view.junk (runFirstDiag.sl.HS1_2 (F := Ideal) i arg4 arg5 T0 T1 x0 x1))) (ix3 0 r cc) = k0_pay2 (F := Ideal) (ix3 1 (⟨r.val, by omega⟩ : Fin 1024) cc) := fun cc => by
      refine (scr_read scL.view _ (by decide) 1 (⟨r.val, by omega⟩ : Fin 1024) cc r rfl (Nat.zero_add _).symm).trans ?_
      rw [runFirstDiag.sl.HS1_2, runFirstDiag.sl.HS1_1]
      refine (rd_other (W := 128) scL.view scL.view.junk (mo := 0) (ro := 0) (R := 512) (by decide) _ _ 1 (⟨r.val, by omega⟩ : Fin 1024) cc (by decide)).trans ?_
      exact rd_whole (W := 128) scL.view scL.view.junk (by decide) _ _ 1 (⟨r.val, by omega⟩ : Fin 1024) cc
  have ea : ∀ d : Fin 256, (View.readAt (Elt Ideal) scA.view (Rect.unit (s := S2x1024x256) ![1, 0, 0] S1x512x256.size (by decide)).toLoadRect (scA.view.writes (Elt Ideal) scA.view.junk (runFirstDiag.sl.HS2_2 (F := Ideal) i arg4 arg5 arg6 T0 T1 x0 x1 x2))) (ix3 0 r d) = k0_pay3 (F := Ideal) (ix3 1 (⟨r.val, by omega⟩ : Fin 1024) d) := fun d => by
      refine (scr_read scA.view _ (by decide) 1 (⟨r.val, by omega⟩ : Fin 1024) d r rfl (Nat.zero_add _).symm).trans ?_
      rw [runFirstDiag.sl.HS2_2, runFirstDiag.sl.HS2_1]
      refine (rd_other (W := 256) scA.view scA.view.junk (mo := 0) (ro := 0) (R := 512) (by decide) _ _ 1 (⟨r.val, by omega⟩ : Fin 1024) d (by decide)).trans ?_
      exact rd_whole (W := 256) scA.view scA.view.junk (by decide) _ _ 1 (⟨r.val, by omega⟩ : Fin 1024) d
  have H' : Row (fun cc => (View.readAt (Elt Ideal) scM.view (Rect.unit (s := S2x1024x128) ![1, 0, 0] S1x512x128.size (by decide)).toLoadRect (scM.view.writes (Elt Ideal) scM.view.junk (runFirstDiag.sl.HS0_2 (F := Ideal) i arg4 arg5 T0 T1 x0 x1))) (ix3 0 r cc)) (fun cc => (View.readAt (Elt Ideal) scL.view (Rect.unit (s := S2x1024x128) ![1, 0, 0] S1x512x128.size (by decide)).toLoadRect (scL.view.writes (Elt Ideal) scL.view.junk (runFirstDiag.sl.HS1_2 (F := Ideal) i arg4 arg5 T0 T1 x0 x1))) (ix3 0 r cc)) (fun d => (View.readAt (Elt Ideal) scA.view (Rect.unit (s := S2x1024x256) ![1, 0, 0] S1x512x256.size (by decide)).toLoadRect (scA.view.writes (Elt Ideal) scA.view.junk (runFirstDiag.sl.HS2_2 (F := Ideal) i arg4 arg5 arg6 T0 T1 x0 x1 x2))) (ix3 0 r d)) 0 s w :=
    (row_zero 1 (⟨r.val, by omega⟩ : Fin 1024) s w).congr em el ea
  refine (row_a1 (k0_pay26 (F := Ideal) (wordQ (F := Ideal) i T0) (wordK (F := Ideal) i T1)) (View.readAt (Elt Ideal) arg4.view (Rect.unit (s := S1024x256) ![0, 128] S512x128.size (by decide)).toLoadRect (arg4.view.rep x0)) (View.readAt (Elt Ideal) arg5.view (Rect.unit (s := S1024x256) ![0, 128] S512x128.size (by decide)).toLoadRect (arg5.view.rep x1)) (View.readAt (Elt Ideal) arg6.view (Rect.unit (s := S1024x256) ![0, 0] S512x256.size (by decide)).toLoadRect (arg6.view.rep x2)) (View.readAt (Elt Ideal) scM.view (Rect.unit (s := S2x1024x128) ![1, 0, 0] S1x512x128.size (by decide)).toLoadRect (scM.view.writes (Elt Ideal) scM.view.junk (runFirstDiag.sl.HS0_2 (F := Ideal) i arg4 arg5 T0 T1 x0 x1))) (View.readAt (Elt Ideal) scL.view (Rect.unit (s := S2x1024x128) ![1, 0, 0] S1x512x128.size (by decide)).toLoadRect (scL.view.writes (Elt Ideal) scL.view.junk (runFirstDiag.sl.HS1_2 (F := Ideal) i arg4 arg5 T0 T1 x0 x1))) (View.readAt (Elt Ideal) scA.view (Rect.unit (s := S2x1024x256) ![1, 0, 0] S1x512x256.size (by decide)).toLoadRect (scA.view.writes (Elt Ideal) scA.view.junk (runFirstDiag.sl.HS2_2 (F := Ideal) i arg4 arg5 arg6 T0 T1 x0 x1 x2))) r H' (by omega) (by omega) hx hv').congr (fun cc => ?_) (fun cc => ?_) (fun d => ?_)
  · refine (congrFun (runFirstDiag_m c i arg4 harg4 arg5 harg5 arg6 harg6 arg7 harg7 arg8 harg8 arg9 harg9 T0 T1 x0 x1 x2 x3 x4 hc0 hc1 hc2) _).trans ?_
    rw [runFirstDiag.sl.HS0_5, runFirstDiag.sl.HS0_4, runFirstDiag.sl.HS0_3, runFirstDiag.sl.HS0_2, runFirstDiag.sl.HS0_1]
    refine (rd_rows (W := 128) scM.view scM.view.junk (mo := 1) (ro := 512) (R := 512) (by decide) _ _ 1 (⟨r.val, by omega⟩ : Fin 1024) cc (by show _ < _ ∨ _ ≤ _; simp only []; omega)).trans ?_
    refine (rd_other (W := 128) scM.view scM.view.junk (mo := 0) (ro := 512) (R := 512) (by decide) _ _ 1 (⟨r.val, by omega⟩ : Fin 1024) cc (by decide)).trans ?_
    refine (rd_hit (W := 128) scM.view scM.view.junk (mo := 1) (ro := 0) (R := 512) (by decide) _ _ 1 (⟨r.val, by omega⟩ : Fin 1024) cc r rfl (Nat.zero_add _).symm).trans (congrFun ?_ _)
    rfl
  · refine (congrFun (runFirstDiag_l c i arg4 harg4 arg5 harg5 arg6 harg6 arg7 harg7 arg8 harg8 arg9 harg9 T0 T1 x0 x1 x2 x3 x4 hc0 hc1 hc2) _).trans ?_
    rw [runFirstDiag.sl.HS1_5, runFirstDiag.sl.HS1_4, runFirstDiag.sl.HS1_3, runFirstDiag.sl.HS1_2, runFirstDiag.sl.HS1_1]
    refine (rd_rows (W := 128) scL.view scL.view.junk (mo := 1) (ro := 512) (R := 512) (by decide) _ _ 1 (⟨r.val, by omega⟩ : Fin 1024) cc (by show _ < _ ∨ _ ≤ _; simp only []; omega)).trans ?_
    refine (rd_other (W := 128) scL.view scL.view.junk (mo := 0) (ro := 512) (R := 512) (by decide) _ _ 1 (⟨r.val, by omega⟩ : Fin 1024) cc (by decide)).trans ?_
    refine (rd_hit (W := 128) scL.view scL.view.junk (mo := 1) (ro := 0) (R := 512) (by decide) _ _ 1 (⟨r.val, by omega⟩ : Fin 1024) cc r rfl (Nat.zero_add _).symm).trans (congrFun ?_ _)
    rfl
  · refine (congrFun (runFirstDiag_a c i arg4 harg4 arg5 harg5 arg6 harg6 arg7 harg7 arg8 harg8 arg9 harg9 T0 T1 x0 x1 x2 x3 x4 hc0 hc1 hc2) _).trans ?_
    rw [runFirstDiag.sl.HS2_5, runFirstDiag.sl.HS2_4, runFirstDiag.sl.HS2_3, runFirstDiag.sl.HS2_2, runFirstDiag.sl.HS2_1]
    refine (rd_rows (W := 256) scA.view scA.view.junk (mo := 1) (ro := 512) (R := 512) (by decide) _ _ 1 (⟨r.val, by omega⟩ : Fin 1024) d (by show _ < _ ∨ _ ≤ _; simp only []; omega)).trans ?_
    refine (rd_other (W := 256) scA.view scA.view.junk (mo := 0) (ro := 512) (R := 512) (by decide) _ _ 1 (⟨r.val, by omega⟩ : Fin 1024) d (by decide)).trans ?_
    refine (rd_hit (W := 256) scA.view scA.view.junk (mo := 1) (ro := 0) (R := 512) (by decide) _ _ 1 (⟨r.val, by omega⟩ : Fin 1024) d r rfl (Nat.zero_add _).symm).trans (congrFun ?_ _)
    rfl

/-- The lower half of the diagonal tile, map 0, the first tile of the row: the row's three values after the body. -/
theorem runFirstDiag_row_b0 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) (s : ℕ → ℝ) (w : ℕ → Fin 256 → ℝ)
    (hs : ∀ j : Fin 1024, dotB x0 x1 0 (⟨512 + r.val, by omega⟩ : Fin 1024) j = (s (0 + j.val) : EReal)) (hv : ∀ (j : Fin 1024) (d : Fin 256), x2 (ix2 j d) = (w (0 + j.val) d : EReal)) :
    Row (fun cc => (runFirstDiag (F := Ideal) c i arg4 harg4 arg5 harg5 arg6 harg6 arg7 harg7 arg8 harg8 arg9 harg9 T0 T1 x0 x1 x2 x3 x4 hc0 hc1 hc2).2.1 (ix3 0 (⟨512 + r.val, by omega⟩ : Fin 1024) cc)) (fun cc => (runFirstDiag (F := Ideal) c i arg4 harg4 arg5 harg5 arg6 harg6 arg7 harg7 arg8 harg8 arg9 harg9 T0 T1 x0 x1 x2 x3 x4 hc0 hc1 hc2).2.2.1 (ix3 0 (⟨512 + r.val, by omega⟩ : Fin 1024) cc)) (fun d => (runFirstDiag (F := Ideal) c i arg4 harg4 arg5 harg5 arg6 harg6 arg7 harg7 arg8 harg8 arg9 harg9 T0 T1 x0 x1 x2 x3 x4 hc0 hc1 hc2).2.2.2.1 (ix3 0 (⟨512 + r.val, by omega⟩ : Fin 1024) d)) (0 + (512 + r.val + 1)) s w := by
  have hq : ∀ e : Fin 128, (View.readAt (Elt Ideal) arg4.view (Rect.unit (s := S1024x256) ![512, 0] S512x128.size (by decide)).toLoadRect (arg4.view.rep x0)) (ix2 r e) = x0 (ix2 (⟨512 + r.val, by omega⟩ : Fin 1024) (⟨0 * 128 + e.val, by omega⟩ : Fin 256)) := fun e =>
    blk_read arg4 x0 _ r e _ _ (by rfl) (by simp) _ rfl rfl
  have hk : ∀ (j : Fin 1024) (e : Fin 128), (View.readAt (Elt Ideal) arg5.view (Rect.unit (s := S1024x256) ![0, 0] S1024x128.size (by decide)).toLoadRect (arg5.view.rep x1)) (ix2 j e) = x1 (ix2 j (⟨0 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (0 + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![512, 0] S512x128.size (by decide)).toLoadRect (arg4.view.rep x0)) (ix2 r e) * (View.readAt (Elt Ideal) arg5.view (Rect.unit (s := S1024x256) ![0, 0] S1024x128.size (by decide)).toLoadRect (arg5.view.rep x1)) (ix2 j e) : EReal)) = (s (0 + j.val) : EReal) := fun j => by
    rw [← hs j]
    exact Finset.sum_congr rfl fun e _ => by rw [hq, hk]; rfl
  have hx : ∀ j : Fin 1024, k0_pay46 (F := Ideal) (k0_pay45 (F := Ideal) (wordQ (F := Ideal) i T0) (wordK (F := Ideal) i T1)) (View.readAt (Elt Ideal) arg4.view (Rect.unit (s := S1024x256) ![512, 0] S512x128.size (by decide)).toLoadRect (arg4.view.rep x0)) (View.readAt (Elt Ideal) arg5.view (Rect.unit (s := S1024x256) ![0, 0] S1024x128.size (by decide)).toLoadRect (arg5.view.rep x1)) (ix2 r j) = if 0 + j.val < (0 + (512 + r.val + 1)) then (s (0 + j.val) : EReal) else ⊥ := fun j => by
    rw [hw0, hw1, score_b0 g hg, hsum]
    exact if_congr (by omega) rfl rfl
  have em : ∀ cc : Fin 128, (View.readAt (Elt Ideal) scM.view (Rect.unit (s := S2x1024x128) ![0, 512, 0] S1x512x128.size (by decide)).toLoadRect (scM.view.writes (Elt Ideal) scM.view.junk (runFirstDiag.sl.HS0_3 (F := Ideal) i arg4 arg5 T0 T1 x0 x1))) (ix3 0 r cc) = k0_pay1 (F := Ideal) (ix3 0 (⟨512 + r.val, by omega⟩ : Fin 1024) cc) := fun cc => by
      refine (scr_read scM.view _ (by decide) 0 (⟨512 + r.val, by omega⟩ : Fin 1024) cc r rfl rfl).trans ?_
      rw [runFirstDiag.sl.HS0_3, runFirstDiag.sl.HS0_2, runFirstDiag.sl.HS0_1]
      refine (rd_other (W := 128) scM.view scM.view.junk (mo := 1) (ro := 0) (R := 512) (by decide) _ _ 0 (⟨512 + r.val, by omega⟩ : Fin 1024) cc (by decide)).trans ?_
      refine (rd_rows (W := 128) scM.view scM.view.junk (mo := 0) (ro := 0) (R := 512) (by decide) _ _ 0 (⟨512 + r.val, by omega⟩ : Fin 1024) cc (by show _ < _ ∨ _ ≤ _; simp only []; omega)).trans ?_
      exact rd_whole (W := 128) scM.view scM.view.junk (by decide) _ _ 0 (⟨512 + r.val, by omega⟩ : Fin 1024) cc
  have el : ∀ cc : Fin 128, (View.readAt (Elt Ideal) scL.view (Rect.unit (s := S2x1024x128) ![0, 512, 0] S1x512x128.size (by decide)).toLoadRect (scL.view.writes (Elt Ideal) scL.view.junk (runFirstDiag.sl.HS1_3 (F := Ideal) i arg4 arg5 T0 T1 x0 x1))) (ix3 0 r cc) = k0_pay2 (F := Ideal) (ix3 0 (⟨512 + r.val, by omega⟩ : Fin 1024) cc) := fun cc => by
      refine (scr_read scL.view _ (by decide) 0 (⟨512 + r.val, by omega⟩ : Fin 1024) cc r rfl rfl).trans ?_
      rw [runFirstDiag.sl.HS1_3, runFirstDiag.sl.HS1_2, runFirstDiag.sl.HS1_1]
      refine (rd_other (W := 128) scL.view scL.view.junk (mo := 1) (ro := 0) (R := 512) (by decide) _ _ 0 (⟨512 + r.val, by omega⟩ : Fin 1024) cc (by decide)).trans ?_
      refine (rd_rows (W := 128) scL.view scL.view.junk (mo := 0) (ro := 0) (R := 512) (by decide) _ _ 0 (⟨512 + r.val, by omega⟩ : Fin 1024) cc (by show _ < _ ∨ _ ≤ _; simp only []; omega)).trans ?_
      exact rd_whole (W := 128) scL.view scL.view.junk (by decide) _ _ 0 (⟨512 + r.val, by omega⟩ : Fin 1024) cc
  have ea : ∀ d : Fin 256, (View.readAt (Elt Ideal) scA.view (Rect.unit (s := S2x1024x256) ![0, 512, 0] S1x512x256.size (by decide)).toLoadRect (scA.view.writes (Elt Ideal) scA.view.junk (runFirstDiag.sl.HS2_3 (F := Ideal) i arg4 arg5 arg6 T0 T1 x0 x1 x2))) (ix3 0 r d) = k0_pay3 (F := Ideal) (ix3 0 (⟨512 + r.val, by omega⟩ : Fin 1024) d) := fun d => by
      refine (scr_read scA.view _ (by decide) 0 (⟨512 + r.val, by omega⟩ : Fin 1024) d r rfl rfl).trans ?_
      rw [runFirstDiag.sl.HS2_3, runFirstDiag.sl.HS2_2, runFirstDiag.sl.HS2_1]
      refine (rd_other (W := 256) scA.view scA.view.junk (mo := 1) (ro := 0) (R := 512) (by decide) _ _ 0 (⟨512 + r.val, by omega⟩ : Fin 1024) d (by decide)).trans ?_
      refine (rd_rows (W := 256) scA.view scA.view.junk (mo := 0) (ro := 0) (R := 512) (by decide) _ _ 0 (⟨512 + r.val, by omega⟩ : Fin 1024) d (by show _ < _ ∨ _ ≤ _; simp only []; omega)).trans ?_
      exact rd_whole (W := 256) scA.view scA.view.junk (by decide) _ _ 0 (⟨512 + r.val, by omega⟩ : Fin 1024) d
  have H' : Row (fun cc => (View.readAt (Elt Ideal) scM.view (Rect.unit (s := S2x1024x128) ![0, 512, 0] S1x512x128.size (by decide)).toLoadRect (scM.view.writes (Elt Ideal) scM.view.junk (runFirstDiag.sl.HS0_3 (F := Ideal) i arg4 arg5 T0 T1 x0 x1))) (ix3 0 r cc)) (fun cc => (View.readAt (Elt Ideal) scL.view (Rect.unit (s := S2x1024x128) ![0, 512, 0] S1x512x128.size (by decide)).toLoadRect (scL.view.writes (Elt Ideal) scL.view.junk (runFirstDiag.sl.HS1_3 (F := Ideal) i arg4 arg5 T0 T1 x0 x1))) (ix3 0 r cc)) (fun d => (View.readAt (Elt Ideal) scA.view (Rect.unit (s := S2x1024x256) ![0, 512, 0] S1x512x256.size (by decide)).toLoadRect (scA.view.writes (Elt Ideal) scA.view.junk (runFirstDiag.sl.HS2_3 (F := Ideal) i arg4 arg5 arg6 T0 T1 x0 x1 x2))) (ix3 0 r d)) 0 s w :=
    (row_zero 0 (⟨512 + r.val, by omega⟩ : Fin 1024) s w).congr em el ea
  refine (row_b0 (k0_pay45 (F := Ideal) (wordQ (F := Ideal) i T0) (wordK (F := Ideal) i T1)) (View.readAt (Elt Ideal) arg4.view (Rect.unit (s := S1024x256) ![512, 0] S512x128.size (by decide)).toLoadRect (arg4.view.rep x0)) (View.readAt (Elt Ideal) arg5.view (Rect.unit (s := S1024x256) ![0, 0] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![0, 512, 0] S1x512x128.size (by decide)).toLoadRect (scM.view.writes (Elt Ideal) scM.view.junk (runFirstDiag.sl.HS0_3 (F := Ideal) i arg4 arg5 T0 T1 x0 x1))) (View.readAt (Elt Ideal) scL.view (Rect.unit (s := S2x1024x128) ![0, 512, 0] S1x512x128.size (by decide)).toLoadRect (scL.view.writes (Elt Ideal) scL.view.junk (runFirstDiag.sl.HS1_3 (F := Ideal) i arg4 arg5 T0 T1 x0 x1))) (View.readAt (Elt Ideal) scA.view (Rect.unit (s := S2x1024x256) ![0, 512, 0] S1x512x256.size (by decide)).toLoadRect (scA.view.writes (Elt Ideal) scA.view.junk (runFirstDiag.sl.HS2_3 (F := Ideal) i arg4 arg5 arg6 T0 T1 x0 x1 x2))) r H' (by omega) (by omega) hx hv').congr (fun cc => ?_) (fun cc => ?_) (fun d => ?_)
  · refine (congrFun (runFirstDiag_m c i arg4 harg4 arg5 harg5 arg6 harg6 arg7 harg7 arg8 harg8 arg9 harg9 T0 T1 x0 x1 x2 x3 x4 hc0 hc1 hc2) _).trans ?_
    rw [runFirstDiag.sl.HS0_5, runFirstDiag.sl.HS0_4, runFirstDiag.sl.HS0_3, runFirstDiag.sl.HS0_2, runFirstDiag.sl.HS0_1]
    refine (rd_other (W := 128) scM.view scM.view.junk (mo := 1) (ro := 512) (R := 512) (by decide) _ _ 0 (⟨512 + r.val, by omega⟩ : Fin 1024) cc (by decide)).trans ?_
    refine (rd_hit (W := 128) scM.view scM.view.junk (mo := 0) (ro := 512) (R := 512) (by decide) _ _ 0 (⟨512 + r.val, by omega⟩ : Fin 1024) cc r rfl rfl).trans (congrFun ?_ _)
    rfl
  · refine (congrFun (runFirstDiag_l c i arg4 harg4 arg5 harg5 arg6 harg6 arg7 harg7 arg8 harg8 arg9 harg9 T0 T1 x0 x1 x2 x3 x4 hc0 hc1 hc2) _).trans ?_
    rw [runFirstDiag.sl.HS1_5, runFirstDiag.sl.HS1_4, runFirstDiag.sl.HS1_3, runFirstDiag.sl.HS1_2, runFirstDiag.sl.HS1_1]
    refine (rd_other (W := 128) scL.view scL.view.junk (mo := 1) (ro := 512) (R := 512) (by decide) _ _ 0 (⟨512 + r.val, by omega⟩ : Fin 1024) cc (by decide)).trans ?_
    refine (rd_hit (W := 128) scL.view scL.view.junk (mo := 0) (ro := 512) (R := 512) (by decide) _ _ 0 (⟨512 + r.val, by omega⟩ : Fin 1024) cc r rfl rfl).trans (congrFun ?_ _)
    rfl
  · refine (congrFun (runFirstDiag_a c i arg4 harg4 arg5 harg5 arg6 harg6 arg7 harg7 arg8 harg8 arg9 harg9 T0 T1 x0 x1 x2 x3 x4 hc0 hc1 hc2) _).trans ?_
    rw [runFirstDiag.sl.HS2_5, runFirstDiag.sl.HS2_4, runFirstDiag.sl.HS2_3, runFirstDiag.sl.HS2_2, runFirstDiag.sl.HS2_1]
    refine (rd_other (W := 256) scA.view scA.view.junk (mo := 1) (ro := 512) (R := 512) (by decide) _ _ 0 (⟨512 + r.val, by omega⟩ : Fin 1024) d (by decide)).trans ?_
    refine (rd_hit (W := 256) scA.view scA.view.junk (mo := 0) (ro := 512) (R := 512) (by decide) _ _ 0 (⟨512 + r.val, by omega⟩ : Fin 1024) d r rfl rfl).trans (congrFun ?_ _)
    rfl

/-- The lower half of the diagonal tile, map 1, the first tile of the row: the row's three values after the body. -/
theorem runFirstDiag_row_b1 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1024x256 .bf16) (harg9 : arg9.IsWhole) (T0 T1 : S36.Idx → BitVec 32)
    (x0 x1 x2 : BlkT Ideal) (x3 : LamT Ideal) (x4 : GT Ideal)
    (hc0 : isFirst (wordK (F := Ideal) i T1)) (hc1 : ¬isBefore (wordQ (F := Ideal) i T0) (wordK (F := Ideal) i T1)) (hc2 : (k0_cond3 (wordQ (F := Ideal) i T0) (wordK (F := Ideal) i T1) = 1#1))
    (g : ℕ) (hg : g < 8) (hw0 : wordQ (F := Ideal) i T0 = BitVec.ofNat 32 g) (hw1 : wordK (F := Ideal) i T1 = BitVec.ofNat 32 g)
    (r : Fin 512) (s : ℕ → ℝ) (w : ℕ → Fin 256 → ℝ)
    (hs : ∀ j : Fin 1024, dotB x0 x1 1 (⟨512 + r.val, by omega⟩ : Fin 1024) j = (s (0 + j.val) : EReal)) (hv : ∀ (j : Fin 1024) (d : Fin 256), x2 (ix2 j d) = (w (0 + j.val) d : EReal)) :
    Row (fun cc => (runFirstDiag (F := Ideal) c i arg4 harg4 arg5 harg5 arg6 harg6 arg7 harg7 arg8 harg8 arg9 harg9 T0 T1 x0 x1 x2 x3 x4 hc0 hc1 hc2).2.1 (ix3 1 (⟨512 + r.val, by omega⟩ : Fin 1024) cc)) (fun cc => (runFirstDiag (F := Ideal) c i arg4 harg4 arg5 harg5 arg6 harg6 arg7 harg7 arg8 harg8 arg9 harg9 T0 T1 x0 x1 x2 x3 x4 hc0 hc1 hc2).2.2.1 (ix3 1 (⟨512 + r.val, by omega⟩ : Fin 1024) cc)) (fun d => (runFirstDiag (F := Ideal) c i arg4 harg4 arg5 harg5 arg6 harg6 arg7 harg7 arg8 harg8 arg9 harg9 T0 T1 x0 x1 x2 x3 x4 hc0 hc1 hc2).2.2.2.1 (ix3 1 (⟨512 + r.val, by omega⟩ : Fin 1024) d)) (0 + (512 + r.val + 1)) s w := by
  have hq : ∀ e : Fin 128, (View.readAt (Elt Ideal) arg4.view (Rect.unit (s := S1024x256) ![512, 128] S512x128.size (by decide)).toLoadRect (arg4.view.rep x0)) (ix2 r e) = x0 (ix2 (⟨512 + r.val, by omega⟩ : Fin 1024) (⟨1 * 128 + e.val, by omega⟩ : Fin 256)) := fun e =>
    blk_read arg4 x0 _ r e _ _ (by rfl) (by simp) _ rfl rfl
  have hk : ∀ (j : Fin 1024) (e : Fin 128), (View.readAt (Elt Ideal) arg5.view (Rect.unit (s := S1024x256) ![0, 128] S1024x128.size (by decide)).toLoadRect (arg5.view.rep x1)) (ix2 j e) = x1 (ix2 j (⟨1 * 128 + e.val, by omega⟩ : Fin 256)) := fun j e =>
    blk_read arg5 x1 _ j e _ _ (by simp) (by simp) _ rfl rfl
  have hv' : ∀ (j : Fin 1024) (d : Fin 256), (View.readAt (Elt Ideal) arg6.view (Rect.unit (s := S1024x256) ![0, 0] S1024x256.size (by decide)).toLoadRect (arg6.view.rep x2)) (ix2 j d) = (w (0 + j.val) d : EReal) := fun j d =>
    (blk_read arg6 x2 _ j d j d (by simp) (by simp) _ rfl rfl).trans (hv _ _)
  have hsum : ∀ j : Fin 1024, (∑ e : Fin 128, ((View.readAt (Elt Ideal) arg4.view (Rect.unit (s := S1024x256) ![512, 128] S512x128.size (by decide)).toLoadRect (arg4.view.rep x0)) (ix2 r e) * (View.readAt (Elt Ideal) arg5.view (Rect.unit (s := S1024x256) ![0, 128] S1024x128.size (by decide)).toLoadRect (arg5.view.rep x1)) (ix2 j e) : EReal)) = (s (0 + j.val) : EReal) := fun j => by
    rw [← hs j]
    exact Finset.sum_congr rfl fun e _ => by rw [hq, hk]; rfl
  have hx : ∀ j : Fin 1024, k0_pay55 (F := Ideal) (k0_pay45 (F := Ideal) (wordQ (F := Ideal) i T0) (wordK (F := Ideal) i T1)) (View.readAt (Elt Ideal) arg4.view (Rect.unit (s := S1024x256) ![512, 128] S512x128.size (by decide)).toLoadRect (arg4.view.rep x0)) (View.readAt (Elt Ideal) arg5.view (Rect.unit (s := S1024x256) ![0, 128] S1024x128.size (by decide)).toLoadRect (arg5.view.rep x1)) (ix2 r j) = if 0 + j.val < (0 + (512 + r.val + 1)) then (s (0 + j.val) : EReal) else ⊥ := fun j => by
    rw [hw0, hw1, score_b1 g hg, hsum]
    exact if_congr (by omega) rfl rfl
  have em : ∀ cc : Fin 128, (View.readAt (Elt Ideal) scM.view (Rect.unit (s := S2x1024x128) ![1, 512, 0] S1x512x128.size (by decide)).toLoadRect (scM.view.writes (Elt Ideal) scM.view.junk (runFirstDiag.sl.HS0_4 (F := Ideal) i arg4 arg5 T0 T1 x0 x1))) (ix3 0 r cc) = k0_pay1 (F := Ideal) (ix3 1 (⟨512 + r.val, by omega⟩ : Fin 1024) cc) := fun cc => by
      refine (scr_read scM.view _ (by decide) 1 (⟨512 + r.val, by omega⟩ : Fin 1024) cc r rfl rfl).trans ?_
      rw [runFirstDiag.sl.HS0_4, runFirstDiag.sl.HS0_3, runFirstDiag.sl.HS0_2, runFirstDiag.sl.HS0_1]
      refine (rd_other (W := 128) scM.view scM.view.junk (mo := 0) (ro := 512) (R := 512) (by decide) _ _ 1 (⟨512 + r.val, by omega⟩ : Fin 1024) cc (by decide)).trans ?_
      refine (rd_rows (W := 128) scM.view scM.view.junk (mo := 1) (ro := 0) (R := 512) (by decide) _ _ 1 (⟨512 + r.val, by omega⟩ : Fin 1024) cc (by show _ < _ ∨ _ ≤ _; simp only []; omega)).trans ?_
      refine (rd_other (W := 128) scM.view scM.view.junk (mo := 0) (ro := 0) (R := 512) (by decide) _ _ 1 (⟨512 + r.val, by omega⟩ : Fin 1024) cc (by decide)).trans ?_
      exact rd_whole (W := 128) scM.view scM.view.junk (by decide) _ _ 1 (⟨512 + r.val, by omega⟩ : Fin 1024) cc
  have el : ∀ cc : Fin 128, (View.readAt (Elt Ideal) scL.view (Rect.unit (s := S2x1024x128) ![1, 512, 0] S1x512x128.size (by decide)).toLoadRect (scL.view.writes (Elt Ideal) scL.view.junk (runFirstDiag.sl.HS1_4 (F := Ideal) i arg4 arg5 T0 T1 x0 x1))) (ix3 0 r cc) = k0_pay2 (F := Ideal) (ix3 1 (⟨512 + r.val, by omega⟩ : Fin 1024) cc) := fun cc => by
      refine (scr_read scL.view _ (by decide) 1 (⟨512 + r.val, by omega⟩ : Fin 1024) cc r rfl rfl).trans ?_
      rw [runFirstDiag.sl.HS1_4, runFirstDiag.sl.HS1_3, runFirstDiag.sl.HS1_2, runFirstDiag.sl.HS1_1]
      refine (rd_other (W := 128) scL.view scL.view.junk (mo := 0) (ro := 512) (R := 512) (by decide) _ _ 1 (⟨512 + r.val, by omega⟩ : Fin 1024) cc (by decide)).trans ?_
      refine (rd_rows (W := 128) scL.view scL.view.junk (mo := 1) (ro := 0) (R := 512) (by decide) _ _ 1 (⟨512 + r.val, by omega⟩ : Fin 1024) cc (by show _ < _ ∨ _ ≤ _; simp only []; omega)).trans ?_
      refine (rd_other (W := 128) scL.view scL.view.junk (mo := 0) (ro := 0) (R := 512) (by decide) _ _ 1 (⟨512 + r.val, by omega⟩ : Fin 1024) cc (by decide)).trans ?_
      exact rd_whole (W := 128) scL.view scL.view.junk (by decide) _ _ 1 (⟨512 + r.val, by omega⟩ : Fin 1024) cc
  have ea : ∀ d : Fin 256, (View.readAt (Elt Ideal) scA.view (Rect.unit (s := S2x1024x256) ![1, 512, 0] S1x512x256.size (by decide)).toLoadRect (scA.view.writes (Elt Ideal) scA.view.junk (runFirstDiag.sl.HS2_4 (F := Ideal) i arg4 arg5 arg6 T0 T1 x0 x1 x2))) (ix3 0 r d) = k0_pay3 (F := Ideal) (ix3 1 (⟨512 + r.val, by omega⟩ : Fin 1024) d) := fun d => by
      refine (scr_read scA.view _ (by decide) 1 (⟨512 + r.val, by omega⟩ : Fin 1024) d r rfl rfl).trans ?_
      rw [runFirstDiag.sl.HS2_4, runFirstDiag.sl.HS2_3, runFirstDiag.sl.HS2_2, runFirstDiag.sl.HS2_1]
      refine (rd_other (W := 256) scA.view scA.view.junk (mo := 0) (ro := 512) (R := 512) (by decide) _ _ 1 (⟨512 + r.val, by omega⟩ : Fin 1024) d (by decide)).trans ?_
      refine (rd_rows (W := 256) scA.view scA.view.junk (mo := 1) (ro := 0) (R := 512) (by decide) _ _ 1 (⟨512 + r.val, by omega⟩ : Fin 1024) d (by show _ < _ ∨ _ ≤ _; simp only []; omega)).trans ?_
      refine (rd_other (W := 256) scA.view scA.view.junk (mo := 0) (ro := 0) (R := 512) (by decide) _ _ 1 (⟨512 + r.val, by omega⟩ : Fin 1024) d (by decide)).trans ?_
      exact rd_whole (W := 256) scA.view scA.view.junk (by decide) _ _ 1 (⟨512 + r.val, by omega⟩ : Fin 1024) d
  have H' : Row (fun cc => (View.readAt (Elt Ideal) scM.view (Rect.unit (s := S2x1024x128) ![1, 512, 0] S1x512x128.size (by decide)).toLoadRect (scM.view.writes (Elt Ideal) scM.view.junk (runFirstDiag.sl.HS0_4 (F := Ideal) i arg4 arg5 T0 T1 x0 x1))) (ix3 0 r cc)) (fun cc => (View.readAt (Elt Ideal) scL.view (Rect.unit (s := S2x1024x128) ![1, 512, 0] S1x512x128.size (by decide)).toLoadRect (scL.view.writes (Elt Ideal) scL.view.junk (runFirstDiag.sl.HS1_4 (F := Ideal) i arg4 arg5 T0 T1 x0 x1))) (ix3 0 r cc)) (fun d => (View.readAt (Elt Ideal) scA.view (Rect.unit (s := S2x1024x256) ![1, 512, 0] S1x512x256.size (by decide)).toLoadRect (scA.view.writes (Elt Ideal) scA.view.junk (runFirstDiag.sl.HS2_4 (F := Ideal) i arg4 arg5 arg6 T0 T1 x0 x1 x2))) (ix3 0 r d)) 0 s w :=
    (row_zero 1 (⟨512 + r.val, by omega⟩ : Fin 1024) s w).congr em el ea
  refine (row_b1 (k0_pay45 (F := Ideal) (wordQ (F := Ideal) i T0) (wordK (F := Ideal) i T1)) (View.readAt (Elt Ideal) arg4.view (Rect.unit (s := S1024x256) ![512, 128] S512x128.size (by decide)).toLoadRect (arg4.view.rep x0)) (View.readAt (Elt Ideal) arg5.view (Rect.unit (s := S1024x256) ![0, 128] S1024x128.size (by decide)).toLoadRect (arg5.view.rep x1)) (View.readAt (Elt Ideal) arg6.view (Rect.unit (s := S1024x256) ![0, 0] S1024x256.size (by decide)).toLoadRect (arg6.view.rep x2)) (View.readAt (Elt Ideal) scM.view (Rect.unit (s := S2x1024x128) ![1, 512, 0] S1x512x128.size (by decide)).toLoadRect (scM.view.writes (Elt Ideal) scM.view.junk (runFirstDiag.sl.HS0_4 (F := Ideal) i arg4 arg5 T0 T1 x0 x1))) (View.readAt (Elt Ideal) scL.view (Rect.unit (s := S2x1024x128) ![1, 512, 0] S1x512x128.size (by decide)).toLoadRect (scL.view.writes (Elt Ideal) scL.view.junk (runFirstDiag.sl.HS1_4 (F := Ideal) i arg4 arg5 T0 T1 x0 x1))) (View.readAt (Elt Ideal) scA.view (Rect.unit (s := S2x1024x256) ![1, 512, 0] S1x512x256.size (by decide)).toLoadRect (scA.view.writes (Elt Ideal) scA.view.junk (runFirstDiag.sl.HS2_4 (F := Ideal) i arg4 arg5 arg6 T0 T1 x0 x1 x2))) r H' (by omega) (by omega) hx hv').congr (fun cc => ?_) (fun cc => ?_) (fun d => ?_)
  · refine (congrFun (runFirstDiag_m c i arg4 harg4 arg5 harg5 arg6 harg6 arg7 harg7 arg8 harg8 arg9 harg9 T0 T1 x0 x1 x2 x3 x4 hc0 hc1 hc2) _).trans ?_
    rw [runFirstDiag.sl.HS0_5, runFirstDiag.sl.HS0_4, runFirstDiag.sl.HS0_3, runFirstDiag.sl.HS0_2, runFirstDiag.sl.HS0_1]
    refine (rd_hit (W := 128) scM.view scM.view.junk (mo := 1) (ro := 512) (R := 512) (by decide) _ _ 1 (⟨512 + r.val, by omega⟩ : Fin 1024) cc r rfl rfl).trans (congrFun ?_ _)
    rfl
  · refine (congrFun (runFirstDiag_l c i arg4 harg4 arg5 harg5 arg6 harg6 arg7 harg7 arg8 harg8 arg9 harg9 T0 T1 x0 x1 x2 x3 x4 hc0 hc1 hc2) _).trans ?_
    rw [runFirstDiag.sl.HS1_5, runFirstDiag.sl.HS1_4, runFirstDiag.sl.HS1_3, runFirstDiag.sl.HS1_2, runFirstDiag.sl.HS1_1]
    refine (rd_hit (W := 128) scL.view scL.view.junk (mo := 1) (ro := 512) (R := 512) (by decide) _ _ 1 (⟨512 + r.val, by omega⟩ : Fin 1024) cc r rfl rfl).trans (congrFun ?_ _)
    rfl
  · refine (congrFun (runFirstDiag_a c i arg4 harg4 arg5 harg5 arg6 harg6 arg7 harg7 arg8 harg8 arg9 harg9 T0 T1 x0 x1 x2 x3 x4 hc0 hc1 hc2) _).trans ?_
    rw [runFirstDiag.sl.HS2_5, runFirstDiag.sl.HS2_4, runFirstDiag.sl.HS2_3, runFirstDiag.sl.HS2_2, runFirstDiag.sl.HS2_1]
    refine (rd_hit (W := 256) scA.view scA.view.junk (mo := 1) (ro := 512) (R := 512) (by decide) _ _ 1 (⟨512 + r.val, by omega⟩ : Fin 1024) d r rfl rfl).trans (congrFun ?_ _)
    rfl

end Cert.KernelIdeal.Diff
-- ==== Proof.Diff.Inv.lean ====
module

public import proofs.«01_k».proof.Proof.Diff.Sched
public import proofs.«01_k».proof.Proof.Diff.Last
public import proofs.«01_k».proof.Proof.Diff.StepFull
public import proofs.«01_k».proof.Proof.Diff.StepFirstFull
public import proofs.«01_k».proof.Proof.Diff.StepDiag
public import proofs.«01_k».proof.Proof.Diff.StepFirstDiag

@[expose] public section

set_option maxRecDepth 16384

/-! # What the scratches hold after each point, row by row -/

noncomputable section

namespace Cert.KernelIdeal.Diff

open Cert.KernelIdeal Cert.KernelIdeal.Gen
open Idealize.ShloMosaic Idealize.ShloMosaic.TcCoe

variable (V : Held Ideal)

/-- The query block's entry, of the packed array. -/
theorem iblk0_at (c : Dev nD) (t : Fin (cfgA Ideal).N) (r : Fin 1024) (e : Fin 256) (a : Fin 8192) (b : Fin 3072)
    (ha : a.val = 1024 * qi t + r.val) (hb : b.val = 256 * hd t + e.val) :
    iblk V c (0 : Fin 6) t (ix2 r e) = V c main_v6 (ix2 a b) := by
  refine congrArg (V c main_v6) (funext fun k => Fin.ext ?_)
  have h := (sched t).2.1
  fin_cases k
  · show ((cfgA Ideal).win (0 : Fin 6)).index t (0 : Fin 2) * 1024 + 1 * r.val = a.val
    rw [h.1]; omega
  · show ((cfgA Ideal).win (0 : Fin 6)).index t (1 : Fin 2) * 256 + 1 * e.val = b.val
    rw [h.2]; omega

/-- The key block's entry. -/
theorem iblk1_at (c : Dev nD) (t : Fin (cfgA Ideal).N) (r : Fin 1024) (e : Fin 256) (a : Fin 8192) (b : Fin 3072)
    (ha : a.val = 1024 * kj t + r.val) (hb : b.val = 1024 + 256 * hd t + e.val) :
    iblk V c (1 : Fin 6) t (ix2 r e) = V c main_v6 (ix2 a b) := by
  refine congrArg (V c main_v6) (funext fun k => Fin.ext ?_)
  have h := (sched t).2.2.1
  fin_cases k
  · show ((cfgA Ideal).win (1 : Fin 6)).index t (0 : Fin 2) * 1024 + 1 * r.val = a.val
    rw [h.1]; omega
  · show ((cfgA Ideal).win (1 : Fin 6)).index t (1 : Fin 2) * 256 + 1 * e.val = b.val
    rw [h.2]; omega

/-- The value block's entry. -/
theorem iblk2_at (c : Dev nD) (t : Fin (cfgA Ideal).N) (r : Fin 1024) (e : Fin 256) (a : Fin 8192) (b : Fin 3072)
    (ha : a.val = 1024 * kj t + r.val) (hb : b.val = 2048 + 256 * hd t + e.val) :
    iblk V c (2 : Fin 6) t (ix2 r e) = V c main_v6 (ix2 a b) := by
  refine congrArg (V c main_v6) (funext fun k => Fin.ext ?_)
  have h := (sched t).2.2.2.1
  fin_cases k
  · show ((cfgA Ideal).win (2 : Fin 6)).index t (0 : Fin 2) * 1024 + 1 * r.val = a.val
    rw [h.1]; omega
  · show ((cfgA Ideal).win (2 : Fin 6)).index t (1 : Fin 2) * 256 + 1 * e.val = b.val
    rw [h.2]; omega

/-- The four vectors, whole. -/
theorem iblk3_at (c : Dev nD) (t : Fin (cfgA Ideal).N) (a : Fin 4) (e : Fin 128) : iblk V c (3 : Fin 6) t (ix2 a e) = V c main_v15 (ix2 a e) := by
  refine congrArg (V c main_v15) (funext fun k => Fin.ext ?_)
  have h := (sched t).2.2.2.2.1
  fin_cases k
  · show ((cfgA Ideal).win (3 : Fin 6)).index t (0 : Fin 2) * 4 + 1 * a.val = a.val
    rw [h.1]; omega
  · show ((cfgA Ideal).win (3 : Fin 6)).index t (1 : Fin 2) * 128 + 1 * e.val = e.val
    rw [h.2]; omega

/-- The gain, whole. -/
theorem iblk4_at (c : Dev nD) (t : Fin (cfgA Ideal).N) (e : Fin 256) : iblk V c (4 : Fin 6) t (ix2 0 e) = V c main_v17 (ix2 0 e) := by
  refine congrArg (V c main_v17) (funext fun k => Fin.ext ?_)
  have h := (sched t).2.2.2.2.2.1
  fin_cases k
  · show ((cfgA Ideal).win (4 : Fin 6)).index t (0 : Fin 2) * 1 + 1 * 0 = 0
    rw [h.1]
  · show ((cfgA Ideal).win (4 : Fin 6)).index t (1 : Fin 2) * 256 + 1 * e.val = e.val
    rw [h.2]; omega

/-- A row of the lower half. -/
theorem row_lower (r : Fin 1024) (h : 512 ≤ r.val) : ∃ r' : Fin 512, r = ⟨512 + r'.val, Nat.add_lt_add_left r'.isLt 512⟩ :=
  ⟨⟨r.val - 512, by omega⟩, Fin.ext (by show r.val = 512 + (r.val - 512); omega)⟩

/-- A word is its own number. -/
theorem word_nat (b : BitVec 32) : b = BitVec.ofNat 32 b.toNat := by simp

/-- A point's words are its tiles' numbers. -/
theorem wordQ_eq (t : Fin (cfgA Ideal).N) : wordQ (F := Ideal) (crd t) tQ = BitVec.ofNat 32 (qi t) := word_nat _
theorem wordK_eq (t : Fin (cfgA Ideal).N) : wordK (F := Ideal) (crd t) tK = BitVec.ofNat 32 (kj t) := word_nat _

/-- The scaled score of a query row against key `k`, of head `h`'s map `mm`, of the packed array's reals. -/
def scoreR (x : ℕ → ℕ → ℝ) (h mm a k : ℕ) : ℝ := ∑ e : Fin 128, x a (256 * h + (mm * 128 + e.val)) * x k (1024 + 256 * h + (mm * 128 + e.val))

/-- Key `k`'s value vector of head `h`. -/
def valR (x : ℕ → ℕ → ℝ) (h k : ℕ) (d : Fin 256) : ℝ := x k (2048 + 256 * h + d.val)

variable (x : ℕ → ℕ → ℝ) (c : Dev nD) (hX : ∀ (a : Fin 8192) (b : Fin 3072), V c main_v6 (ix2 a b) = (x a.val b.val : EReal))
include hX

/-- A tile's scores. -/
theorem score_at (t : Fin (cfgA Ideal).N) (mm : Fin 2) (r j : Fin 1024) :
    dotB (iblk V c (0 : Fin 6) t) (iblk V c (1 : Fin 6) t) mm r j = (scoreR x (hd t) mm.val (1024 * qi t + r.val) (1024 * kj t + j.val) : EReal) := by
  have h := (sched t).1
  unfold dotB scoreR
  rw [coe_sum]
  refine Finset.sum_congr rfl fun e _ => ?_
  have := mm.isLt; have := r.isLt; have := j.isLt; have := e.isLt
  rw [iblk0_at V c t r _ ⟨1024 * qi t + r.val, by omega⟩ ⟨256 * hd t + (mm.val * 128 + e.val), by omega⟩ rfl rfl,
    iblk1_at V c t j _ ⟨1024 * kj t + j.val, by omega⟩ ⟨1024 + 256 * hd t + (mm.val * 128 + e.val), by omega⟩ rfl rfl, hX, hX, EReal.coe_mul]

/-- A tile's values. -/
theorem val_at (t : Fin (cfgA Ideal).N) (j : Fin 1024) (d : Fin 256) :
    iblk V c (2 : Fin 6) t (ix2 j d) = (valR x (hd t) (1024 * kj t + j.val) d : EReal) := by
  have h := (sched t).1
  have := j.isLt; have := d.isLt
  rw [iblk2_at V c t j d ⟨1024 * kj t + j.val, by omega⟩ ⟨2048 + 256 * hd t + d.val, by omega⟩ rfl rfl, hX]; rfl

/-- What is known of one row after a point. -/
def RowAt (t : Fin (cfgA Ideal).N) (s : Scr Ideal) (mm : Fin 2) (r : Fin 1024) (n : ℕ) : Prop :=
  Row (fun cc => s.1 (ix3 mm r cc)) (fun cc => s.2.1 (ix3 mm r cc)) (fun d => s.2.2 (ix3 mm r d)) n
    (scoreR x (hd t) mm.val (1024 * qi t + r.val)) (valR x (hd t))

/-- The keys a row has met after a point. -/
def met (t : Fin (cfgA Ideal).N) (r : ℕ) : ℕ := if kj t = qi t then 1024 * qi t + r + 1 else 1024 * (kj t + 1)

set_option maxHeartbeats 8000000 in
/-- One point, from the row before it. -/
theorem row_step (t : Fin (cfgA Ideal).N) (s : Scr Ideal) (mm : Fin 2) (r : Fin 1024)
    (H : kj t ≠ 0 → RowAt x t s mm r (1024 * kj t)) : RowAt x t (step V c t s) mm r (met t r.val) := by
  have h := (sched t).1
  have hs : ∀ n, n = 1024 * kj t → ∀ j : Fin 1024, dotB (iblk V c (0 : Fin 6) t) (iblk V c (1 : Fin 6) t) mm r j
      = (scoreR x (hd t) mm.val (1024 * qi t + r.val) (n + j.val) : EReal) := fun n e j => e ▸ score_at V x c hX t mm r j
  have hv : ∀ n, n = 1024 * kj t → ∀ (j : Fin 1024) (d : Fin 256), iblk V c (2 : Fin 6) t (ix2 j d) = (valR x (hd t) (n + j.val) d : EReal) :=
    fun n e j d => e ▸ val_at V x c hX t j d
  by_cases hf : First t
  · have k0 : kj t = 0 := h.2.2.2.2.1 hf
    by_cases hdg : OnDiag t
    · have kq : kj t = qi t := h.2.2.2.1.1 hdg
      unfold RowAt
      rw [step_runFirstDiag V c t s hf hdg]
      dsimp only
      have hw0 := wordQ_eq t
      have hw1 : wordK (F := Ideal) (crd t) tK = BitVec.ofNat 32 (qi t) := kq ▸ wordK_eq t
      rcases Nat.lt_or_ge r.val 512 with hr | hr
      · have em : met t r.val = 0 + ((⟨r.val, hr⟩ : Fin 512).val + 1) := by unfold met; rw [if_pos kq]; show _ = _ + (r.val + 1); omega
        rw [em]
        rcases (show mm = 0 ∨ mm = 1 by omega) with rfl | rfl
        · exact runFirstDiag_row_a0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hdg) hdg (qi t) h.2.1 hw0 hw1 ⟨r.val, hr⟩ _ _ (hs 0 (by omega)) (hv 0 (by omega))
        · exact runFirstDiag_row_a1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hdg) hdg (qi t) h.2.1 hw0 hw1 ⟨r.val, hr⟩ _ _ (hs 0 (by omega)) (hv 0 (by omega))
      · obtain ⟨r', rfl⟩ := row_lower r hr
        have em : met t (512 + r'.val) = 0 + (512 + r'.val + 1) := by unfold met; rw [if_pos kq]; omega
        rw [em]
        rcases (show mm = 0 ∨ mm = 1 by omega) with rfl | rfl
        · exact runFirstDiag_row_b0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hdg) hdg (qi t) h.2.1 hw0 hw1 r' _ _ (hs 0 (by omega)) (hv 0 (by omega))
        · exact runFirstDiag_row_b1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hdg) hdg (qi t) h.2.1 hw0 hw1 r' _ _ (hs 0 (by omega)) (hv 0 (by omega))
    · have kq : kj t ≠ qi t := fun e => hdg (h.2.2.2.1.2 e)
      have em : met t r.val = 0 + 1024 := by unfold met; rw [if_neg kq]; omega
      unfold RowAt
      rw [step_runFirstFull V c t s hf hdg, em]
      dsimp only
      rcases (show mm = 0 ∨ mm = 1 by omega) with rfl | rfl
      · exact runFirstFull_row_full0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf ((facts t).1.2 hdg) hdg r _ _ (hs 0 (by omega)) (hv 0 (by omega))
      · exact runFirstFull_row_full1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf ((facts t).1.2 hdg) hdg r _ _ (hs 0 (by omega)) (hv 0 (by omega))
  · have k0 : kj t ≠ 0 := fun e => hf (h.2.2.2.2.2 e)
    have H := H k0
    by_cases hdg : OnDiag t
    · have kq : kj t = qi t := h.2.2.2.1.1 hdg
      unfold RowAt
      rw [step_runDiag V c t s hf hdg]
      dsimp only
      have hw0 := wordQ_eq t
      have hw1 : wordK (F := Ideal) (crd t) tK = BitVec.ofNat 32 (qi t) := kq ▸ wordK_eq t
      rcases Nat.lt_or_ge r.val 512 with hr | hr
      · have em : met t r.val = (1024 * kj t) + ((⟨r.val, hr⟩ : Fin 512).val + 1) := by unfold met; rw [if_pos kq]; show _ = _ + (r.val + 1); omega
        rw [em]
        rcases (show mm = 0 ∨ mm = 1 by omega) with rfl | rfl
        · exact runDiag_row_a0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hdg) hdg (qi t) h.2.1 hw0 hw1 ⟨r.val, hr⟩ _ _ H (hs (1024 * kj t) (by omega)) (hv (1024 * kj t) (by omega))
        · exact runDiag_row_a1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hdg) hdg (qi t) h.2.1 hw0 hw1 ⟨r.val, hr⟩ _ _ H (hs (1024 * kj t) (by omega)) (hv (1024 * kj t) (by omega))
      · obtain ⟨r', rfl⟩ := row_lower r hr
        have em : met t (512 + r'.val) = (1024 * kj t) + (512 + r'.val + 1) := by unfold met; rw [if_pos kq]; omega
        rw [em]
        rcases (show mm = 0 ∨ mm = 1 by omega) with rfl | rfl
        · exact runDiag_row_b0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hdg) hdg (qi t) h.2.1 hw0 hw1 r' _ _ H (hs (1024 * kj t) (by omega)) (hv (1024 * kj t) (by omega))
        · exact runDiag_row_b1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf (fun h => (facts t).1.1 h hdg) hdg (qi t) h.2.1 hw0 hw1 r' _ _ H (hs (1024 * kj t) (by omega)) (hv (1024 * kj t) (by omega))
    · have kq : kj t ≠ qi t := fun e => hdg (h.2.2.2.1.2 e)
      have em : met t r.val = (1024 * kj t) + 1024 := by unfold met; rw [if_neg kq]; omega
      unfold RowAt
      rw [step_runFull V c t s hf hdg, em]
      dsimp only
      rcases (show mm = 0 ∨ mm = 1 by omega) with rfl | rfl
      · exact runFull_row_full0 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf ((facts t).1.2 hdg) hdg r _ _ H (hs (1024 * kj t) (by omega)) (hv (1024 * kj t) (by omega))
      · exact runFull_row_full1 c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) s.1 s.2.1 s.2.2 hf ((facts t).1.2 hdg) hdg r _ _ H (hs (1024 * kj t) (by omega)) (hv (1024 * kj t) (by omega))

/-- Every row, after every point: the keys it has met. -/
theorem row_after (t : Fin (cfgA Ideal).N) (mm : Fin 2) (r : Fin 1024) : RowAt x t (scr V c (t.val + 1)) mm r (met t r.val) := by
  obtain ⟨n, hn⟩ : ∃ n, kj t = n := ⟨_, rfl⟩
  induction n generalizing t with
  | zero => rw [scr_succ]; exact row_step V x c hX t _ mm r (fun h => absurd hn h)
  | succ n ih =>
    rw [scr_succ]
    refine row_step V x c hX t _ mm r fun h => ?_
    have hp := prevs t h
    have := (sched t).1.2.2.1
    have e := ih (prev t) (by have := hp.2.2.2; omega)
    have e1 : (prev t).val + 1 = t.val := by show t.val - 1 + 1 = t.val; have := hp.1; omega
    have em : met (prev t) r.val = 1024 * kj t := by
      unfold met; rw [if_neg (by have := hp.2.2.2; have := hp.2.2.1; omega), hp.2.2.2]
    unfold RowAt at e ⊢
    rw [e1, em, hp.2.1, hp.2.2.1] at e
    exact e

set_option maxHeartbeats 8000000 in
/-- The result's block at a diagonal tile: each row's two attention means, subtracted and normalised. -/
theorem outB_at (t : Fin (cfgA Ideal).N) (hdg : OnDiag t) (r : Fin 1024) (d : Fin 256) :
    outB V c t (ix2 r d)
      = finish (fun e => (mean (1024 * qi t + r.val + 1) (scoreR x (hd t) 0 (1024 * qi t + r.val)) (fun k => valR x (hd t) k e) : EReal)
          - lamE (fun e => V c main_v15 (ix2 0 e)) (fun e => V c main_v15 (ix2 1 e)) (fun e => V c main_v15 (ix2 2 e)) (fun e => V c main_v15 (ix2 3 e))
            * (mean (1024 * qi t + r.val + 1) (scoreR x (hd t) 1 (1024 * qi t + r.val)) (fun k => valR x (hd t) k e) : EReal))
        (fun e => V c main_v17 (ix2 0 e)) d := by
  have kq : kj t = qi t := (sched t).1.2.2.2.1.1 hdg
  have em : met t r.val = 1024 * qi t + r.val + 1 := by unfold met; rw [if_pos kq]
  obtain ⟨m0, l0, -, hl0, H0⟩ := row_after V x c hX t 0 r
  obtain ⟨m1, l1, -, hl1, H1⟩ := row_after V x c hX t 1 r
  have hd0 := fun e => H0.div (by rw [em]; omega) e
  have hd1 := fun e => H1.div (by rw [em]; omega) e
  rw [scr_succ] at hl0 hd0 hl1 hd1
  rw [em] at hd0 hd1
  by_cases hf : First t
  · rw [step_runFirstDiag V c t _ hf hdg] at hl0 hd0 hl1 hd1
    dsimp only at hl0 hd0 hl1 hd1
    unfold outB
    rw [pieces_runFirstDiag V c t _ hf hdg]
    refine (runFirstDiag_out c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) hf (fun h => (facts t).1.1 h hdg) hdg r l0 l1 hl0 hl1 d).trans ?_
    simp only [hd0, hd1, iblk3_at, iblk4_at]
    rfl
  · rw [step_runDiag V c t _ hf hdg] at hl0 hd0 hl1 hd1
    dsimp only at hl0 hd0 hl1 hd1
    unfold outB
    rw [pieces_runDiag V c t _ hf hdg]
    refine (runDiag_out c (crd t) (ms0 t) (hs0 t) (ms1 t) (hs1 t) (ms2 t) (hs2 t) (ms3 t) (hs3 t) (ms4 t) (hs4 t) (ms5 t) (hs5 t) tQ tK (iblk V c (0 : Fin 6) t) (iblk V c (1 : Fin 6) t) (iblk V c (2 : Fin 6) t) (iblk V c (3 : Fin 6) t) (iblk V c (4 : Fin 6) t) (scr V c t.val).1 (scr V c t.val).2.1 (scr V c t.val).2.2 hf (fun h => (facts t).1.1 h hdg) hdg r l0 l1 hl0 hl1 d).trans ?_
    simp only [hd0, hd1, iblk3_at, iblk4_at]
    rfl

end Cert.KernelIdeal.Diff
-- ==== Proof.Diff.Out.lean ====
module

public import proofs.«01_k».proof.Proof.Diff.Inv
public import proofs.«01_k».proof.Proof.Diff.Frame
public import Idealize.ShloMosaic.Lib.Pipeline.ValueKit

@[expose] public section

set_option maxRecDepth 16384

/-! # The result array -/

noncomputable section

namespace Cert.KernelIdeal.Diff

open Cert.KernelIdeal Cert.KernelIdeal.Gen
open Idealize.ShloMosaic Idealize.ShloMosaic.TcCoe
open Idealize.ShloMosaic.Pipeline (Dat)

/-- The kernel's result at row `a`, feature `d` of head `h`, of the packed array's reals, the mixing weight and the gain. -/
def attn (x : ℕ → ℕ → ℝ) (lam : EReal) (g : Fin 256 → EReal) (h a : ℕ) (d : Fin 256) : EReal :=
  finish (fun e => (mean (a + 1) (scoreR x h 0 a) (fun k => valR x h k e) : EReal)
    - lam * (mean (a + 1) (scoreR x h 1 a) (fun k => valR x h k e) : EReal)) g d

variable (V : Held Ideal) (x : ℕ → ℕ → ℝ) (c : Dev nD)
  (hX : ∀ (a : Fin 8192) (b : Fin 3072), V c main_v6 (ix2 a b) = (x a.val b.val : EReal))

/-- The mixing weight, of the four rows the host stacks. -/
def lamV : EReal := lamE (fun e => V c main_v15 (ix2 0 e)) (fun e => V c main_v15 (ix2 1 e)) (fun e => V c main_v15 (ix2 2 e)) (fun e => V c main_v15 (ix2 3 e))

/-- The array the kernel leaves. -/
def goalArr : Buf (Elt Ideal) ((c.tc : Thread nD τ).loc main_v18) :=
  fun i : S8192x1024.Idx => attn x (lamV V c) (fun e => V c main_v17 (ix2 0 e)) ((i 1).val / 256) (i 0).val ⟨(i 1).val % 256, Nat.mod_lt _ (by norm_num)⟩

/-- Where the result's block lies. -/
theorem emb_at (t : Fin (cfgA Ideal).N) (r : Fin 1024) (d : Fin 256) (a : Fin 8192) (b : Fin 1024)
    (ha : a.val = 1024 * qi t + r.val) (hb : b.val = 256 * hd t + d.val) :
    (((cfgA Ideal).win (5 : Fin 6)).blk t).view.emb (ix2 r d) = (ix2 a b : S8192x1024.Idx) := by
  refine funext fun k => Fin.ext ?_
  have h := (sched t).2.2.2.2.2.2
  fin_cases k
  · show ((cfgA Ideal).win (5 : Fin 6)).index t (0 : Fin 2) * 1024 + 1 * r.val = a.val
    rw [h.1]; omega
  · show ((cfgA Ideal).win (5 : Fin 6)).index t (1 : Fin 2) * 256 + 1 * d.val = b.val
    rw [h.2]; omega

include hX in
theorem result_arr : (dats V 0 c).arrAt (5 : Fin 6) (cfgA Ideal).N = goalArr V x c := by
  refine Dat.arrAt_eq_of_emb (dats V 0 c) (5 : Fin 6) (goalArr V x c) (fun t hf y => ?_) (fun i => ?_)
  · have hdg : OnDiag t := (facts t).2.2.1.1 hf
    have hs := (sched t).1
    obtain ⟨r, d, rfl⟩ : ∃ (r : Fin 1024) (d : Fin 256), y = (ix2 r d : S1024x256.Idx) :=
      ⟨y 0, y 1, funext fun k => by fin_cases k <;> rfl⟩
    have := r.isLt; have := d.isLt
    rw [emb_at t r d ⟨1024 * qi t + r.val, by omega⟩ ⟨256 * hd t + d.val, by omega⟩ rfl rfl]
    refine (outB_at V x c hX t hdg r d).trans ?_
    show _ = attn x (lamV V c) (fun e => V c main_v17 (ix2 0 e)) ((256 * hd t + d.val) / 256) (1024 * qi t + r.val) ⟨(256 * hd t + d.val) % 256, _⟩
    have e1 : (256 * hd t + d.val) / 256 = hd t := by omega
    have e2 : (⟨(256 * hd t + d.val) % 256, Nat.mod_lt _ (by norm_num)⟩ : Fin 256) = d := Fin.ext (by show (256 * hd t + d.val) % 256 = d.val; omega)
    rw [e1, e2]
    rfl
  · obtain ⟨a, b, rfl⟩ : ∃ (a : Fin 8192) (b : Fin 1024), i = (ix2 a b : S8192x1024.Idx) :=
      ⟨i 0, i 1, funext fun k => by fin_cases k <;> rfl⟩
    have := a.isLt; have := b.isLt
    have hh := fin_at (F := Ideal) ⟨b.val / 256, by omega⟩ ⟨a.val / 1024, by omega⟩
    refine ⟨fin ⟨b.val / 256, by omega⟩ ⟨a.val / 1024, by omega⟩, flush5 _ ((sched _).1.2.2.2.1.2 (hh.2.2.trans hh.2.1.symm)), ?_⟩
    have he := emb_at (fin ⟨b.val / 256, by omega⟩ ⟨a.val / 1024, by omega⟩) ⟨a.val % 1024, by omega⟩ ⟨b.val % 256, by omega⟩ a b
      (by rw [hh.2.1]; show a.val = 1024 * (a.val / 1024) + a.val % 1024; omega)
      (by rw [hh.1]; show b.val = 256 * (b.val / 256) + b.val % 256; omega)
    exact he ▸ View.emb_mem_set _ _

end Cert.KernelIdeal.Diff
-- ==== Proof.Diff.Host.lean ====
module

public import proofs.«01_k».proof.Proof.Diff.Frame
public import Idealize.ShloMosaic.Lib.StableHlo.ReadAt
public import Idealize.ShloMosaic.Lib.Pointwise

@[expose] public section

set_option maxRecDepth 16384

/-! # What the host prepares: the packed queries, keys and values, the four mixing rows, the gain -/

noncomputable section

namespace Cert.KernelIdeal.Diff

open Cert.KernelIdeal Cert.KernelIdeal.Gen
open Idealize.ShloMosaic Idealize.ShloMosaic.TcCoe

variable (m : (ℓ : Loc nD τ sig) → Buf (Elt Ideal) ℓ) (c : Dev nD)

/-- The scale the host gives the queries. -/
def qscale : EReal := Ideal.div (Ideal.rsqrt (Ideal.ofBits .f32 0x43000000#32)) (Ideal.log (Ideal.ofBits .f32 0x40000000#32))

/-- The arguments. -/
abbrev argQ : S8192x1024.Idx → EReal := m ((c.tc : Thread nD τ).loc main_arg0)
abbrev argK : S8192x1024.Idx → EReal := m ((c.tc : Thread nD τ).loc main_arg1)
abbrev argV : S8192x1024.Idx → EReal := m ((c.tc : Thread nD τ).loc main_arg2)
abbrev argL1 : S1x128.Idx → EReal := m ((c.tc : Thread nD τ).loc main_arg3)
abbrev argL2 : S1x128.Idx → EReal := m ((c.tc : Thread nD τ).loc main_arg4)
abbrev argL3 : S1x128.Idx → EReal := m ((c.tc : Thread nD τ).loc main_arg5)
abbrev argL4 : S1x128.Idx → EReal := m ((c.tc : Thread nD τ).loc main_arg6)
abbrev argG : S1x256.Idx → EReal := m ((c.tc : Thread nD τ).loc main_arg7)

/-- The queries' columns: the queries, scaled. -/
theorem packed_q (a : Fin 8192) (b : Fin 1024) :
    VV m c main_v6 (ix2 a (⟨b.val, by omega⟩ : Fin 3072)) = argQ m c (ix2 a b) * qscale := by
  unfold VV
  after_reads_at
  after_reads_at
  rfl

/-- The keys' columns. -/
theorem packed_k (a : Fin 8192) (b : Fin 1024) :
    VV m c main_v6 (ix2 a (⟨1024 + b.val, by omega⟩ : Fin 3072)) = argK m c (ix2 a b) := by
  unfold VV
  after_reads_at
  after_reads_at
  try rfl

/-- The values' columns. -/
theorem packed_v (a : Fin 8192) (b : Fin 1024) :
    VV m c main_v6 (ix2 a (⟨2048 + b.val, by omega⟩ : Fin 3072)) = argV m c (ix2 a b) := by
  unfold VV
  after_reads_at
  after_reads_at
  rw [dif_neg (by omega), dif_neg (by omega)]
  exact congrArg (fun j => argV m c (ix2 a j)) (Fin.ext (by show 2048 + b.val - 1024 - 1024 = b.val; omega))

/-- Row 0 of the mixing weights. -/
theorem lam_row0 (e : Fin 128) : VV m c main_v15 (ix2 0 e) = argL1 m c (ix2 0 e) := by
  unfold VV
  after_reads_at
  after_reads_at

/-- Row 1 of the mixing weights. -/
theorem lam_row1 (e : Fin 128) : VV m c main_v15 (ix2 1 e) = argL2 m c (ix2 0 e) := by
  unfold VV
  after_reads_at
  after_reads_at

/-- Row 2 of the mixing weights. -/
theorem lam_row2 (e : Fin 128) : VV m c main_v15 (ix2 2 e) = argL3 m c (ix2 0 e) := by
  unfold VV
  after_reads_at
  after_reads_at

/-- Row 3 of the mixing weights. -/
theorem lam_row3 (e : Fin 128) : VV m c main_v15 (ix2 3 e) = argL4 m c (ix2 0 e) := by
  unfold VV
  after_reads_at
  after_reads_at

/-- The gain. -/
theorem gain_row (e : Fin 256) : VV m c main_v17 (ix2 0 e) = argG m c (ix2 0 e) := by
  unfold VV
  after_reads_at

end Cert.KernelIdeal.Diff
-- ==== Proof.Diff.Pre.lean ====
module

public import proofs.«01_k».proof.Pre_finite
public import proofs.«01_k».proof.Proof.Gen.Pre_finite
public import Idealize.ShloMosaic.Lib.Affine
public import Idealize.ShloMosaic.Lib.Pointwise

@[expose] public section

set_option maxRecDepth 16384

/-! # What the precondition says: every entry is a real number -/

noncomputable section

namespace Cert.KernelIdeal.Diff

open Idealize.ShloMosaic

/-- A conjunction over an array is true only where every entry is. -/
theorem and_all {s t u : Shape} {axes : List (Fin s.rank)} (x : IVec s 1) (init : u.Idx → BitVec 1) (h : s.ReducesTo axes t) (hu : 0 < u.numel) (j : t.Idx)
    (ht : ∀ a b : t.Idx, a = b) (e : Host.reduce IntOp.andi x init h hu j = 1#1) (i : s.Idx) : x i = 1#1 := by
  rw [Host.reduce_eq_fold] at e
  have key : ∀ S : Finset s.Idx, S.fold IntOp.andi (init (Shape.Idx.first hu)) x = 1#1 → ∀ i ∈ S, x i = 1#1 := by
    classical
    intro S
    refine Finset.induction_on S (fun _ i hi => absurd hi (Finset.notMem_empty i)) (fun a S ha ih he i hi => ?_)
    rw [Finset.fold_insert ha] at he
    have h2 := IntOp.andi_eq_one.1 he
    rcases Finset.mem_insert.1 hi with rfl | hi
    · exact h2.1
    · exact ih h2.2 i hi
  exact key _ e i (Finset.mem_filter.2 ⟨Finset.mem_univ _, ht _ _⟩)

/-- An absolute value below infinity is a real number's. -/
theorem real_of_lt (x : EReal) (h : FloatOps.cmpf (F := Ideal) (φ := .f32) .olt (FloatOps.hostAbsf (F := Ideal) (φ := .f32) x) (FloatOps.ofBits .f32 0x7F800000#32) = 1#1) : ∃ r : ℝ, x = r := by
  change Ideal.cmp .olt (max x (-x)) (Ideal.ofBits .f32 0x7F800000#32) = 1#1 at h
  induction x using EReal.rec with
  | bot => simp [Ideal.ofBits, Ideal.ieee, Ideal.cmp] at h
  | coe r => exact ⟨r, rfl⟩
  | top => simp [Ideal.ofBits, Ideal.ieee, Ideal.cmp] at h

theorem real_big (x : FVec Ideal Cert.Pre_finite.S8192x1024 .f32)
    (h : Host.reduce IntOp.andi (cmpf .olt (Host.absf x) (broadcastInDim Cert.Pre_finite.S8192x1024 ![] Cert.Pre_finite.Gen.bcast_S_S8192x1024 (constant Cert.Pre_finite.S_ .f32 0x7F800000#32)))
      (constantI Cert.Pre_finite.S_ 1 1#1) Cert.Pre_finite.Gen.reducesTo_S8192x1024_S_d0_1 Cert.Pre_finite.Gen.h_S_ (fun a => a.elim0) = 1#1) (i) : ∃ r : ℝ, x i = r := by
  have := and_all _ _ _ _ _ (fun a b => funext fun k => k.elim0) h i
  exact real_of_lt _ this

theorem real_small (x : FVec Ideal Cert.Pre_finite.S1x128 .f32)
    (h : Host.reduce IntOp.andi (cmpf .olt (Host.absf x) (broadcastInDim Cert.Pre_finite.S1x128 ![] Cert.Pre_finite.Gen.bcast_S_S1x128 (constant Cert.Pre_finite.S_ .f32 0x7F800000#32)))
      (constantI Cert.Pre_finite.S_ 1 1#1) Cert.Pre_finite.Gen.reducesTo_S1x128_S_d0_1 Cert.Pre_finite.Gen.h_S_ (fun a => a.elim0) = 1#1) (i) : ∃ r : ℝ, x i = r := by
  have := and_all _ _ _ _ _ (fun a b => funext fun k => k.elim0) h i
  exact real_of_lt _ this

/-- Under the precondition every entry of the arrays it names is a real number. -/
theorem reals (q k v : FVec Ideal Cert.Pre_finite.S8192x1024 .f32) (a b e f : FVec Ideal Cert.Pre_finite.S1x128 .f32) (g : FVec Ideal Cert.Pre_finite.S1x256 .f32)
    (h : Cert.Pre_finite.fn (F := Ideal) q k v a b e f g = fun _ => 1#1) :
    (∀ i, ∃ r : ℝ, q i = r) ∧ (∀ i, ∃ r : ℝ, k i = r) ∧ (∀ i, ∃ r : ℝ, v i = r)
    ∧ (∀ i, ∃ r : ℝ, a i = r) ∧ (∀ i, ∃ r : ℝ, b i = r) ∧ (∀ i, ∃ r : ℝ, e i = r) ∧ (∀ i, ∃ r : ℝ, f i = r) := by
  have h0 := congrFun h (fun a => a.elim0)
  have h1 := IntOp.andi_eq_one.1 h0
  have h2 := IntOp.andi_eq_one.1 h1.1
  have h3 := IntOp.andi_eq_one.1 h2.1
  have h4 := IntOp.andi_eq_one.1 h3.1
  have h5 := IntOp.andi_eq_one.1 h4.1
  have h6 := IntOp.andi_eq_one.1 h5.1
  exact ⟨real_big q h6.1, real_big k h6.2, real_big v h5.2, real_small a h4.2, real_small b h3.2, real_small e h2.2, real_small f h1.2⟩

end Cert.KernelIdeal.Diff
-- ==== Proof.Diff.Soft.lean ====
module

public import proofs.«01_k».proof.Proof.Diff.Math

@[expose] public section

/-! # The softmax of the reference, as weights to the base two -/

noncomputable section

namespace Cert.KernelIdeal.Diff

open Idealize.ShloMosaic

/-- A key's weight among the first `n`. -/
def wgt (n : ℕ) (s : ℕ → ℝ) (k : ℕ) : ℝ := if k < n then two (s k) / ∑ j ∈ Finset.range n, two (s j) else 0

theorem exp_two (t M : ℝ) : Real.exp (t * Real.log 2 - M) = two t * Real.exp (-M) := by
  rw [sub_eq_add_neg, Real.exp_add]
  congr 1
  show _ = Real.rpow 2 t
  exact (by rw [mul_comm]; exact (Real.rpow_def_of_pos (by norm_num) t).symm)

theorem sum_below {K n : ℕ} (hn : n ≤ K) (f : ℕ → ℝ) :
    ∑ k : Fin K, (if k.val < n then f k.val else 0) = ∑ k ∈ Finset.range n, f k := by
  rw [Fin.sum_univ_eq_sum_range (fun k => if k < n then f k else 0) K, ← Finset.sum_filter]
  refine Finset.sum_congr (Finset.ext fun k => ?_) fun _ _ => rfl
  simp only [Finset.mem_filter, Finset.mem_range]
  exact ⟨fun h => h.2, fun h => ⟨lt_of_lt_of_le h hn, h⟩⟩

/-- Exponentials of scores less any real, the keys from `n` on left out, over their sum. -/
theorem soft {K n : ℕ} (h0 : 0 < n) (hn : n ≤ K) (s : ℕ → ℝ) (M : ℝ) (x : Fin K → EReal)
    (hx : ∀ k, x k = if k.val < n then ((s k.val * Real.log 2 : ℝ) : EReal) else ⊥) (z : EReal) (hz : z = 0) (k : Fin K) :
    Ideal.div (Ideal.exp (x k - (M : EReal))) (z + ∑ j, Ideal.exp (x j - (M : EReal))) = (wgt n s k.val : EReal) := by
  have he (j : Fin K) : Ideal.exp (x j - (M : EReal)) = ((if j.val < n then two (s j.val) * Real.exp (-M) else 0 : ℝ) : EReal) := by
    rw [hx]
    split
    · rw [← EReal.coe_sub, Ideal.exp_coe, exp_two]
    · rw [EReal.bot_sub, Ideal.exp_bot]; rfl
  have hS : 0 < ∑ j ∈ Finset.range n, two (s j) := Finset.sum_pos (fun j _ => two_pos _) ⟨0, Finset.mem_range.2 h0⟩
  have hE : 0 < Real.exp (-M) := Real.exp_pos _
  have hs : z + ∑ j, Ideal.exp (x j - (M : EReal)) = (((∑ j ∈ Finset.range n, two (s j)) * Real.exp (-M) : ℝ) : EReal) := by
    rw [hz, zero_add, Finset.sum_congr rfl fun j _ => he j, ← coe_sum, sum_below hn (fun k => two (s k) * Real.exp (-M)), Finset.sum_mul]
  rw [hs, he, Ideal.div_coe (mul_pos hS hE).ne', ← EReal.coe_mul]
  refine congrArg _ ?_
  unfold wgt
  split
  · field_simp
  · simp

/-- The weighted sum of the difference of two weightings is the difference of the two means. -/
theorem mix {K n : ℕ} (hn : n ≤ K) (s0 s1 w : ℕ → ℝ) (lam : ℝ) :
    ∑ k : Fin K, ((w k.val : EReal) * ((wgt n s0 k.val : EReal) - (lam : EReal) * (wgt n s1 k.val : EReal)))
      = ((mean n s0 w - lam * mean n s1 w : ℝ) : EReal) := by
  have h (k : Fin K) : ((w k.val : EReal) * ((wgt n s0 k.val : EReal) - (lam : EReal) * (wgt n s1 k.val : EReal)))
      = ((if k.val < n then w k.val * (two (s0 k.val) / (∑ j ∈ Finset.range n, two (s0 j)) - lam * (two (s1 k.val) / ∑ j ∈ Finset.range n, two (s1 j))) else 0 : ℝ) : EReal) := by
    rw [← EReal.coe_mul, ← EReal.coe_sub, ← EReal.coe_mul]
    refine congrArg _ ?_
    unfold wgt
    split <;> simp
  rw [Finset.sum_congr rfl fun k _ => h k, ← coe_sum, sum_below hn (fun k => w k * (two (s0 k) / (∑ j ∈ Finset.range n, two (s0 j)) - lam * (two (s1 k) / ∑ j ∈ Finset.range n, two (s1 j))))]
  refine congrArg _ ?_
  unfold mean
  rw [Finset.sum_div, Finset.sum_div, Finset.mul_sum, ← Finset.sum_sub_distrib]
  exact Finset.sum_congr rfl fun k _ => by ring

end Cert.KernelIdeal.Diff
-- ==== Proof.Diff.Ref.lean ====
module

public import proofs.«01_k».proof.Proof.Diff.Soft
public import proofs.«01_k».proof.Proof.Diff.Tail
public import proofs.«01_k».proof.Proof.Gen.ReferenceIdeal.Read
public import Idealize.ShloMosaic.Lib.Pointwise

@[expose] public section

set_option maxRecDepth 16384

/-! # The reference, at an index -/

noncomputable section

namespace Cert.KernelIdeal.Diff

open Cert.ReferenceIdeal Cert.ReferenceIdeal.Read Cert.ReferenceIdeal.Gen
open Idealize.ShloMosaic

/-- The score of a key of one of the eight maps, to the base two. -/
def refS (q k : ℕ → ℕ → ℝ) (h a b : ℕ) : ℝ :=
  (∑ e : Fin 128, q a (128 * h + e.val) * k b (128 * h + e.val)) * ((Real.sqrt 128)⁻¹ / Real.log 2)

variable (q k v : ℕ → ℕ → ℝ) (x0 x1 x2 : S8192x1024.Idx → EReal)
  (h0 : ∀ (a : Fin 8192) (b : Fin 1024), x0 (ix2 a b) = (q a.val b.val : EReal))
  (h1 : ∀ (a : Fin 8192) (b : Fin 1024), x1 (ix2 a b) = (k a.val b.val : EReal))
  (h2 : ∀ (a : Fin 8192) (b : Fin 1024), x2 (ix2 a b) = (v a.val b.val : EReal))

theorem bits128 : Ideal.ofBits .f32 0x43000000#32 = ((128 : ℝ) : EReal) := by
  simp [Ideal.ofBits, Ideal.ieee, -EReal.coe_mul]; norm_num
theorem bits2 : Ideal.ofBits .f32 0x40000000#32 = ((2 : ℝ) : EReal) := by
  simp [Ideal.ofBits, Ideal.ieee, -EReal.coe_mul]; norm_num
theorem rsqrt128 : Ideal.rsqrt (Ideal.ofBits .f32 0x43000000#32) = (((Real.sqrt 128)⁻¹ : ℝ) : EReal) := by
  rw [bits128, Ideal.rsqrt_coe, if_neg (by norm_num), if_neg (by norm_num)]

include h0 in
theorem ref_q (h : Fin 8) (a b : Fin 8192) (e : Fin 128) :
    val_main_v12 (F := Ideal) x0 (lidx_main_v15 (ix3 h a b) e) = (q a.val (128 * h.val + e.val) : EReal) := by
  rw [val_main_v12_apply]
  have := h.isLt; have := a.isLt; have := e.isLt
  refine Eq.trans (congrArg x0 ?_) (h0 a ⟨128 * h.val + e.val, by omega⟩)
  refine funext fun i => Fin.ext ?_
  match i with
  | ⟨0, _⟩ => show ((a.val * 8 + h.val) * 128 + e.val) / 1024 = a.val; omega
  | ⟨1, _⟩ => show ((a.val * 8 + h.val) * 128 + e.val) % 1024 = 128 * h.val + e.val; omega

include h1 in
theorem ref_k (h : Fin 8) (a b : Fin 8192) (e : Fin 128) :
    val_main_v13 (F := Ideal) x1 (ridx_main_v15 (ix3 h a b) e) = (k b.val (128 * h.val + e.val) : EReal) := by
  rw [val_main_v13_apply]
  have := h.isLt; have := b.isLt; have := e.isLt
  refine Eq.trans (congrArg x1 ?_) (h1 b ⟨128 * h.val + e.val, by omega⟩)
  refine funext fun i => Fin.ext ?_
  match i with
  | ⟨0, _⟩ => show ((b.val * 8 + h.val) * 128 + e.val) / 1024 = b.val; omega
  | ⟨1, _⟩ => show ((b.val * 8 + h.val) * 128 + e.val) % 1024 = 128 * h.val + e.val; omega

include h0 h1 in
/-- The scaled score. -/
theorem ref_score (h : Fin 8) (a b : Fin 8192) :
    val_main_v18 (F := Ideal) x0 x1 (ix3 h a b) = ((refS q k h.val a.val b.val * Real.log 2 : ℝ) : EReal) := by
  have hl : Real.log 2 ≠ 0 := (Real.log_pos (by norm_num)).ne'
  rw [val_main_v18_apply, val_main_v15_apply, val_main_v17_apply, val_main_v16_apply, val_main_cst_2_apply]
  show (∑ e : Fin 128, _) * Ideal.rsqrt (Ideal.ofBits .f32 0x43000000#32) = _
  rw [rsqrt128, Finset.sum_congr rfl fun e _ => (congrArg₂ (· * ·) (ref_q q x0 h0 h a b e) (ref_k k x1 h1 h a b e)).trans (EReal.coe_mul _ _).symm, ← coe_sum, ← EReal.coe_mul]
  refine congrArg _ ?_
  unfold refS
  field_simp

/-- The mask. -/
theorem ref_mask (h : Fin 8) (a b : Fin 8192) :
    val_main_call0_v1 (F := Ideal) (ix3 h a b) = if b.val ≤ a.val then 1#1 else 0#1 := by
  rw [val_main_call0_v1_apply, val_main_v25_apply, val_main_v24_apply, val_main_v22_apply, val_main_v23_apply, val_main_v20_apply, val_main_v21_apply, val_main_v19_apply, val_main_v19_apply]
  show BitVec.ofBool ((BitVec.ofNat 32 b.val).sle (BitVec.ofNat 32 a.val)) = _
  have := a.isLt; have := b.isLt
  have e : ((BitVec.ofNat 32 b.val).sle (BitVec.ofNat 32 a.val)) = decide (b.val ≤ a.val) := by
    rw [BitVec.sle, BitVec.toInt_eq_toNat_of_lt (by rw [BitVec.toNat_ofNat]; omega), BitVec.toInt_eq_toNat_of_lt (by rw [BitVec.toNat_ofNat]; omega), BitVec.toNat_ofNat, BitVec.toNat_ofNat]
    refine decide_eq_decide.2 ?_
    omega
  rw [e]
  by_cases hab : b.val ≤ a.val <;> simp [hab]

include h0 h1 in
/-- The masked score. -/
theorem ref_masked (h : Fin 8) (a b : Fin 8192) :
    val_main_v26 (F := Ideal) x0 x1 (ix3 h a b) = if b.val < a.val + 1 then ((refS q k h.val a.val b.val * Real.log 2 : ℝ) : EReal) else ⊥ := by
  rw [val_main_v26_apply, ref_mask, ref_score q k x0 x1 h0 h1, val_main_call0_v2_apply, val_main_call0_v0_apply, val_main_cst_3_apply]
  have hb : FloatOps.ofBits (F := Ideal) .f32 0xFF800000#32 = ⊥ := by
    show Ideal.ofBits .f32 0xFF800000#32 = ⊥
    simp [Ideal.ofBits, Ideal.ieee]
  by_cases hab : b.val ≤ a.val
  · rw [if_pos hab, if_pos (by omega)]; rfl
  · rw [if_neg hab, if_neg (by omega)]; exact hb

include h0 h1 in
/-- The row's maximum is a real number. -/
theorem ref_max (h : Fin 8) (a : Fin 8192) : ∃ M : ℝ, val_main_v29 (F := Ideal) x0 x1 (ix2 h a) = (M : EReal) := by
  have hb : FloatOps.ofBits (F := Ideal) .f32 0xFF800000#32 = ⊥ := by
    show Ideal.ofBits .f32 0xFF800000#32 = ⊥
    simp [Ideal.ofBits, Ideal.ieee]
  have hr : S8x8192x8192.Reduces [2] S8x8192 := by decide
  have hl (j : Fin 8192) : hr.lift (ix2 h a) j = (ix3 h a j : S8x8192x8192.Idx) := by
    refine funext fun i => Fin.ext ?_
    match i with
    | ⟨0, _⟩ => rfl
    | ⟨1, _⟩ => rfl
    | ⟨2, _⟩ => rfl
  obtain ⟨M, hM⟩ := fold_real (K := 8192) (fun j => val_main_v26 (F := Ideal) x0 x1 (ix3 h a j))
    (fun j => by rw [ref_masked q k x0 x1 h0 h1]; split; exacts [EReal.coe_ne_top _, bot_ne_top]) ⟨0, by norm_num⟩
    (by rw [ref_masked q k x0 x1 h0 h1, if_pos (by show 0 < a.val + 1; omega)]; exact EReal.coe_ne_bot _)
  refine ⟨M, ?_⟩
  rw [val_main_v29_apply, val_main_v28_apply, val_main_cst_5_apply, hb]
  refine (max_bot_left (α := EReal) _).trans ?_
  unfold val_main_v27
  rw [show (FloatOps.maximumf (F := Ideal) (φ := .f32)) = (max : EReal → EReal → EReal) from rfl,
    Host.reduce_eq_fold_single (α := EReal) max _ _ reducesTo_S8x8192x8192_S8x8192_d2 hr h_S_ (ix2 h a), val_main_cst_4_apply, hb]
  refine Eq.trans ?_ hM
  exact congrArg (fun f : Fin 8192 → EReal => Finset.fold max ⊥ f Finset.univ) (funext fun j => congrArg (val_main_v26 (F := Ideal) x0 x1) (hl j))

include h0 h1 in
/-- The softmax's weights. -/
theorem ref_soft (h : Fin 8) (a b : Fin 8192) :
    val_main_v37 (F := Ideal) x0 x1 (ix3 h a b) = (wgt (a.val + 1) (refS q k h.val a.val) b.val : EReal) := by
  obtain ⟨M, hM⟩ := ref_max q k x0 x1 h0 h1 h a
  have he (j : Fin 8192) : val_main_v33 (F := Ideal) x0 x1 (ix3 h a j) = Ideal.exp (val_main_v26 (F := Ideal) x0 x1 (ix3 h a j) - (M : EReal)) := by
    rw [val_main_v33_apply, val_main_v32_apply, val_main_v31_apply, val_main_v30_apply]
    refine congrArg (fun z : EReal => Ideal.exp (val_main_v26 (F := Ideal) x0 x1 (ix3 h a j) - z)) (Eq.trans (congrArg _ ?_) hM)
    refine funext fun i => Fin.ext ?_
    match i with
    | ⟨0, _⟩ => rfl
    | ⟨1, _⟩ => rfl
  have hi : idx_main_v35 (idx_main_v36 (ix3 h a b)) = ix2 h a := by
    refine funext fun i => Fin.ext ?_
    match i with
    | ⟨0, _⟩ => rfl
    | ⟨1, _⟩ => rfl
  have hj (j : Fin 8192) : idx_main_v34 (ix2 h a) j = ix3 h a j := by
    refine funext fun i => Fin.ext ?_
    match i with
    | ⟨0, _⟩ => rfl
    | ⟨1, _⟩ => rfl
    | ⟨2, _⟩ => rfl
  rw [val_main_v37_apply, val_main_v36_apply, val_main_v35_apply, hi, val_main_v34_apply, he, Finset.sum_congr rfl fun j _ => (congrArg _ (hj j)).trans (he j)]
  have hz : val_main_cst_6 (F := Ideal) (Shape.Idx.first h_S_) = (0 : EReal) := by
    rw [val_main_cst_6_apply]
    show Ideal.ofBits .f32 0x00000000#32 = 0
    simp [Ideal.ofBits, Ideal.ieee]
  exact soft (K := 8192) (by omega) (by have := a.isLt; omega) (refS q k h.val a.val) M (fun j => val_main_v26 (F := Ideal) x0 x1 (ix3 h a j))
    (fun j => ref_masked q k x0 x1 h0 h1 h a j) _ hz b

end Cert.KernelIdeal.Diff
-- ==== Proof.Diff.RefTail.lean ====
module

public import proofs.«01_k».proof.Proof.Diff.Ref

@[expose] public section

set_option maxRecDepth 16384

/-! # The reference's result, at an index -/

noncomputable section

namespace Cert.KernelIdeal.Diff

open Cert.ReferenceIdeal Cert.ReferenceIdeal.Read Cert.ReferenceIdeal.Gen
open Idealize.ShloMosaic

variable (q k v : ℕ → ℕ → ℝ) (x0 x1 x2 : S8192x1024.Idx → EReal) (x3 x4 x5 x6 : S1x128.Idx → EReal) (x7 : S1x256.Idx → EReal)
  (h0 : ∀ (a : Fin 8192) (b : Fin 1024), x0 (ix2 a b) = (q a.val b.val : EReal))
  (h1 : ∀ (a : Fin 8192) (b : Fin 1024), x1 (ix2 a b) = (k a.val b.val : EReal))
  (h2 : ∀ (a : Fin 8192) (b : Fin 1024), x2 (ix2 a b) = (v a.val b.val : EReal))
  (r3 : ∀ i, ∃ r : ℝ, x3 i = r) (r4 : ∀ i, ∃ r : ℝ, x4 i = r) (r5 : ∀ i, ∃ r : ℝ, x5 i = r) (r6 : ∀ i, ∃ r : ℝ, x6 i = r)

theorem zero_bits : Ideal.ofBits .f32 0x00000000#32 = 0 := by simp [Ideal.ofBits, Ideal.ieee]

/-- A sum over the indices of a vector. -/
theorem sum_vec (f : S128.Idx → EReal) : ∑ j : S128.Idx, f j = ∑ e : Fin 128, f (ix1 e) := by
  refine Fintype.sum_equiv (⟨fun j => j 0, fun e => ix1 e, fun j => ?_, fun e => rfl⟩ : S128.Idx ≃ Fin 128) _ _ (fun j => congrArg f ?_)
  · exact funext fun i => by match i with | ⟨0, _⟩ => rfl
  · exact funext fun i => by match i with | ⟨0, _⟩ => rfl

/-- The mixing weight. -/
theorem ref_lam (i : S_.Idx) : val_main_v11 (F := Ideal) x3 x4 x5 x6 i
    = lamE (fun e => x3 (ix2 0 e)) (fun e => x4 (ix2 0 e)) (fun e => x5 (ix2 0 e)) (fun e => x6 (ix2 0 e)) := by
  rw [val_main_v11_apply, val_main_v10_apply, val_main_v4_apply, val_main_v9_apply, val_main_v3_apply, val_main_v8_apply, sum_vec, sum_vec, val_main_cst_1_apply, val_main_cst_apply, val_main_cst_0_apply]
  have e1 (e : Fin 128) : val_main_v2 (F := Ideal) x3 x4 (ix1 e) = x3 (ix2 0 e) * x4 (ix2 0 e) := by
    have := e.isLt
    rw [val_main_v2_apply, val_main_v0_apply, val_main_v1_apply]
    refine congrArg₂ (fun s t : EReal => s * t) (congrArg x3 ?_) (congrArg x4 ?_) <;>
    · refine funext fun i => Fin.ext ?_
      match i with
      | ⟨0, _⟩ => rfl
      | ⟨1, _⟩ => show e.val % 128 = e.val; omega
  have e2 (e : Fin 128) : val_main_v7 (F := Ideal) x5 x6 (ix1 e) = x5 (ix2 0 e) * x6 (ix2 0 e) := by
    have := e.isLt
    rw [val_main_v7_apply, val_main_v5_apply, val_main_v6_apply]
    refine congrArg₂ (fun s t : EReal => s * t) (congrArg x5 ?_) (congrArg x6 ?_) <;>
    · refine funext fun i => Fin.ext ?_
      match i with
      | ⟨0, _⟩ => rfl
      | ⟨1, _⟩ => show e.val % 128 = e.val; omega
  rw [Finset.sum_congr rfl fun e _ => e1 e, Finset.sum_congr rfl fun e _ => e2 e]
  show Ideal.exp (Ideal.ofBits .f32 0x00000000#32 + _) - Ideal.exp (Ideal.ofBits .f32 0x00000000#32 + _) + _ = _
  rw [zero_bits, zero_add, zero_add]
  rfl

include r3 r4 r5 r6 in
/-- It is a real number. -/
theorem lam_real : ∃ r : ℝ, lamE (fun e => x3 (ix2 0 e)) (fun e => x4 (ix2 0 e)) (fun e => x5 (ix2 0 e)) (fun e => x6 (ix2 0 e)) = (r : EReal) := by
  choose y3 hy3 using r3
  choose y4 hy4 using r4
  choose y5 hy5 using r5
  choose y6 hy6 using r6
  have hb : ∃ r : ℝ, Ideal.ofBits .f32 0x3E4CCCCD#32 = (r : EReal) := by
    refine ⟨13421773 / 67108864, ?_⟩
    simp [Ideal.ofBits, Ideal.ieee, -EReal.coe_mul]; norm_num
  obtain ⟨b, hb⟩ := hb
  refine ⟨Real.exp (∑ e : Fin 128, y3 (ix2 0 e) * y4 (ix2 0 e)) - Real.exp (∑ e : Fin 128, y5 (ix2 0 e) * y6 (ix2 0 e)) + b, ?_⟩
  unfold lamE
  simp only [hy3, hy4, hy5, hy6, hb, ← EReal.coe_mul, ← coe_sum, Ideal.exp_coe, ← EReal.coe_sub, ← EReal.coe_add]

/-- The two maps of a head, of the eight. -/
theorem ref_pair (h : Fin 4) (mm : Fin 2) (a b : Fin 8192) :
    val_main_v38 (F := Ideal) x0 x1 (ix4 h mm a b) = val_main_v37 (F := Ideal) x0 x1 (ix3 (⟨2 * h.val + mm.val, by omega⟩ : Fin 8) a b) := by
  have := h.isLt; have := a.isLt; have := b.isLt; have := mm.isLt
  rw [val_main_v38_apply]
  refine congrArg _ (funext fun i => Fin.ext ?_)
  match i with
  | ⟨0, _⟩ => show (((h.val * 2 + mm.val) * 8192 + a.val) * 8192 + b.val) / 67108864 = 2 * h.val + mm.val; omega
  | ⟨1, _⟩ => show (((h.val * 2 + mm.val) * 8192 + a.val) * 8192 + b.val) / 8192 % 8192 = a.val; omega
  | ⟨2, _⟩ => show (((h.val * 2 + mm.val) * 8192 + a.val) * 8192 + b.val) % 8192 = b.val; omega

/-- The first map's weights. -/
theorem ref_p0 (h : Fin 4) (a b : Fin 8192) : val_main_v40 (F := Ideal) x0 x1 (ix3 h a b) = val_main_v37 (F := Ideal) x0 x1 (ix3 (⟨2 * h.val + 0, by omega⟩ : Fin 8) a b) := by
  have := h.isLt; have := a.isLt; have := b.isLt
  have e1 : idx_main_v40 (ix3 h a b) = ix4 h 0 a b := by
    refine funext fun i => Fin.ext ?_
    match i with
    | ⟨0, _⟩ => show ((h.val * 8192 + a.val) * 8192 + b.val) / 67108864 = h.val; omega
    | ⟨1, _⟩ => rfl
    | ⟨2, _⟩ => show ((h.val * 8192 + a.val) * 8192 + b.val) / 8192 % 8192 = a.val; omega
    | ⟨3, _⟩ => show ((h.val * 8192 + a.val) * 8192 + b.val) % 8192 = b.val; omega
  have e2 : idx_main_v39 (ix4 h 0 a b) = ix4 h 0 a b := by
    refine funext fun i => Fin.ext ?_
    match i with
    | ⟨0, _⟩ => rfl
    | ⟨1, _⟩ => rfl
    | ⟨2, _⟩ => rfl
    | ⟨3, _⟩ => rfl
  rw [val_main_v40_apply, val_main_v39_apply, e1, e2, ref_pair]
  rfl

/-- The second map's weights. -/
theorem ref_p1 (h : Fin 4) (a b : Fin 8192) : val_main_v42 (F := Ideal) x0 x1 (ix3 h a b) = val_main_v37 (F := Ideal) x0 x1 (ix3 (⟨2 * h.val + 1, by omega⟩ : Fin 8) a b) := by
  have := h.isLt; have := a.isLt; have := b.isLt
  have e1 : idx_main_v42 (ix3 h a b) = ix4 h 0 a b := by
    refine funext fun i => Fin.ext ?_
    match i with
    | ⟨0, _⟩ => show ((h.val * 8192 + a.val) * 8192 + b.val) / 67108864 = h.val; omega
    | ⟨1, _⟩ => rfl
    | ⟨2, _⟩ => show ((h.val * 8192 + a.val) * 8192 + b.val) / 8192 % 8192 = a.val; omega
    | ⟨3, _⟩ => show ((h.val * 8192 + a.val) * 8192 + b.val) % 8192 = b.val; omega
  have e2 : idx_main_v41 (ix4 h 0 a b) = ix4 h 1 a b := by
    refine funext fun i => Fin.ext ?_
    match i with
    | ⟨0, _⟩ => rfl
    | ⟨1, _⟩ => rfl
    | ⟨2, _⟩ => rfl
    | ⟨3, _⟩ => rfl
  rw [val_main_v42_apply, val_main_v41_apply, e1, e2, ref_pair]
  rfl

include h0 h1 h2 in
/-- The two attentions' difference. -/
theorem ref_mix (lam : ℝ) (hl : lamE (fun e => x3 (ix2 0 e)) (fun e => x4 (ix2 0 e)) (fun e => x5 (ix2 0 e)) (fun e => x6 (ix2 0 e)) = (lam : EReal)) (a : Fin 8192) (h : Fin 4) (d : Fin 256) :
    val_main_v47 (F := Ideal) x0 x1 x2 x3 x4 x5 x6 (ix3 a h d)
      = ((mean (a.val + 1) (refS q k (2 * h.val) a.val) (fun b => v b (256 * h.val + d.val))
          - lam * mean (a.val + 1) (refS q k (2 * h.val + 1) a.val) (fun b => v b (256 * h.val + d.val)) : ℝ) : EReal) := by
  have := h.isLt; have := a.isLt; have := d.isLt
  rw [val_main_v47_apply, val_main_v46_apply, ← mix (K := 8192) (by omega)]
  refine Finset.sum_congr rfl fun b _ => congrArg₂ (fun s t : EReal => s * t) ?_ ?_
  · have := b.isLt
    rw [val_main_v14_apply]
    refine Eq.trans (congrArg x2 ?_) (h2 b ⟨256 * h.val + d.val, by omega⟩)
    refine funext fun i => Fin.ext ?_
    match i with
    | ⟨0, _⟩ => show ((b.val * 4 + h.val) * 256 + d.val) / 1024 = b.val; omega
    | ⟨1, _⟩ => show ((b.val * 4 + h.val) * 256 + d.val) % 1024 = 256 * h.val + d.val; omega
  · have hi : ridx_main_v46 (idx_main_v47 (ix3 a h d)) b = ix3 h a b := by
      refine funext fun i => Fin.ext ?_
      match i with
      | ⟨0, _⟩ => rfl
      | ⟨1, _⟩ => rfl
      | ⟨2, _⟩ => rfl
    rw [hi, val_main_v45_apply, val_main_v44_apply, val_main_v43_apply, ref_lam, hl, ref_p0, ref_p1, ref_soft q k x0 x1 h0 h1, ref_soft q k x0 x1 h0 h1]
    rfl

include h0 h1 h2 in
/-- The reference's result. -/
theorem ref_at (lam : ℝ) (hl : lamE (fun e => x3 (ix2 0 e)) (fun e => x4 (ix2 0 e)) (fun e => x5 (ix2 0 e)) (fun e => x6 (ix2 0 e)) = (lam : EReal)) (a : Fin 8192) (b : Fin 1024) :
    val_main_v65 (F := Ideal) x0 x1 x2 x3 x4 x5 x6 x7 (ix2 a b)
      = finish (fun e => ((mean (a.val + 1) (refS q k (2 * (b.val / 256)) a.val) (fun j => v j (256 * (b.val / 256) + e.val))
          - lam * mean (a.val + 1) (refS q k (2 * (b.val / 256) + 1) a.val) (fun j => v j (256 * (b.val / 256) + e.val)) : ℝ) : EReal))
        (fun e => x7 (ix2 0 e)) ⟨b.val % 256, Nat.mod_lt _ (by norm_num)⟩ := by
  have := a.isLt; have := b.isLt
  have hb : b.val / 256 < 4 := by omega
  have hm := ref_mix q k v x0 x1 x2 x3 x4 x5 x6 h0 h1 h2 lam hl a ⟨b.val / 256, hb⟩
  have hi : idx_main_v64 (ix2 a b) = ix3 a (⟨b.val / 256, hb⟩ : Fin 4) (⟨b.val % 256, Nat.mod_lt _ (by norm_num)⟩ : Fin 256) := by
    refine funext fun i => Fin.ext ?_
    match i with
    | ⟨0, _⟩ => show (a.val * 1024 + b.val) / 1024 = a.val; omega
    | ⟨1, _⟩ => show (a.val * 1024 + b.val) / 256 % 4 = b.val / 256; omega
    | ⟨2, _⟩ => show (a.val * 1024 + b.val) % 256 = b.val % 256; omega
  have hj (e : Fin 256) : idx_main_v49 (idx_main_v50 (idx_main_v56 (ix3 a (⟨b.val / 256, hb⟩ : Fin 4) (⟨b.val % 256, Nat.mod_lt _ (by norm_num)⟩ : Fin 256)))) e = ix3 a (⟨b.val / 256, hb⟩ : Fin 4) e := by
    refine funext fun i => Fin.ext ?_
    match i with
    | ⟨0, _⟩ => rfl
    | ⟨1, _⟩ => rfl
    | ⟨2, _⟩ => rfl
  have hg : idx_main_v58 (idx_main_v59 (idx_main_v60 (ix3 a (⟨b.val / 256, hb⟩ : Fin 4) (⟨b.val % 256, Nat.mod_lt _ (by norm_num)⟩ : Fin 256)))) = ix2 0 (⟨b.val % 256, Nat.mod_lt _ (by norm_num)⟩ : Fin 256) := by
    refine funext fun i => Fin.ext ?_
    match i with
    | ⟨0, _⟩ => rfl
    | ⟨1, _⟩ => show b.val % 256 % 256 = b.val % 256; omega
  have hs (e : Fin 256) : val_main_v48 (F := Ideal) x0 x1 x2 x3 x4 x5 x6 (idx_main_v49 (idx_main_v50 (idx_main_v56 (ix3 a (⟨b.val / 256, hb⟩ : Fin 4) (⟨b.val % 256, Nat.mod_lt _ (by norm_num)⟩ : Fin 256)))) e)
      = (fun s : EReal => s * s) (val_main_v47 (F := Ideal) x0 x1 x2 x3 x4 x5 x6 (ix3 a (⟨b.val / 256, hb⟩ : Fin 4) e)) := by
    rw [hj]; rfl
  rw [val_main_v65_apply, val_main_v64_apply, hi, val_main_v63_apply, val_main_v62_apply, val_main_cst_10_apply, val_main_v61_apply, val_main_v60_apply, val_main_v59_apply, val_main_v58_apply, hg,
    val_main_v57_apply, val_main_v56_apply, val_main_v55_apply, val_main_v54_apply, val_main_v53_apply, val_main_cst_9_apply, val_main_v52_apply, val_main_v51_apply, val_main_cst_8_apply, val_main_v50_apply, val_main_v49_apply,
    val_main_cst_7_apply, Finset.sum_congr rfl fun e _ => hs e]
  simp only [hm]
  show _ * Ideal.rsqrt (Ideal.div (Ideal.ofBits .f32 0x00000000#32 + _) _ + _) * _ * _ = _
  rw [zero_bits, zero_add]
  rfl

end Cert.KernelIdeal.Diff
-- ==== Proof.Diff.Meet.lean ====
module

public import proofs.«01_k».proof.Defs
public import proofs.«01_k».proof.Proof.Diff.Out
public import proofs.«01_k».proof.Proof.Diff.Host
public import proofs.«01_k».proof.Proof.Diff.Pre
public import proofs.«01_k».proof.Proof.Diff.RefTail

@[expose] public section

set_option maxRecDepth 16384

/-! # The kernel's result is the reference's -/

noncomputable section

namespace Cert.KernelIdeal.Diff

open Cert.KernelIdeal Cert.KernelIdeal.Gen
open Idealize.ShloMosaic Idealize.ShloMosaic.TcCoe Idealize.SL.Sem

/-- An array's reals, by the two coordinates. -/
def toN (x : S8192x1024.Idx → EReal) (a b : ℕ) : ℝ :=
  if h : a < 8192 ∧ b < 1024 then (x (ix2 ⟨a, h.1⟩ ⟨b, h.2⟩)).toReal else 0

theorem toN_eq (x : S8192x1024.Idx → EReal) (hr : ∀ i, ∃ r : ℝ, x i = r) (a : Fin 8192) (b : Fin 1024) : x (ix2 a b) = (toN x a.val b.val : EReal) := by
  unfold toN
  rw [dif_pos ⟨a.isLt, b.isLt⟩]
  obtain ⟨r, h⟩ := hr (ix2 a b)
  show x (ix2 a b) = ((x (ix2 a b)).toReal : EReal)
  rw [h, EReal.toReal_coe]

/-- The packed array's reals. -/
def pack (q k v : ℕ → ℕ → ℝ) (a b : ℕ) : ℝ :=
  if b < 1024 then q a b * ((Real.sqrt 128)⁻¹ / Real.log 2) else if b < 2048 then k a (b - 1024) else v a (b - 2048)

theorem qscale_eq : qscale = (((Real.sqrt 128)⁻¹ / Real.log 2 : ℝ) : EReal) := by
  have hl : Real.log 2 ≠ 0 := (Real.log_pos (by norm_num)).ne'
  unfold qscale
  rw [rsqrt128, bits2, Ideal.log_coe, if_neg (by norm_num), Ideal.div_coe hl, ← EReal.coe_mul]
  refine congrArg _ ?_
  field_simp

theorem score_meet (q k v : ℕ → ℕ → ℝ) (h mm : ℕ) (hh : h < 4) (hm : mm < 2) (a : ℕ) :
    scoreR (pack q k v) h mm a = refS q k (2 * h + mm) a := by
  funext b
  unfold scoreR refS
  rw [Finset.sum_mul]
  refine Finset.sum_congr rfl fun e _ => ?_
  have := e.isLt
  unfold pack
  rw [if_pos (by omega), if_neg (by omega), if_pos (by omega),
    show 256 * h + (mm * 128 + e.val) = 128 * (2 * h + mm) + e.val by omega,
    show 1024 + 256 * h + (mm * 128 + e.val) - 1024 = 128 * (2 * h + mm) + e.val by omega]
  ring

theorem val_meet (q k v : ℕ → ℕ → ℝ) (h : ℕ) (e : Fin 256) :
    (fun b => valR (pack q k v) h b e) = fun b => v b (256 * h + e.val) := by
  funext b
  unfold valR pack
  rw [if_neg (by omega), if_neg (by omega), show 2048 + 256 * h + e.val - 2048 = 256 * h + e.val by omega]

variable (m : (ℓ : Loc nD τ sig) → Buf (Elt Ideal) ℓ) (c : Dev nD)

theorem packed (hq : ∀ i, ∃ r : ℝ, argQ m c i = r) (hk : ∀ i, ∃ r : ℝ, argK m c i = r) (hv : ∀ i, ∃ r : ℝ, argV m c i = r)
    (a : Fin 8192) (b : Fin 3072) : VV m c main_v6 (ix2 a b) = (pack (toN (argQ m c)) (toN (argK m c)) (toN (argV m c)) a.val b.val : EReal) := by
  have := b.isLt
  unfold pack
  by_cases h1 : b.val < 1024
  · rw [if_pos h1, EReal.coe_mul, ← qscale_eq]
    exact (packed_q m c a ⟨b.val, h1⟩).trans (congrArg (fun z : EReal => z * qscale) (toN_eq _ hq a ⟨b.val, h1⟩))
  · rw [if_neg h1]
    by_cases h2 : b.val < 2048
    · rw [if_pos h2]
      refine Eq.trans ?_ (toN_eq _ hk a ⟨b.val - 1024, by omega⟩)
      refine Eq.trans ?_ (packed_k m c a ⟨b.val - 1024, by omega⟩)
      exact congrArg (fun j => VV m c main_v6 (ix2 a j)) (Fin.ext (by show b.val = 1024 + (b.val - 1024); omega))
    · rw [if_neg h2]
      refine Eq.trans ?_ (toN_eq _ hv a ⟨b.val - 2048, by omega⟩)
      refine Eq.trans ?_ (packed_v m c a ⟨b.val - 2048, by omega⟩)
      exact congrArg (fun j => VV m c main_v6 (ix2 a j)) (Fin.ext (by show b.val = 2048 + (b.val - 2048); omega))

/-- What the kernel leaves is the reference's result of the same arguments. -/
theorem meet (h : Cert.Pre_finite.fn (F := Ideal) (argQ m c) (argK m c) (argV m c) (argL1 m c) (argL2 m c) (argL3 m c) (argL4 m c) (argG m c) = fun _ => 1#1) :
    (dats (VV m) 0 c).arrAt (5 : Fin 6) (cfgA Ideal).N
      = Cert.ReferenceIdeal.Read.val_main_v65 (F := Ideal) (argQ m c) (argK m c) (argV m c) (argL1 m c) (argL2 m c) (argL3 m c) (argL4 m c) (argG m c) := by
  obtain ⟨hq, hk, hv, l1, l2, l3, l4⟩ := reals _ _ _ _ _ _ _ _ h
  rw [result_arr (VV m) _ c (packed m c hq hk hv)]
  obtain ⟨lam, hl⟩ := lam_real (argL1 m c) (argL2 m c) (argL3 m c) (argL4 m c) l1 l2 l3 l4
  refine funext fun i => ?_
  obtain ⟨a, b, rfl⟩ : ∃ (a : Fin 8192) (b : Fin 1024), i = (ix2 a b : S8192x1024.Idx) :=
    ⟨i 0, i 1, funext fun k => by fin_cases k <;> rfl⟩
  have := b.isLt
  refine Eq.trans ?_ (ref_at (toN (argQ m c)) (toN (argK m c)) (toN (argV m c)) (argQ m c) (argK m c) (argV m c) (argL1 m c) (argL2 m c) (argL3 m c) (argL4 m c) (argG m c)
    (toN_eq _ hq) (toN_eq _ hk) (toN_eq _ hv) lam hl a b).symm
  have hL : lamV (VV m) c = (lam : EReal) := by
    unfold lamV
    simp only [lam_row0, lam_row1, lam_row2, lam_row3]
    exact hl
  show attn _ (lamV (VV m) c) _ (b.val / 256) a.val ⟨b.val % 256, _⟩ = _
  unfold attn
  rw [hL, score_meet _ _ _ _ 0 (by omega) (by norm_num), score_meet _ _ _ _ 1 (by omega) (by norm_num)]
  simp only [val_meet, gain_row, EReal.coe_sub, EReal.coe_mul, Nat.add_zero]

set_option maxHeartbeats 4000000 in
/-- The two programs' results are equal, element by element. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hargs
  refine ⟨fun c => (dats (VV m) 0 c).arrAt (5 : Fin 6) (cfgA Ideal).N, ?_, ?_⟩
  · refine (θ_run defs _ _).mono (fun r h c => ?_) (run_main m g)
    exact ⟨result_eq m h.1 c, kept m h.1 c main_arg0 (by decide) (by decide), kept m h.1 c main_arg1 (by decide) (by decide),
     kept m h.1 c main_arg2 (by decide) (by decide), kept m h.1 c main_arg3 (by decide) (by decide),
     kept m h.1 c main_arg4 (by decide) (by decide), kept m h.1 c main_arg5 (by decide) (by decide),
     kept m h.1 c main_arg6 (by decide) (by decide), kept m h.1 c main_arg7 (by decide) (by decide)⟩
  · refine (θ_run Cert.ReferenceIdeal.defs _ _).mono (fun r h c => ?_) (Cert.ReferenceIdeal.Value.run (F := Ideal) m' g')
    obtain ⟨e0, e1, e2, e3, e4, e5, e6, e7⟩ := hargs c
    refine ⟨(h c).1.trans ?_, (h c).2⟩
    refine (Cert.ReferenceIdeal.Read.val_main_v65_eq (F := Ideal) m' c).trans ?_
    rw [e0, e1, e2, e3, e4, e5, e6, e7]
    exact (meet m c (hpre c)).symm

end Cert.KernelIdeal.Diff
-- ==== Proof.Proj.Turn.lean ====
module

public import proofs.«01_k».proof.Proof.Gen.QkvIdeal
public import Idealize.ShloMosaic.Lib.Pipeline.ValueKit
public import Idealize.ShloMosaic.Lib.Pointwise

@[expose] public section

set_option maxRecDepth 16384

/-! # The projection's columns and the rotary embedding, on the extended reals

    The mathematics the queries', keys' and values' calls share: a column of the projection, the turn
    of a head's 128 columns by a position's angles, a block of 512 columns as the kernels compute it,
    and the turn as the references spell it. -/

noncomputable section

namespace Cert.Turn

open Idealize.ShloMosaic Idealize.ShloMosaic.TcCoe
open Cert.QkvIdeal Cert.QkvIdeal.Gen

/-- The angle of a position and a frequency: the position times `10000 ^ (-e / 64)`. -/
def ang (a e : ℕ) : EReal :=
  FloatOps.sitofp (F := Ideal) .f32 (BitVec.ofNat 32 a) * Ideal.pow (Ideal.ofBits .f32 1176256512#32)
    (Ideal.div (-FloatOps.sitofp (F := Ideal) .f32 (BitVec.ofNat 32 e)) (Ideal.ofBits .f32 1115684864#32))

/-- The factor of a column itself. -/
def cosT (a e : ℕ) : EReal := if e < 64 then Ideal.cos (ang a e) else Ideal.cos (ang a (e - 64))

/-- The factor of the column half a head away. -/
def sinT (a e : ℕ) : EReal := if e < 64 then -Ideal.sin (ang a e) else Ideal.sin (ang a (e - 64))

/-- The projection of a position to a column. -/
def proj (x : S8192x2048.Idx → EReal) (w : S1x2048x11776.Idx → EReal) (a : Fin 8192) (n : Fin 11776) : EReal :=
  ∑ k : Fin 2048, x (ix2 a k) * w (ix3 0 k n)

/-- The column half a head away. -/
abbrev away (n : ℕ) : ℕ := 128 * (n / 128) + (n % 128 + 64) % 128

theorem away_lt {n k : ℕ} (h : n < 128 * k) : away n < 128 * k := by unfold away; omega

/-- A column turned by its position's angle. -/
def turned (p : Fin 11776 → EReal) (a : ℕ) (n : Fin 11776) : EReal :=
  p n * cosT a (n.val % 128) + p ⟨away n, away_lt (k := 92) n.isLt⟩ * sinT a (n.val % 128)

/-- A column of the queries (part 0), the keys (part 1) or the values (part 2). -/
def entry (s : EReal) (part : ℕ) (p : Fin 11776 → EReal) (a : ℕ) (n : Fin 11776) : EReal :=
  if part = 0 then turned p a n * s else if part = 1 then turned p a n else p n

theorem entry_queries {s : EReal} {part : ℕ} (h : part = 0) (p : Fin 11776 → EReal) (a : ℕ) {n n' : Fin 11776} (hn : n'.val = n.val) :
    turned p a n' * s = entry s part p a n := by
  obtain rfl := Fin.ext hn; unfold entry; rw [if_pos h]

theorem entry_keys {s : EReal} {part : ℕ} (h : part = 1) (p : Fin 11776 → EReal) (a : ℕ) {n n' : Fin 11776} (hn : n'.val = n.val) :
    turned p a n' = entry s part p a n := by
  obtain rfl := Fin.ext hn; unfold entry; rw [if_neg (by omega), if_pos h]

theorem entry_values {s : EReal} {part : ℕ} (h : part = 2) (p : Fin 11776 → EReal) (a : ℕ) {n n' : Fin 11776} (hn : n'.val = n.val) :
    p n' = entry s part p a n := by
  obtain rfl := Fin.ext hn; unfold entry; rw [if_neg (by omega), if_neg (by omega)]

/-- The kernels' tables: the factors for the queries and the keys, one and zero for the values. -/
def cosTab (part a e : ℕ) : EReal := if part = 2 then 1 else cosT a e
def sinTab (part a e : ℕ) : EReal := if part = 2 then 0 else sinT a e

/-- The kernels fold the queries' factor into the tables. -/
theorem entry_folded (s : ℝ) (hs : 0 < s) (part : ℕ) (hp : part < 3) (p : Fin 11776 → EReal) (a : ℕ) (n : Fin 11776) :
    p n * (cosTab part a (n.val % 128) * (if part = 0 then (s : EReal) else 1))
      + p ⟨away n, away_lt (k := 92) n.isLt⟩ * (sinTab part a (n.val % 128) * (if part = 0 then (s : EReal) else 1))
      = entry s part p a n := by
  unfold cosTab sinTab entry turned
  obtain rfl | rfl | rfl : part = 0 ∨ part = 1 ∨ part = 2 := by omega
  · simp only [if_true, if_neg (by decide : ¬ (0 : ℕ) = 2)]
    rw [EReal.right_distrib_of_nonneg_of_ne_top (by exact_mod_cast hs.le) (EReal.coe_ne_top s), mul_assoc, mul_assoc]
  · simp
  · simp

/-- The literal 128. -/
theorem lit_128 : Ideal.ofBits .f32 0x43000000#32 = ((128 : ℝ) : EReal) := by
  simp [Ideal.ofBits, Ideal.ieee, -EReal.coe_mul]; norm_num

/-- The literal 1. -/
theorem lit_1 : Ideal.ofBits .f32 0x3F800000#32 = (1 : EReal) := by
  simp [Ideal.ofBits, Ideal.ieee, -EReal.coe_mul]; norm_num

/-- The literal 2. -/
theorem lit_2 : Ideal.ofBits .f32 0x40000000#32 = ((2 : ℝ) : EReal) := by
  simp [Ideal.ofBits, Ideal.ieee, -EReal.coe_mul]; norm_num

/-- The inverse square root of the head's width. -/
theorem rsqrt_128 : Ideal.rsqrt (Ideal.ofBits .f32 0x43000000#32) = (((Real.sqrt 128)⁻¹ : ℝ) : EReal) := by
  rw [lit_128]
  show (if (128 : ℝ) < 0 then (⊥ : EReal) else if (128 : ℝ) = 0 then ⊤ else (((Real.sqrt 128)⁻¹ : ℝ) : EReal)) = _
  rw [if_neg (by norm_num), if_neg (by norm_num)]

/-- The logarithm of 2. -/
theorem log_2 : Ideal.log (Ideal.ofBits .f32 0x40000000#32) = ((Real.log 2 : ℝ) : EReal) := by
  rw [lit_2]
  show (if (2 : ℝ) ≤ 0 then (⊥ : EReal) else ((Real.log 2 : ℝ) : EReal)) = _
  rw [if_neg (by norm_num)]

/-- The queries' factor in steps of two, as the reference spells it. -/
theorem log_step (z : EReal) : Ideal.div (z * Ideal.rsqrt (Ideal.ofBits .f32 0x43000000#32)) (Ideal.log (Ideal.ofBits .f32 0x40000000#32))
    = z * (((Real.sqrt 128)⁻¹ * (Real.log 2)⁻¹ : ℝ) : EReal) := by
  have h : Real.log 2 ≠ 0 := (Real.log_pos (by norm_num)).ne'
  rw [rsqrt_128, log_2, EReal.coe_mul, ← mul_assoc, Ideal.div_coe h, one_div]

/-! ## A block of 512 columns, as the kernels compute it -/

variable (x : Vec Ideal S1024x2048 .bf16) (w : Vec Ideal S2048x512 .bf16) (cs sn : Vec Ideal S1x1024x128 .f32) (sc : EReal)

/-- One head of the block. -/
def turnHead (o : Fin S1024x512.rank → Nat) (ho : S1024x512.Slices o S1024x128) (acc : FVec Ideal S1024x512 .f32) : FVec Ideal S1024x128 .f32 :=
  addf (mulf (extractStridedSlice S1024x128 o acc ho) (mulf (shapeCast S1024x128 cs shapeCasts_S1x1024x128_S1024x128) (broadcast S1024x128 sc)))
    (mulf (dynamicRotate 1 64#32 none (extractStridedSlice S1024x128 o acc ho) rotates_S1024x128_d1)
      (mulf (shapeCast S1024x128 sn shapeCasts_S1x1024x128_S1024x128) (broadcast S1024x128 sc)))

/-- The block: a product of 512 columns, and each of its four heads turned. -/
def turnBlock : FVec Ideal S1024x512 .f32 :=
  have acc : FVec Ideal S1024x512 .f32 := matmul dot_S1024x2048_S2048x512_S1024x512_1_0_0_1_n_n none
    (shapeCast S1024x2048 x shapeCasts_S1024x2048_S1024x2048 : FVec Ideal S1024x2048 .bf16) (shapeCast S2048x512 w shapeCasts_S2048x512_S2048x512 : FVec Ideal S2048x512 .bf16) (constant S1024x512 .f32 0x00000000#32)
  concatenate S1024x512 1 [⟨S1024x128, turnHead cs sn sc ![0, 0] slices_S1024x512_o0_0_S1024x128 acc⟩, ⟨S1024x128, turnHead cs sn sc ![0, 128] slices_S1024x512_o0_128_S1024x128 acc⟩,
    ⟨S1024x128, turnHead cs sn sc ![0, 256] slices_S1024x512_o0_256_S1024x128 acc⟩, ⟨S1024x128, turnHead cs sn sc ![0, 384] slices_S1024x512_o0_384_S1024x128 acc⟩]
    concatenates_S1024x128_S1024x128_S1024x128_S1024x128_S1024x512_d1

/-- The block, at an index. -/
theorem turnBlock_at (r : Fin 1024) (j : Fin 512) :
    turnBlock x w cs sn sc (ix2 r j)
      = (∑ k : Fin 2048, (x (ix2 r k) * w (ix2 k j) : EReal)) * (cs (ix3 0 r ⟨j.val % 128, by omega⟩) * sc)
        + (∑ k : Fin 2048, (x (ix2 r k) * w (ix2 k ⟨away j, away_lt (k := 4) j.isLt⟩) : EReal)) * (sn (ix3 0 r ⟨j.val % 128, by omega⟩) * sc) := by
  have key (b e : ℕ) (hb : b < 512) (he : e < 128) (c : ℕ) (hc : c < 512) (h1 : b = j.val) (h2 : e = j.val % 128) (h3 : c = away j) :
      (∑ k : Fin 2048, (x (ix2 r k) * w (ix2 k ⟨b, hb⟩) : EReal)) * (cs (ix3 0 r ⟨e, he⟩) * sc)
        + (∑ k : Fin 2048, (x (ix2 r k) * w (ix2 k ⟨c, hc⟩) : EReal)) * (sn (ix3 0 r ⟨e, he⟩) * sc)
      = (∑ k : Fin 2048, (x (ix2 r k) * w (ix2 k j) : EReal)) * (cs (ix3 0 r ⟨j.val % 128, by omega⟩) * sc)
        + (∑ k : Fin 2048, (x (ix2 r k) * w (ix2 k ⟨away j, away_lt (k := 4) j.isLt⟩) : EReal)) * (sn (ix3 0 r ⟨j.val % 128, by omega⟩) * sc) := by
    subst h1 h2 h3; rfl
  have := j.isLt
  pointwise [turnBlock, turnHead]
  split
  · exact key _ _ _ _ _ _ (by omega) (by omega) (by unfold away; omega)
  split
  · exact key _ _ _ _ _ _ (by omega) (by omega) (by unfold away; omega)
  split
  · exact key _ _ _ _ _ _ (by omega) (by omega) (by unfold away; omega)
  · exact key _ _ _ _ _ _ (by omega) (by omega) (by unfold away; omega)

/-- A block whose operands lie at a position's row, at 512 neighbouring columns and at the position's tables holds these columns' entries. -/
theorem block_entry (x' : S8192x2048.Idx → EReal) (w' : S1x2048x11776.Idx → EReal) (s : ℝ) (hs : 0 < s) (part : ℕ) (hp : part < 3) (a : Fin 8192) (r : Fin 1024) (j : Fin 512)
    (B : ℕ) (hB : B < 23) (hx : ∀ k : Fin 2048, x (ix2 r k) = x' (ix2 a k)) (hw : ∀ (k : Fin 2048) (q : Fin 512), w (ix2 k q) = w' (ix3 0 k ⟨B * 512 + q, by omega⟩))
    (hcs : ∀ e : Fin 128, cs (ix3 0 r e) = cosTab part a e) (hsn : ∀ e : Fin 128, sn (ix3 0 r e) = sinTab part a e) :
    turnBlock x w cs sn (if part = 0 then (s : EReal) else 1) (ix2 r j) = entry s part (proj x' w' a) a ⟨B * 512 + j, by omega⟩ := by
  have e1 : (B * 512 + j.val) % 128 = j.val % 128 := by omega
  have e2 : away (B * 512 + j.val) = B * 512 + away j.val := by unfold away; omega
  rw [turnBlock_at, ← entry_folded s hs part hp]
  simp only [hx, hw, hcs, hsn, e1, e2]
  rfl

/-! ## The turn, as the references spell it -/

section Spelt
variable {H : ℕ} (y : FVec Ideal ⟨3, ![8192, H, 128]⟩ .f32) (cw sw : FVec Ideal ⟨3, ![8192, 1, 64]⟩ .f32)

theorem spelt_at (h1 : Shape.Slices ⟨3, ![8192, H, 128]⟩ ![0, 0, 0] ⟨3, ![8192, H, 64]⟩) (h2 : Shape.Slices ⟨3, ![8192, H, 128]⟩ ![0, 0, 64] ⟨3, ![8192, H, 64]⟩)
    (hb : Shape.BroadcastsInDim ⟨3, ![8192, 1, 64]⟩ ⟨3, ![8192, H, 64]⟩ ![0, 1, 2])
    (hc : Shape.Concatenates [⟨3, ![8192, H, 64]⟩, ⟨3, ![8192, H, 64]⟩] ⟨3, ![8192, H, 128]⟩ 2)
    (a : Fin 8192) (h : Fin H) (e : Fin 128)
    (hcw : ∀ e : Fin 64, cw (ix3 a 0 e) = Ideal.cos (ang a e)) (hsw : ∀ e : Fin 64, sw (ix3 a 0 e) = Ideal.sin (ang a e)) :
    concatenate ⟨3, ![8192, H, 128]⟩ 2
      [⟨⟨3, ![8192, H, 64]⟩, subf (mulf (extractStridedSlice _ ![0, 0, 0] y h1) (broadcastInDim _ ![0, 1, 2] hb cw)) (mulf (extractStridedSlice _ ![0, 0, 64] y h2) (broadcastInDim _ ![0, 1, 2] hb sw))⟩,
       ⟨⟨3, ![8192, H, 64]⟩, addf (mulf (extractStridedSlice _ ![0, 0, 64] y h2) (broadcastInDim _ ![0, 1, 2] hb cw)) (mulf (extractStridedSlice _ ![0, 0, 0] y h1) (broadcastInDim _ ![0, 1, 2] hb sw))⟩] hc (ix3 a h e)
      = (y (ix3 a h e) * cosT a e + y (ix3 a h ⟨(e.val + 64) % 128, by omega⟩) * sinT a e : EReal) := by
  pointwise
  unfold cosT sinT
  have he := e.isLt
  by_cases h' : e.val < 64
  · rw [dif_pos h', if_pos h', if_pos h', mul_neg, ← sub_eq_add_neg]
    refine congrArg₂ (fun u v : EReal => u - v) (congrArg₂ (fun u v : EReal => u * v) (congrArg y ?_) ((congrArg cw ?_).trans (hcw ⟨e, h'⟩)))
      (congrArg₂ (fun u v : EReal => u * v) (congrArg y ?_) ((congrArg sw ?_).trans (hsw ⟨e, h'⟩)))
    · refine funext fun i => Fin.ext ?_
      match i with
      | ⟨0, _⟩ => exact Nat.zero_add _
      | ⟨1, _⟩ => exact Nat.zero_add _
      | ⟨2, _⟩ => exact Nat.zero_add _
    · rfl
    · refine funext fun i => Fin.ext ?_
      match i with
      | ⟨0, _⟩ => exact Nat.zero_add _
      | ⟨1, _⟩ => exact Nat.zero_add _
      | ⟨2, _⟩ => show 64 + e.val = (e.val + 64) % 128; omega
    · rfl
  · rw [dif_neg h', if_neg h', if_neg h']
    refine congrArg₂ (fun u v : EReal => u + v) (congrArg₂ (fun u v : EReal => u * v) (congrArg y ?_) ((congrArg cw ?_).trans (hcw ⟨e - 64, by omega⟩)))
      (congrArg₂ (fun u v : EReal => u * v) (congrArg y ?_) ((congrArg sw ?_).trans (hsw ⟨e - 64, by omega⟩)))
    · refine funext fun i => Fin.ext ?_
      match i with
      | ⟨0, _⟩ => exact Nat.zero_add _
      | ⟨1, _⟩ => exact Nat.zero_add _
      | ⟨2, _⟩ => show 64 + (e.val - 64) = e.val; omega
    · rfl
    · refine funext fun i => Fin.ext ?_
      match i with
      | ⟨0, _⟩ => exact Nat.zero_add _
      | ⟨1, _⟩ => exact Nat.zero_add _
      | ⟨2, _⟩ => show 0 + (e.val - 64) = (e.val + 64) % 128; omega
    · rfl

/-- So a head's columns of the projection are turned. -/
theorem spelt_turned (h1 : Shape.Slices ⟨3, ![8192, H, 128]⟩ ![0, 0, 0] ⟨3, ![8192, H, 64]⟩) (h2 : Shape.Slices ⟨3, ![8192, H, 128]⟩ ![0, 0, 64] ⟨3, ![8192, H, 64]⟩)
    (hb : Shape.BroadcastsInDim ⟨3, ![8192, 1, 64]⟩ ⟨3, ![8192, H, 64]⟩ ![0, 1, 2])
    (hc : Shape.Concatenates [⟨3, ![8192, H, 64]⟩, ⟨3, ![8192, H, 64]⟩] ⟨3, ![8192, H, 128]⟩ 2)
    (a : Fin 8192) (h : Fin H) (e : Fin 128)
    (hcw : ∀ e : Fin 64, cw (ix3 a 0 e) = Ideal.cos (ang a e)) (hsw : ∀ e : Fin 64, sw (ix3 a 0 e) = Ideal.sin (ang a e))
    (p : Fin 11776 → EReal) (q : ℕ) (hq : q < 92) (hy : ∀ e : Fin 128, y (ix3 a h e) = p ⟨128 * q + e, by omega⟩) :
    concatenate ⟨3, ![8192, H, 128]⟩ 2
      [⟨⟨3, ![8192, H, 64]⟩, subf (mulf (extractStridedSlice _ ![0, 0, 0] y h1) (broadcastInDim _ ![0, 1, 2] hb cw)) (mulf (extractStridedSlice _ ![0, 0, 64] y h2) (broadcastInDim _ ![0, 1, 2] hb sw))⟩,
       ⟨⟨3, ![8192, H, 64]⟩, addf (mulf (extractStridedSlice _ ![0, 0, 64] y h2) (broadcastInDim _ ![0, 1, 2] hb cw)) (mulf (extractStridedSlice _ ![0, 0, 0] y h1) (broadcastInDim _ ![0, 1, 2] hb sw))⟩] hc (ix3 a h e)
      = turned p a ⟨128 * q + e, by omega⟩ := by
  refine (spelt_at y cw sw h1 h2 hb hc a h e hcw hsw).trans ?_
  have he := e.isLt
  have e1 : (128 * q + e.val) % 128 = e.val := by omega
  have e2 : away (128 * q + e.val) = 128 * q + (e.val + 64) % 128 := by unfold away; omega
  unfold turned
  simp only [hy, e1, e2]
end Spelt

end Cert.Turn
-- ==== Proof.Proj.Ref.lean ====
module

public import proofs.«01_k».proof.Proof.Proj.Turn
public import proofs.«01_k».proof.Proof.Gen.QkvRefIdeal.Read

@[expose] public section

set_option maxRecDepth 16384

/-! # The stages that the references share: the projection, the cosines and the sines -/

noncomputable section

namespace Cert.Turn

open Idealize.ShloMosaic Idealize.ShloMosaic.TcCoe
open Cert.QkvRefIdeal Cert.QkvRefIdeal.Read

variable (x : S8192x2048.Idx → EReal) (w : S1x2048x11776.Idx → EReal)

/-- The projection, at an index. -/
theorem ref_proj (a : Fin 8192) (n : Fin 11776) : val_main_v1 (F := Ideal) x w (ix2 a n) = proj x w a n := by
  rw [val_main_v1_apply]
  refine Finset.sum_congr rfl fun k _ => ?_
  rw [val_main_v0_apply]
  have := n.isLt; have := k.isLt
  refine congrArg₂ (· * ·) (congrArg x ?_) (congrArg w ?_)
  · refine funext fun i => Fin.ext ?_
    match i with
    | ⟨0, _⟩ => rfl
    | ⟨1, _⟩ => rfl
  · refine funext fun i => Fin.ext ?_
    match i with
    | ⟨0, _⟩ => rfl
    | ⟨1, _⟩ => show (k.val * 11776 + n.val) / 11776 % 2048 = k.val; omega
    | ⟨2, _⟩ => show (k.val * 11776 + n.val) % 11776 = n.val; omega

/-- The cosines and the sines of a position's angles. -/
theorem ref_cos (a : Fin 8192) (e : Fin 64) : val_main_v18 (F := Ideal) (ix3 a 0 e) = Ideal.cos (ang a e) := by
  pointwise [val_main_v18, val_main_v17, val_main_v16, val_main_v15, val_main_v14, val_main_v13, val_main_v12, val_main_v11, val_main_v10, val_main_v9, val_main_v8, val_main_v7, val_main_v6, val_main_v5, val_main_v4, val_main_cst, val_main_cst_0]
  rfl

theorem ref_sin (a : Fin 8192) (e : Fin 64) : val_main_v20 (F := Ideal) (ix3 a 0 e) = Ideal.sin (ang a e) := by
  pointwise [val_main_v20, val_main_v19, val_main_v16, val_main_v15, val_main_v14, val_main_v13, val_main_v12, val_main_v11, val_main_v10, val_main_v9, val_main_v8, val_main_v7, val_main_v6, val_main_v5, val_main_v4, val_main_cst, val_main_cst_0]
  rfl

end Cert.Turn
-- ==== Proof.Proj.Gates.lean ====
module

public import proofs.«01_k».proof.Defs
public import proofs.«01_k».proof.Proof.Proj.Ref
public import proofs.«01_k».proof.Proof.Gen.GatesIdeal.Value
public import proofs.«01_k».proof.Proof.Gen.GatesRefIdeal.Run
public import proofs.«01_k».proof.Proof.Gen.GatesRefIdeal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

/-! # The gates: the projection's last 4096 columns, with their bias, through the logistic function -/

noncomputable section

namespace Cert.GatesIdeal.Proj

open Cert.GatesIdeal Cert.GatesIdeal.Gen
open Idealize.ShloMosaic Idealize.ShloMosaic.TcCoe
open Idealize.ShloMosaic.Pipeline (Dat)

/-- The gate of a position and a column. -/
def gate (x : S8192x2048.Idx → EReal) (w : S1x2048x11776.Idx → EReal) (b : S1x4096.Idx → EReal) (a : Fin 8192) (j : Fin 4096) : EReal :=
  Ideal.logistic (∑ k : Fin 2048, x (ix2 a k) * w (ix3 0 k ⟨7680 + j.val, by omega⟩) + b (ix2 0 j))

/-- One block of the result, at an index. -/
theorem block_at (x : Vec Ideal S1024x2048 .bf16) (w : Vec Ideal S2048x512 .bf16) (b : Vec Ideal S1x512 .f32) (r : Fin 1024) (j : Fin 512) :
    k0_pay1 x w b (ix2 r j) = Ideal.logistic (∑ k : Fin 2048, (x (ix2 r k) * w (ix2 k j) : EReal) + b (ix2 0 j)) := by
  pointwise [k0_pay1]

variable (m : (ℓ : Loc nD τ sig) → Buf (Elt Ideal) ℓ) (c : Dev nD)

/-- The arguments. -/
abbrev argX : S8192x2048.Idx → EReal := m ((c.tc : Thread nD τ).loc main_arg0)
abbrev argW : S1x2048x11776.Idx → EReal := m ((c.tc : Thread nD τ).loc main_arg1)
abbrev argB : S1x4096.Idx → EReal := m ((c.tc : Thread nD τ).loc main_arg2)

/-- The activations the host hands over. -/
theorem host_x (a : Fin 8192) (k : Fin 2048) : V m c main_v0 (ix2 a k) = argX m c (ix2 a k) := by
  unfold V
  after_reads_at

/-- The weights the host hands over. -/
theorem host_w (k : Fin 2048) (j : Fin 11776) : V m c main_v2 (ix2 k j) = argW m c (ix3 0 k j) := by
  unfold V
  after_reads_at

/-- The bias the host hands over. -/
theorem host_b (j : Fin 4096) : V m c main_v4 (ix2 0 j) = argB m c (ix2 0 j) := by
  unfold V
  after_reads_at

/-- Where the blocks of a grid point lie. -/
theorem places : ∀ t : Fin cfg0.N, win0_0.index t = ![(grid0.coords t 0).val, 0] ∧ win0_1.index t = ![0, 15 + (grid0.coords t 1).val]
    ∧ win0_2.index t = ![0, (grid0.coords t 1).val] ∧ win0_3.index t = ![(grid0.coords t 0).val, (grid0.coords t 1).val] :=
  (by decide +kernel : ∀ t : Fin grid0.N, _)

/-- Where an index of a grid point's result block lies. -/
theorem out_place (t : Fin cfg0.N) (r : Fin 1024) (j : Fin 512) (a : Fin 8192) (b : Fin 4096)
    (ha : a.val = (grid0.coords t 0).val * 1024 + r.val) (hb : b.val = (grid0.coords t 1).val * 512 + j.val) :
    ((cfg0.win 3).blk t).view.emb (ix2 r j) = (ix2 a b : S8192x4096.Idx) := by
  obtain ⟨p0, p1, p2, p3⟩ := places t
  blk_ext [p3]

/-- A grid point's activations. -/
theorem blk_x (t : Fin cfg0.N) (r : Fin 1024) (k : Fin 2048) (a : Fin 8192) (ha : a.val = (grid0.coords t 0).val * 1024 + r.val) :
    iblk m c 0 t (ix2 r k) = argX m c (ix2 a k) := by
  obtain ⟨p0, p1, p2, p3⟩ := places t
  rw [← host_x]
  blk_ext [iblk, p0]

/-- A grid point's weights. -/
theorem blk_w (t : Fin cfg0.N) (k : Fin 2048) (j : Fin 512) (b : Fin 11776) (hb : b.val = (15 + (grid0.coords t 1).val) * 512 + j.val) :
    iblk m c 1 t (ix2 k j) = argW m c (ix3 0 k b) := by
  obtain ⟨p0, p1, p2, p3⟩ := places t
  rw [← host_w]
  blk_ext [iblk, p1]

/-- A grid point's bias. -/
theorem blk_b (t : Fin cfg0.N) (j : Fin 512) (b : Fin 4096) (hb : b.val = (grid0.coords t 1).val * 512 + j.val) :
    iblk m c 2 t (ix2 0 j) = argB m c (ix2 0 b) := by
  obtain ⟨p0, p1, p2, p3⟩ := places t
  rw [← host_b]
  blk_ext [iblk, p2]

/-- The array the call leaves: the gates. -/
theorem result_arr : (dats m 0 c).arrAt 3 cfg0.N = fun i : S8192x4096.Idx => gate (argX m c) (argW m c) (argB m c) (i 0) (i 1) := by
  refine (dats m 0 c).arrAt_eq_of_covers 3 _ (by decide +kernel) fun t hf y => ?_
  rw [after0_3]
  frame_out
  obtain ⟨r, j, rfl⟩ : ∃ (r : Fin 1024) (j : Fin 512), y = (ix2 r j : S1024x512.Idx) :=
    ⟨y 0, y 1, funext fun k => by fin_cases k <;> rfl⟩
  have h0 : (grid0.coords t 0).val < 8 := (grid0.coords t 0).isLt
  have h1 : (grid0.coords t 1).val < 8 := (grid0.coords t 1).isLt
  have := r.isLt; have := j.isLt
  rw [out_place t r j ⟨(grid0.coords t 0).val * 1024 + r.val, by omega⟩ ⟨(grid0.coords t 1).val * 512 + j.val, by omega⟩ rfl rfl]
  refine (block_at _ _ _ r j).trans (congrArg Ideal.logistic (congrArg₂ (fun u v : EReal => u + v) (Finset.sum_congr rfl fun k _ => congrArg₂ (fun u v : EReal => u * v) ?_ ?_) ?_))
  · exact blk_x m c t r k _ rfl
  · exact blk_w m c t k j _ (by show 7680 + ((grid0.coords t 1).val * 512 + j.val) = _; omega)
  · exact blk_b m c t j _ rfl

section Ref
open Cert.GatesRefIdeal.Read

/-- The logistic function, as the reference spells it. -/
theorem logistic_spelt (z : EReal) :
    FloatOps.hostDivf (F := Ideal) (φ := .f32) (Ideal.ofBits .f32 0x3F800000#32) (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  have h : Ideal.ofBits .f32 0x3F800000#32 = (1 : EReal) := by simp [Ideal.ofBits, Ideal.ieee, -EReal.coe_mul]; norm_num
  rw [h]
  rfl

variable (x : S8192x2048.Idx → EReal) (w : S1x2048x11776.Idx → EReal) (b : S1x4096.Idx → EReal)

/-- The first gate. -/
theorem ref_a (a : Fin 8192) (j : Fin 2048) : val_main_v14 (F := Ideal) x w b (ix2 a j) = gate x w b a ⟨j.val, by omega⟩ := by
  rw [val_main_v14_apply, val_main_v13_apply, val_main_v12_apply, val_main_v11_apply, val_main_v10_apply, val_main_v9_apply, val_main_cst_0_apply, val_main_cst_apply]
  refine (logistic_spelt _).trans (congrArg Ideal.logistic ?_)
  rw [val_main_v8_apply, val_main_v2_apply, val_main_v7_apply, val_main_v6_apply, val_main_v5_apply, val_main_v4_apply]
  refine congrArg₂ (fun u v : EReal => u + v) ((congrArg (val_main_v1 (F := Ideal) x w) ?_).trans (Turn.ref_proj x w a ⟨7680 + j.val, by omega⟩)) (congrArg b ?_)
  · refine funext fun i => Fin.ext ?_
    match i with
    | ⟨0, _⟩ => rfl
    | ⟨1, _⟩ => rfl
  · have := j.isLt
    refine funext fun i => Fin.ext ?_
    match i with
    | ⟨0, _⟩ => rfl
    | ⟨1, _⟩ => show j.val % 2048 = j.val; omega

/-- The second gate. -/
theorem ref_b (a : Fin 8192) (j : Fin 2048) : val_main_v25 (F := Ideal) x w b (ix2 a j) = gate x w b a ⟨2048 + j.val, by omega⟩ := by
  rw [val_main_v25_apply, val_main_v24_apply, val_main_v23_apply, val_main_v22_apply, val_main_v21_apply, val_main_v20_apply, val_main_cst_2_apply, val_main_cst_1_apply]
  refine (logistic_spelt _).trans (congrArg Ideal.logistic ?_)
  rw [val_main_v19_apply, val_main_v3_apply, val_main_v18_apply, val_main_v17_apply, val_main_v16_apply, val_main_v15_apply]
  have := j.isLt
  refine congrArg₂ (fun u v : EReal => u + v) ((congrArg (val_main_v1 (F := Ideal) x w) ?_).trans (Turn.ref_proj x w a ⟨7680 + (2048 + j.val), by omega⟩)) (congrArg b ?_)
  · refine funext fun i => Fin.ext ?_
    match i with
    | ⟨0, _⟩ => rfl
    | ⟨1, _⟩ => show 9728 + j.val = 7680 + (2048 + j.val); omega
  · refine funext fun i => Fin.ext ?_
    match i with
    | ⟨0, _⟩ => rfl
    | ⟨1, _⟩ => show 2048 + j.val % 2048 = 2048 + j.val; omega

/-- The reference's result, at an index. -/
theorem ref_at (a : Fin 8192) (j : Fin 4096) : val_main_v27 (F := Ideal) x w b (ix2 a j) = gate x w b a j := by
  show val_main_v26 (F := Ideal) x w b (ix2 a j) = _
  unfold val_main_v26
  have ha := ref_a x w b a
  have hb := ref_b x w b a
  revert ha hb
  generalize val_main_v14 (F := Ideal) x w b = y
  generalize val_main_v25 (F := Ideal) x w b = z
  intro ha hb
  pointwise
  have := j.isLt
  split
  · exact (ha _).trans (congrArg (gate x w b a) (Fin.ext rfl))
  · exact (hb _).trans (congrArg (gate x w b a) (Fin.ext (by show 2048 + (j.val - 2048) = j.val; omega)))

end Ref

/-- The gates' reference runs, its arguments end unchanged, and every semaphore reads zero. -/
theorem reference_runs : Cert.quiescent_GatesRefIdeal (hGatesRefIdeal := Cert.GatesRefIdeal.Gen.facts) :=
  fun m g _ => (θ_run _ _ _).mono (fun r h => ⟨fun c => (h c).2, sem_eq_zero_of_no_sems (by decide) r.2⟩) (Cert.GatesRefIdeal.Value.run (F := Ideal) m g)

/-- The gates' two programs end with equal results, element by element. -/
theorem algebraic : Cert.algebraic_GatesIdeal_GatesRefIdeal (hGatesIdeal := Cert.GatesIdeal.Gen.facts) (hGatesRefIdeal := Cert.GatesRefIdeal.Gen.facts) := by
  intro m g m' g' hpre hargs
  refine ⟨fun c => (dats m 0 c).arrAt 3 cfg0.N, Value.run_blocks m g, ?_⟩
  refine (θ_run Cert.GatesRefIdeal.defs _ _).mono (fun r h c => ?_) (Cert.GatesRefIdeal.Value.run (F := Ideal) m' g')
  obtain ⟨e0, e1, e2⟩ := hargs c
  refine ⟨(h c).1.trans ?_, (h c).2⟩
  refine (Cert.GatesRefIdeal.Read.val_main_v27_eq (F := Ideal) _ _ _).trans ?_
  rw [e0, e1, e2]
  refine Eq.trans (funext fun i => ?_) (result_arr m c).symm
  obtain ⟨a, j, rfl⟩ : ∃ (a : Fin 8192) (j : Fin 4096), i = (ix2 a j : S8192x4096.Idx) :=
    ⟨i 0, i 1, funext fun k => by fin_cases k <;> rfl⟩
  exact ref_at _ _ _ a j

end Cert.GatesIdeal.Proj
-- ==== Proof.Proj.Qkv.lean ====
module

public import proofs.«01_k».proof.Defs
public import proofs.«01_k».proof.Proof.Proj.Ref
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

/-! # The queries, keys and values of the differential attention -/

noncomputable section

namespace Cert.QkvIdeal.Proj

open Cert.QkvIdeal Cert.QkvIdeal.Gen Cert.Turn
open Idealize.ShloMosaic Idealize.ShloMosaic.TcCoe
open Idealize.ShloMosaic.Pipeline (Dat)

/-- The queries' factor. -/
abbrev qs : ℝ := (Real.sqrt 128)⁻¹ * (Real.log 2)⁻¹

theorem qs_pos : 0 < qs := mul_pos (inv_pos.2 (Real.sqrt_pos.2 (by norm_num))) (inv_pos.2 (Real.log_pos (by norm_num)))

/-- The factor a grid point takes: the queries' for the first two column blocks, one for the others. -/
theorem scale_at : ∀ i : grid0.Coords, Scalar.select (Scalar.cmpi CmpIPredicate.slt (BitVec.ofNat 32 (i 1).val) 2#32) (Named.named (F := Ideal) (φ := .f32) κ "qscale" 0x3E0293EE#32) (Scalar.ofBits .f32 0x3F800000#32)
    = (if (i 1).val / 2 = 0 then (qs : EReal) else 1) := by
  intro i
  have h : (i 1).val < 6 := (i 1).isLt
  revert h
  generalize (i 1).val = q
  intro h
  show Scalar.select _ (qs : EReal) (Ideal.ofBits .f32 0x3F800000#32) = _
  rw [lit_1]
  interval_cases q <;> rfl

/-- One block of the result, at an index. -/
theorem block_eq (i : grid0.Coords) (x : Vec Ideal S1024x2048 .bf16) (w : Vec Ideal S2048x512 .bf16) (cs sn : Vec Ideal S1x1024x128 .f32) :
    k0_pay1 i x w cs sn = turnBlock x w cs sn (if (i 1).val / 2 = 0 then (qs : EReal) else 1) := by
  rw [← scale_at]
  rfl

variable (m : (ℓ : Loc nD τ sig) → Buf (Elt Ideal) ℓ) (c : Dev nD)

/-- The arguments. -/
abbrev argX : S8192x2048.Idx → EReal := m ((c.tc : Thread nD τ).loc main_arg0)
abbrev argW : S1x2048x11776.Idx → EReal := m ((c.tc : Thread nD τ).loc main_arg1)

/-- The activations the host hands over. -/
theorem host_x (a : Fin 8192) (k : Fin 2048) : V m c main_v26 (ix2 a k) = argX m c (ix2 a k) := by
  unfold V
  after_reads_at

/-- The weights the host hands over. -/
theorem host_w (k : Fin 2048) (j : Fin 11776) : V m c main_v28 (ix2 k j) = argW m c (ix3 0 k j) := by
  unfold V
  after_reads_at

/-- The two tables the host hands over: the factors, and one and zero. -/
theorem host_cos (a : Fin 8192) (e : Fin 128) : V m c main_v21 (ix3 0 a e) = cosT a e := by
  unfold V
  after_reads_at
  after_reads_at
  rfl

theorem host_cos_one (a : Fin 8192) (e : Fin 128) : V m c main_v21 (ix3 1 a e) = (1 : EReal) := by
  unfold V
  after_reads_at

theorem host_sin (a : Fin 8192) (e : Fin 128) : V m c main_v25 (ix3 0 a e) = sinT a e := by
  unfold V
  after_reads_at
  after_reads_at
  rfl

theorem host_sin_zero (a : Fin 8192) (e : Fin 128) : V m c main_v25 (ix3 1 a e) = (0 : EReal) := by
  unfold V
  after_reads_at

/-- Where the blocks of a grid point lie. -/
theorem places : ∀ t : Fin cfg0.N, win0_0.index t = ![(grid0.coords t 0).val, 0] ∧ win0_1.index t = ![0, (grid0.coords t 1).val]
    ∧ win0_2.index t = ![if (grid0.coords t 1).val / 2 = 2 then 1 else 0, (grid0.coords t 0).val, 0]
    ∧ win0_3.index t = ![if (grid0.coords t 1).val / 2 = 2 then 1 else 0, (grid0.coords t 0).val, 0]
    ∧ win0_4.index t = ![(grid0.coords t 0).val, (grid0.coords t 1).val] :=
  (by decide +kernel : ∀ t : Fin grid0.N, _)

/-- Where an index of a grid point's result block lies. -/
theorem out_place (t : Fin cfg0.N) (r : Fin 1024) (j : Fin 512) (a : Fin 8192) (b : Fin 3072)
    (ha : a.val = (grid0.coords t 0).val * 1024 + r.val) (hb : b.val = (grid0.coords t 1).val * 512 + j.val) :
    ((cfg0.win 4).blk t).view.emb (ix2 r j) = (ix2 a b : S8192x3072.Idx) := by
  obtain ⟨p0, p1, p2, p3, p4⟩ := places t
  blk_ext [p4]

/-- A grid point's activations. -/
theorem blk_x (t : Fin cfg0.N) (r : Fin 1024) (k : Fin 2048) (a : Fin 8192) (ha : a.val = (grid0.coords t 0).val * 1024 + r.val) :
    iblk m c 0 t (ix2 r k) = argX m c (ix2 a k) := by
  obtain ⟨p0, p1, p2, p3, p4⟩ := places t
  rw [← host_x]
  blk_ext [iblk, p0]

/-- A grid point's weights. -/
theorem blk_w (t : Fin cfg0.N) (k : Fin 2048) (j : Fin 512) (b : Fin 11776) (hb : b.val = (grid0.coords t 1).val * 512 + j.val) :
    iblk m c 1 t (ix2 k j) = argW m c (ix3 0 k b) := by
  obtain ⟨p0, p1, p2, p3, p4⟩ := places t
  rw [← host_w]
  blk_ext [iblk, p1]

/-- A grid point's tables. -/
theorem blk_cos (t : Fin cfg0.N) (r : Fin 1024) (e : Fin 128) (a : Fin 8192) (ha : a.val = (grid0.coords t 0).val * 1024 + r.val) :
    iblk m c 2 t (ix3 0 r e) = cosTab ((grid0.coords t 1).val / 2) a e := by
  obtain ⟨p0, p1, p2, p3, p4⟩ := places t
  unfold cosTab
  split <;> rename_i h
  · rw [if_pos h] at p2
    rw [← host_cos_one m c a e]
    blk_ext [iblk, p2]
  · rw [if_neg h] at p2
    rw [← host_cos m c a e]
    blk_ext [iblk, p2]

theorem blk_sin (t : Fin cfg0.N) (r : Fin 1024) (e : Fin 128) (a : Fin 8192) (ha : a.val = (grid0.coords t 0).val * 1024 + r.val) :
    iblk m c 3 t (ix3 0 r e) = sinTab ((grid0.coords t 1).val / 2) a e := by
  obtain ⟨p0, p1, p2, p3, p4⟩ := places t
  unfold sinTab
  split <;> rename_i h
  · rw [if_pos h] at p3
    rw [← host_sin_zero m c a e]
    blk_ext [iblk, p3]
  · rw [if_neg h] at p3
    rw [← host_sin m c a e]
    blk_ext [iblk, p3]

/-- The result: 1024 columns each of the queries, the keys and the values. -/
def res (x : S8192x2048.Idx → EReal) (w : S1x2048x11776.Idx → EReal) (a : Fin 8192) (b : Fin 3072) : EReal :=
  entry qs (b.val / 1024) (proj x w a) a ⟨b.val, by omega⟩

/-- The array the call leaves. -/
theorem result_arr : (dats m 0 c).arrAt 4 cfg0.N = fun i : S8192x3072.Idx => res (argX m c) (argW m c) (i 0) (i 1) := by
  refine (dats m 0 c).arrAt_eq_of_covers 4 _ (by decide +kernel) fun t hf y => ?_
  rw [after0_4]
  frame_out
  obtain ⟨r, j, rfl⟩ : ∃ (r : Fin 1024) (j : Fin 512), y = (ix2 r j : S1024x512.Idx) :=
    ⟨y 0, y 1, funext fun k => by fin_cases k <;> rfl⟩
  have h0 : (grid0.coords t 0).val < 8 := (grid0.coords t 0).isLt
  have h1 : (grid0.coords t 1).val < 6 := (grid0.coords t 1).isLt
  have hr := r.isLt; have hj := j.isLt
  obtain ⟨a, ha⟩ : ∃ a : Fin 8192, a.val = (grid0.coords t 0).val * 1024 + r.val := ⟨⟨_, by omega⟩, rfl⟩
  obtain ⟨b, hb⟩ : ∃ b : Fin 3072, b.val = (grid0.coords t 1).val * 512 + j.val := ⟨⟨_, by omega⟩, rfl⟩
  rw [out_place t r j a b ha hb]
  refine (congrFun (block_eq _ _ _ _ _) _).trans ?_
  refine (block_entry _ _ _ _ (argX m c) (argW m c) qs qs_pos _ (by omega) a r j (grid0.coords t 1).val (by omega)
    (fun k => blk_x m c t r k a ha) (fun k q => blk_w m c t k q _ rfl) (fun e => blk_cos m c t r e a ha) (fun e => blk_sin m c t r e a ha)).trans ?_
  have hq : b.val / 1024 = (grid0.coords t 1).val / 2 := by omega
  show _ = res (argX m c) (argW m c) a b
  unfold res
  rw [hq]
  exact congrArg (entry _ _ _ _) (Fin.ext hb.symm)

section Ref
open Cert.QkvRefIdeal.Read

variable (x : S8192x2048.Idx → EReal) (w : S1x2048x11776.Idx → EReal)

/-- A head of the queries before its turn. -/
theorem ref_q3 (a : Fin 8192) (h : Fin 8) (e : Fin 128) : val_main_v3 (F := Ideal) x w (ix3 a h e) = proj x w a ⟨128 * h + e, by omega⟩ := by
  rw [← ref_proj, val_main_v3_apply, val_main_v2_apply]
  have := a.isLt; have := h.isLt; have := e.isLt
  refine congrArg _ (funext fun i => Fin.ext ?_)
  match i with
  | ⟨0, _⟩ => show ((a.val * 8 + h.val) * 128 + e.val) / 1024 = a.val; omega
  | ⟨1, _⟩ => show ((a.val * 8 + h.val) * 128 + e.val) % 1024 = 128 * h.val + e.val; omega

/-- A head of the keys before its turn. -/
theorem ref_k3 (a : Fin 8192) (h : Fin 8) (e : Fin 128) : val_main_v36 (F := Ideal) x w (ix3 a h e) = proj x w a ⟨128 * (8 + h.val) + e, by omega⟩ := by
  rw [← ref_proj, val_main_v36_apply, val_main_v35_apply]
  have := a.isLt; have := h.isLt; have := e.isLt
  refine congrArg _ (funext fun i => Fin.ext ?_)
  match i with
  | ⟨0, _⟩ => show ((a.val * 8 + h.val) * 128 + e.val) / 1024 = a.val; omega
  | ⟨1, _⟩ => show 1024 + ((a.val * 8 + h.val) * 128 + e.val) % 1024 = 128 * (8 + h.val) + e.val; omega

/-- A turned head of the queries. -/
theorem ref_q (a : Fin 8192) (b : Fin 1024) : val_main_v34 (F := Ideal) x w (ix2 a b) = turned (proj x w a) a ⟨b, by omega⟩ := by
  have := a.isLt; have := b.isLt
  have e0 : idx_main_v34 (ix2 a b) = ix3 a (⟨b.val / 128, by omega⟩ : Fin 8) (⟨b.val % 128, by omega⟩ : Fin 128) := by
    refine funext fun i => Fin.ext ?_
    match i with
    | ⟨0, _⟩ => show (a.val * 1024 + b.val) / 1024 = a.val; omega
    | ⟨1, _⟩ => show (a.val * 1024 + b.val) / 128 % 8 = b.val / 128; omega
    | ⟨2, _⟩ => show (a.val * 1024 + b.val) % 128 = b.val % 128; omega
  rw [val_main_v34_apply, e0]
  refine (spelt_turned (H := 8) (val_main_v3 (F := Ideal) x w) (val_main_v18 (F := Ideal)) (val_main_v20 (F := Ideal)) _ _ _ _ a _ _ (ref_cos a) (ref_sin a)
    (proj x w a) (b.val / 128) (by omega) (fun e => ref_q3 x w a _ e)).trans (congrArg (turned (proj x w a) a) (Fin.ext ?_))
  show 128 * (b.val / 128) + b.val % 128 = b.val
  omega

/-- A turned head of the keys. -/
theorem ref_k (a : Fin 8192) (b : Fin 1024) : val_main_v67 (F := Ideal) x w (ix2 a b) = turned (proj x w a) a ⟨1024 + b, by omega⟩ := by
  have := a.isLt; have := b.isLt
  have e0 : idx_main_v67 (ix2 a b) = ix3 a (⟨b.val / 128, by omega⟩ : Fin 8) (⟨b.val % 128, by omega⟩ : Fin 128) := by
    refine funext fun i => Fin.ext ?_
    match i with
    | ⟨0, _⟩ => show (a.val * 1024 + b.val) / 1024 = a.val; omega
    | ⟨1, _⟩ => show (a.val * 1024 + b.val) / 128 % 8 = b.val / 128; omega
    | ⟨2, _⟩ => show (a.val * 1024 + b.val) % 128 = b.val % 128; omega
  rw [val_main_v67_apply, e0]
  refine (spelt_turned (H := 8) (val_main_v36 (F := Ideal) x w) (val_main_v18 (F := Ideal)) (val_main_v20 (F := Ideal)) _ _ _ _ a _ _ (ref_cos a) (ref_sin a)
    (proj x w a) (8 + b.val / 128) (by omega) (fun e => ref_k3 x w a _ e)).trans (congrArg (turned (proj x w a) a) (Fin.ext ?_))
  show 128 * (8 + b.val / 128) + b.val % 128 = 1024 + b.val
  omega

/-- The scaled queries. -/
theorem ref_qs (a : Fin 8192) (b : Fin 1024) : val_main_v74 (F := Ideal) x w (ix2 a b) = turned (proj x w a) a ⟨b, by omega⟩ * (qs : EReal) := by
  rw [val_main_v74_apply, val_main_v71_apply, ref_q, val_main_v73_apply, val_main_v72_apply, val_main_cst_4_apply, val_main_v70_apply, val_main_v69_apply, val_main_cst_3_apply]
  exact log_step _

/-- The values. -/
theorem ref_v (a : Fin 8192) (b : Fin 1024) : val_main_v68 (F := Ideal) x w (ix2 a b) = proj x w a ⟨2048 + b, by omega⟩ := by
  rw [← ref_proj, val_main_v68_apply]
  refine congrArg _ (funext fun i => Fin.ext ?_)
  match i with
  | ⟨0, _⟩ => rfl
  | ⟨1, _⟩ => rfl

/-- The reference's result, at an index. -/
theorem ref_at (a : Fin 8192) (b : Fin 3072) : val_main_v76 (F := Ideal) x w (ix2 a b) = res x w a b := by
  show val_main_v75 (F := Ideal) x w (ix2 a b) = _
  unfold val_main_v75
  have hq := ref_qs x w a
  have hk := ref_k x w a
  have hv := ref_v x w a
  revert hq hk hv
  generalize val_main_v74 (F := Ideal) x w = y
  generalize val_main_v67 (F := Ideal) x w = z
  generalize val_main_v68 (F := Ideal) x w = v
  intro hq hk hv
  pointwise
  have := b.isLt
  unfold res
  split
  · exact (hq _).trans (entry_queries (by omega) _ _ rfl)
  split
  · exact (hk _).trans (entry_keys (by omega) _ _ (by show 1024 + (b.val - 1024) = b.val; omega))
  · exact (hv _).trans (entry_values (by omega) _ _ (by show 2048 + (b.val - 1024 - 1024) = b.val; omega))

end Ref

/-- The reference runs, its arguments end unchanged, and every semaphore reads zero. -/
theorem reference_runs : Cert.quiescent_QkvRefIdeal (hQkvRefIdeal := Cert.QkvRefIdeal.Gen.facts) :=
  fun m g _ => (θ_run _ _ _).mono (fun r h => ⟨fun c => (h c).2, sem_eq_zero_of_no_sems (by decide) r.2⟩) (Cert.QkvRefIdeal.Value.run (F := Ideal) m g)

/-- The two programs end with equal results, element by element. -/
theorem algebraic : Cert.algebraic_QkvIdeal_QkvRefIdeal (hQkvIdeal := Cert.QkvIdeal.Gen.facts) (hQkvRefIdeal := Cert.QkvRefIdeal.Gen.facts) := by
  intro m g m' g' hpre hargs
  refine ⟨fun c => (dats m 0 c).arrAt 4 cfg0.N, Value.run_blocks m g, ?_⟩
  refine (θ_run Cert.QkvRefIdeal.defs _ _).mono (fun r h c => ?_) (Cert.QkvRefIdeal.Value.run (F := Ideal) m' g')
  obtain ⟨e0, e1⟩ := hargs c
  refine ⟨(h c).1.trans ?_, (h c).2⟩
  refine (Cert.QkvRefIdeal.Read.val_main_v76_eq (F := Ideal) _ _).trans ?_
  rw [e0, e1]
  refine Eq.trans (funext fun i => ?_) (result_arr m c).symm
  obtain ⟨a, j, rfl⟩ : ∃ (a : Fin 8192) (j : Fin 3072), i = (ix2 a j : S8192x3072.Idx) :=
    ⟨i 0, i 1, funext fun k => by fin_cases k <;> rfl⟩
  exact ref_at _ _ a j

end Cert.QkvIdeal.Proj
-- ==== Proof.Proj.Group.lean ====
module

public import proofs.«01_k».proof.Proof.Proj.Ref

@[expose] public section

set_option maxRecDepth 16384

/-! # The references of the dilated attention's projections

    A group's columns as four heads, the turn of a head, the positions brought together by their
    remainder modulo the dilation, and the three parts side by side: for any columns and any dilation. -/

noncomputable section

namespace Cert.Turn

open Idealize.ShloMosaic Idealize.ShloMosaic.TcCoe
open Cert.QkvRefIdeal

/-- The scale of the queries. -/
abbrev hsc : ℝ := (Real.sqrt 128)⁻¹

theorem hsc_pos : 0 < hsc := inv_pos.2 (Real.sqrt_pos.2 (by norm_num))

/-- An entry of a group: part, remainder, and column within the part decide the position and the projection's column. -/
def groupRes (x : S8192x2048.Idx → EReal) (w : S1x2048x11776.Idx → EReal) (g : ℕ) (hg : g < 3) (a : Fin 8192) (b : Fin 1536) : EReal :=
  entry hsc (b.val / 512) (proj x w a) a ⟨(6 + g + 3 * (b.val / 512)) * 512 + b.val % 512, by omega⟩

/-- The columns of a part of a group, as heads. -/
theorem heads_at (y : FVec Ideal S8192x11776 .f32) (N o : ℕ) (h1 : Shape.Slices S8192x11776 ![0, o] ⟨2, ![8192, N]⟩) (h2 : Shape.Slices ⟨2, ![8192, N]⟩ ![0, 0] ⟨2, ![8192, 512]⟩)
    (h3 : Shape.ShapeCasts ⟨2, ![8192, 512]⟩ ⟨3, ![8192, 4, 128]⟩) (a : Fin 8192) (h : Fin 4) (e : Fin 128) (ho : o + 512 ≤ 11776) (hN : 512 ≤ N) :
    shapeCast ⟨3, ![8192, 4, 128]⟩ (extractStridedSlice ⟨2, ![8192, 512]⟩ ![0, 0] (extractStridedSlice ⟨2, ![8192, N]⟩ ![0, o] y h1) h2) h3 (ix3 a h e)
      = y (ix2 a ⟨o + 128 * h + e, by omega⟩) := by
  have := h.isLt; have := e.isLt
  refine (shapeCast_apply _ h3 (ix3 a h e) (ix2 a (⟨128 * h + e, by omega⟩ : Fin 512)) ?_).trans ?_
  · rw [Shape.rowMajor_val_two, Shape.rowMajor_val_three]
    show a.val * 512 + (128 * h.val + e.val) = (a.val * 4 + h.val) * 128 + e.val
    omega
  refine (extractStridedSlice_apply ![0, 0] _ h2 _ (ix2 a (⟨128 * h + e, by omega⟩ : Fin N)) ?_).trans ?_
  · intro i
    match i with
    | ⟨0, _⟩ => exact (Nat.zero_add _).symm
    | ⟨1, _⟩ => exact (Nat.zero_add _).symm
  refine (extractStridedSlice_apply ![0, o] y h1 _ (ix2 a (⟨o + 128 * h + e, by omega⟩ : Fin 11776)) ?_)
  intro i
  match i with
  | ⟨0, _⟩ => exact (Nat.zero_add _).symm
  | ⟨1, _⟩ => show o + 128 * h.val + e.val = o + (128 * h.val + e.val); omega

/-- Every `d`-th position, by the remainder. -/
theorem strided_at (z : FVec Ideal ⟨3, ![8192, 4, 128]⟩ .f32) (d n : ℕ) (hdn : n * d = 8192) (h1 : Shape.ShapeCasts ⟨3, ![8192, 4, 128]⟩ ⟨3, ![n, d, 512]⟩)
    (h2 : Shape.Transposes ⟨3, ![n, d, 512]⟩ [1, 0, 2] ⟨3, ![d, n, 512]⟩) (k : Fin d) (i : Fin n) (b : Fin 512) (a : Fin 8192) (ha : a.val = i.val * d + k.val) :
    transpose ⟨3, ![d, n, 512]⟩ [1, 0, 2] (shapeCast ⟨3, ![n, d, 512]⟩ z h1) h2 (ix3 k i b) = z (ix3 a ⟨b.val / 128, by omega⟩ ⟨b.val % 128, by omega⟩) := by
  refine (transpose_apply [1, 0, 2] _ h2 (ix3 k i b) (ix3 i k b) ?_).trans ?_
  · intro q
    match q with
    | ⟨0, _⟩ => rfl
    | ⟨1, _⟩ => rfl
    | ⟨2, _⟩ => rfl
  refine shapeCast_apply _ h1 _ _ ?_
  rw [Shape.rowMajor_val_three, Shape.rowMajor_val_three]
  show (a.val * 4 + b.val / 128) * 128 + b.val % 128 = (i.val * d + k.val) * 512 + b.val
  omega

/-- The three parts side by side are the group's entries. -/
theorem group_at (x : S8192x2048.Idx → EReal) (w : S1x2048x11776.Idx → EReal) (g : ℕ) (hg : g < 3) (q k v : FVec Ideal ⟨3, ![8192, 4, 128]⟩ .f32) (d n : ℕ) (hdn : n * d = 8192)
    (hq : ∀ (a : Fin 8192) (h : Fin 4) (e : Fin 128), q (ix3 a h e) = turned (proj x w a) a ⟨128 * (24 + 4 * g + h) + e, by omega⟩ * (hsc : EReal))
    (hk : ∀ (a : Fin 8192) (h : Fin 4) (e : Fin 128), k (ix3 a h e) = turned (proj x w a) a ⟨128 * (36 + 4 * g + h) + e, by omega⟩)
    (hv : ∀ (a : Fin 8192) (h : Fin 4) (e : Fin 128), v (ix3 a h e) = proj x w a ⟨128 * (48 + 4 * g + h) + e, by omega⟩)
    (h1 : Shape.ShapeCasts ⟨3, ![8192, 4, 128]⟩ ⟨3, ![n, d, 512]⟩) (h2 : Shape.Transposes ⟨3, ![n, d, 512]⟩ [1, 0, 2] ⟨3, ![d, n, 512]⟩)
    (hc : Shape.Concatenates [⟨3, ![d, n, 512]⟩, ⟨3, ![d, n, 512]⟩, ⟨3, ![d, n, 512]⟩] ⟨3, ![d, n, 1536]⟩ 2) (c : Fin d) (i : Fin n) (b : Fin 1536) (a : Fin 8192) (ha : a.val = i.val * d + c.val) :
    concatenate ⟨3, ![d, n, 1536]⟩ 2 [⟨⟨3, ![d, n, 512]⟩, transpose ⟨3, ![d, n, 512]⟩ [1, 0, 2] (shapeCast ⟨3, ![n, d, 512]⟩ q h1) h2⟩,
      ⟨⟨3, ![d, n, 512]⟩, transpose ⟨3, ![d, n, 512]⟩ [1, 0, 2] (shapeCast ⟨3, ![n, d, 512]⟩ k h1) h2⟩,
      ⟨⟨3, ![d, n, 512]⟩, transpose ⟨3, ![d, n, 512]⟩ [1, 0, 2] (shapeCast ⟨3, ![n, d, 512]⟩ v h1) h2⟩] hc (ix3 c i b)
      = groupRes x w g hg a b := by
  have sq := fun b => (strided_at q d n hdn h1 h2 c i b a ha).trans (hq _ _ _)
  have sk := fun b => (strided_at k d n hdn h1 h2 c i b a ha).trans (hk _ _ _)
  have sv := fun b => (strided_at v d n hdn h1 h2 c i b a ha).trans (hv _ _ _)
  revert sq sk sv
  generalize transpose ⟨3, ![d, n, 512]⟩ [1, 0, 2] (shapeCast ⟨3, ![n, d, 512]⟩ q h1) h2 = q'
  generalize transpose ⟨3, ![d, n, 512]⟩ [1, 0, 2] (shapeCast ⟨3, ![n, d, 512]⟩ k h1) h2 = k'
  generalize transpose ⟨3, ![d, n, 512]⟩ [1, 0, 2] (shapeCast ⟨3, ![n, d, 512]⟩ v h1) h2 = v'
  intro sq sk sv
  have hb := b.isLt
  pointwise
  have hx : ∀ (j : ℕ) (hj : j < 512) (f : ∀ r : Fin 3, Fin (![d, n, 512] r)), (f 0).val = c.val → (f 1).val = i.val → (f 2).val = j →
      Shape.Idx.norm (s := ⟨3, ![d, n, 512]⟩) f = ix3 c i (⟨j, hj⟩ : Fin 512) := by
    intro j hj f h0 h1 h2
    refine funext fun r => Fin.ext ?_
    match r with
    | ⟨0, _⟩ => exact h0
    | ⟨1, _⟩ => exact h1
    | ⟨2, _⟩ => exact h2
  unfold groupRes
  split
  · rename_i h
    exact (congrArg q' (hx _ h _ rfl rfl rfl)).trans ((sq _).trans (entry_queries (by omega) _ _ (by show 128 * (24 + 4 * g + b.val / 128) + b.val % 128 = (6 + g + 3 * (b.val / 512)) * 512 + b.val % 512; omega)))
  split
  · rename_i h
    exact (congrArg k' (hx _ h _ rfl rfl rfl)).trans ((sk _).trans (entry_keys (by omega) _ _ (by show 128 * (36 + 4 * g + (b.val - 512) / 128) + (b.val - 512) % 128 = (6 + g + 3 * (b.val / 512)) * 512 + b.val % 512; omega)))
  · exact (congrArg v' (hx (b.val - 512 - 512) (by omega) _ rfl rfl rfl)).trans ((sv _).trans (entry_values (by omega) _ _ (by show 128 * (48 + 4 * g + (b.val - 512 - 512) / 128) + (b.val - 512 - 512) % 128 = (6 + g + 3 * (b.val / 512)) * 512 + b.val % 512; omega)))

/-- The block of a group's column block and a position's tables. -/
theorem scale_at (q : ℕ) (h : q < 3) (κ : Ideal .f32) (hκ : κ = (hsc : EReal)) : Scalar.select (Scalar.cmpi CmpIPredicate.eq (BitVec.ofNat 32 q) 0#32) κ (Scalar.ofBits (F := Ideal) .f32 0x3F800000#32)
    = (if q = 0 then (hsc : EReal) else 1) := by
  subst hκ
  show Scalar.select _ (hsc : EReal) (Ideal.ofBits .f32 0x3F800000#32) = _
  rw [lit_1]
  interval_cases q <;> rfl

end Cert.Turn
-- ==== Proof.Proj.Dil0.lean ====
module

public import proofs.«01_k».proof.Defs
public import proofs.«01_k».proof.Proof.Proj.Group
public import proofs.«01_k».proof.Proof.Gen.Dil0Ideal.Value
public import proofs.«01_k».proof.Proof.Gen.Dil0RefIdeal.Run
public import proofs.«01_k».proof.Proof.Gen.Dil0RefIdeal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

/-! # The first group of heads: every position -/

noncomputable section

namespace Cert.Dil0Ideal.Proj

open Cert.Dil0Ideal Cert.Dil0Ideal.Gen Cert.Turn
open Idealize.ShloMosaic Idealize.ShloMosaic.TcCoe
open Idealize.ShloMosaic.Pipeline (Dat)

/-- One block of the projection, turned and scaled. -/
theorem block_eq (i : grid0.Coords) (x : Vec Ideal S1024x2048 .bf16) (w : Vec Ideal S2048x512 .bf16) (cs sn : Vec Ideal S1x1024x128 .f32) :
    k0_pay2 i x w cs sn = turnBlock x w cs sn (if (i 1).val = 0 then (hsc : EReal) else 1) := by
  rw [← scale_at _ (i 1).isLt _ rfl]
  rfl

variable (m : (ℓ : Loc nD τ sig) → Buf (Elt Ideal) ℓ) (c : Dev nD)

/-- The arguments. -/
abbrev argX : S8192x2048.Idx → EReal := m ((c.tc : Thread nD τ).loc main_arg0)
abbrev argW : S1x2048x11776.Idx → EReal := m ((c.tc : Thread nD τ).loc main_arg1)

/-- The activations the host hands over. -/
theorem host_x (a : Fin 8192) (k : Fin 2048) : V m c main_v26 (ix2 a k) = argX m c (ix2 a k) := by
  unfold V
  after_reads_at

/-- The weights the host hands over. -/
theorem host_w (k : Fin 2048) (j : Fin 11776) : V m c main_v28 (ix2 k j) = argW m c (ix3 0 k j) := by
  unfold V
  after_reads_at

/-- The two tables the host hands over: the factors, and one and zero. -/
theorem host_cos (a : Fin 8192) (e : Fin 128) : V m c main_v21 (ix3 0 a e) = cosT a e := by
  unfold V
  after_reads_at
  after_reads_at
  rfl

theorem host_cos_one (a : Fin 8192) (e : Fin 128) : V m c main_v21 (ix3 1 a e) = (1 : EReal) := by
  unfold V
  after_reads_at

theorem host_sin (a : Fin 8192) (e : Fin 128) : V m c main_v25 (ix3 0 a e) = sinT a e := by
  unfold V
  after_reads_at
  after_reads_at
  rfl

theorem host_sin_zero (a : Fin 8192) (e : Fin 128) : V m c main_v25 (ix3 1 a e) = (0 : EReal) := by
  unfold V
  after_reads_at

/-- Where the blocks of a grid point lie. -/
theorem places : ∀ t : Fin cfg0.N, win0_0.index t = ![(grid0.coords t 0).val, 0] ∧ win0_1.index t = ![0, 6 + 3 * (grid0.coords t 1).val]
    ∧ win0_2.index t = ![if (grid0.coords t 1).val = 2 then 1 else 0, (grid0.coords t 0).val, 0]
    ∧ win0_3.index t = ![if (grid0.coords t 1).val = 2 then 1 else 0, (grid0.coords t 0).val, 0]
    ∧ win0_4.index t = ![0, (grid0.coords t 0).val, (grid0.coords t 1).val] :=
  (by decide +kernel : ∀ t : Fin grid0.N, _)

/-- Where an index of a grid point's result block lies. -/
theorem out_place (t : Fin cfg0.N) (k : Fin 1) (r : Fin 1024) (j : Fin 512) (n : Fin 8192) (b : Fin 1536)
    (hn : n.val = (grid0.coords t 0).val * 1024 + r.val) (hb : b.val = (grid0.coords t 1).val * 512 + j.val) :
    ((cfg0.win 4).blk t).view.emb (ix3 k r j) = (ix3 k n b : S1x8192x1536.Idx) := by
  obtain ⟨p0, p1, p2, p3, p4⟩ := places t
  blk_ext [p4]

/-- A grid point's activations. -/
theorem blk_x (t : Fin cfg0.N) (r : Fin 1024) (k : Fin 2048) (a : Fin 8192) (ha : a.val = (grid0.coords t 0).val * 1024 + r.val) :
    iblk m c 0 t (ix2 r k) = argX m c (ix2 a k) := by
  obtain ⟨p0, p1, p2, p3, p4⟩ := places t
  rw [← host_x]
  blk_ext [iblk, p0]

/-- A grid point's weights. -/
theorem blk_w (t : Fin cfg0.N) (k : Fin 2048) (j : Fin 512) (b : Fin 11776) (hb : b.val = (6 + 3 * (grid0.coords t 1).val) * 512 + j.val) :
    iblk m c 1 t (ix2 k j) = argW m c (ix3 0 k b) := by
  obtain ⟨p0, p1, p2, p3, p4⟩ := places t
  rw [← host_w]
  blk_ext [iblk, p1]

/-- A grid point's tables. -/
theorem blk_cos (t : Fin cfg0.N) (r : Fin 1024) (e : Fin 128) (a : Fin 8192) (ha : a.val = (grid0.coords t 0).val * 1024 + r.val) :
    iblk m c 2 t (ix3 0 r e) = cosTab (grid0.coords t 1).val a e := by
  obtain ⟨p0, p1, p2, p3, p4⟩ := places t
  unfold cosTab
  split <;> rename_i h
  · rw [if_pos h] at p2
    rw [← host_cos_one m c a e]
    blk_ext [iblk, p2]
  · rw [if_neg h] at p2
    rw [← host_cos m c a e]
    blk_ext [iblk, p2]

theorem blk_sin (t : Fin cfg0.N) (r : Fin 1024) (e : Fin 128) (a : Fin 8192) (ha : a.val = (grid0.coords t 0).val * 1024 + r.val) :
    iblk m c 3 t (ix3 0 r e) = sinTab (grid0.coords t 1).val a e := by
  obtain ⟨p0, p1, p2, p3, p4⟩ := places t
  unfold sinTab
  split <;> rename_i h
  · rw [if_pos h] at p3
    rw [← host_sin_zero m c a e]
    blk_ext [iblk, p3]
  · rw [if_neg h] at p3
    rw [← host_sin m c a e]
    blk_ext [iblk, p3]

/-- An entry of the result: the position is the row times 1 and the remainder. -/
def res (x : S8192x2048.Idx → EReal) (w : S1x2048x11776.Idx → EReal) (k : Fin 1) (n : Fin 8192) (b : Fin 1536) : EReal :=
  groupRes x w 0 (by norm_num) ⟨n.val * 1 + k.val, by omega⟩ b

/-- A grid point's block, turned and scaled, at an index. -/
theorem point_at (t : Fin cfg0.N) (r : Fin 1024) (j : Fin 512) (k : Fin 1) (n : Fin 8192) (b : Fin 1536)
    (ha : n.val * 1 + k.val = (grid0.coords t 0).val * 1024 + r.val) (hb : b.val = (grid0.coords t 1).val * 512 + j.val) :
    k0_pay2 (grid0.coords t) (iblk m c 0 t) (iblk m c 1 t) (iblk m c 2 t) (iblk m c 3 t) (ix2 r j) = res (argX m c) (argW m c) k n b := by
  have h0 : (grid0.coords t 0).val < 8 := (grid0.coords t 0).isLt
  have h1 : (grid0.coords t 1).val < 3 := (grid0.coords t 1).isLt
  have hr := r.isLt; have hj := j.isLt
  refine (congrFun (block_eq _ _ _ _ _) _).trans ?_
  refine (block_entry _ _ _ _ (argX m c) (argW m c) hsc hsc_pos _ (by omega) ⟨n.val * 1 + k.val, by omega⟩ r j (6 + 3 * (grid0.coords t 1).val) (by omega)
    (fun k => blk_x m c t r k _ ha) (fun k q => blk_w m c t k q _ rfl) (fun e => blk_cos m c t r e _ ha) (fun e => blk_sin m c t r e _ ha)).trans ?_
  have hq : b.val / 512 = (grid0.coords t 1).val := by omega
  have hj' : b.val % 512 = j.val := by omega
  unfold res groupRes
  simp only [hq, hj']

/-- The block as it is stored. -/
theorem stored_at (v : Vec Ideal S1024x512 .bf16) (r : Fin 1024) (j : Fin 512) : k0_pay1 (F := Ideal) v (ix3 0 r j) = v (ix2 r j) := by
  pointwise [k0_pay1]

/-- The array the call leaves. -/
theorem result_arr : (dats m 0 c).arrAt 4 cfg0.N = fun i : S1x8192x1536.Idx => res (argX m c) (argW m c) (i 0) (i 1) (i 2) := by
  refine (dats m 0 c).arrAt_eq_of_covers 4 _ (by decide +kernel) fun t hf y => ?_
  rw [after0_4]
  unfold outsAt0
  frame_out
  obtain ⟨r, j, rfl⟩ : ∃ (r : Fin 1024) (j : Fin 512), y = (ix3 0 r j : S1x1024x512.Idx) :=
    ⟨y 1, y 2, funext fun k => by fin_cases k <;> first | rfl | exact Subsingleton.elim (α := Fin 1) _ _⟩
  have h0 : (grid0.coords t 0).val < 8 := (grid0.coords t 0).isLt
  have h1 : (grid0.coords t 1).val < 3 := (grid0.coords t 1).isLt
  have hr := r.isLt; have hj := j.isLt
  obtain ⟨n, hn⟩ : ∃ n : Fin 8192, n.val = (grid0.coords t 0).val * 1024 + r.val := ⟨⟨_, by omega⟩, rfl⟩
  obtain ⟨b, hb⟩ : ∃ b : Fin 1536, b.val = (grid0.coords t 1).val * 512 + j.val := ⟨⟨_, by omega⟩, rfl⟩
  rw [out_place t 0 r j n b hn hb]
  exact (stored_at _ r j).trans (point_at m c t r j 0 n b (by show n.val * 1 + 0 = _; omega) hb)

section Ref
open Cert.Dil0RefIdeal.Read

variable (x : S8192x2048.Idx → EReal) (w : S1x2048x11776.Idx → EReal)

/-- The scaled, turned heads of the queries. -/
theorem ref_q (a : Fin 8192) (h : Fin 4) (e : Fin 128) : val_main_v37 (F := Ideal) x w (ix3 a h e) = turned (proj x w a) a ⟨128 * (24 + h) + e, by omega⟩ * (hsc : EReal) := by
  rw [val_main_v37_apply, val_main_v36_apply, val_main_v35_apply, val_main_cst_1_apply]
  refine congrArg₂ (· * ·) (spelt_turned (H := 4) (val_main_v4 (F := Ideal) x w) (val_main_v19 (F := Ideal)) (val_main_v21 (F := Ideal)) _ _ _ _ a h e
    (ref_cos a) (ref_sin a) (proj x w a) (24 + h) (by omega) fun e => ?_) rsqrt_128
  refine (heads_at _ 8704 3072 _ _ _ a h e (by norm_num) (by norm_num)).trans ((ref_proj x w a _).trans (congrArg _ (Fin.ext ?_)))
  show 3072 + 128 * h.val + e.val = 128 * (24 + h.val) + e.val
  omega

/-- The turned heads of the keys. -/
theorem ref_k (a : Fin 8192) (h : Fin 4) (e : Fin 128) : val_main_v70 (F := Ideal) x w (ix3 a h e) = turned (proj x w a) a ⟨128 * (36 + h) + e, by omega⟩ := by
  refine spelt_turned (H := 4) (val_main_v40 (F := Ideal) x w) (val_main_v55 (F := Ideal)) (val_main_v57 (F := Ideal)) _ _ _ _ a h e
    (ref_cos a) (ref_sin a) (proj x w a) (36 + h) (by omega) fun e => ?_
  refine (heads_at _ 7168 4608 _ _ _ a h e (by norm_num) (by norm_num)).trans ((ref_proj x w a _).trans (congrArg _ (Fin.ext ?_)))
  show 4608 + 128 * h.val + e.val = 128 * (36 + h.val) + e.val
  omega

/-- The heads of the values. -/
theorem ref_v (a : Fin 8192) (h : Fin 4) (e : Fin 128) : val_main_v73 (F := Ideal) x w (ix3 a h e) = proj x w a ⟨128 * (48 + h) + e, by omega⟩ := by
  refine (heads_at _ 5632 6144 _ _ _ a h e (by norm_num) (by norm_num)).trans ((ref_proj x w a _).trans (congrArg _ (Fin.ext ?_)))
  show 6144 + 128 * h.val + e.val = 128 * (48 + h.val) + e.val
  omega

/-- The reference's result, at an index. -/
theorem ref_at (k : Fin 1) (n : Fin 8192) (b : Fin 1536) : val_main_v81 (F := Ideal) x w (ix3 k n b) = res x w k n b := by
  show val_main_v80 (F := Ideal) x w (ix3 k n b) = _
  exact group_at x w 0 (by norm_num) (val_main_v37 (F := Ideal) x w) (val_main_v70 (F := Ideal) x w) (val_main_v73 (F := Ideal) x w) 1 8192 rfl
    (ref_q x w) (ref_k x w) (ref_v x w) _ _ _ k n b _ rfl

end Ref

/-- The reference runs, its arguments end unchanged, and every semaphore reads zero. -/
theorem reference_runs : Cert.quiescent_Dil0RefIdeal (hDil0RefIdeal := Cert.Dil0RefIdeal.Gen.facts) :=
  fun m g _ => (θ_run _ _ _).mono (fun r h => ⟨fun c => (h c).2, sem_eq_zero_of_no_sems (by decide) r.2⟩) (Cert.Dil0RefIdeal.Value.run (F := Ideal) m g)

/-- The two programs end with equal results, element by element. -/
theorem algebraic : Cert.algebraic_Dil0Ideal_Dil0RefIdeal (hDil0Ideal := Cert.Dil0Ideal.Gen.facts) (hDil0RefIdeal := Cert.Dil0RefIdeal.Gen.facts) := by
  intro m g m' g' hpre hargs
  refine ⟨fun c => (dats m 0 c).arrAt 4 cfg0.N, Value.run_blocks m g, ?_⟩
  refine (θ_run Cert.Dil0RefIdeal.defs _ _).mono (fun r h c => ?_) (Cert.Dil0RefIdeal.Value.run (F := Ideal) m' g')
  obtain ⟨e0, e1⟩ := hargs c
  refine ⟨(h c).1.trans ?_, (h c).2⟩
  refine (Cert.Dil0RefIdeal.Read.val_main_v81_eq (F := Ideal) _ _).trans ?_
  rw [e0, e1]
  refine Eq.trans (funext fun i => ?_) (result_arr m c).symm
  obtain ⟨k, n, b, rfl⟩ : ∃ (k : Fin 1) (n : Fin 8192) (b : Fin 1536), i = (ix3 k n b : S1x8192x1536.Idx) :=
    ⟨i 0, i 1, i 2, funext fun k => by fin_cases k <;> rfl⟩
  exact ref_at _ _ k n b

end Cert.Dil0Ideal.Proj
-- ==== Proof.Proj.Slots.lean ====
module

public import proofs.«01_k».proof.Proof.Proj.Group
public import Idealize.ShloMosaic.Lib.Pipeline.ValueKit
public import Idealize.ShloMosaic.Lib.Pipeline.ReadBack
public import Idealize.ShloMosaic.Lib.Pointwise

@[expose] public section

set_option maxRecDepth 16384

/-! # The scratch of the dilated projections

    A head's columns are stored whole into a slot of the scratch and read back a remainder of the positions at a time. -/

noncomputable section

namespace Cert.Turn

open Idealize.ShloMosaic Idealize.ShloMosaic.TcCoe

/-- A strided load out of the slot stored last reads what was stored there, `st` rows apart. -/
theorem slot_load {Val : EltTy → Type} [∀ e, Nonempty (Val e)] {sig : RefSig} {κ : Kind} {sp : Space} {e : EltTy} (v : View sig κ sp ⟨3, ![4, 1024, 128]⟩ e) (q r st nb : ℕ)
    (inb : ∀ a : Fin 3, (![q, 0, 0] : Fin 3 → ℕ) a + (![1, 1024, 128] : Fin 3 → ℕ) a ≤ (![4, 1024, 128] : Fin 3 → ℕ) a)
    (w : (Rect.unit (s := ⟨3, ![4, 1024, 128]⟩) ![q, 0, 0] ![1, 1024, 128] inb).shape.Idx → Val e)
    (L : List (View.Piece Val ⟨3, ![4, 1024, 128]⟩ e)) (inb') :
    v.readCov (⟨Rect.unit (s := ⟨3, ![4, 1024, 128]⟩) ![q, 0, 0] ![1, 1024, 128] inb, w⟩ :: L) (⟨![q, r, 0], ![1, nb, 128], ![1, st, 1], inb'⟩ : LoadRect ⟨3, ![4, 1024, 128]⟩)
      = fun j => w (ix3 0 (⟨r + st * (j 1).val, LoadRect.coord_lt (⟨![q, r, 0], ![1, nb, 128], ![1, st, 1], inb'⟩ : LoadRect ⟨3, ![4, 1024, 128]⟩) 1 (j 1).isLt⟩ : Fin 1024) (j 2)) := by
  rw [View.readCov_eq_canon']
  funext j
  refine Eq.trans (congrArg _ (funext fun a => Fin.ext ?_)) (View.canon_cons_emb _ w L _)
  have h0 : (j 0).val < 1 := (j 0).isLt
  match a with
  | ⟨0, _⟩ => show q + 1 * (j 0).val = q + 1 * 0; omega
  | ⟨1, _⟩ => show r + st * (j 1).val = 0 + 1 * (r + st * (j 1).val); omega
  | ⟨2, _⟩ => show 0 + 1 * (j 2).val = 0 + 1 * (j 2).val; rfl

/-- A piece of the result's block: a remainder's rows of a head, out of the block `Y`. -/
theorem piece_at (Y : FVec Ideal ⟨2, ![1024, 512]⟩ .f32) (o r st nb : ℕ) (ho : o + 128 ≤ 512) (hr : ∀ k : Fin nb, r + st * k.val < 1024)
    (h1 : Shape.Slices ⟨2, ![1024, 512]⟩ ![0, o] ⟨2, ![1024, 128]⟩) (h2 : Shape.ShapeCasts ⟨2, ![1024, 128]⟩ ⟨3, ![1, 1024, 128]⟩)
    (h3 : Shape.ShapeCasts ⟨3, ![1, nb, 128]⟩ ⟨2, ![nb, 128]⟩) (h4 : FTy.bits .bf16 < FTy.bits .f32) (h5 : Shape.ShapeCasts ⟨2, ![nb, 128]⟩ ⟨3, ![1, nb, 128]⟩)
    (x : (⟨3, ![1, nb, 128]⟩ : Shape).Idx) (p : Fin 1024) (b : Fin 512) (hp : p.val = r + st * (x 1).val) (hb : b.val = o + (x 2).val) :
    shapeCast ⟨3, ![1, nb, 128]⟩ (truncf (F := Ideal) .bf16 (shapeCast ⟨2, ![nb, 128]⟩
      (fun j : (⟨3, ![1, nb, 128]⟩ : Shape).Idx => shapeCast ⟨3, ![1, 1024, 128]⟩ (extractStridedSlice ⟨2, ![1024, 128]⟩ ![0, o] Y h1) h2 (ix3 0 (⟨r + st * (j 1).val, hr (j 1)⟩ : Fin 1024) (j 2))) h3) h4) h5 x
      = Y (ix2 p b) := by
  pointwise
  refine congrArg Y (funext fun a => Fin.ext ?_)
  match a with
  | ⟨0, _⟩ => exact hp.symm
  | ⟨1, _⟩ => exact hb.symm

end Cert.Turn
-- ==== Proof.Proj.Dil1.lean ====
module

public import proofs.«01_k».proof.Defs
public import proofs.«01_k».proof.Proof.Proj.Slots
public import proofs.«01_k».proof.Proof.Gen.Dil1Ideal.Value
public import proofs.«01_k».proof.Proof.Gen.Dil1RefIdeal.Run
public import proofs.«01_k».proof.Proof.Gen.Dil1RefIdeal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

/-! # The second group of heads: every fourth position -/

noncomputable section

namespace Cert.Dil1Ideal.Proj

open Cert.Dil1Ideal Cert.Dil1Ideal.Gen Cert.Turn
open Idealize.ShloMosaic Idealize.ShloMosaic.TcCoe
open Idealize.ShloMosaic.Pipeline (Dat)

/-- One block of the projection, turned and scaled. -/
theorem block_eq (i : grid0.Coords) (x : Vec Ideal S1024x2048 .bf16) (w : Vec Ideal S2048x512 .bf16) (cs sn : Vec Ideal S1x1024x128 .f32) :
    k0_pay1 i x w cs sn = turnBlock x w cs sn (if (i 1).val = 0 then (hsc : EReal) else 1) := by
  rw [← scale_at _ (i 1).isLt _ rfl]
  rfl

variable (m : (ℓ : Loc nD τ sig) → Buf (Elt Ideal) ℓ) (c : Dev nD)

/-- The arguments. -/
abbrev argX : S8192x2048.Idx → EReal := m ((c.tc : Thread nD τ).loc main_arg0)
abbrev argW : S1x2048x11776.Idx → EReal := m ((c.tc : Thread nD τ).loc main_arg1)

/-- The activations the host hands over. -/
theorem host_x (a : Fin 8192) (k : Fin 2048) : V m c main_v26 (ix2 a k) = argX m c (ix2 a k) := by
  unfold V
  after_reads_at

/-- The weights the host hands over. -/
theorem host_w (k : Fin 2048) (j : Fin 11776) : V m c main_v28 (ix2 k j) = argW m c (ix3 0 k j) := by
  unfold V
  after_reads_at

/-- The two tables the host hands over: the factors, and one and zero. -/
theorem host_cos (a : Fin 8192) (e : Fin 128) : V m c main_v21 (ix3 0 a e) = cosT a e := by
  unfold V
  after_reads_at
  after_reads_at
  rfl

theorem host_cos_one (a : Fin 8192) (e : Fin 128) : V m c main_v21 (ix3 1 a e) = (1 : EReal) := by
  unfold V
  after_reads_at

theorem host_sin (a : Fin 8192) (e : Fin 128) : V m c main_v25 (ix3 0 a e) = sinT a e := by
  unfold V
  after_reads_at
  after_reads_at
  rfl

theorem host_sin_zero (a : Fin 8192) (e : Fin 128) : V m c main_v25 (ix3 1 a e) = (0 : EReal) := by
  unfold V
  after_reads_at

/-- Where the blocks of a grid point lie. -/
theorem places : ∀ t : Fin cfg0.N, win0_0.index t = ![(grid0.coords t 0).val, 0] ∧ win0_1.index t = ![0, 7 + 3 * (grid0.coords t 1).val]
    ∧ win0_2.index t = ![if (grid0.coords t 1).val = 2 then 1 else 0, (grid0.coords t 0).val, 0]
    ∧ win0_3.index t = ![if (grid0.coords t 1).val = 2 then 1 else 0, (grid0.coords t 0).val, 0]
    ∧ win0_4.index t = ![0, (grid0.coords t 0).val, (grid0.coords t 1).val] :=
  (by decide +kernel : ∀ t : Fin grid0.N, _)

/-- Where an index of a grid point's result block lies. -/
theorem out_place (t : Fin cfg0.N) (k : Fin 4) (r : Fin 256) (j : Fin 512) (n : Fin 2048) (b : Fin 1536)
    (hn : n.val = (grid0.coords t 0).val * 256 + r.val) (hb : b.val = (grid0.coords t 1).val * 512 + j.val) :
    ((cfg0.win 4).blk t).view.emb (ix3 k r j) = (ix3 k n b : S4x2048x1536.Idx) := by
  obtain ⟨p0, p1, p2, p3, p4⟩ := places t
  blk_ext [p4]

/-- A grid point's activations. -/
theorem blk_x (t : Fin cfg0.N) (r : Fin 1024) (k : Fin 2048) (a : Fin 8192) (ha : a.val = (grid0.coords t 0).val * 1024 + r.val) :
    iblk m c 0 t (ix2 r k) = argX m c (ix2 a k) := by
  obtain ⟨p0, p1, p2, p3, p4⟩ := places t
  rw [← host_x]
  blk_ext [iblk, p0]

/-- A grid point's weights. -/
theorem blk_w (t : Fin cfg0.N) (k : Fin 2048) (j : Fin 512) (b : Fin 11776) (hb : b.val = (7 + 3 * (grid0.coords t 1).val) * 512 + j.val) :
    iblk m c 1 t (ix2 k j) = argW m c (ix3 0 k b) := by
  obtain ⟨p0, p1, p2, p3, p4⟩ := places t
  rw [← host_w]
  blk_ext [iblk, p1]

/-- A grid point's tables. -/
theorem blk_cos (t : Fin cfg0.N) (r : Fin 1024) (e : Fin 128) (a : Fin 8192) (ha : a.val = (grid0.coords t 0).val * 1024 + r.val) :
    iblk m c 2 t (ix3 0 r e) = cosTab (grid0.coords t 1).val a e := by
  obtain ⟨p0, p1, p2, p3, p4⟩ := places t
  unfold cosTab
  split <;> rename_i h
  · rw [if_pos h] at p2
    rw [← host_cos_one m c a e]
    blk_ext [iblk, p2]
  · rw [if_neg h] at p2
    rw [← host_cos m c a e]
    blk_ext [iblk, p2]

theorem blk_sin (t : Fin cfg0.N) (r : Fin 1024) (e : Fin 128) (a : Fin 8192) (ha : a.val = (grid0.coords t 0).val * 1024 + r.val) :
    iblk m c 3 t (ix3 0 r e) = sinTab (grid0.coords t 1).val a e := by
  obtain ⟨p0, p1, p2, p3, p4⟩ := places t
  unfold sinTab
  split <;> rename_i h
  · rw [if_pos h] at p3
    rw [← host_sin_zero m c a e]
    blk_ext [iblk, p3]
  · rw [if_neg h] at p3
    rw [← host_sin m c a e]
    blk_ext [iblk, p3]

/-- An entry of the result: the position is the row times 4 and the remainder. -/
def res (x : S8192x2048.Idx → EReal) (w : S1x2048x11776.Idx → EReal) (k : Fin 4) (n : Fin 2048) (b : Fin 1536) : EReal :=
  groupRes x w 1 (by norm_num) ⟨n.val * 4 + k.val, by omega⟩ b

/-- A grid point's block, turned and scaled, at an index. -/
theorem point_at (t : Fin cfg0.N) (r : Fin 1024) (j : Fin 512) (k : Fin 4) (n : Fin 2048) (b : Fin 1536)
    (ha : n.val * 4 + k.val = (grid0.coords t 0).val * 1024 + r.val) (hb : b.val = (grid0.coords t 1).val * 512 + j.val) :
    k0_pay1 (grid0.coords t) (iblk m c 0 t) (iblk m c 1 t) (iblk m c 2 t) (iblk m c 3 t) (ix2 r j) = res (argX m c) (argW m c) k n b := by
  have h0 : (grid0.coords t 0).val < 8 := (grid0.coords t 0).isLt
  have h1 : (grid0.coords t 1).val < 3 := (grid0.coords t 1).isLt
  have hr := r.isLt; have hj := j.isLt
  refine (congrFun (block_eq _ _ _ _ _) _).trans ?_
  refine (block_entry _ _ _ _ (argX m c) (argW m c) hsc hsc_pos _ (by omega) ⟨n.val * 4 + k.val, by omega⟩ r j (7 + 3 * (grid0.coords t 1).val) (by omega)
    (fun k => blk_x m c t r k _ ha) (fun k q => blk_w m c t k q _ rfl) (fun e => blk_cos m c t r e _ ha) (fun e => blk_sin m c t r e _ ha)).trans ?_
  have hq : b.val / 512 = (grid0.coords t 1).val := by omega
  have hj' : b.val % 512 = j.val := by omega
  unfold res groupRes
  simp only [hq, hj']

/-- A grid point's block: the turned block's rows, brought together by their remainder. -/
theorem out_at (t : Fin cfg0.N) (y : S4x256x512.Idx) (p : Fin 1024) (hp : p.val = (y 1).val * 4 + (y 0).val) :
    outsAt0 m c t y = k0_pay1 (grid0.coords t) (iblk m c 0 t) (iblk m c 1 t) (iblk m c 2 t) (iblk m c 3 t) (ix2 p (y 2)) := by
  unfold outsAt0
  frame_open
  simp (disch := decide) only [↓ View.readCov_skip, ↓ slot_load]
  frame_out
  simp only [k0_pay2]
  generalize k0_pay1 (grid0.coords t) (iblk m c 0 t) (iblk m c 1 t) (iblk m c 2 t) (iblk m c 3 t) = Y
  canon_tiles x h
  all_goals (open_payloads; refine piece_at Y _ _ 4 256 (by norm_num) (fun k => by omega) _ _ _ _ _ x p (y 2) ?_ ?_ <;> omega)

/-- The array the call leaves. -/
theorem result_arr : (dats m 0 c).arrAt 4 cfg0.N = fun i : S4x2048x1536.Idx => res (argX m c) (argW m c) (i 0) (i 1) (i 2) := by
  refine (dats m 0 c).arrAt_eq_of_covers 4 _ (by decide +kernel) fun t hf y => ?_
  rw [after0_4]
  have hO := out_at m c t
  revert hO
  generalize outsAt0 m c t = O
  intro hO
  obtain ⟨k, r, j, rfl⟩ : ∃ (k : Fin 4) (r : Fin 256) (j : Fin 512), y = (ix3 k r j : S4x256x512.Idx) :=
    ⟨y 0, y 1, y 2, funext fun k => by fin_cases k <;> rfl⟩
  have h0 : (grid0.coords t 0).val < 8 := (grid0.coords t 0).isLt
  have h1 : (grid0.coords t 1).val < 3 := (grid0.coords t 1).isLt
  have hk := k.isLt; have hr := r.isLt; have hj := j.isLt
  obtain ⟨n, hn⟩ : ∃ n : Fin 2048, n.val = (grid0.coords t 0).val * 256 + r.val := ⟨⟨_, by omega⟩, rfl⟩
  obtain ⟨b, hb⟩ : ∃ b : Fin 1536, b.val = (grid0.coords t 1).val * 512 + j.val := ⟨⟨_, by omega⟩, rfl⟩
  rw [out_place t k r j n b hn hb]
  exact (hO (ix3 k r j) ⟨r.val * 4 + k.val, by omega⟩ rfl).trans (point_at m c t _ j k n b (by show n.val * 4 + k.val = _ + (r.val * 4 + k.val); omega) hb)

section Ref
open Cert.Dil1RefIdeal.Read

variable (x : S8192x2048.Idx → EReal) (w : S1x2048x11776.Idx → EReal)

/-- The scaled, turned heads of the queries. -/
theorem ref_q (a : Fin 8192) (h : Fin 4) (e : Fin 128) : val_main_v37 (F := Ideal) x w (ix3 a h e) = turned (proj x w a) a ⟨128 * (28 + h) + e, by omega⟩ * (hsc : EReal) := by
  rw [val_main_v37_apply, val_main_v36_apply, val_main_v35_apply, val_main_cst_1_apply]
  refine congrArg₂ (· * ·) (spelt_turned (H := 4) (val_main_v4 (F := Ideal) x w) (val_main_v19 (F := Ideal)) (val_main_v21 (F := Ideal)) _ _ _ _ a h e
    (ref_cos a) (ref_sin a) (proj x w a) (28 + h) (by omega) fun e => ?_) rsqrt_128
  refine (heads_at _ 8192 3584 _ _ _ a h e (by norm_num) (by norm_num)).trans ((ref_proj x w a _).trans (congrArg _ (Fin.ext ?_)))
  show 3584 + 128 * h.val + e.val = 128 * (28 + h.val) + e.val
  omega

/-- The turned heads of the keys. -/
theorem ref_k (a : Fin 8192) (h : Fin 4) (e : Fin 128) : val_main_v70 (F := Ideal) x w (ix3 a h e) = turned (proj x w a) a ⟨128 * (40 + h) + e, by omega⟩ := by
  refine spelt_turned (H := 4) (val_main_v40 (F := Ideal) x w) (val_main_v55 (F := Ideal)) (val_main_v57 (F := Ideal)) _ _ _ _ a h e
    (ref_cos a) (ref_sin a) (proj x w a) (40 + h) (by omega) fun e => ?_
  refine (heads_at _ 6656 5120 _ _ _ a h e (by norm_num) (by norm_num)).trans ((ref_proj x w a _).trans (congrArg _ (Fin.ext ?_)))
  show 5120 + 128 * h.val + e.val = 128 * (40 + h.val) + e.val
  omega

/-- The heads of the values. -/
theorem ref_v (a : Fin 8192) (h : Fin 4) (e : Fin 128) : val_main_v73 (F := Ideal) x w (ix3 a h e) = proj x w a ⟨128 * (52 + h) + e, by omega⟩ := by
  refine (heads_at _ 5120 6656 _ _ _ a h e (by norm_num) (by norm_num)).trans ((ref_proj x w a _).trans (congrArg _ (Fin.ext ?_)))
  show 6656 + 128 * h.val + e.val = 128 * (52 + h.val) + e.val
  omega

/-- The reference's result, at an index. -/
theorem ref_at (k : Fin 4) (n : Fin 2048) (b : Fin 1536) : val_main_v81 (F := Ideal) x w (ix3 k n b) = res x w k n b := by
  show val_main_v80 (F := Ideal) x w (ix3 k n b) = _
  exact group_at x w 1 (by norm_num) (val_main_v37 (F := Ideal) x w) (val_main_v70 (F := Ideal) x w) (val_main_v73 (F := Ideal) x w) 4 2048 rfl
    (ref_q x w) (ref_k x w) (ref_v x w) _ _ _ k n b _ rfl

end Ref

/-- The reference runs, its arguments end unchanged, and every semaphore reads zero. -/
theorem reference_runs : Cert.quiescent_Dil1RefIdeal (hDil1RefIdeal := Cert.Dil1RefIdeal.Gen.facts) :=
  fun m g _ => (θ_run _ _ _).mono (fun r h => ⟨fun c => (h c).2, sem_eq_zero_of_no_sems (by decide) r.2⟩) (Cert.Dil1RefIdeal.Value.run (F := Ideal) m g)

/-- The two programs end with equal results, element by element. -/
theorem algebraic : Cert.algebraic_Dil1Ideal_Dil1RefIdeal (hDil1Ideal := Cert.Dil1Ideal.Gen.facts) (hDil1RefIdeal := Cert.Dil1RefIdeal.Gen.facts) := by
  intro m g m' g' hpre hargs
  refine ⟨fun c => (dats m 0 c).arrAt 4 cfg0.N, Value.run_blocks m g, ?_⟩
  refine (θ_run Cert.Dil1RefIdeal.defs _ _).mono (fun r h c => ?_) (Cert.Dil1RefIdeal.Value.run (F := Ideal) m' g')
  obtain ⟨e0, e1⟩ := hargs c
  refine ⟨(h c).1.trans ?_, (h c).2⟩
  refine (Cert.Dil1RefIdeal.Read.val_main_v81_eq (F := Ideal) _ _).trans ?_
  rw [e0, e1]
  refine Eq.trans (funext fun i => ?_) (result_arr m c).symm
  obtain ⟨k, n, b, rfl⟩ : ∃ (k : Fin 4) (n : Fin 2048) (b : Fin 1536), i = (ix3 k n b : S4x2048x1536.Idx) :=
    ⟨i 0, i 1, i 2, funext fun k => by fin_cases k <;> rfl⟩
  exact ref_at _ _ k n b

end Cert.Dil1Ideal.Proj
-- ==== Proof.Proj.Dil2.lean ====
module

public import proofs.«01_k».proof.Defs
public import proofs.«01_k».proof.Proof.Proj.Slots
public import proofs.«01_k».proof.Proof.Gen.Dil2Ideal.Value
public import proofs.«01_k».proof.Proof.Gen.Dil2RefIdeal.Run
public import proofs.«01_k».proof.Proof.Gen.Dil2RefIdeal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

/-! # The third group of heads: every sixteenth position -/

noncomputable section

namespace Cert.Dil2Ideal.Proj

open Cert.Dil2Ideal Cert.Dil2Ideal.Gen Cert.Turn
open Idealize.ShloMosaic Idealize.ShloMosaic.TcCoe
open Idealize.ShloMosaic.Pipeline (Dat)

/-- One block of the projection, turned and scaled. -/
theorem block_eq (i : grid0.Coords) (x : Vec Ideal S1024x2048 .bf16) (w : Vec Ideal S2048x512 .bf16) (cs sn : Vec Ideal S1x1024x128 .f32) :
    k0_pay3 i x w cs sn = turnBlock x w cs sn (if (i 1).val = 0 then (hsc : EReal) else 1) := by
  rw [← scale_at _ (i 1).isLt _ rfl]
  rfl

variable (m : (ℓ : Loc nD τ sig) → Buf (Elt Ideal) ℓ) (c : Dev nD)

/-- The arguments. -/
abbrev argX : S8192x2048.Idx → EReal := m ((c.tc : Thread nD τ).loc main_arg0)
abbrev argW : S1x2048x11776.Idx → EReal := m ((c.tc : Thread nD τ).loc main_arg1)

/-- The activations the host hands over. -/
theorem host_x (a : Fin 8192) (k : Fin 2048) : V m c main_v26 (ix2 a k) = argX m c (ix2 a k) := by
  unfold V
  after_reads_at

/-- The weights the host hands over. -/
theorem host_w (k : Fin 2048) (j : Fin 11776) : V m c main_v28 (ix2 k j) = argW m c (ix3 0 k j) := by
  unfold V
  after_reads_at

/-- The two tables the host hands over: the factors, and one and zero. -/
theorem host_cos (a : Fin 8192) (e : Fin 128) : V m c main_v21 (ix3 0 a e) = cosT a e := by
  unfold V
  after_reads_at
  after_reads_at
  rfl

theorem host_cos_one (a : Fin 8192) (e : Fin 128) : V m c main_v21 (ix3 1 a e) = (1 : EReal) := by
  unfold V
  after_reads_at

theorem host_sin (a : Fin 8192) (e : Fin 128) : V m c main_v25 (ix3 0 a e) = sinT a e := by
  unfold V
  after_reads_at
  after_reads_at
  rfl

theorem host_sin_zero (a : Fin 8192) (e : Fin 128) : V m c main_v25 (ix3 1 a e) = (0 : EReal) := by
  unfold V
  after_reads_at

/-- Where the blocks of a grid point lie. -/
theorem places : ∀ t : Fin cfg0.N, win0_0.index t = ![(grid0.coords t 0).val, 0] ∧ win0_1.index t = ![0, 8 + 3 * (grid0.coords t 1).val]
    ∧ win0_2.index t = ![if (grid0.coords t 1).val = 2 then 1 else 0, (grid0.coords t 0).val, 0]
    ∧ win0_3.index t = ![if (grid0.coords t 1).val = 2 then 1 else 0, (grid0.coords t 0).val, 0]
    ∧ win0_4.index t = ![0, (grid0.coords t 0).val, (grid0.coords t 1).val] :=
  (by decide +kernel : ∀ t : Fin grid0.N, _)

/-- Where an index of a grid point's result block lies. -/
theorem out_place (t : Fin cfg0.N) (k : Fin 16) (r : Fin 64) (j : Fin 512) (n : Fin 512) (b : Fin 1536)
    (hn : n.val = (grid0.coords t 0).val * 64 + r.val) (hb : b.val = (grid0.coords t 1).val * 512 + j.val) :
    ((cfg0.win 4).blk t).view.emb (ix3 k r j) = (ix3 k n b : S16x512x1536.Idx) := by
  obtain ⟨p0, p1, p2, p3, p4⟩ := places t
  blk_ext [p4]

/-- A grid point's activations. -/
theorem blk_x (t : Fin cfg0.N) (r : Fin 1024) (k : Fin 2048) (a : Fin 8192) (ha : a.val = (grid0.coords t 0).val * 1024 + r.val) :
    iblk m c 0 t (ix2 r k) = argX m c (ix2 a k) := by
  obtain ⟨p0, p1, p2, p3, p4⟩ := places t
  rw [← host_x]
  blk_ext [iblk, p0]

/-- A grid point's weights. -/
theorem blk_w (t : Fin cfg0.N) (k : Fin 2048) (j : Fin 512) (b : Fin 11776) (hb : b.val = (8 + 3 * (grid0.coords t 1).val) * 512 + j.val) :
    iblk m c 1 t (ix2 k j) = argW m c (ix3 0 k b) := by
  obtain ⟨p0, p1, p2, p3, p4⟩ := places t
  rw [← host_w]
  blk_ext [iblk, p1]

/-- A grid point's tables. -/
theorem blk_cos (t : Fin cfg0.N) (r : Fin 1024) (e : Fin 128) (a : Fin 8192) (ha : a.val = (grid0.coords t 0).val * 1024 + r.val) :
    iblk m c 2 t (ix3 0 r e) = cosTab (grid0.coords t 1).val a e := by
  obtain ⟨p0, p1, p2, p3, p4⟩ := places t
  unfold cosTab
  split <;> rename_i h
  · rw [if_pos h] at p2
    rw [← host_cos_one m c a e]
    blk_ext [iblk, p2]
  · rw [if_neg h] at p2
    rw [← host_cos m c a e]
    blk_ext [iblk, p2]

theorem blk_sin (t : Fin cfg0.N) (r : Fin 1024) (e : Fin 128) (a : Fin 8192) (ha : a.val = (grid0.coords t 0).val * 1024 + r.val) :
    iblk m c 3 t (ix3 0 r e) = sinTab (grid0.coords t 1).val a e := by
  obtain ⟨p0, p1, p2, p3, p4⟩ := places t
  unfold sinTab
  split <;> rename_i h
  · rw [if_pos h] at p3
    rw [← host_sin_zero m c a e]
    blk_ext [iblk, p3]
  · rw [if_neg h] at p3
    rw [← host_sin m c a e]
    blk_ext [iblk, p3]

/-- An entry of the result: the position is the row times 16 and the remainder. -/
def res (x : S8192x2048.Idx → EReal) (w : S1x2048x11776.Idx → EReal) (k : Fin 16) (n : Fin 512) (b : Fin 1536) : EReal :=
  groupRes x w 2 (by norm_num) ⟨n.val * 16 + k.val, by omega⟩ b

/-- A grid point's block, turned and scaled, at an index. -/
theorem point_at (t : Fin cfg0.N) (r : Fin 1024) (j : Fin 512) (k : Fin 16) (n : Fin 512) (b : Fin 1536)
    (ha : n.val * 16 + k.val = (grid0.coords t 0).val * 1024 + r.val) (hb : b.val = (grid0.coords t 1).val * 512 + j.val) :
    k0_pay3 (grid0.coords t) (iblk m c 0 t) (iblk m c 1 t) (iblk m c 2 t) (iblk m c 3 t) (ix2 r j) = res (argX m c) (argW m c) k n b := by
  have h0 : (grid0.coords t 0).val < 8 := (grid0.coords t 0).isLt
  have h1 : (grid0.coords t 1).val < 3 := (grid0.coords t 1).isLt
  have hr := r.isLt; have hj := j.isLt
  refine (congrFun (block_eq _ _ _ _ _) _).trans ?_
  refine (block_entry _ _ _ _ (argX m c) (argW m c) hsc hsc_pos _ (by omega) ⟨n.val * 16 + k.val, by omega⟩ r j (8 + 3 * (grid0.coords t 1).val) (by omega)
    (fun k => blk_x m c t r k _ ha) (fun k q => blk_w m c t k q _ rfl) (fun e => blk_cos m c t r e _ ha) (fun e => blk_sin m c t r e _ ha)).trans ?_
  have hq : b.val / 512 = (grid0.coords t 1).val := by omega
  have hj' : b.val % 512 = j.val := by omega
  unfold res groupRes
  simp only [hq, hj']

set_option maxHeartbeats 1000000 in
/-- A grid point's block: the turned block's rows, brought together by their remainder. -/
theorem out_at (t : Fin cfg0.N) (y : S16x64x512.Idx) (p : Fin 1024) (hp : p.val = (y 1).val * 16 + (y 0).val) :
    outsAt0 m c t y = k0_pay3 (grid0.coords t) (iblk m c 0 t) (iblk m c 1 t) (iblk m c 2 t) (iblk m c 3 t) (ix2 p (y 2)) := by
  unfold outsAt0
  frame_open
  simp (disch := decide) only [↓ View.readCov_skip, ↓ slot_load]
  frame_out
  simp only [k0_pay4]
  generalize k0_pay3 (grid0.coords t) (iblk m c 0 t) (iblk m c 1 t) (iblk m c 2 t) (iblk m c 3 t) = Y
  canon_tiles x h
  all_goals (open_payloads; refine piece_at Y _ _ 16 64 (by norm_num) (fun k => by omega) _ _ _ _ _ x p (y 2) ?_ ?_ <;> omega)

/-- The array the call leaves. -/
theorem result_arr : (dats m 0 c).arrAt 4 cfg0.N = fun i : S16x512x1536.Idx => res (argX m c) (argW m c) (i 0) (i 1) (i 2) := by
  refine (dats m 0 c).arrAt_eq_of_covers 4 _ (by decide +kernel) fun t hf y => ?_
  rw [after0_4]
  have hO := out_at m c t
  revert hO
  generalize outsAt0 m c t = O
  intro hO
  obtain ⟨k, r, j, rfl⟩ : ∃ (k : Fin 16) (r : Fin 64) (j : Fin 512), y = (ix3 k r j : S16x64x512.Idx) :=
    ⟨y 0, y 1, y 2, funext fun k => by fin_cases k <;> rfl⟩
  have h0 : (grid0.coords t 0).val < 8 := (grid0.coords t 0).isLt
  have h1 : (grid0.coords t 1).val < 3 := (grid0.coords t 1).isLt
  have hk := k.isLt; have hr := r.isLt; have hj := j.isLt
  obtain ⟨n, hn⟩ : ∃ n : Fin 512, n.val = (grid0.coords t 0).val * 64 + r.val := ⟨⟨_, by omega⟩, rfl⟩
  obtain ⟨b, hb⟩ : ∃ b : Fin 1536, b.val = (grid0.coords t 1).val * 512 + j.val := ⟨⟨_, by omega⟩, rfl⟩
  rw [out_place t k r j n b hn hb]
  exact (hO (ix3 k r j) ⟨r.val * 16 + k.val, by omega⟩ rfl).trans (point_at m c t _ j k n b (by show n.val * 16 + k.val = _ + (r.val * 16 + k.val); omega) hb)

section Ref
open Cert.Dil2RefIdeal.Read

variable (x : S8192x2048.Idx → EReal) (w : S1x2048x11776.Idx → EReal)

/-- The scaled, turned heads of the queries. -/
theorem ref_q (a : Fin 8192) (h : Fin 4) (e : Fin 128) : val_main_v37 (F := Ideal) x w (ix3 a h e) = turned (proj x w a) a ⟨128 * (32 + h) + e, by omega⟩ * (hsc : EReal) := by
  rw [val_main_v37_apply, val_main_v36_apply, val_main_v35_apply, val_main_cst_1_apply]
  refine congrArg₂ (· * ·) (spelt_turned (H := 4) (val_main_v4 (F := Ideal) x w) (val_main_v19 (F := Ideal)) (val_main_v21 (F := Ideal)) _ _ _ _ a h e
    (ref_cos a) (ref_sin a) (proj x w a) (32 + h) (by omega) fun e => ?_) rsqrt_128
  refine (heads_at _ 7680 4096 _ _ _ a h e (by norm_num) (by norm_num)).trans ((ref_proj x w a _).trans (congrArg _ (Fin.ext ?_)))
  show 4096 + 128 * h.val + e.val = 128 * (32 + h.val) + e.val
  omega

/-- The turned heads of the keys. -/
theorem ref_k (a : Fin 8192) (h : Fin 4) (e : Fin 128) : val_main_v70 (F := Ideal) x w (ix3 a h e) = turned (proj x w a) a ⟨128 * (44 + h) + e, by omega⟩ := by
  refine spelt_turned (H := 4) (val_main_v40 (F := Ideal) x w) (val_main_v55 (F := Ideal)) (val_main_v57 (F := Ideal)) _ _ _ _ a h e
    (ref_cos a) (ref_sin a) (proj x w a) (44 + h) (by omega) fun e => ?_
  refine (heads_at _ 6144 5632 _ _ _ a h e (by norm_num) (by norm_num)).trans ((ref_proj x w a _).trans (congrArg _ (Fin.ext ?_)))
  show 5632 + 128 * h.val + e.val = 128 * (44 + h.val) + e.val
  omega

/-- The heads of the values. -/
theorem ref_v (a : Fin 8192) (h : Fin 4) (e : Fin 128) : val_main_v73 (F := Ideal) x w (ix3 a h e) = proj x w a ⟨128 * (56 + h) + e, by omega⟩ := by
  refine (heads_at _ 4608 7168 _ _ _ a h e (by norm_num) (by norm_num)).trans ((ref_proj x w a _).trans (congrArg _ (Fin.ext ?_)))
  show 7168 + 128 * h.val + e.val = 128 * (56 + h.val) + e.val
  omega

/-- The reference's result, at an index. -/
theorem ref_at (k : Fin 16) (n : Fin 512) (b : Fin 1536) : val_main_v81 (F := Ideal) x w (ix3 k n b) = res x w k n b := by
  show val_main_v80 (F := Ideal) x w (ix3 k n b) = _
  exact group_at x w 2 (by norm_num) (val_main_v37 (F := Ideal) x w) (val_main_v70 (F := Ideal) x w) (val_main_v73 (F := Ideal) x w) 16 512 rfl
    (ref_q x w) (ref_k x w) (ref_v x w) _ _ _ k n b _ rfl

end Ref

/-- The reference runs, its arguments end unchanged, and every semaphore reads zero. -/
theorem reference_runs : Cert.quiescent_Dil2RefIdeal (hDil2RefIdeal := Cert.Dil2RefIdeal.Gen.facts) :=
  fun m g _ => (θ_run _ _ _).mono (fun r h => ⟨fun c => (h c).2, sem_eq_zero_of_no_sems (by decide) r.2⟩) (Cert.Dil2RefIdeal.Value.run (F := Ideal) m g)

/-- The two programs end with equal results, element by element. -/
theorem algebraic : Cert.algebraic_Dil2Ideal_Dil2RefIdeal (hDil2Ideal := Cert.Dil2Ideal.Gen.facts) (hDil2RefIdeal := Cert.Dil2RefIdeal.Gen.facts) := by
  intro m g m' g' hpre hargs
  refine ⟨fun c => (dats m 0 c).arrAt 4 cfg0.N, Value.run_blocks m g, ?_⟩
  refine (θ_run Cert.Dil2RefIdeal.defs _ _).mono (fun r h c => ?_) (Cert.Dil2RefIdeal.Value.run (F := Ideal) m' g')
  obtain ⟨e0, e1⟩ := hargs c
  refine ⟨(h c).1.trans ?_, (h c).2⟩
  refine (Cert.Dil2RefIdeal.Read.val_main_v81_eq (F := Ideal) _ _).trans ?_
  rw [e0, e1]
  refine Eq.trans (funext fun i => ?_) (result_arr m c).symm
  obtain ⟨k, n, b, rfl⟩ : ∃ (k : Fin 16) (n : Fin 512) (b : Fin 1536), i = (ix3 k n b : S16x512x1536.Idx) :=
    ⟨i 0, i 1, i 2, funext fun k => by fin_cases k <;> rfl⟩
  exact ref_at _ _ k n b

end Cert.Dil2Ideal.Proj
-- ==== Proof.Mix.Math.lean ====
module

public import proofs.«01_k».proof.Proof.Gen.MergeIdeal
public import Idealize.ShloMosaic.Lib.Pointwise
public import Idealize.ShloMosaic.Lib.Pipeline.ValueKit

@[expose] public section

set_option maxRecDepth 16384

/-! # Mixing the three groups, the merged gates, the residual and the layer norm, on the extended reals -/

noncomputable section

namespace Cert.Mix

open Idealize.ShloMosaic Idealize.ShloMosaic.TcCoe
open Cert.MergeIdeal

/-- Three numbers in the proportions of three exponentials. -/
def soft (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

theorem div_real (x : EReal) {D : ℝ} (h : 0 < D) : Ideal.div x (D : EReal) = x * ((D⁻¹ : ℝ) : EReal) := by
  unfold Ideal.div
  rw [if_neg (by exact_mod_cast h.ne'), EReal.coe_inv]

/-- The weights first and their sum after, as the softmax spells it. -/
theorem soft_spelt (r0 r1 r2 : ℝ) (o0 o1 o2 M : EReal) (hM : M = max (max (r0 : EReal) r1) r2) :
    Ideal.div (Ideal.exp ((r0 : EReal) - M)) (Ideal.exp ((r0 : EReal) - M) + Ideal.exp ((r1 : EReal) - M) + Ideal.exp ((r2 : EReal) - M)) * o0
      + Ideal.div (Ideal.exp ((r1 : EReal) - M)) (Ideal.exp ((r0 : EReal) - M) + Ideal.exp ((r1 : EReal) - M) + Ideal.exp ((r2 : EReal) - M)) * o1
      + Ideal.div (Ideal.exp ((r2 : EReal) - M)) (Ideal.exp ((r0 : EReal) - M) + Ideal.exp ((r1 : EReal) - M) + Ideal.exp ((r2 : EReal) - M)) * o2
      = soft r0 r1 r2 o0 o1 o2 := by
  unfold soft
  rw [← hM]
  obtain ⟨m, rfl⟩ : ∃ m : ℝ, M = (m : EReal) := by
    rw [hM]
    rcases max_choice (max (r0 : EReal) r1) (r2 : EReal) with h | h <;> rw [h]
    · rcases max_choice (r0 : EReal) (r1 : EReal) with h | h <;> rw [h]
      exacts [⟨_, rfl⟩, ⟨_, rfl⟩]
    · exact ⟨_, rfl⟩
  have he (r : ℝ) : Ideal.exp ((r : EReal) - (m : EReal)) = ((Real.exp (r - m) : ℝ) : EReal) := by rw [← EReal.coe_sub]; rfl
  rw [he r0, he r1, he r2]
  have p0 := Real.exp_pos (r0 - m); have p1 := Real.exp_pos (r1 - m); have p2 := Real.exp_pos (r2 - m)
  generalize Real.exp (r0 - m) = a at *
  generalize Real.exp (r1 - m) = b at *
  generalize Real.exp (r2 - m) = c at *
  have hd : (a : EReal) + (b : EReal) + (c : EReal) = ((a + b + c : ℝ) : EReal) := by rw [EReal.coe_add, EReal.coe_add]
  have hp : 0 < a + b + c := by linarith
  rw [hd, div_real _ hp, div_real _ hp, div_real _ hp, div_real _ hp]
  have hi : (0 : EReal) ≤ (((a + b + c)⁻¹ : ℝ) : EReal) := by exact_mod_cast (inv_pos.2 hp).le
  generalize (a + b + c)⁻¹ = i at *
  rw [EReal.right_distrib_of_nonneg_of_ne_top hi (EReal.coe_ne_top i), EReal.right_distrib_of_nonneg_of_ne_top hi (EReal.coe_ne_top i),
    mul_right_comm (a : EReal), mul_right_comm (b : EReal), mul_right_comm (c : EReal)]

/-- A row's deviations over its spread, times the gain, plus the bias. -/
def lay (z g b : Fin 2048 → EReal) (c : Fin 2048) : EReal :=
  (z c - Ideal.div (∑ k, z k) (Ideal.ofBits .f32 0x45000000#32))
    * Ideal.rsqrt (Ideal.div (∑ k, (z k - Ideal.div (∑ k, z k) (Ideal.ofBits .f32 0x45000000#32)) * (z k - Ideal.div (∑ k, z k) (Ideal.ofBits .f32 0x45000000#32))) (Ideal.ofBits .f32 0x45000000#32)
        + Ideal.ofBits .f32 0x3727C5AC#32) * g c + b c

/-- A row of the residual: the two branches' rows, gated, through the last weights, on top of the scaled input. -/
def zrow (yd : Fin 1024 → EReal) (ys : Fin 512 → EReal) (ga gb x : Fin 2048 → EReal)
    (wd : Fin 1024 → Fin 2048 → EReal) (wl : Fin 512 → Fin 2048 → EReal) (wo : Fin 2048 → Fin 2048 → EReal) (c : Fin 2048) : EReal :=
  Ideal.ofBits .f32 0x3F9837F0#32 * x c + ∑ n : Fin 2048, (ga n * ∑ k, yd k * wd k n + gb n * ∑ k, ys k * wl k n) * wo n c

end Cert.Mix
-- ==== Proof.Mix.Pay.lean ====
module

public import proofs.«01_k».proof.Proof.Mix.Math
public import proofs.«01_k».proof.Proof.Gen.MergeIdeal.Skeleton

@[expose] public section

set_option maxRecDepth 16384

/-! # What the call's payloads compute, at an index -/

noncomputable section

namespace Cert.Mix

open Idealize.ShloMosaic Idealize.ShloMosaic.TcCoe
open Cert.MergeIdeal Cert.MergeIdeal.Gen

/-- A head of a block by position. -/
def head (P : Fin 256 → Fin 512 → EReal) (h : ℕ) (hh : h < 4) : Vec Ideal S1x1x256x128 .f32 :=
  fun x => P (x 2) ⟨128 * h + (x 3).val, by have : (x 3).val < 128 := (x 3).isLt; omega⟩

/-- The block by position. -/
def whole (P : Fin 256 → Fin 512 → EReal) : FVec Ideal S256x512 .f32 := fun i => P (i 0) (i 1)

/-- The heads side by side are the block. -/
theorem heads_eq (P : Fin 256 → Fin 512 → EReal) :
    k0_pay22 (F := Ideal) (head P 0 (by norm_num)) (head P 1 (by norm_num)) (head P 2 (by norm_num)) (head P 3 (by norm_num)) = whole P := by
  funext i
  obtain ⟨r, j, rfl⟩ : ∃ (r : Fin 256) (j : Fin 512), i = (ix2 r j : S256x512.Idx) := ⟨i 0, i 1, funext fun k => by fin_cases k <;> rfl⟩
  pointwise [k0_pay22]
  have hj := j.isLt
  split
  · exact congrArg (P r) (Fin.ext (by show 128 * 0 + j.val = j.val; omega))
  split
  · exact congrArg (P r) (Fin.ext (by show 128 * 1 + (j.val - 128) = j.val; omega))
  split
  · exact congrArg (P r) (Fin.ext (by show 128 * 2 + (j.val - 128 - 128) = j.val; omega))
  · exact congrArg (P r) (Fin.ext (by show 128 * 3 + (j.val - 128 - 128 - 128) = j.val; omega))

/-- The mixed groups, at an index. -/
theorem mixed_at (l0 o0 : Vec Ideal S1x256x512 .f32) (Pl1 Pl2 Po1 Po2 : Fin 256 → Fin 512 → EReal) (r : Fin 256) (j : Fin 512) :
    k0_pay192 (F := Ideal)
      (k0_pay97 (k0_pay3 l0) (whole Pl1) (k0_pay94 (head Pl2 0 (by norm_num))) (head Pl2 1 (by norm_num)) (head Pl2 2 (by norm_num)) (head Pl2 3 (by norm_num)))
      (k0_pay98 (k0_pay3 l0) (whole Pl1) (k0_pay94 (head Pl2 0 (by norm_num))) (head Pl2 1 (by norm_num)) (head Pl2 2 (by norm_num)) (head Pl2 3 (by norm_num)))
      (k0_pay99 (k0_pay3 l0) (whole Pl1) (k0_pay94 (head Pl2 0 (by norm_num))) (head Pl2 1 (by norm_num)) (head Pl2 2 (by norm_num)) (head Pl2 3 (by norm_num)))
      (k0_pay118
        (k0_pay98 (k0_pay3 l0) (whole Pl1) (k0_pay94 (head Pl2 0 (by norm_num))) (head Pl2 1 (by norm_num)) (head Pl2 2 (by norm_num)) (head Pl2 3 (by norm_num)))
        (k0_pay100 (k0_pay3 l0) (whole Pl1) (k0_pay94 (head Pl2 0 (by norm_num))) (head Pl2 1 (by norm_num)) (head Pl2 2 (by norm_num)) (head Pl2 3 (by norm_num)) o0)
        (head Po1 0 (by norm_num)) (head Po1 1 (by norm_num)) (head Po1 2 (by norm_num)) (head Po1 3 (by norm_num)))
      (head Po2 0 (by norm_num)) (head Po2 1 (by norm_num)) (head Po2 2 (by norm_num)) (head Po2 3 (by norm_num)) (ix2 r j)
      = soft (l0 (ix3 0 r j)) (Pl1 r j) (Pl2 r j) (o0 (ix3 0 r j)) (Po1 r j) (Po2 r j) := by
  have e2 : k0_pay95 (F := Ideal) (k0_pay94 (head Pl2 0 (by norm_num))) (head Pl2 1 (by norm_num)) (head Pl2 2 (by norm_num)) (head Pl2 3 (by norm_num)) = whole Pl2 := heads_eq Pl2
  have a0 : k0_pay3 (F := Ideal) l0 (ix2 r j) = l0 (ix3 0 r j) := by pointwise [k0_pay3]
  have a1 : k0_pay3 (F := Ideal) o0 (ix2 r j) = o0 (ix3 0 r j) := by pointwise [k0_pay3]
  have ex : k0_pay96 (F := Ideal) (k0_pay3 l0) (whole Pl1) (k0_pay94 (head Pl2 0 (by norm_num))) (head Pl2 1 (by norm_num)) (head Pl2 2 (by norm_num)) (head Pl2 3 (by norm_num)) (ix2 r j)
      = max (max (l0 (ix3 0 r j)) (Pl1 r j)) (Pl2 r j) := by
    unfold k0_pay96
    rw [e2]
    show max (max (k0_pay3 (F := Ideal) l0 (ix2 r j)) _) _ = _
    rw [a0]
    rfl
  have e97 : k0_pay97 (F := Ideal) (k0_pay3 l0) (whole Pl1) (k0_pay94 (head Pl2 0 (by norm_num))) (head Pl2 1 (by norm_num)) (head Pl2 2 (by norm_num)) (head Pl2 3 (by norm_num)) (ix2 r j)
      = Ideal.exp (l0 (ix3 0 r j) - max (max (l0 (ix3 0 r j)) (Pl1 r j)) (Pl2 r j)) := by
    rw [← ex, ← a0]; rfl
  have e98 : k0_pay98 (F := Ideal) (k0_pay3 l0) (whole Pl1) (k0_pay94 (head Pl2 0 (by norm_num))) (head Pl2 1 (by norm_num)) (head Pl2 2 (by norm_num)) (head Pl2 3 (by norm_num)) (ix2 r j)
      = Ideal.exp (Pl1 r j - max (max (l0 (ix3 0 r j)) (Pl1 r j)) (Pl2 r j)) := by
    rw [← ex]; rfl
  have e99 : k0_pay99 (F := Ideal) (k0_pay3 l0) (whole Pl1) (k0_pay94 (head Pl2 0 (by norm_num))) (head Pl2 1 (by norm_num)) (head Pl2 2 (by norm_num)) (head Pl2 3 (by norm_num)) (ix2 r j)
      = Ideal.exp (Pl2 r j - max (max (l0 (ix3 0 r j)) (Pl1 r j)) (Pl2 r j)) := by
    rw [← ex]; unfold k0_pay99; rw [e2]; rfl
  have h3 := congrFun (heads_eq Po1) (ix2 r j)
  have h4 := congrFun (heads_eq Po2) (ix2 r j)
  unfold soft
  rw [← e97, ← e98, ← e99, ← a1, show Po1 r j = whole Po1 (ix2 r j) from rfl, show Po2 r j = whole Po2 (ix2 r j) from rfl, ← h3, ← h4]
  rfl

/-- A row of the result, at an index. -/
theorem out_at (yd : Vec Ideal S256x1024 .bf16) (wd : Vec Ideal S1024x2048 .bf16) (ys : FVec Ideal S256x512 .bf16) (wl : Vec Ideal S512x2048 .bf16) (ga gb : Vec Ideal S256x2048 .bf16)
    (x : Vec Ideal S256x2048 .f32) (wo : Vec Ideal S2048x2048 .bf16) (g b : Vec Ideal S1x2048 .f32) (r : Fin 256) (c : Fin 2048) :
    k0_pay1 (F := Ideal) (k0_pay193 g) (k0_pay194 b) (k0_pay195 (k0_pay191 yd wd) ys wl ga gb x wo) (ix2 r c)
      = lay (zrow (fun k => yd (ix2 r k)) (fun k => ys (ix2 r k)) (fun k => ga (ix2 r k)) (fun k => gb (ix2 r k)) (fun k => x (ix2 r k))
          (fun k n => wd (ix2 k n)) (fun k n => wl (ix2 k n)) (fun k n => wo (ix2 k n))) (fun k => g (ix2 0 k)) (fun k => b (ix2 0 k)) c := by
  pointwise [k0_pay1, k0_pay195, k0_pay193, k0_pay194, k0_pay191]
  rfl

/-- A row of the second result, at an index. -/
theorem logits_at (H : FVec Ideal S256x2048 .f32) (g b : FVec Ideal S1x2048 .f32) (w : Vec Ideal S256x2048 .bf16) (e r : Fin 256) :
    k0_pay2 (F := Ideal) g b H w (ix2 e r) = ∑ k : Fin 2048, (w (ix2 e k) * k0_pay1 (F := Ideal) g b H (ix2 r k) : EReal) := by
  pointwise [k0_pay2]

end Cert.Mix
-- ==== Proof.Mix.Scr.lean ====
module

public import proofs.«01_k».proof.Proof.Mix.Pay
public import proofs.«01_k».proof.Proof.Gen.MergeIdeal.Value
public import Idealize.ShloMosaic.Lib.Pipeline.ValueKit
public import Idealize.ShloMosaic.Lib.Pipeline.ReadBack

@[expose] public section

set_option maxRecDepth 16384

/-! # The scratch the groups are laid out in, read back -/

noncomputable section

namespace Cert.Mix

open Idealize.ShloMosaic Idealize.ShloMosaic.TcCoe
open Cert.MergeIdeal Cert.MergeIdeal.Gen

/-- A block with four phases, by position. -/
def by4 (X : Vec Ideal S4x64x512 .f32) (a : Fin 256) (j : Fin 512) : EReal :=
  X (ix3 (⟨a.val % 4, by omega⟩ : Fin 4) (⟨a.val / 4, by omega⟩ : Fin 64) j)

/-- A block with sixteen phases, by position. -/
def by16 (X : Vec Ideal S16x16x512 .f32) (a : Fin 256) (j : Fin 512) : EReal :=
  X (ix3 (⟨a.val % 16, by omega⟩ : Fin 16) (⟨a.val / 16, by omega⟩ : Fin 16) j)

/-- The scratch: four blocks by position, the columns in four heads. -/
def scr (P : Fin 4 → Fin 256 → Fin 512 → EReal) : S4x4x256x128.Idx → EReal :=
  fun y => P (y 0) (y 2) ⟨128 * (y 1).val + (y 3).val, by
    have h1 : (y 1).val < 4 := (y 1).isLt
    have h3 : (y 3).val < 128 := (y 3).isLt
    omega⟩

theorem cast4 (ha hb) (v : Vec Ideal S1x64x128 .f32) (x : S1x1x64x128.Idx) :
    shapeCast S1x1x64x128 (shapeCast S64x128 v ha) hb x = v (ix3 0 (x 2) (x 3)) := by
  obtain ⟨a, b, p, q, rfl⟩ : ∃ (a : Fin 1) (b : Fin 1) (p : Fin 64) (q : Fin 128), x = (ix4 a b p q : S1x1x64x128.Idx) :=
    ⟨x 0, x 1, x 2, x 3, funext fun k => by fin_cases k <;> rfl⟩
  fin_cases a; fin_cases b
  pointwise []

theorem cast16 (ha hb) (v : Vec Ideal S1x16x128 .f32) (x : S1x1x16x128.Idx) :
    shapeCast S1x1x16x128 (shapeCast S16x128 v ha) hb x = v (ix3 0 (x 2) (x 3)) := by
  obtain ⟨a, b, p, q, rfl⟩ : ∃ (a : Fin 1) (b : Fin 1) (p : Fin 16) (q : Fin 128), x = (ix4 a b p q : S1x1x16x128.Idx) :=
    ⟨x 0, x 1, x 2, x 3, funext fun k => by fin_cases k <;> rfl⟩
  fin_cases a; fin_cases b
  pointwise []

theorem piece4 (P : Fin 4 → Fin 256 → Fin 512 → EReal) (X : Vec Ideal S4x64x512 .f32) (s h r o : ℕ) (inb sp inb' ha hb)
    (hs : s < 4) (hh : h < 4) (hr : r < 4) (ho : o = 128 * h) (hP : P ⟨s, hs⟩ = by4 X) :
    ∀ x : S1x1x64x128.Idx,
      shapeCast S1x1x64x128 (shapeCast S64x128 (View.ld X (Rect.unit ![r, 0, o] ![1, 64, 128] inb')) ha) hb x
        = scr P (({ off := ![s, h, r, 0], size := ![1, 1, 64, 128], stride := ![1, 1, 4, 1], inb := inb, stride_pos := sp } : Rect S4x4x256x128).emb x) := by
  intro x
  refine (cast4 _ _ _ x).trans ?_
  have h0 : (x 0).val = 0 := by have : (x 0).val < 1 := (x 0).isLt; omega
  have h1 : (x 1).val = 0 := by have : (x 1).val < 1 := (x 1).isLt; omega
  have h2 : (x 2).val < 64 := (x 2).isLt
  have h3 : (x 3).val < 128 := (x 3).isLt
  have e0 : ∀ (i : Fin 4), i.val = s → P i = by4 X := by rintro ⟨i, hi⟩ rfl; exact hP
  unfold scr
  refine Eq.trans ?_ (congrFun (congrFun (e0 _ (by show s + 1 * (x 0).val = s; omega)) _) _).symm
  unfold by4
  refine congrArg X (funext fun k => Fin.ext ?_)
  fin_cases k
  · show r + 1 * 0 = (r + 4 * (x 2).val) % 4; omega
  · show 0 + 1 * (x 2).val = (r + 4 * (x 2).val) / 4; omega
  · show o + 1 * (x 3).val = 128 * (h + 1 * (x 1).val) + (0 + 1 * (x 3).val); omega

theorem piece16 (P : Fin 4 → Fin 256 → Fin 512 → EReal) (X : Vec Ideal S16x16x512 .f32) (s h r o : ℕ) (inb sp inb' ha hb)
    (hs : s < 4) (hh : h < 4) (hr : r < 16) (ho : o = 128 * h) (hP : P ⟨s, hs⟩ = by16 X) :
    ∀ x : S1x1x16x128.Idx,
      shapeCast S1x1x16x128 (shapeCast S16x128 (View.ld X (Rect.unit ![r, 0, o] ![1, 16, 128] inb')) ha) hb x
        = scr P (({ off := ![s, h, r, 0], size := ![1, 1, 16, 128], stride := ![1, 1, 16, 1], inb := inb, stride_pos := sp } : Rect S4x4x256x128).emb x) := by
  intro x
  refine (cast16 _ _ _ x).trans ?_
  have h0 : (x 0).val = 0 := by have : (x 0).val < 1 := (x 0).isLt; omega
  have h1 : (x 1).val = 0 := by have : (x 1).val < 1 := (x 1).isLt; omega
  have h2 : (x 2).val < 16 := (x 2).isLt
  have h3 : (x 3).val < 128 := (x 3).isLt
  have e0 : ∀ (i : Fin 4), i.val = s → P i = by16 X := by rintro ⟨i, hi⟩ rfl; exact hP
  unfold scr
  refine Eq.trans ?_ (congrFun (congrFun (e0 _ (by show s + 1 * (x 0).val = s; omega)) _) _).symm
  unfold by16
  refine congrArg X (funext fun k => Fin.ext ?_)
  fin_cases k
  · show r + 1 * 0 = (r + 16 * (x 2).val) % 16; omega
  · show 0 + 1 * (x 2).val = (r + 16 * (x 2).val) / 16; omega
  · show o + 1 * (x 3).val = 128 * (h + 1 * (x 1).val) + (0 + 1 * (x 3).val); omega

/-- Every position of a head of a slot is written by a piece. -/
def cov (s h d n : ℕ) (L : List (View.Piece (Elt Ideal) S4x4x256x128 .f32)) : Bool :=
  (List.range d).all fun r => L.any fun p =>
    Nat.beq (p.1.off 0) s && Nat.beq (p.1.off 1) h && Nat.beq (p.1.off 2) r && Nat.beq (p.1.off 3) 0 && Nat.beq (p.1.size 0) 1 && Nat.beq (p.1.size 1) 1
      && Nat.beq (p.1.size 2) n && Nat.beq (p.1.size 3) 128 && Nat.beq (p.1.stride 2) d && Nat.beq (p.1.stride 3) 1

/-- A head of a slot, read back. -/
abbrev rdh {κ : Kind} {sp : Space} (v : View sig κ sp S4x4x256x128 .f32) (L : List (View.Piece (Elt Ideal) S4x4x256x128 .f32)) (s h : ℕ)
    (inb : ∀ a : Fin 4, (![s, h, 0, 0] : Fin 4 → ℕ) a + (![1, 1, 256, 128] : Fin 4 → ℕ) a ≤ S4x4x256x128.size a) : Vec Ideal S1x1x256x128 .f32 :=
  v.readCov L (Rect.unit (s := S4x4x256x128) ![s, h, 0, 0] ![1, 1, 256, 128] inb).toLoadRect

theorem read_head {κ : Kind} {sp : Space} (v : View sig κ sp S4x4x256x128 .f32) (P : Fin 4 → Fin 256 → Fin 512 → EReal)
    (L : List (View.Piece (Elt Ideal) S4x4x256x128 .f32)) (s h d n : ℕ) (hs : s < 4) (hh : h < 4) (inb)
    (hd : 0 < d) (hdn : d * n = 256) (hL : View.PiecesOf (scr P) L) (hc : cov s h d n L = true) :
    rdh v L s h inb = head (P ⟨s, hs⟩) h hh := by
  refine (View.readCov_eq_canon' v L _).trans ?_
  funext x
  have h0 : (x 0).val = 0 := by have : (x 0).val < 1 := (x 0).isLt; omega
  have h1 : (x 1).val = 0 := by have : (x 1).val < 1 := (x 1).isLt; omega
  have h2 : (x 2).val < 256 := (x 2).isLt
  have h3 : (x 3).val < 128 := (x 3).isLt
  refine (View.canon_apply_of_pieces (scr P) L hL.mem _ ?_).trans ?_
  · unfold cov at hc
    rw [List.all_eq_true] at hc
    have hr := hc ((x 2).val % d) (List.mem_range.mpr (Nat.mod_lt _ hd))
    rw [List.any_eq_true] at hr
    obtain ⟨p, hp, he⟩ := hr
    simp only [Bool.and_eq_true, Nat.beq_eq] at he
    obtain ⟨⟨⟨⟨⟨⟨⟨⟨⟨a0, a1⟩, a2⟩, a3⟩, b0⟩, b1⟩, b2⟩, b3⟩, c2⟩, c3⟩ := he
    refine ⟨p, hp, (LoadRect.mem_set _).mpr fun a => ?_⟩
    fin_cases a
    · exact ⟨0, by show 0 < p.1.size 0; omega, by show s + 1 * (x 0).val = p.1.off 0 + p.1.stride 0 * 0; omega⟩
    · exact ⟨0, by show 0 < p.1.size 1; omega, by show h + 1 * (x 1).val = p.1.off 1 + p.1.stride 1 * 0; omega⟩
    · refine ⟨(x 2).val / d, ?_, ?_⟩
      · show _ < p.1.size 2
        rw [b2]; exact Nat.div_lt_of_lt_mul (by rw [hdn]; exact h2)
      · show 0 + 1 * (x 2).val = p.1.off 2 + p.1.stride 2 * _
        rw [a2, c2, Nat.mod_add_div]; omega
    · exact ⟨(x 3).val, by show _ < p.1.size 3; omega, by show 0 + 1 * (x 3).val = p.1.off 3 + p.1.stride 3 * _; rw [a3, c3]⟩
  · unfold scr head
    have e0 : ∀ (i : Fin 4) (a a' : Fin 256) (b b' : Fin 512), i.val = s → a.val = a'.val → b.val = b'.val → P i a b = P ⟨s, hs⟩ a' b' := by
      rintro ⟨i, hi⟩ a a' b b' rfl ha hb; rw [Fin.ext ha, Fin.ext hb]
    refine e0 _ _ _ _ _ ?_ ?_ ?_
    · show s + 1 * (x 0).val = s; omega
    · show 0 + 1 * (x 2).val = (x 2).val; omega
    · show 128 * (h + 1 * (x 1).val) + (0 + 1 * (x 3).val) = 128 * h + (x 3).val; omega

end Cert.Mix
-- ==== Proof.Mix.Body.lean ====
module

public import proofs.«01_k».proof.Proof.Mix.Scr

@[expose] public section

set_option maxRecDepth 16384

/-! # One step of the call, at an index -/

noncomputable section

namespace Cert.Mix

open Idealize.ShloMosaic Idealize.ShloMosaic.TcCoe
open Cert.MergeIdeal Cert.MergeIdeal.Gen

/-- Every position of a slot is written by a piece. -/
abbrev covs (s d n : ℕ) (L : List (View.Piece (Elt Ideal) S4x4x256x128 .f32)) : Prop :=
  cov s 0 d n L = true ∧ cov s 1 d n L = true ∧ cov s 2 d n L = true ∧ cov s 3 d n L = true

/-- The row before the normalisation. -/
def rowz (l0 o0 : Vec Ideal S1x256x512 .f32) (Pl1 Pl2 Po1 Po2 : Fin 256 → Fin 512 → EReal)
    (yd : Vec Ideal S256x1024 .bf16) (wd : Vec Ideal S1024x2048 .bf16) (wl : Vec Ideal S512x2048 .bf16) (ga gb : Vec Ideal S256x2048 .bf16)
    (x : Vec Ideal S256x2048 .f32) (wo : Vec Ideal S2048x2048 .bf16) (g b : Vec Ideal S1x2048 .f32) (r : Fin 256) (c : Fin 2048) : EReal :=
  lay (zrow (fun k => yd (ix2 r k)) (fun j => soft (l0 (ix3 0 r j)) (Pl1 r j) (Pl2 r j) (o0 (ix3 0 r j)) (Po1 r j) (Po2 r j))
    (fun k => ga (ix2 r k)) (fun k => gb (ix2 r k)) (fun k => x (ix2 r k))
    (fun k n => wd (ix2 k n)) (fun k n => wl (ix2 k n)) (fun k n => wo (ix2 k n))) (fun k => g (ix2 0 k)) (fun k => b (ix2 0 k)) c

/-- A row against an expert. -/
def logit (w : Vec Ideal S256x2048 .bf16) (H : Fin 2048 → EReal) (e : Fin 256) : EReal := ∑ k : Fin 2048, (w (ix2 e k) * H k : EReal)

theorem body_at {κ : Kind} {sp : Space} {v : View sig κ sp S4x4x256x128 .f32} {P : Fin 4 → Fin 256 → Fin 512 → EReal}
    {L1 L2 L3 L4 : List (View.Piece (Elt Ideal) S4x4x256x128 .f32)}
    {l0 o0 : Vec Ideal S1x256x512 .f32} {yd : Vec Ideal S256x1024 .bf16} {wd : Vec Ideal S1024x2048 .bf16} {wl : Vec Ideal S512x2048 .bf16}
    {ga gb : Vec Ideal S256x2048 .bf16} {x : Vec Ideal S256x2048 .f32} {wo : Vec Ideal S2048x2048 .bf16} {g b : Vec Ideal S1x2048 .f32}
    {w : Vec Ideal S256x2048 .bf16} {r e : Fin 256} {q : Fin 2048}
    {i00 i01 i02 i03 i10 i11 i12 i13 i20 i21 i22 i23 i30 i31 i32 i33}
    (hL1 : View.PiecesOf (scr P) L1) (hM2 : View.PiecesOf (scr P) L1 → View.PiecesOf (scr P) L2) (hM3 : View.PiecesOf (scr P) L2 → View.PiecesOf (scr P) L3)
    (hM4 : View.PiecesOf (scr P) L3 → View.PiecesOf (scr P) L4)
    (hc1 : covs 0 4 64 L1) (hc2 : covs 1 16 16 L2) (hc3 : covs 2 4 64 L3) (hc4 : covs 3 16 16 L4)
    {A B1 B2 B3 B4 B5 H}
    (hA : A = k0_pay22 (F := Ideal) (rdh v L1 0 0 i00) (rdh v L1 0 1 i01)
      (rdh v L1 0 2 i02) (rdh v L1 0 3 i03))
    (hB1 : B1 = k0_pay97 (F := Ideal) (k0_pay3 l0) A (k0_pay94 (rdh v L2 1 0 i10))
      (rdh v L2 1 1 i11) (rdh v L2 1 2 i12) (rdh v L2 1 3 i13))
    (hB2 : B2 = k0_pay98 (F := Ideal) (k0_pay3 l0) A (k0_pay94 (rdh v L2 1 0 i10))
      (rdh v L2 1 1 i11) (rdh v L2 1 2 i12) (rdh v L2 1 3 i13))
    (hB3 : B3 = k0_pay99 (F := Ideal) (k0_pay3 l0) A (k0_pay94 (rdh v L2 1 0 i10))
      (rdh v L2 1 1 i11) (rdh v L2 1 2 i12) (rdh v L2 1 3 i13))
    (hB4 : B4 = k0_pay100 (F := Ideal) (k0_pay3 l0) A (k0_pay94 (rdh v L2 1 0 i10))
      (rdh v L2 1 1 i11) (rdh v L2 1 2 i12) (rdh v L2 1 3 i13) o0)
    (hB5 : B5 = k0_pay118 (F := Ideal) B2 B4 (rdh v L3 2 0 i20)
      (rdh v L3 2 1 i21) (rdh v L3 2 2 i22) (rdh v L3 2 3 i23))
    (hH : H = k0_pay195 (F := Ideal) (k0_pay191 yd wd) (k0_pay192 B1 B2 B3 B5 (rdh v L4 3 0 i30)
      (rdh v L4 3 1 i31) (rdh v L4 3 2 i32) (rdh v L4 3 3 i33))
      wl ga gb x wo) :
    k0_pay1 (F := Ideal) (k0_pay193 g) (k0_pay194 b) H (ix2 r q) = rowz l0 o0 (P 0) (P 1) (P 2) (P 3) yd wd wl ga gb x wo g b r q
      ∧ k0_pay2 (F := Ideal) (k0_pay193 g) (k0_pay194 b) H w (ix2 e r)
        = logit w (rowz l0 o0 (P 0) (P 1) (P 2) (P 3) yd wd wl ga gb x wo g b r) e := by
  have hL2 := hM2 hL1
  have hL3 := hM3 hL2
  have hL4 := hM4 hL3
  obtain ⟨c10, c11, c12, c13⟩ := hc1
  obtain ⟨c20, c21, c22, c23⟩ := hc2
  obtain ⟨c30, c31, c32, c33⟩ := hc3
  obtain ⟨c40, c41, c42, c43⟩ := hc4
  have n4 : 0 < 4 := by norm_num
  have n16 : 0 < 16 := by norm_num
  have s0 : 0 < 4 := by norm_num
  have s1 : 1 < 4 := by norm_num
  have s2 : 2 < 4 := by norm_num
  have s3 : 3 < 4 := by norm_num
  rw [read_head v P L1 0 0 4 64 s0 s0 i00 n4 rfl hL1 c10, read_head v P L1 0 1 4 64 s0 s1 i01 n4 rfl hL1 c11,
    read_head v P L1 0 2 4 64 s0 s2 i02 n4 rfl hL1 c12, read_head v P L1 0 3 4 64 s0 s3 i03 n4 rfl hL1 c13] at hA
  rw [read_head v P L2 1 0 16 16 s1 s0 i10 n16 rfl hL2 c20, read_head v P L2 1 1 16 16 s1 s1 i11 n16 rfl hL2 c21,
    read_head v P L2 1 2 16 16 s1 s2 i12 n16 rfl hL2 c22, read_head v P L2 1 3 16 16 s1 s3 i13 n16 rfl hL2 c23] at hB1 hB2 hB3 hB4
  rw [read_head v P L3 2 0 4 64 s2 s0 i20 n4 rfl hL3 c30, read_head v P L3 2 1 4 64 s2 s1 i21 n4 rfl hL3 c31,
    read_head v P L3 2 2 4 64 s2 s2 i22 n4 rfl hL3 c32, read_head v P L3 2 3 4 64 s2 s3 i23 n4 rfl hL3 c33] at hB5
  rw [read_head v P L4 3 0 16 16 s3 s0 i30 n16 rfl hL4 c40, read_head v P L4 3 1 16 16 s3 s1 i31 n16 rfl hL4 c41,
    read_head v P L4 3 2 16 16 s3 s2 i32 n16 rfl hL4 c42, read_head v P L4 3 3 16 16 s3 s3 i33 n16 rfl hL4 c43] at hH
  rw [heads_eq] at hA
  have key : ∀ k : Fin 2048, k0_pay1 (F := Ideal) (k0_pay193 g) (k0_pay194 b) H (ix2 r k) = rowz l0 o0 (P 0) (P 1) (P 2) (P 3) yd wd wl ga gb x wo g b r k := by
    intro k
    rw [hH, out_at]
    subst hB5 hB1 hB2 hB3 hB4 hA
    unfold rowz
    congr 2
    funext j
    exact mixed_at l0 o0 (P 0) (P 1) (P 2) (P 3) r j
  refine ⟨key q, (logits_at _ _ _ _ e r).trans (Finset.sum_congr rfl fun k _ => ?_)⟩
  rw [key k]

end Cert.Mix
-- ==== Proof.Mix.Step.lean ====
module

public import proofs.«01_k».proof.Proof.Mix.Body

@[expose] public section

set_option maxRecDepth 16384

/-! # A step: the pieces of the scratch, and the two blocks that the step leaves -/

noncomputable section

namespace Cert.Mix

open Idealize.ShloMosaic Idealize.ShloMosaic.TcCoe
open Cert.MergeIdeal Cert.MergeIdeal.Gen

variable (m : (ℓ : Loc nD τ sig) → Buf (Elt Ideal) ℓ) (c : Dev nD)

/-- The four strided blocks of a step, by position. -/
def strided (t : Fin cfg0.N) : Fin 4 → Fin 256 → Fin 512 → EReal :=
  ![by4 (iblk m c 4 t), by16 (iblk m c 5 t), by4 (iblk m c 1 t), by16 (iblk m c 2 t)]

set_option maxHeartbeats 0 in
/-- The blocks that a step leaves. -/
theorem step_at (t : Fin cfg0.N) (r e : Fin 256) (q : Fin 2048) :
    (outsAt0 m c t).1 (ix2 r q) = rowz (iblk m c 3 t) (iblk m c 0 t) (strided m c t 0) (strided m c t 1) (strided m c t 2) (strided m c t 3)
        (iblk m c 6 t) (iblk m c 10 t) (iblk m c 11 t) (iblk m c 7 t) (iblk m c 8 t) (iblk m c 9 t) (iblk m c 12 t) (iblk m c 14 t) (iblk m c 15 t) r q
      ∧ (outsAt0 m c t).2 (ix2 e r) = logit (iblk m c 13 t) (rowz (iblk m c 3 t) (iblk m c 0 t) (strided m c t 0) (strided m c t 1) (strided m c t 2) (strided m c t 3)
        (iblk m c 6 t) (iblk m c 10 t) (iblk m c 11 t) (iblk m c 7 t) (iblk m c 8 t) (iblk m c 9 t) (iblk m c 12 t) (iblk m c 14 t) (iblk m c 15 t) r) e := by
  unfold outsAt0
  frame_out
  refine body_at (P := strided m c t) ?_ ?_ ?_ ?_ ?_ ?_ ?_ ?_ rfl rfl rfl rfl rfl rfl rfl
  · have hs : strided m c t ⟨0, by decide⟩ = by4 (iblk m c 4 t) := rfl
    generalize strided m c t = P at *
    generalize iblk m c 4 t = X at *
    refine ⟨piece4 P X 0 3 3 384 _ _ _ _ _ (by decide) (by decide) (by decide) rfl hs, ?_⟩
    refine ⟨piece4 P X 0 2 3 256 _ _ _ _ _ (by decide) (by decide) (by decide) rfl hs, ?_⟩
    refine ⟨piece4 P X 0 1 3 128 _ _ _ _ _ (by decide) (by decide) (by decide) rfl hs, ?_⟩
    refine ⟨piece4 P X 0 0 3 0 _ _ _ _ _ (by decide) (by decide) (by decide) rfl hs, ?_⟩
    refine ⟨piece4 P X 0 3 2 384 _ _ _ _ _ (by decide) (by decide) (by decide) rfl hs, ?_⟩
    refine ⟨piece4 P X 0 2 2 256 _ _ _ _ _ (by decide) (by decide) (by decide) rfl hs, ?_⟩
    refine ⟨piece4 P X 0 1 2 128 _ _ _ _ _ (by decide) (by decide) (by decide) rfl hs, ?_⟩
    refine ⟨piece4 P X 0 0 2 0 _ _ _ _ _ (by decide) (by decide) (by decide) rfl hs, ?_⟩
    refine ⟨piece4 P X 0 3 1 384 _ _ _ _ _ (by decide) (by decide) (by decide) rfl hs, ?_⟩
    refine ⟨piece4 P X 0 2 1 256 _ _ _ _ _ (by decide) (by decide) (by decide) rfl hs, ?_⟩
    refine ⟨piece4 P X 0 1 1 128 _ _ _ _ _ (by decide) (by decide) (by decide) rfl hs, ?_⟩
    refine ⟨piece4 P X 0 0 1 0 _ _ _ _ _ (by decide) (by decide) (by decide) rfl hs, ?_⟩
    refine ⟨piece4 P X 0 3 0 384 _ _ _ _ _ (by decide) (by decide) (by decide) rfl hs, ?_⟩
    refine ⟨piece4 P X 0 2 0 256 _ _ _ _ _ (by decide) (by decide) (by decide) rfl hs, ?_⟩
    refine ⟨piece4 P X 0 1 0 128 _ _ _ _ _ (by decide) (by decide) (by decide) rfl hs, ?_⟩
    refine ⟨piece4 P X 0 0 0 0 _ _ _ _ _ (by decide) (by decide) (by decide) rfl hs, ?_⟩
    exact trivial
  · intro h
    have hs : strided m c t ⟨1, by decide⟩ = by16 (iblk m c 5 t) := rfl
    generalize strided m c t = P at *
    generalize iblk m c 5 t = X at *
    refine ⟨piece16 P X 1 3 15 384 _ _ _ _ _ (by decide) (by decide) (by decide) rfl hs, ?_⟩
    refine ⟨piece16 P X 1 2 15 256 _ _ _ _ _ (by decide) (by decide) (by decide) rfl hs, ?_⟩
    refine ⟨piece16 P X 1 1 15 128 _ _ _ _ _ (by decide) (by decide) (by decide) rfl hs, ?_⟩
    refine ⟨piece16 P X 1 0 15 0 _ _ _ _ _ (by decide) (by decide) (by decide) rfl hs, ?_⟩
    refine ⟨piece16 P X 1 3 14 384 _ _ _ _ _ (by decide) (by decide) (by decide) rfl hs, ?_⟩
    refine ⟨piece16 P X 1 2 14 256 _ _ _ _ _ (by decide) (by decide) (by decide) rfl hs, ?_⟩
    refine ⟨piece16 P X 1 1 14 128 _ _ _ _ _ (by decide) (by decide) (by decide) rfl hs, ?_⟩
    refine ⟨piece16 P X 1 0 14 0 _ _ _ _ _ (by decide) (by decide) (by decide) rfl hs, ?_⟩
    refine ⟨piece16 P X 1 3 13 384 _ _ _ _ _ (by decide) (by decide) (by decide) rfl hs, ?_⟩
    refine ⟨piece16 P X 1 2 13 256 _ _ _ _ _ (by decide) (by decide) (by decide) rfl hs, ?_⟩
    refine ⟨piece16 P X 1 1 13 128 _ _ _ _ _ (by decide) (by decide) (by decide) rfl hs, ?_⟩
    refine ⟨piece16 P X 1 0 13 0 _ _ _ _ _ (by decide) (by decide) (by decide) rfl hs, ?_⟩
    refine ⟨piece16 P X 1 3 12 384 _ _ _ _ _ (by decide) (by decide) (by decide) rfl hs, ?_⟩
    refine ⟨piece16 P X 1 2 12 256 _ _ _ _ _ (by decide) (by decide) (by decide) rfl hs, ?_⟩
    refine ⟨piece16 P X 1 1 12 128 _ _ _ _ _ (by decide) (by decide) (by decide) rfl hs, ?_⟩
    refine ⟨piece16 P X 1 0 12 0 _ _ _ _ _ (by decide) (by decide) (by decide) rfl hs, ?_⟩
    refine ⟨piece16 P X 1 3 11 384 _ _ _ _ _ (by decide) (by decide) (by decide) rfl hs, ?_⟩
    refine ⟨piece16 P X 1 2 11 256 _ _ _ _ _ (by decide) (by decide) (by decide) rfl hs, ?_⟩
    refine ⟨piece16 P X 1 1 11 128 _ _ _ _ _ (by decide) (by decide) (by decide) rfl hs, ?_⟩
    refine ⟨piece16 P X 1 0 11 0 _ _ _ _ _ (by decide) (by decide) (by decide) rfl hs, ?_⟩
    refine ⟨piece16 P X 1 3 10 384 _ _ _ _ _ (by decide) (by decide) (by decide) rfl hs, ?_⟩
    refine ⟨piece16 P X 1 2 10 256 _ _ _ _ _ (by decide) (by decide) (by decide) rfl hs, ?_⟩
    refine ⟨piece16 P X 1 1 10 128 _ _ _ _ _ (by decide) (by decide) (by decide) rfl hs, ?_⟩
    refine ⟨piece16 P X 1 0 10 0 _ _ _ _ _ (by decide) (by decide) (by decide) rfl hs, ?_⟩
    refine ⟨piece16 P X 1 3 9 384 _ _ _ _ _ (by decide) (by decide) (by decide) rfl hs, ?_⟩
    refine ⟨piece16 P X 1 2 9 256 _ _ _ _ _ (by decide) (by decide) (by decide) rfl hs, ?_⟩
    refine ⟨piece16 P X 1 1 9 128 _ _ _ _ _ (by decide) (by decide) (by decide) rfl hs, ?_⟩
    refine ⟨piece16 P X 1 0 9 0 _ _ _ _ _ (by decide) (by decide) (by decide) rfl hs, ?_⟩
    refine ⟨piece16 P X 1 3 8 384 _ _ _ _ _ (by decide) (by decide) (by decide) rfl hs, ?_⟩
    refine ⟨piece16 P X 1 2 8 256 _ _ _ _ _ (by decide) (by decide) (by decide) rfl hs, ?_⟩
    refine ⟨piece16 P X 1 1 8 128 _ _ _ _ _ (by decide) (by decide) (by decide) rfl hs, ?_⟩
    refine ⟨piece16 P X 1 0 8 0 _ _ _ _ _ (by decide) (by decide) (by decide) rfl hs, ?_⟩
    refine ⟨piece16 P X 1 3 7 384 _ _ _ _ _ (by decide) (by decide) (by decide) rfl hs, ?_⟩
    refine ⟨piece16 P X 1 2 7 256 _ _ _ _ _ (by decide) (by decide) (by decide) rfl hs, ?_⟩
    refine ⟨piece16 P X 1 1 7 128 _ _ _ _ _ (by decide) (by decide) (by decide) rfl hs, ?_⟩
    refine ⟨piece16 P X 1 0 7 0 _ _ _ _ _ (by decide) (by decide) (by decide) rfl hs, ?_⟩
    refine ⟨piece16 P X 1 3 6 384 _ _ _ _ _ (by decide) (by decide) (by decide) rfl hs, ?_⟩
    refine ⟨piece16 P X 1 2 6 256 _ _ _ _ _ (by decide) (by decide) (by decide) rfl hs, ?_⟩
    refine ⟨piece16 P X 1 1 6 128 _ _ _ _ _ (by decide) (by decide) (by decide) rfl hs, ?_⟩
    refine ⟨piece16 P X 1 0 6 0 _ _ _ _ _ (by decide) (by decide) (by decide) rfl hs, ?_⟩
    refine ⟨piece16 P X 1 3 5 384 _ _ _ _ _ (by decide) (by decide) (by decide) rfl hs, ?_⟩
    refine ⟨piece16 P X 1 2 5 256 _ _ _ _ _ (by decide) (by decide) (by decide) rfl hs, ?_⟩
    refine ⟨piece16 P X 1 1 5 128 _ _ _ _ _ (by decide) (by decide) (by decide) rfl hs, ?_⟩
    refine ⟨piece16 P X 1 0 5 0 _ _ _ _ _ (by decide) (by decide) (by decide) rfl hs, ?_⟩
    refine ⟨piece16 P X 1 3 4 384 _ _ _ _ _ (by decide) (by decide) (by decide) rfl hs, ?_⟩
    refine ⟨piece16 P X 1 2 4 256 _ _ _ _ _ (by decide) (by decide) (by decide) rfl hs, ?_⟩
    refine ⟨piece16 P X 1 1 4 128 _ _ _ _ _ (by decide) (by decide) (by decide) rfl hs, ?_⟩
    refine ⟨piece16 P X 1 0 4 0 _ _ _ _ _ (by decide) (by decide) (by decide) rfl hs, ?_⟩
    refine ⟨piece16 P X 1 3 3 384 _ _ _ _ _ (by decide) (by decide) (by decide) rfl hs, ?_⟩
    refine ⟨piece16 P X 1 2 3 256 _ _ _ _ _ (by decide) (by decide) (by decide) rfl hs, ?_⟩
    refine ⟨piece16 P X 1 1 3 128 _ _ _ _ _ (by decide) (by decide) (by decide) rfl hs, ?_⟩
    refine ⟨piece16 P X 1 0 3 0 _ _ _ _ _ (by decide) (by decide) (by decide) rfl hs, ?_⟩
    refine ⟨piece16 P X 1 3 2 384 _ _ _ _ _ (by decide) (by decide) (by decide) rfl hs, ?_⟩
    refine ⟨piece16 P X 1 2 2 256 _ _ _ _ _ (by decide) (by decide) (by decide) rfl hs, ?_⟩
    refine ⟨piece16 P X 1 1 2 128 _ _ _ _ _ (by decide) (by decide) (by decide) rfl hs, ?_⟩
    refine ⟨piece16 P X 1 0 2 0 _ _ _ _ _ (by decide) (by decide) (by decide) rfl hs, ?_⟩
    refine ⟨piece16 P X 1 3 1 384 _ _ _ _ _ (by decide) (by decide) (by decide) rfl hs, ?_⟩
    refine ⟨piece16 P X 1 2 1 256 _ _ _ _ _ (by decide) (by decide) (by decide) rfl hs, ?_⟩
    refine ⟨piece16 P X 1 1 1 128 _ _ _ _ _ (by decide) (by decide) (by decide) rfl hs, ?_⟩
    refine ⟨piece16 P X 1 0 1 0 _ _ _ _ _ (by decide) (by decide) (by decide) rfl hs, ?_⟩
    refine ⟨piece16 P X 1 3 0 384 _ _ _ _ _ (by decide) (by decide) (by decide) rfl hs, ?_⟩
    refine ⟨piece16 P X 1 2 0 256 _ _ _ _ _ (by decide) (by decide) (by decide) rfl hs, ?_⟩
    refine ⟨piece16 P X 1 1 0 128 _ _ _ _ _ (by decide) (by decide) (by decide) rfl hs, ?_⟩
    refine ⟨piece16 P X 1 0 0 0 _ _ _ _ _ (by decide) (by decide) (by decide) rfl hs, ?_⟩
    exact h
  · intro h
    have hs : strided m c t ⟨2, by decide⟩ = by4 (iblk m c 1 t) := rfl
    generalize strided m c t = P at *
    generalize iblk m c 1 t = X at *
    refine ⟨piece4 P X 2 3 3 384 _ _ _ _ _ (by decide) (by decide) (by decide) rfl hs, ?_⟩
    refine ⟨piece4 P X 2 2 3 256 _ _ _ _ _ (by decide) (by decide) (by decide) rfl hs, ?_⟩
    refine ⟨piece4 P X 2 1 3 128 _ _ _ _ _ (by decide) (by decide) (by decide) rfl hs, ?_⟩
    refine ⟨piece4 P X 2 0 3 0 _ _ _ _ _ (by decide) (by decide) (by decide) rfl hs, ?_⟩
    refine ⟨piece4 P X 2 3 2 384 _ _ _ _ _ (by decide) (by decide) (by decide) rfl hs, ?_⟩
    refine ⟨piece4 P X 2 2 2 256 _ _ _ _ _ (by decide) (by decide) (by decide) rfl hs, ?_⟩
    refine ⟨piece4 P X 2 1 2 128 _ _ _ _ _ (by decide) (by decide) (by decide) rfl hs, ?_⟩
    refine ⟨piece4 P X 2 0 2 0 _ _ _ _ _ (by decide) (by decide) (by decide) rfl hs, ?_⟩
    refine ⟨piece4 P X 2 3 1 384 _ _ _ _ _ (by decide) (by decide) (by decide) rfl hs, ?_⟩
    refine ⟨piece4 P X 2 2 1 256 _ _ _ _ _ (by decide) (by decide) (by decide) rfl hs, ?_⟩
    refine ⟨piece4 P X 2 1 1 128 _ _ _ _ _ (by decide) (by decide) (by decide) rfl hs, ?_⟩
    refine ⟨piece4 P X 2 0 1 0 _ _ _ _ _ (by decide) (by decide) (by decide) rfl hs, ?_⟩
    refine ⟨piece4 P X 2 3 0 384 _ _ _ _ _ (by decide) (by decide) (by decide) rfl hs, ?_⟩
    refine ⟨piece4 P X 2 2 0 256 _ _ _ _ _ (by decide) (by decide) (by decide) rfl hs, ?_⟩
    refine ⟨piece4 P X 2 1 0 128 _ _ _ _ _ (by decide) (by decide) (by decide) rfl hs, ?_⟩
    refine ⟨piece4 P X 2 0 0 0 _ _ _ _ _ (by decide) (by decide) (by decide) rfl hs, ?_⟩
    exact h
  · intro h
    have hs : strided m c t ⟨3, by decide⟩ = by16 (iblk m c 2 t) := rfl
    generalize strided m c t = P at *
    generalize iblk m c 2 t = X at *
    refine ⟨piece16 P X 3 3 15 384 _ _ _ _ _ (by decide) (by decide) (by decide) rfl hs, ?_⟩
    refine ⟨piece16 P X 3 2 15 256 _ _ _ _ _ (by decide) (by decide) (by decide) rfl hs, ?_⟩
    refine ⟨piece16 P X 3 1 15 128 _ _ _ _ _ (by decide) (by decide) (by decide) rfl hs, ?_⟩
    refine ⟨piece16 P X 3 0 15 0 _ _ _ _ _ (by decide) (by decide) (by decide) rfl hs, ?_⟩
    refine ⟨piece16 P X 3 3 14 384 _ _ _ _ _ (by decide) (by decide) (by decide) rfl hs, ?_⟩
    refine ⟨piece16 P X 3 2 14 256 _ _ _ _ _ (by decide) (by decide) (by decide) rfl hs, ?_⟩
    refine ⟨piece16 P X 3 1 14 128 _ _ _ _ _ (by decide) (by decide) (by decide) rfl hs, ?_⟩
    refine ⟨piece16 P X 3 0 14 0 _ _ _ _ _ (by decide) (by decide) (by decide) rfl hs, ?_⟩
    refine ⟨piece16 P X 3 3 13 384 _ _ _ _ _ (by decide) (by decide) (by decide) rfl hs, ?_⟩
    refine ⟨piece16 P X 3 2 13 256 _ _ _ _ _ (by decide) (by decide) (by decide) rfl hs, ?_⟩
    refine ⟨piece16 P X 3 1 13 128 _ _ _ _ _ (by decide) (by decide) (by decide) rfl hs, ?_⟩
    refine ⟨piece16 P X 3 0 13 0 _ _ _ _ _ (by decide) (by decide) (by decide) rfl hs, ?_⟩
    refine ⟨piece16 P X 3 3 12 384 _ _ _ _ _ (by decide) (by decide) (by decide) rfl hs, ?_⟩
    refine ⟨piece16 P X 3 2 12 256 _ _ _ _ _ (by decide) (by decide) (by decide) rfl hs, ?_⟩
    refine ⟨piece16 P X 3 1 12 128 _ _ _ _ _ (by decide) (by decide) (by decide) rfl hs, ?_⟩
    refine ⟨piece16 P X 3 0 12 0 _ _ _ _ _ (by decide) (by decide) (by decide) rfl hs, ?_⟩
    refine ⟨piece16 P X 3 3 11 384 _ _ _ _ _ (by decide) (by decide) (by decide) rfl hs, ?_⟩
    refine ⟨piece16 P X 3 2 11 256 _ _ _ _ _ (by decide) (by decide) (by decide) rfl hs, ?_⟩
    refine ⟨piece16 P X 3 1 11 128 _ _ _ _ _ (by decide) (by decide) (by decide) rfl hs, ?_⟩
    refine ⟨piece16 P X 3 0 11 0 _ _ _ _ _ (by decide) (by decide) (by decide) rfl hs, ?_⟩
    refine ⟨piece16 P X 3 3 10 384 _ _ _ _ _ (by decide) (by decide) (by decide) rfl hs, ?_⟩
    refine ⟨piece16 P X 3 2 10 256 _ _ _ _ _ (by decide) (by decide) (by decide) rfl hs, ?_⟩
    refine ⟨piece16 P X 3 1 10 128 _ _ _ _ _ (by decide) (by decide) (by decide) rfl hs, ?_⟩
    refine ⟨piece16 P X 3 0 10 0 _ _ _ _ _ (by decide) (by decide) (by decide) rfl hs, ?_⟩
    refine ⟨piece16 P X 3 3 9 384 _ _ _ _ _ (by decide) (by decide) (by decide) rfl hs, ?_⟩
    refine ⟨piece16 P X 3 2 9 256 _ _ _ _ _ (by decide) (by decide) (by decide) rfl hs, ?_⟩
    refine ⟨piece16 P X 3 1 9 128 _ _ _ _ _ (by decide) (by decide) (by decide) rfl hs, ?_⟩
    refine ⟨piece16 P X 3 0 9 0 _ _ _ _ _ (by decide) (by decide) (by decide) rfl hs, ?_⟩
    refine ⟨piece16 P X 3 3 8 384 _ _ _ _ _ (by decide) (by decide) (by decide) rfl hs, ?_⟩
    refine ⟨piece16 P X 3 2 8 256 _ _ _ _ _ (by decide) (by decide) (by decide) rfl hs, ?_⟩
    refine ⟨piece16 P X 3 1 8 128 _ _ _ _ _ (by decide) (by decide) (by decide) rfl hs, ?_⟩
    refine ⟨piece16 P X 3 0 8 0 _ _ _ _ _ (by decide) (by decide) (by decide) rfl hs, ?_⟩
    refine ⟨piece16 P X 3 3 7 384 _ _ _ _ _ (by decide) (by decide) (by decide) rfl hs, ?_⟩
    refine ⟨piece16 P X 3 2 7 256 _ _ _ _ _ (by decide) (by decide) (by decide) rfl hs, ?_⟩
    refine ⟨piece16 P X 3 1 7 128 _ _ _ _ _ (by decide) (by decide) (by decide) rfl hs, ?_⟩
    refine ⟨piece16 P X 3 0 7 0 _ _ _ _ _ (by decide) (by decide) (by decide) rfl hs, ?_⟩
    refine ⟨piece16 P X 3 3 6 384 _ _ _ _ _ (by decide) (by decide) (by decide) rfl hs, ?_⟩
    refine ⟨piece16 P X 3 2 6 256 _ _ _ _ _ (by decide) (by decide) (by decide) rfl hs, ?_⟩
    refine ⟨piece16 P X 3 1 6 128 _ _ _ _ _ (by decide) (by decide) (by decide) rfl hs, ?_⟩
    refine ⟨piece16 P X 3 0 6 0 _ _ _ _ _ (by decide) (by decide) (by decide) rfl hs, ?_⟩
    refine ⟨piece16 P X 3 3 5 384 _ _ _ _ _ (by decide) (by decide) (by decide) rfl hs, ?_⟩
    refine ⟨piece16 P X 3 2 5 256 _ _ _ _ _ (by decide) (by decide) (by decide) rfl hs, ?_⟩
    refine ⟨piece16 P X 3 1 5 128 _ _ _ _ _ (by decide) (by decide) (by decide) rfl hs, ?_⟩
    refine ⟨piece16 P X 3 0 5 0 _ _ _ _ _ (by decide) (by decide) (by decide) rfl hs, ?_⟩
    refine ⟨piece16 P X 3 3 4 384 _ _ _ _ _ (by decide) (by decide) (by decide) rfl hs, ?_⟩
    refine ⟨piece16 P X 3 2 4 256 _ _ _ _ _ (by decide) (by decide) (by decide) rfl hs, ?_⟩
    refine ⟨piece16 P X 3 1 4 128 _ _ _ _ _ (by decide) (by decide) (by decide) rfl hs, ?_⟩
    refine ⟨piece16 P X 3 0 4 0 _ _ _ _ _ (by decide) (by decide) (by decide) rfl hs, ?_⟩
    refine ⟨piece16 P X 3 3 3 384 _ _ _ _ _ (by decide) (by decide) (by decide) rfl hs, ?_⟩
    refine ⟨piece16 P X 3 2 3 256 _ _ _ _ _ (by decide) (by decide) (by decide) rfl hs, ?_⟩
    refine ⟨piece16 P X 3 1 3 128 _ _ _ _ _ (by decide) (by decide) (by decide) rfl hs, ?_⟩
    refine ⟨piece16 P X 3 0 3 0 _ _ _ _ _ (by decide) (by decide) (by decide) rfl hs, ?_⟩
    refine ⟨piece16 P X 3 3 2 384 _ _ _ _ _ (by decide) (by decide) (by decide) rfl hs, ?_⟩
    refine ⟨piece16 P X 3 2 2 256 _ _ _ _ _ (by decide) (by decide) (by decide) rfl hs, ?_⟩
    refine ⟨piece16 P X 3 1 2 128 _ _ _ _ _ (by decide) (by decide) (by decide) rfl hs, ?_⟩
    refine ⟨piece16 P X 3 0 2 0 _ _ _ _ _ (by decide) (by decide) (by decide) rfl hs, ?_⟩
    refine ⟨piece16 P X 3 3 1 384 _ _ _ _ _ (by decide) (by decide) (by decide) rfl hs, ?_⟩
    refine ⟨piece16 P X 3 2 1 256 _ _ _ _ _ (by decide) (by decide) (by decide) rfl hs, ?_⟩
    refine ⟨piece16 P X 3 1 1 128 _ _ _ _ _ (by decide) (by decide) (by decide) rfl hs, ?_⟩
    refine ⟨piece16 P X 3 0 1 0 _ _ _ _ _ (by decide) (by decide) (by decide) rfl hs, ?_⟩
    refine ⟨piece16 P X 3 3 0 384 _ _ _ _ _ (by decide) (by decide) (by decide) rfl hs, ?_⟩
    refine ⟨piece16 P X 3 2 0 256 _ _ _ _ _ (by decide) (by decide) (by decide) rfl hs, ?_⟩
    refine ⟨piece16 P X 3 1 0 128 _ _ _ _ _ (by decide) (by decide) (by decide) rfl hs, ?_⟩
    refine ⟨piece16 P X 3 0 0 0 _ _ _ _ _ (by decide) (by decide) (by decide) rfl hs, ?_⟩
    exact h
  · exact ⟨rfl, rfl, rfl, rfl⟩
  · exact ⟨rfl, rfl, rfl, rfl⟩
  · exact ⟨rfl, rfl, rfl, rfl⟩
  · exact ⟨rfl, rfl, rfl, rfl⟩

end Cert.Mix
-- ==== Proof.Mix.Ref.lean ====
module

public import proofs.«01_k».proof.Proof.Mix.Math
public import proofs.«01_k».proof.Proof.Gen.MergeRefIdeal.Read
public import Idealize.ShloMosaic.Lib.Pointwise

@[expose] public section

set_option maxRecDepth 16384

/-! # The reference's results, at an index -/

noncomputable section

namespace Cert.Mix

open Idealize.ShloMosaic Idealize.ShloMosaic.TcCoe
open Cert.MergeRefIdeal Cert.MergeRefIdeal.Gen Cert.MergeRefIdeal.Read

/-- A group of four interleaved sequences, by position. -/
def at4 (X : S4x2048x512.Idx → EReal) (a : Fin 8192) (j : Fin 512) : EReal :=
  X (ix3 (⟨a.val % 4, by omega⟩ : Fin 4) (⟨a.val / 4, by omega⟩ : Fin 2048) j)

/-- A group of sixteen interleaved sequences, by position. -/
def at16 (X : S16x512x512.Idx → EReal) (a : Fin 8192) (j : Fin 512) : EReal :=
  X (ix3 (⟨a.val % 16, by omega⟩ : Fin 16) (⟨a.val / 16, by omega⟩ : Fin 512) j)

variable (x0 x3 : S1x8192x512.Idx → EReal) (x1 x4 : S4x2048x512.Idx → EReal) (x2 x5 : S16x512x512.Idx → EReal) (x6 : S8192x1024.Idx → EReal)
  (x7 x8 : S8192x4096.Idx → EReal) (x9 : S8192x2048.Idx → EReal) (x10 : S1x1024x2048.Idx → EReal) (x11 : S1x512x2048.Idx → EReal)
  (x12 : S1x2048x2048.Idx → EReal) (x13 x14 : S1x2048.Idx → EReal) (x15 : S1x2048x256.Idx → EReal)

/-- The groups mixed, at a position. -/
def mixRow (a : Fin 8192) (j : Fin 512) : EReal := soft (x3 (ix3 0 a j)) (at4 x4 a j) (at16 x5 a j) (x0 (ix3 0 a j)) (at4 x1 a j) (at16 x2 a j)

/-- A row of the residual. -/
def resZ (a : Fin 8192) : Fin 2048 → EReal :=
  zrow (fun k => x6 (ix2 a k)) (mixRow x0 x3 x1 x4 x2 x5 a) (fun k => x7 (ix2 a (⟨k.val, by omega⟩ : Fin 4096))) (fun k => x8 (ix2 a (⟨2048 + k.val, by omega⟩ : Fin 4096)))
    (fun k => x9 (ix2 a k)) (fun k n => x10 (ix3 0 k n)) (fun k n => x11 (ix3 0 k n)) (fun k n => x12 (ix3 0 k n))

/-- An entry of the first result. -/
def resH (a : Fin 8192) (c : Fin 2048) : EReal := lay (resZ x0 x3 x1 x4 x2 x5 x6 x7 x8 x9 x10 x11 x12 a) (fun k => x13 (ix2 0 k)) (fun k => x14 (ix2 0 k)) c

/-- An entry of the second result. -/
def resL (e : Fin 256) (a : Fin 8192) : EReal := ∑ k : Fin 2048, x15 (ix3 0 k e) * resH x0 x3 x1 x4 x2 x5 x6 x7 x8 x9 x10 x11 x12 x13 x14 a k

theorem ref_zero : Ideal.ofBits .f32 0x00000000#32 = (0 : EReal) := by simp [Ideal.ofBits, Ideal.ieee]

theorem ref_bot : Ideal.ofBits .f32 0xFF800000#32 = (⊥ : EReal) := by simp [Ideal.ofBits, Ideal.ieee]

theorem ref_o0 (a : Fin 8192) (j : Fin 512) : val_main_v1 (F := Ideal) x0 (ix2 a j) = x0 (ix3 0 a j) := by
  rw [val_main_v1_apply, val_main_v0_apply]
  refine congrArg x0 (funext fun k => Fin.ext ?_)
  fin_cases k <;> simp [idx_main_v0, idx_main_v1] <;> omega

theorem ref_o1 (a : Fin 8192) (j : Fin 512) : val_main_v3 (F := Ideal) x1 (ix2 a j) = at4 x1 a j := by
  rw [val_main_v3_apply, val_main_v2_apply]
  refine congrArg x1 (funext fun k => Fin.ext ?_)
  fin_cases k <;> simp [idx_main_v2, idx_main_v3] <;> omega

theorem ref_o2 (a : Fin 8192) (j : Fin 512) : val_main_v5 (F := Ideal) x2 (ix2 a j) = at16 x2 a j := by
  rw [val_main_v5_apply, val_main_v4_apply]
  refine congrArg x2 (funext fun k => Fin.ext ?_)
  fin_cases k <;> simp [idx_main_v4, idx_main_v5] <;> omega

theorem ref_l0 (a : Fin 8192) (j : Fin 512) : val_main_v11 (F := Ideal) x3 (ix2 a j) = x3 (ix3 0 a j) := ref_o0 x3 a j

theorem ref_l1 (a : Fin 8192) (j : Fin 512) : val_main_v13 (F := Ideal) x4 (ix2 a j) = at4 x4 a j := ref_o1 x4 a j

theorem ref_l2 (a : Fin 8192) (j : Fin 512) : val_main_v15 (F := Ideal) x5 (ix2 a j) = at16 x5 a j := ref_o2 x5 a j

/-- The three groups one over another. -/
theorem ref_os (a : Fin 8192) (j : Fin 512) : val_main_v9 (F := Ideal) x0 x1 x2 (ix3 0 a j) = x0 (ix3 0 a j)
    ∧ val_main_v9 (F := Ideal) x0 x1 x2 (ix3 1 a j) = at4 x1 a j ∧ val_main_v9 (F := Ideal) x0 x1 x2 (ix3 2 a j) = at16 x2 a j := by
  refine ⟨?_, ?_, ?_⟩
  · rw [← ref_o0 x0 a j]
    pointwise [val_main_v9, val_main_v6]
  · rw [← ref_o1 x1 a j]
    pointwise [val_main_v9, val_main_v7]
  · rw [← ref_o2 x2 a j]
    pointwise [val_main_v9, val_main_v8]

theorem ref_ls (a : Fin 8192) (j : Fin 512) : val_main_v19 (F := Ideal) x3 x4 x5 (ix3 0 a j) = x3 (ix3 0 a j)
    ∧ val_main_v19 (F := Ideal) x3 x4 x5 (ix3 1 a j) = at4 x4 a j ∧ val_main_v19 (F := Ideal) x3 x4 x5 (ix3 2 a j) = at16 x5 a j := ref_os x3 x4 x5 a j

/-- The largest weight. -/
theorem ref_top (a : Fin 8192) (j : Fin 512) :
    val_main_v22 (F := Ideal) x3 x4 x5 (ix2 a j) = max (max (x3 (ix3 0 a j)) (at4 x4 a j)) (at16 x5 a j) := by
  have hb : FloatOps.ofBits (F := Ideal) .f32 0xFF800000#32 = ⊥ := ref_bot
  have hr : S3x8192x512.Reduces [0] S8192x512 := by decide
  have hl (k : Fin 3) : hr.lift (ix2 a j) k = (ix3 k a j : S3x8192x512.Idx) := by
    refine funext fun i => Fin.ext ?_
    match i with
    | ⟨0, _⟩ => rfl
    | ⟨1, _⟩ => rfl
    | ⟨2, _⟩ => rfl
  obtain ⟨e0, e1, e2⟩ := ref_ls x3 x4 x5 a j
  rw [val_main_v22_apply, val_main_v21_apply, val_main_cst_0_apply, hb]
  refine (max_bot_left (α := EReal) _).trans ?_
  unfold val_main_v20
  rw [show (FloatOps.maximumf (F := Ideal) (φ := .f32)) = (max : EReal → EReal → EReal) from rfl,
    Host.reduce_eq_fold_single (α := EReal) max _ _ reducesTo_S3x8192x512_S8192x512_d0 hr h_S_ (ix2 a j), val_main_cst_apply, hb]
  have hf : ∀ f : Fin 3 → EReal, Finset.fold max ⊥ f Finset.univ = max (max (f 0) (f 1)) (f 2) := by
    intro f
    rw [show (Finset.univ : Finset (Fin 3)) = {0, 1, 2} from rfl, Finset.fold_insert (by decide), Finset.fold_insert (by decide), Finset.fold_singleton,
      max_bot_right, ← max_assoc]
  refine (congrArg (fun f : Fin 3 → EReal => Finset.fold max ⊥ f Finset.univ) (funext fun k => congrArg (val_main_v19 (F := Ideal) x3 x4 x5) (hl k))).trans ((hf _).trans ?_)
  rw [e0, e1, e2]

/-- The groups mixed. -/
theorem ref_mix (h3 : ∀ i, ∃ r : ℝ, x3 i = r) (h4 : ∀ i, ∃ r : ℝ, x4 i = r) (h5 : ∀ i, ∃ r : ℝ, x5 i = r) (a : Fin 8192) (j : Fin 512) :
    val_main_v32 (F := Ideal) x0 x1 x2 x3 x4 x5 (ix2 a j) = mixRow x0 x3 x1 x4 x2 x5 a j := by
  obtain ⟨o0, o1, o2⟩ := ref_os x0 x1 x2 a j
  obtain ⟨l0, l1, l2⟩ := ref_ls x3 x4 x5 a j
  have hM := ref_top x3 x4 x5 a j
  have ix_24 (k : Fin 3) : idx_main_v23 (idx_main_v24 (ix3 k a j)) = ix2 a j := by
    refine funext fun i => Fin.ext ?_
    match i with
    | ⟨0, _⟩ => rfl
    | ⟨1, _⟩ => rfl
  have ix_29 (k : Fin 3) : idx_main_v28 (idx_main_v29 (ix3 k a j)) = ix2 a j := by
    refine funext fun i => Fin.ext ?_
    match i with
    | ⟨0, _⟩ => rfl
    | ⟨1, _⟩ => rfl
  have ix_27 (k : Fin 3) : idx_main_v27 (ix2 a j) k = ix3 k a j := by
    refine funext fun i => Fin.ext ?_
    match i with
    | ⟨0, _⟩ => rfl
    | ⟨1, _⟩ => rfl
    | ⟨2, _⟩ => rfl
  have ix_32 (k : Fin 3) : idx_main_v32 (ix2 a j) k = ix3 k a j := by
    refine funext fun i => Fin.ext ?_
    match i with
    | ⟨0, _⟩ => rfl
    | ⟨1, _⟩ => rfl
    | ⟨2, _⟩ => rfl
  have e26 (k : Fin 3) : val_main_v26 (F := Ideal) x3 x4 x5 (ix3 k a j) = Ideal.exp (val_main_v19 (F := Ideal) x3 x4 x5 (ix3 k a j) - val_main_v22 (F := Ideal) x3 x4 x5 (ix2 a j)) := by
    rw [val_main_v26_apply, val_main_v25_apply, val_main_v24_apply, val_main_v23_apply, ix_24]
    rfl
  have e27 : val_main_v27 (F := Ideal) x3 x4 x5 (ix2 a j)
      = val_main_v26 (F := Ideal) x3 x4 x5 (ix3 0 a j) + val_main_v26 (F := Ideal) x3 x4 x5 (ix3 1 a j) + val_main_v26 (F := Ideal) x3 x4 x5 (ix3 2 a j) := by
    rw [val_main_v27_apply, Finset.sum_congr rfl fun k _ => congrArg _ (ix_27 k), val_main_cst_1_apply, Fin.sum_univ_three]
    exact (congrArg (· + _) ref_zero).trans (zero_add _)
  have e31 (k : Fin 3) : val_main_v31 (F := Ideal) x0 x1 x2 x3 x4 x5 (ix3 k a j)
      = Ideal.div (val_main_v26 (F := Ideal) x3 x4 x5 (ix3 k a j)) (val_main_v27 (F := Ideal) x3 x4 x5 (ix2 a j)) * val_main_v9 (F := Ideal) x0 x1 x2 (ix3 k a j) := by
    rw [val_main_v31_apply, val_main_v30_apply, val_main_v29_apply, val_main_v28_apply, ix_29]
    rfl
  rw [val_main_v32_apply, Finset.sum_congr rfl fun k _ => congrArg _ (ix_32 k), val_main_cst_2_apply, Fin.sum_univ_three]
  refine ((congrArg (· + _) ref_zero).trans (zero_add _)).trans ?_
  rw [e31, e31, e31, e27, e26, e26, e26, o0, o1, o2, l0, l1, l2]
  obtain ⟨r0, h0⟩ := h3 (ix3 0 a j)
  obtain ⟨r1, h1⟩ := h4 (ix3 (⟨a.val % 4, by omega⟩ : Fin 4) (⟨a.val / 4, by omega⟩ : Fin 2048) j)
  obtain ⟨r2, h2⟩ := h5 (ix3 (⟨a.val % 16, by omega⟩ : Fin 16) (⟨a.val / 16, by omega⟩ : Fin 512) j)
  change at4 x4 a j = _ at h1
  change at16 x5 a j = _ at h2
  unfold mixRow
  rw [h0, h1, h2] at hM ⊢
  exact soft_spelt r0 r1 r2 _ _ _ _ hM

section Rows

variable (h3 : ∀ i, ∃ r : ℝ, x3 i = r) (h4 : ∀ i, ∃ r : ℝ, x4 i = r) (h5 : ∀ i, ∃ r : ℝ, x5 i = r)

theorem ref_w10 (k : Fin 1024) (n : Fin 2048) : val_main_v33 (F := Ideal) x10 (ix2 k n) = x10 (ix3 0 k n) := by
  rw [val_main_v33_apply]
  refine congrArg x10 (funext fun b => Fin.ext ?_)
  fin_cases b <;> simp [idx_main_v33] <;> omega

theorem ref_w11 (k : Fin 512) (n : Fin 2048) : val_main_v35 (F := Ideal) x11 (ix2 k n) = x11 (ix3 0 k n) := by
  rw [val_main_v35_apply]
  refine congrArg x11 (funext fun b => Fin.ext ?_)
  fin_cases b <;> simp [idx_main_v35] <;> omega

theorem ref_w12 (k n : Fin 2048) : val_main_v44 (F := Ideal) x12 (ix2 k n) = x12 (ix3 0 k n) := by
  rw [val_main_v44_apply]
  refine congrArg x12 (funext fun b => Fin.ext ?_)
  fin_cases b <;> simp [idx_main_v44] <;> omega

theorem ref_w15 (k : Fin 2048) (e : Fin 256) : val_main_v73 (F := Ideal) x15 (ix2 k e) = x15 (ix3 0 k e) := by
  rw [val_main_v73_apply]
  refine congrArg x15 (funext fun b => Fin.ext ?_)
  fin_cases b <;> simp [idx_main_v73] <;> omega

theorem ref_ga (a : Fin 8192) (n : Fin 2048) : val_main_v37 (F := Ideal) x7 (ix2 a n) = x7 (ix2 a (⟨n.val, by omega⟩ : Fin 4096)) := by
  rw [val_main_v37_apply]
  refine congrArg x7 (funext fun b => Fin.ext ?_)
  fin_cases b <;> simp [idx_main_v37] <;> omega

theorem ref_gb (a : Fin 8192) (n : Fin 2048) : val_main_v39 (F := Ideal) x8 (ix2 a n) = x8 (ix2 a (⟨2048 + n.val, by omega⟩ : Fin 4096)) := by
  rw [val_main_v39_apply]
  refine congrArg x8 (funext fun b => Fin.ext ?_)
  fin_cases b <;> simp [idx_main_v39] <;> omega

include h3 h4 h5 in
/-- The gated branches. -/
theorem ref_gated (a : Fin 8192) (n : Fin 2048) : val_main_v41 (F := Ideal) x0 x1 x2 x3 x4 x5 x6 x7 x8 x10 x11 (ix2 a n)
    = x7 (ix2 a (⟨n.val, by omega⟩ : Fin 4096)) * ∑ k, x6 (ix2 a k) * x10 (ix3 0 k n)
      + x8 (ix2 a (⟨2048 + n.val, by omega⟩ : Fin 4096)) * ∑ k, mixRow x0 x3 x1 x4 x2 x5 a k * x11 (ix3 0 k n) := by
  rw [val_main_v41_apply, val_main_v38_apply, val_main_v40_apply, ref_ga, ref_gb, val_main_v34_apply, val_main_v36_apply]
  refine congrArg₂ (· + ·) (congrArg (_ * ·) (Finset.sum_congr rfl fun k _ => ?_)) (congrArg (_ * ·) (Finset.sum_congr rfl fun k _ => ?_))
  · refine congrArg₂ (· * ·) (congrArg x6 (funext fun b => by fin_cases b <;> rfl)) (Eq.trans (congrArg _ (funext fun b => by fin_cases b <;> rfl)) (ref_w10 x10 k n))
  · refine congrArg₂ (· * ·) (Eq.trans (congrArg _ (funext fun b => by fin_cases b <;> rfl)) (ref_mix x0 x3 x1 x4 x2 x5 h3 h4 h5 a k))
      (Eq.trans (congrArg _ (funext fun b => by fin_cases b <;> rfl)) (ref_w11 x11 k n))

include h3 h4 h5 in
/-- The residual. -/
theorem ref_z (a : Fin 8192) (c : Fin 2048) : val_main_v46 (F := Ideal) x0 x1 x2 x3 x4 x5 x6 x7 x8 x9 x10 x11 x12 (ix2 a c) = resZ x0 x3 x1 x4 x2 x5 x6 x7 x8 x9 x10 x11 x12 a c := by
  rw [val_main_v46_apply, val_main_v43_apply, val_main_v42_apply, val_main_cst_3_apply, val_main_v45_apply]
  unfold resZ zrow
  refine congrArg₂ (· + ·) rfl (Finset.sum_congr rfl fun k _ => ?_)
  exact congrArg₂ (· * ·) (Eq.trans (congrArg _ (funext fun b => by fin_cases b <;> rfl)) (ref_gated x0 x3 x1 x4 x2 x5 x6 x7 x8 x10 x11 h3 h4 h5 a k))
    (Eq.trans (congrArg _ (funext fun b => by fin_cases b <;> rfl)) (ref_w12 x12 k c))

include h3 h4 h5 in
/-- The mean. -/
theorem ref_mean (a : Fin 8192) : val_main_v52 (F := Ideal) x0 x1 x2 x3 x4 x5 x6 x7 x8 x9 x10 x11 x12 (ix2 a 0)
    = Ideal.div (∑ k, resZ x0 x3 x1 x4 x2 x5 x6 x7 x8 x9 x10 x11 x12 a k) (Ideal.ofBits .f32 0x45000000#32) := by
  rw [val_main_v52_apply, val_main_v51_apply, val_main_cst_5_apply, val_main_v50_apply, val_main_v49_apply, val_main_cst_4_apply]
  refine congrArg₂ Ideal.div (((congrArg (· + _) ref_zero).trans (zero_add _)).trans (Finset.sum_congr rfl fun k _ => ?_)) rfl
  exact Eq.trans (congrArg _ (funext fun b => by fin_cases b <;> rfl)) (ref_z x0 x3 x1 x4 x2 x5 x6 x7 x8 x9 x10 x11 x12 h3 h4 h5 a k)

include h3 h4 h5 in
/-- The deviations. -/
theorem ref_dev (a : Fin 8192) (c : Fin 2048) : val_main_v54 (F := Ideal) x0 x1 x2 x3 x4 x5 x6 x7 x8 x9 x10 x11 x12 (ix2 a c)
    = resZ x0 x3 x1 x4 x2 x5 x6 x7 x8 x9 x10 x11 x12 a c - Ideal.div (∑ k, resZ x0 x3 x1 x4 x2 x5 x6 x7 x8 x9 x10 x11 x12 a k) (Ideal.ofBits .f32 0x45000000#32) := by
  rw [val_main_v54_apply, val_main_v53_apply]
  exact congrArg₂ (· - ·) (ref_z x0 x3 x1 x4 x2 x5 x6 x7 x8 x9 x10 x11 x12 h3 h4 h5 a c)
    (Eq.trans (congrArg _ (funext fun b => by fin_cases b <;> rfl)) (ref_mean x0 x3 x1 x4 x2 x5 x6 x7 x8 x9 x10 x11 x12 h3 h4 h5 a))

include h3 h4 h5 in
/-- The spread. -/
theorem ref_var (a : Fin 8192) : val_main_v64 (F := Ideal) x0 x1 x2 x3 x4 x5 x6 x7 x8 x9 x10 x11 x12 (ix2 a 0)
    = Ideal.rsqrt (Ideal.div (∑ k, (resZ x0 x3 x1 x4 x2 x5 x6 x7 x8 x9 x10 x11 x12 a k - Ideal.div (∑ k, resZ x0 x3 x1 x4 x2 x5 x6 x7 x8 x9 x10 x11 x12 a k) (Ideal.ofBits .f32 0x45000000#32))
        * (resZ x0 x3 x1 x4 x2 x5 x6 x7 x8 x9 x10 x11 x12 a k - Ideal.div (∑ k, resZ x0 x3 x1 x4 x2 x5 x6 x7 x8 x9 x10 x11 x12 a k) (Ideal.ofBits .f32 0x45000000#32)))
        (Ideal.ofBits .f32 0x45000000#32) + Ideal.ofBits .f32 0x3727C5AC#32) := by
  rw [val_main_v64_apply, val_main_v63_apply, val_main_v62_apply, val_main_cst_8_apply, val_main_v59_apply, val_main_v58_apply, val_main_cst_7_apply, val_main_v57_apply,
    val_main_v56_apply, val_main_cst_6_apply]
  refine congrArg Ideal.rsqrt (congrArg₂ (· + ·) (congrArg₂ Ideal.div (((congrArg (· + _) ref_zero).trans (zero_add _)).trans (Finset.sum_congr rfl fun k _ => ?_)) rfl) rfl)
  rw [val_main_v55_apply]
  have e : val_main_v54 (F := Ideal) x0 x1 x2 x3 x4 x5 x6 x7 x8 x9 x10 x11 x12 (idx_main_v56 (idx_main_v57 (ix2 a 0)) k) = _ :=
    Eq.trans (congrArg _ (funext fun b => by fin_cases b <;> rfl)) (ref_dev x0 x3 x1 x4 x2 x5 x6 x7 x8 x9 x10 x11 x12 h3 h4 h5 a k)
  exact congrArg₂ (· * ·) e e

include h3 h4 h5 in
/-- The first result. -/
theorem ref_h (a : Fin 8192) (c : Fin 2048) : val_main_v72 (F := Ideal) x0 x1 x2 x3 x4 x5 x6 x7 x8 x9 x10 x11 x12 x13 x14 (ix2 a c) = resH x0 x3 x1 x4 x2 x5 x6 x7 x8 x9 x10 x11 x12 x13 x14 a c := by
  rw [val_main_v72_apply, val_main_v69_apply, val_main_v66_apply, val_main_v65_apply, val_main_v61_apply, val_main_v60_apply, val_main_v68_apply, val_main_v67_apply,
    val_main_v47_apply, val_main_v71_apply, val_main_v70_apply, val_main_v48_apply]
  unfold resH lay
  refine congrArg₂ (· + ·) (congrArg₂ (· * ·) (congrArg₂ (· * ·) (congrArg₂ (· - ·) (ref_z x0 x3 x1 x4 x2 x5 x6 x7 x8 x9 x10 x11 x12 h3 h4 h5 a c) ?_) ?_) ?_) ?_
  · exact Eq.trans (congrArg _ (funext fun b => by fin_cases b <;> rfl)) (ref_mean x0 x3 x1 x4 x2 x5 x6 x7 x8 x9 x10 x11 x12 h3 h4 h5 a)
  · exact Eq.trans (congrArg _ (funext fun b => by fin_cases b <;> rfl)) (ref_var x0 x3 x1 x4 x2 x5 x6 x7 x8 x9 x10 x11 x12 h3 h4 h5 a)
  · refine congrArg x13 (funext fun b => Fin.ext ?_)
    fin_cases b <;> simp [idx_main_v47, idx_main_v67, idx_main_v68] <;> omega
  · refine congrArg x14 (funext fun b => Fin.ext ?_)
    fin_cases b <;> simp [idx_main_v48, idx_main_v70, idx_main_v71] <;> omega

include h3 h4 h5 in
/-- The second result. -/
theorem ref_logits (e : Fin 256) (a : Fin 8192) : val_main_v75 (F := Ideal) x0 x1 x2 x3 x4 x5 x6 x7 x8 x9 x10 x11 x12 x13 x14 x15 (ix2 e a) = resL x0 x3 x1 x4 x2 x5 x6 x7 x8 x9 x10 x11 x12 x13 x14 x15 e a := by
  rw [val_main_v75_apply, val_main_v74_apply]
  unfold resL
  refine Finset.sum_congr rfl fun k _ => (mul_comm _ _).trans ?_
  exact congrArg₂ (· * ·) (Eq.trans (congrArg _ (funext fun b => by fin_cases b <;> rfl)) (ref_w15 x15 k e))
    (Eq.trans (congrArg _ (funext fun b => by fin_cases b <;> rfl)) (ref_h x0 x3 x1 x4 x2 x5 x6 x7 x8 x9 x10 x11 x12 x13 x14 h3 h4 h5 a k))

end Rows

end Cert.Mix
-- ==== Proof.Mix.Pre.lean ====
module

public import proofs.«01_k».proof.Pre_finite_weights
public import proofs.«01_k».proof.Proof.Gen.Pre_finite_weights
public import proofs.«01_k».proof.Proof.Diff.Pre

@[expose] public section

set_option maxRecDepth 16384

/-! # What the precondition says: every weight of a group is a real number -/

noncomputable section

namespace Cert.Mix

open Idealize.ShloMosaic
open Cert.KernelIdeal.Diff (and_all real_of_lt)
open Cert.Pre_finite_weights Cert.Pre_finite_weights.Gen

theorem real0 (x : FVec Ideal S1x8192x512 .f32)
    (h : Host.reduce IntOp.andi (cmpf .olt (Host.absf x) (broadcastInDim S1x8192x512 ![] bcast_S_S1x8192x512 (constant S_ .f32 0x7F800000#32)))
      (constantI S_ 1 1#1) reducesTo_S1x8192x512_S_d0_1_2 h_S_ (fun a => a.elim0) = 1#1) (i) : ∃ r : ℝ, x i = r :=
  real_of_lt _ (and_all _ _ _ _ _ (fun a b => funext fun k => k.elim0) h i)

theorem real1 (x : FVec Ideal S4x2048x512 .f32)
    (h : Host.reduce IntOp.andi (cmpf .olt (Host.absf x) (broadcastInDim S4x2048x512 ![] bcast_S_S4x2048x512 (constant S_ .f32 0x7F800000#32)))
      (constantI S_ 1 1#1) reducesTo_S4x2048x512_S_d0_1_2 h_S_ (fun a => a.elim0) = 1#1) (i) : ∃ r : ℝ, x i = r :=
  real_of_lt _ (and_all _ _ _ _ _ (fun a b => funext fun k => k.elim0) h i)

theorem real2 (x : FVec Ideal S16x512x512 .f32)
    (h : Host.reduce IntOp.andi (cmpf .olt (Host.absf x) (broadcastInDim S16x512x512 ![] bcast_S_S16x512x512 (constant S_ .f32 0x7F800000#32)))
      (constantI S_ 1 1#1) reducesTo_S16x512x512_S_d0_1_2 h_S_ (fun a => a.elim0) = 1#1) (i) : ∃ r : ℝ, x i = r :=
  real_of_lt _ (and_all _ _ _ _ _ (fun a b => funext fun k => k.elim0) h i)

/-- Under the precondition every weight is a real number. -/
theorem reals (x0 x1 x2 l0 l1 l2 x6 x7 x8 x9 x10 x11 x12 x13 x14 x15)
    (h : Cert.Pre_finite_weights.fn (F := Ideal) x0 x1 x2 l0 l1 l2 x6 x7 x8 x9 x10 x11 x12 x13 x14 x15 = fun _ => 1#1) :
    (∀ i, ∃ r : ℝ, l0 i = r) ∧ (∀ i, ∃ r : ℝ, l1 i = r) ∧ (∀ i, ∃ r : ℝ, l2 i = r) := by
  have h0 := congrFun h (fun a => a.elim0)
  have h1 := IntOp.andi_eq_one.1 h0
  have h2 := IntOp.andi_eq_one.1 h1.1
  exact ⟨real0 l0 h2.1, real1 l1 h2.2, real2 l2 h1.2⟩

end Cert.Mix
-- ==== Proof.Mix.Main.lean ====
module

public import proofs.«01_k».proof.Defs
public import proofs.«01_k».proof.Proof.Mix.Step
public import proofs.«01_k».proof.Proof.Mix.Ref
public import proofs.«01_k».proof.Proof.Mix.Pre
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

/-! # The arrays that the call leaves, and the equality -/

noncomputable section

namespace Cert.Mix

open Cert.MergeIdeal Cert.MergeIdeal.Gen
open Idealize.ShloMosaic Idealize.ShloMosaic.TcCoe
open Idealize.ShloMosaic.Pipeline (Dat)

variable (m : (ℓ : Loc nD τ sig) → Buf (Elt Ideal) ℓ) (c : Dev nD)

/-- The arguments. -/
abbrev arg0 : S1x8192x512.Idx → EReal := m ((c.tc : Thread nD τ).loc main_arg0)
abbrev arg1 : S4x2048x512.Idx → EReal := m ((c.tc : Thread nD τ).loc main_arg1)
abbrev arg2 : S16x512x512.Idx → EReal := m ((c.tc : Thread nD τ).loc main_arg2)
abbrev arg3 : S1x8192x512.Idx → EReal := m ((c.tc : Thread nD τ).loc main_arg3)
abbrev arg4 : S4x2048x512.Idx → EReal := m ((c.tc : Thread nD τ).loc main_arg4)
abbrev arg5 : S16x512x512.Idx → EReal := m ((c.tc : Thread nD τ).loc main_arg5)
abbrev arg6 : S8192x1024.Idx → EReal := m ((c.tc : Thread nD τ).loc main_arg6)
abbrev arg7 : S8192x4096.Idx → EReal := m ((c.tc : Thread nD τ).loc main_arg7)
abbrev arg8 : S8192x4096.Idx → EReal := m ((c.tc : Thread nD τ).loc main_arg8)
abbrev arg9 : S8192x2048.Idx → EReal := m ((c.tc : Thread nD τ).loc main_arg9)
abbrev arg10 : S1x1024x2048.Idx → EReal := m ((c.tc : Thread nD τ).loc main_arg10)
abbrev arg11 : S1x512x2048.Idx → EReal := m ((c.tc : Thread nD τ).loc main_arg11)
abbrev arg12 : S1x2048x2048.Idx → EReal := m ((c.tc : Thread nD τ).loc main_arg12)
abbrev arg13 : S1x2048.Idx → EReal := m ((c.tc : Thread nD τ).loc main_arg13)
abbrev arg14 : S1x2048.Idx → EReal := m ((c.tc : Thread nD τ).loc main_arg14)
abbrev arg15 : S1x2048x256.Idx → EReal := m ((c.tc : Thread nD τ).loc main_arg15)

/-- What the host hands over. -/
theorem host0 (k : Fin 1) (a : Fin 8192) (j : Fin 512) : V m c main_arg0 (ix3 k a j) = arg0 m c (ix3 k a j) := by
  unfold V
  after_reads_at

theorem host1 (k : Fin 4) (a : Fin 2048) (j : Fin 512) : V m c main_arg1 (ix3 k a j) = arg1 m c (ix3 k a j) := by
  unfold V
  after_reads_at

theorem host2 (k : Fin 16) (a : Fin 512) (j : Fin 512) : V m c main_arg2 (ix3 k a j) = arg2 m c (ix3 k a j) := by
  unfold V
  after_reads_at

theorem host3 (k : Fin 1) (a : Fin 8192) (j : Fin 512) : V m c main_arg3 (ix3 k a j) = arg3 m c (ix3 k a j) := by
  unfold V
  after_reads_at

theorem host4 (k : Fin 4) (a : Fin 2048) (j : Fin 512) : V m c main_arg4 (ix3 k a j) = arg4 m c (ix3 k a j) := by
  unfold V
  after_reads_at

theorem host5 (k : Fin 16) (a : Fin 512) (j : Fin 512) : V m c main_arg5 (ix3 k a j) = arg5 m c (ix3 k a j) := by
  unfold V
  after_reads_at

theorem host9 (a : Fin 8192) (j : Fin 2048) : V m c main_arg9 (ix2 a j) = arg9 m c (ix2 a j) := by
  unfold V
  after_reads_at

theorem host6 (a : Fin 8192) (k : Fin 1024) : V m c main_v0 (ix2 a k) = arg6 m c (ix2 a k) := by
  unfold V
  after_reads_at

theorem host7 (a : Fin 8192) (k : Fin 4096) : V m c main_v1 (ix2 a k) = arg7 m c (ix2 a k) := by
  unfold V
  after_reads_at

theorem host8 (a : Fin 8192) (k : Fin 4096) : V m c main_v2 (ix2 a k) = arg8 m c (ix2 a k) := by
  unfold V
  after_reads_at

theorem host10 (k : Fin 1024) (n : Fin 2048) : V m c main_v4 (ix2 k n) = arg10 m c (ix3 0 k n) := by
  unfold V
  after_reads_at

theorem host11 (k : Fin 512) (n : Fin 2048) : V m c main_v6 (ix2 k n) = arg11 m c (ix3 0 k n) := by
  unfold V
  after_reads_at

theorem host12 (k n : Fin 2048) : V m c main_v8 (ix2 k n) = arg12 m c (ix3 0 k n) := by
  unfold V
  after_reads_at

theorem host13 (e : Fin 256) (k : Fin 2048) : V m c main_v11 (ix2 e k) = arg15 m c (ix3 0 k e) := by
  unfold V
  after_reads_at

theorem host14 (k : Fin 2048) : V m c main_v13 (ix2 0 k) = arg13 m c (ix2 0 k) := by
  unfold V
  after_reads_at

theorem host15 (k : Fin 2048) : V m c main_v15 (ix2 0 k) = arg14 m c (ix2 0 k) := by
  unfold V
  after_reads_at

/-- Where the blocks of a step lie. -/
theorem place0 : ∀ t : Fin cfg0.N, win0_0.index t = ![0, t.val, 0] :=
  (by decide +kernel : ∀ t : Fin grid0.N, _)

theorem place1 : ∀ t : Fin cfg0.N, win0_1.index t = ![0, t.val, 0] :=
  (by decide +kernel : ∀ t : Fin grid0.N, _)

theorem place2 : ∀ t : Fin cfg0.N, win0_2.index t = ![0, t.val, 0] :=
  (by decide +kernel : ∀ t : Fin grid0.N, _)

theorem place3 : ∀ t : Fin cfg0.N, win0_3.index t = ![0, t.val, 0] :=
  (by decide +kernel : ∀ t : Fin grid0.N, _)

theorem place4 : ∀ t : Fin cfg0.N, win0_4.index t = ![0, t.val, 0] :=
  (by decide +kernel : ∀ t : Fin grid0.N, _)

theorem place5 : ∀ t : Fin cfg0.N, win0_5.index t = ![0, t.val, 0] :=
  (by decide +kernel : ∀ t : Fin grid0.N, _)

theorem place6 : ∀ t : Fin cfg0.N, win0_6.index t = ![t.val, 0] :=
  (by decide +kernel : ∀ t : Fin grid0.N, _)

theorem place7 : ∀ t : Fin cfg0.N, win0_7.index t = ![t.val, 0] :=
  (by decide +kernel : ∀ t : Fin grid0.N, _)

theorem place8 : ∀ t : Fin cfg0.N, win0_8.index t = ![t.val, 1] :=
  (by decide +kernel : ∀ t : Fin grid0.N, _)

theorem place9 : ∀ t : Fin cfg0.N, win0_9.index t = ![t.val, 0] :=
  (by decide +kernel : ∀ t : Fin grid0.N, _)

theorem place10 : ∀ t : Fin cfg0.N, win0_10.index t = ![0, 0] :=
  (by decide +kernel : ∀ t : Fin grid0.N, _)

theorem place11 : ∀ t : Fin cfg0.N, win0_11.index t = ![0, 0] :=
  (by decide +kernel : ∀ t : Fin grid0.N, _)

theorem place12 : ∀ t : Fin cfg0.N, win0_12.index t = ![0, 0] :=
  (by decide +kernel : ∀ t : Fin grid0.N, _)

theorem place13 : ∀ t : Fin cfg0.N, win0_13.index t = ![0, 0] :=
  (by decide +kernel : ∀ t : Fin grid0.N, _)

theorem place14 : ∀ t : Fin cfg0.N, win0_14.index t = ![0, 0] :=
  (by decide +kernel : ∀ t : Fin grid0.N, _)

theorem place15 : ∀ t : Fin cfg0.N, win0_15.index t = ![0, 0] :=
  (by decide +kernel : ∀ t : Fin grid0.N, _)

theorem place16 : ∀ t : Fin cfg0.N, win0_16.index t = ![t.val, 0] :=
  (by decide +kernel : ∀ t : Fin grid0.N, _)

theorem place17 : ∀ t : Fin cfg0.N, win0_17.index t = ![0, t.val] :=
  (by decide +kernel : ∀ t : Fin grid0.N, _)

/-- A step's blocks. -/
theorem blk0 (t : Fin cfg0.N) (r : Fin 256) (j : Fin 512) (a : Fin 8192) (ha : a.val = t.val * 256 + r.val) : iblk m c 0 t (ix3 0 r j) = arg0 m c (ix3 0 a j) := by
  have p := place0 t
  rw [← host0]
  blk_ext [iblk, p]

theorem blk3 (t : Fin cfg0.N) (r : Fin 256) (j : Fin 512) (a : Fin 8192) (ha : a.val = t.val * 256 + r.val) : iblk m c 3 t (ix3 0 r j) = arg3 m c (ix3 0 a j) := by
  have p := place3 t
  rw [← host3]
  blk_ext [iblk, p]

theorem blk1 (t : Fin cfg0.N) (k : Fin 4) (r : Fin 64) (j : Fin 512) (a : Fin 2048) (ha : a.val = t.val * 64 + r.val) : iblk m c 1 t (ix3 k r j) = arg1 m c (ix3 k a j) := by
  have p := place1 t
  rw [← host1]
  blk_ext [iblk, p]

theorem blk4 (t : Fin cfg0.N) (k : Fin 4) (r : Fin 64) (j : Fin 512) (a : Fin 2048) (ha : a.val = t.val * 64 + r.val) : iblk m c 4 t (ix3 k r j) = arg4 m c (ix3 k a j) := by
  have p := place4 t
  rw [← host4]
  blk_ext [iblk, p]

theorem blk2 (t : Fin cfg0.N) (k : Fin 16) (r : Fin 16) (j : Fin 512) (a : Fin 512) (ha : a.val = t.val * 16 + r.val) : iblk m c 2 t (ix3 k r j) = arg2 m c (ix3 k a j) := by
  have p := place2 t
  rw [← host2]
  blk_ext [iblk, p]

theorem blk5 (t : Fin cfg0.N) (k : Fin 16) (r : Fin 16) (j : Fin 512) (a : Fin 512) (ha : a.val = t.val * 16 + r.val) : iblk m c 5 t (ix3 k r j) = arg5 m c (ix3 k a j) := by
  have p := place5 t
  rw [← host5]
  blk_ext [iblk, p]

theorem blk6 (t : Fin cfg0.N) (r : Fin 256) (k : Fin 1024) (a : Fin 8192) (ha : a.val = t.val * 256 + r.val) : iblk m c 6 t (ix2 r k) = arg6 m c (ix2 a k) := by
  have p := place6 t
  rw [← host6]
  blk_ext [iblk, p]

theorem blk7 (t : Fin cfg0.N) (r : Fin 256) (k : Fin 2048) (a : Fin 8192) (ha : a.val = t.val * 256 + r.val) : iblk m c 7 t (ix2 r k) = arg7 m c (ix2 a (⟨k.val, by omega⟩ : Fin 4096)) := by
  have p := place7 t
  rw [← host7]
  blk_ext [iblk, p]

theorem blk8 (t : Fin cfg0.N) (r : Fin 256) (k : Fin 2048) (a : Fin 8192) (ha : a.val = t.val * 256 + r.val) : iblk m c 8 t (ix2 r k) = arg8 m c (ix2 a (⟨2048 + k.val, by omega⟩ : Fin 4096)) := by
  have p := place8 t
  rw [← host8]
  blk_ext [iblk, p]

theorem blk9 (t : Fin cfg0.N) (r : Fin 256) (k : Fin 2048) (a : Fin 8192) (ha : a.val = t.val * 256 + r.val) : iblk m c 9 t (ix2 r k) = arg9 m c (ix2 a k) := by
  have p := place9 t
  rw [← host9]
  blk_ext [iblk, p]

theorem blk10 (t : Fin cfg0.N) (k : Fin 1024) (n : Fin 2048) : iblk m c 10 t (ix2 k n) = arg10 m c (ix3 0 k n) := by
  have p := place10 t
  rw [← host10]
  blk_ext [iblk, p]

theorem blk11 (t : Fin cfg0.N) (k : Fin 512) (n : Fin 2048) : iblk m c 11 t (ix2 k n) = arg11 m c (ix3 0 k n) := by
  have p := place11 t
  rw [← host11]
  blk_ext [iblk, p]

theorem blk12 (t : Fin cfg0.N) (k n : Fin 2048) : iblk m c 12 t (ix2 k n) = arg12 m c (ix3 0 k n) := by
  have p := place12 t
  rw [← host12]
  blk_ext [iblk, p]

theorem blk13 (t : Fin cfg0.N) (e : Fin 256) (k : Fin 2048) : iblk m c 13 t (ix2 e k) = arg15 m c (ix3 0 k e) := by
  have p := place13 t
  rw [← host13]
  blk_ext [iblk, p]

theorem blk14 (t : Fin cfg0.N) (k : Fin 2048) : iblk m c 14 t (ix2 0 k) = arg13 m c (ix2 0 k) := by
  have p := place14 t
  rw [← host14]
  blk_ext [iblk, p]

theorem blk15 (t : Fin cfg0.N) (k : Fin 2048) : iblk m c 15 t (ix2 0 k) = arg14 m c (ix2 0 k) := by
  have p := place15 t
  rw [← host15]
  blk_ext [iblk, p]

/-- A step's interleaved blocks, by position. -/
theorem strided0 (t : Fin cfg0.N) (r : Fin 256) (j : Fin 512) (a : Fin 8192) (ha : a.val = t.val * 256 + r.val) : strided m c t 0 r j = at4 (arg4 m c) a j := by
  have hr := r.isLt
  refine (blk4 m c t (⟨r.val % 4, by omega⟩ : Fin 4) (⟨r.val / 4, by omega⟩ : Fin 64) j (⟨a.val / 4, by omega⟩ : Fin 2048) (by show a.val / 4 = t.val * 64 + r.val / 4; omega)).trans ?_
  have e : (⟨r.val % 4, by omega⟩ : Fin 4) = ⟨a.val % 4, by omega⟩ := Fin.ext (by show r.val % 4 = a.val % 4; omega)
  unfold at4
  rw [e]

theorem strided1 (t : Fin cfg0.N) (r : Fin 256) (j : Fin 512) (a : Fin 8192) (ha : a.val = t.val * 256 + r.val) : strided m c t 1 r j = at16 (arg5 m c) a j := by
  have hr := r.isLt
  refine (blk5 m c t (⟨r.val % 16, by omega⟩ : Fin 16) (⟨r.val / 16, by omega⟩ : Fin 16) j (⟨a.val / 16, by omega⟩ : Fin 512) (by show a.val / 16 = t.val * 16 + r.val / 16; omega)).trans ?_
  have e : (⟨r.val % 16, by omega⟩ : Fin 16) = ⟨a.val % 16, by omega⟩ := Fin.ext (by show r.val % 16 = a.val % 16; omega)
  unfold at16
  rw [e]

theorem strided2 (t : Fin cfg0.N) (r : Fin 256) (j : Fin 512) (a : Fin 8192) (ha : a.val = t.val * 256 + r.val) : strided m c t 2 r j = at4 (arg1 m c) a j := by
  have hr := r.isLt
  refine (blk1 m c t (⟨r.val % 4, by omega⟩ : Fin 4) (⟨r.val / 4, by omega⟩ : Fin 64) j (⟨a.val / 4, by omega⟩ : Fin 2048) (by show a.val / 4 = t.val * 64 + r.val / 4; omega)).trans ?_
  have e : (⟨r.val % 4, by omega⟩ : Fin 4) = ⟨a.val % 4, by omega⟩ := Fin.ext (by show r.val % 4 = a.val % 4; omega)
  unfold at4
  rw [e]

theorem strided3 (t : Fin cfg0.N) (r : Fin 256) (j : Fin 512) (a : Fin 8192) (ha : a.val = t.val * 256 + r.val) : strided m c t 3 r j = at16 (arg2 m c) a j := by
  have hr := r.isLt
  refine (blk2 m c t (⟨r.val % 16, by omega⟩ : Fin 16) (⟨r.val / 16, by omega⟩ : Fin 16) j (⟨a.val / 16, by omega⟩ : Fin 512) (by show a.val / 16 = t.val * 16 + r.val / 16; omega)).trans ?_
  have e : (⟨r.val % 16, by omega⟩ : Fin 16) = ⟨a.val % 16, by omega⟩ := Fin.ext (by show r.val % 16 = a.val % 16; omega)
  unfold at16
  rw [e]

/-- An entry of the first result. -/
abbrev hidden (a : Fin 8192) (q : Fin 2048) : EReal := resH (arg0 m c) (arg3 m c) (arg1 m c) (arg4 m c) (arg2 m c) (arg5 m c) (arg6 m c) (arg7 m c) (arg8 m c) (arg9 m c) (arg10 m c) (arg11 m c) (arg12 m c) (arg13 m c) (arg14 m c) a q

/-- An entry of the second result. -/
abbrev logits (e : Fin 256) (a : Fin 8192) : EReal := resL (arg0 m c) (arg3 m c) (arg1 m c) (arg4 m c) (arg2 m c) (arg5 m c) (arg6 m c) (arg7 m c) (arg8 m c) (arg9 m c) (arg10 m c) (arg11 m c) (arg12 m c) (arg13 m c) (arg14 m c) (arg15 m c) e a

/-- A row of a step. -/
theorem row_eq (t : Fin cfg0.N) (r : Fin 256) (a : Fin 8192) (ha : a.val = t.val * 256 + r.val) (q : Fin 2048) :
    rowz (iblk m c 3 t) (iblk m c 0 t) (strided m c t 0) (strided m c t 1) (strided m c t 2) (strided m c t 3)
        (iblk m c 6 t) (iblk m c 10 t) (iblk m c 11 t) (iblk m c 7 t) (iblk m c 8 t) (iblk m c 9 t) (iblk m c 12 t) (iblk m c 14 t) (iblk m c 15 t) r q = hidden m c a q := by
  unfold rowz hidden resH resZ mixRow
  simp only [fun j => strided0 m c t r j a ha, fun j => strided1 m c t r j a ha, fun j => strided2 m c t r j a ha, fun j => strided3 m c t r j a ha,
    fun j => blk3 m c t r j a ha, fun j => blk0 m c t r j a ha, fun k => blk6 m c t r k a ha, fun k => blk7 m c t r k a ha,
    fun k => blk8 m c t r k a ha, fun k => blk9 m c t r k a ha, blk10 m c t, blk11 m c t, blk12 m c t, blk14 m c t, blk15 m c t]

/-- An entry of a step's logits. -/
theorem logit_eq (t : Fin cfg0.N) (r : Fin 256) (a : Fin 8192) (ha : a.val = t.val * 256 + r.val) (e : Fin 256) :
    logit (iblk m c 13 t) (rowz (iblk m c 3 t) (iblk m c 0 t) (strided m c t 0) (strided m c t 1) (strided m c t 2) (strided m c t 3)
        (iblk m c 6 t) (iblk m c 10 t) (iblk m c 11 t) (iblk m c 7 t) (iblk m c 8 t) (iblk m c 9 t) (iblk m c 12 t) (iblk m c 14 t) (iblk m c 15 t) r) e = logits m c e a := by
  rw [show (rowz (iblk m c 3 t) (iblk m c 0 t) (strided m c t 0) (strided m c t 1) (strided m c t 2) (strided m c t 3)
        (iblk m c 6 t) (iblk m c 10 t) (iblk m c 11 t) (iblk m c 7 t) (iblk m c 8 t) (iblk m c 9 t) (iblk m c 12 t) (iblk m c 14 t) (iblk m c 15 t) r) = fun q => hidden m c a q from funext fun q => row_eq m c t r a ha q]
  unfold logit logits resL
  refine Finset.sum_congr rfl fun k _ => ?_
  rw [blk13 m c t e k]

/-- Where an index of a step's result blocks lies. -/
theorem out_place16 (t : Fin cfg0.N) (r : Fin 256) (q : Fin 2048) (a : Fin 8192) (ha : a.val = t.val * 256 + r.val) :
    ((cfg0.win 16).blk t).view.emb (ix2 r q) = (ix2 a q : S8192x2048.Idx) := by
  have p := place16 t
  blk_ext [p]

theorem out_place17 (t : Fin cfg0.N) (e r : Fin 256) (a : Fin 8192) (ha : a.val = t.val * 256 + r.val) :
    ((cfg0.win 17).blk t).view.emb (ix2 e r) = (ix2 e a : S256x8192.Idx) := by
  have p := place17 t
  blk_ext [p]

/-- The arrays the call leaves. -/
theorem result16 : (dats m 0 c).arrAt 16 cfg0.N = fun i : S8192x2048.Idx => hidden m c (i 0) (i 1) := by
  refine (dats m 0 c).arrAt_eq_of_covers 16 _ (by decide +kernel) fun t hf y => ?_
  rw [after0_16]
  have hO := fun r q => (step_at m c t r 0 q).1
  revert hO
  generalize outsAt0 m c t = O
  intro hO
  obtain ⟨r, q, rfl⟩ : ∃ (r : Fin 256) (q : Fin 2048), y = (ix2 r q : S256x2048.Idx) :=
    ⟨y 0, y 1, funext fun k => by fin_cases k <;> rfl⟩
  have ht : t.val < 32 := t.isLt
  have hr := r.isLt
  obtain ⟨a, ha⟩ : ∃ a : Fin 8192, a.val = t.val * 256 + r.val := ⟨⟨_, by omega⟩, rfl⟩
  rw [out_place16 t r q a ha]
  exact (hO r q).trans (row_eq m c t r a ha q)

theorem result17 : (dats m 0 c).arrAt 17 cfg0.N = fun i : S256x8192.Idx => logits m c (i 0) (i 1) := by
  refine (dats m 0 c).arrAt_eq_of_covers 17 _ (by decide +kernel) fun t hf y => ?_
  rw [after0_17]
  have hO := fun r e => (step_at m c t r e 0).2
  revert hO
  generalize outsAt0 m c t = O
  intro hO
  obtain ⟨e, r, rfl⟩ : ∃ (e r : Fin 256), y = (ix2 e r : S256x256.Idx) :=
    ⟨y 0, y 1, funext fun k => by fin_cases k <;> rfl⟩
  have ht : t.val < 32 := t.isLt
  have hr := r.isLt
  obtain ⟨a, ha⟩ : ∃ a : Fin 8192, a.val = t.val * 256 + r.val := ⟨⟨_, by omega⟩, rfl⟩
  rw [out_place17 t e r a ha]
  exact (hO r e).trans (logit_eq m c t r a ha e)

/-- The reference runs, its arguments end unchanged, and every semaphore reads zero. -/
theorem reference_runs : Cert.quiescent_MergeRefIdeal (hMergeRefIdeal := Cert.MergeRefIdeal.Gen.facts) :=
  fun m g _ => (θ_run _ _ _).mono (fun r h => ⟨fun c => (h c).2.2, sem_eq_zero_of_no_sems (by decide) r.2⟩) (Cert.MergeRefIdeal.Value.run (F := Ideal) m g)

set_option maxHeartbeats 4000000 in
/-- The two programs end with equal results, element by element. -/
theorem algebraic : Cert.algebraic_MergeIdeal_MergeRefIdeal_pre_finite_weights
    (hMergeIdeal := Cert.MergeIdeal.Gen.facts) (hMergeRefIdeal := Cert.MergeRefIdeal.Gen.facts) (hPre_finite_weights := Cert.Pre_finite_weights.Gen.facts) := by
  intro m g m' g' hpre hargs
  refine ⟨fun c => (dats m 0 c).arrAt 16 cfg0.N, fun c => (dats m 0 c).arrAt 17 cfg0.N, Value.run_blocks m g, ?_⟩
  refine (θ_run Cert.MergeRefIdeal.defs _ _).mono (fun r h c => ?_) (Cert.MergeRefIdeal.Value.run (F := Ideal) m' g')
  obtain ⟨e0, e1, e2, e3, e4, e5, e6, e7, e8, e9, e10, e11, e12, e13, e14, e15⟩ := hargs c
  obtain ⟨h3, h4, h5⟩ := reals _ _ _ _ _ _ _ _ _ _ _ _ _ _ _ _ (hpre c)
  refine ⟨(h c).1.trans ?_, (h c).2.1.trans ?_, (h c).2.2⟩
  · refine (Cert.MergeRefIdeal.Read.val_main_v72_eq (F := Ideal) _ _).trans ?_
    rw [e0, e1, e2, e3, e4, e5, e6, e7, e8, e9, e10, e11, e12, e13, e14]
    refine Eq.trans (funext fun i => ?_) (result16 m c).symm
    obtain ⟨a, q, rfl⟩ : ∃ (a : Fin 8192) (q : Fin 2048), i = (ix2 a q : S8192x2048.Idx) :=
      ⟨i 0, i 1, funext fun k => by fin_cases k <;> rfl⟩
    exact ref_h (arg0 m c) (arg3 m c) (arg1 m c) (arg4 m c) (arg2 m c) (arg5 m c) (arg6 m c) (arg7 m c) (arg8 m c) (arg9 m c) (arg10 m c) (arg11 m c) (arg12 m c) (arg13 m c) (arg14 m c) h3 h4 h5 a q
  · refine (Cert.MergeRefIdeal.Read.val_main_v75_eq (F := Ideal) _ _).trans ?_
    rw [e0, e1, e2, e3, e4, e5, e6, e7, e8, e9, e10, e11, e12, e13, e14, e15]
    refine Eq.trans (funext fun i => ?_) (result17 m c).symm
    obtain ⟨e, a, rfl⟩ : ∃ (e : Fin 256) (a : Fin 8192), i = (ix2 e a : S256x8192.Idx) :=
      ⟨i 0, i 1, funext fun k => by fin_cases k <;> rfl⟩
    exact ref_logits (arg0 m c) (arg3 m c) (arg1 m c) (arg4 m c) (arg2 m c) (arg5 m c) (arg6 m c) (arg7 m c) (arg8 m c) (arg9 m c) (arg10 m c) (arg11 m c) (arg12 m c) (arg13 m c) (arg14 m c) (arg15 m c) h3 h4 h5 e a

end Cert.Mix
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Dil0
public import proofs.«01_k».proof.Proof.Gen.Dil0.Frame
public import proofs.«01_k».proof.Proof.Gen.Dil0Ideal
public import proofs.«01_k».proof.Proof.Gen.Dil0Ideal.Frame
public import proofs.«01_k».proof.Proof.Gen.Dil0Ideal.Value
public import proofs.«01_k».proof.Proof.Gen.Dil0RefIdeal
public import proofs.«01_k».proof.Proof.Gen.Dil0RefIdeal.Run
public import proofs.«01_k».proof.Proof.Gen.Dil0RefIdeal.Read
public import proofs.«01_k».proof.Proof.Gen.Dil1
public import proofs.«01_k».proof.Proof.Gen.Dil1.Frame
public import proofs.«01_k».proof.Proof.Gen.Dil1Ideal
public import proofs.«01_k».proof.Proof.Gen.Dil1Ideal.Frame
public import proofs.«01_k».proof.Proof.Gen.Dil1Ideal.Value
public import proofs.«01_k».proof.Proof.Gen.Dil1RefIdeal
public import proofs.«01_k».proof.Proof.Gen.Dil1RefIdeal.Run
public import proofs.«01_k».proof.Proof.Gen.Dil1RefIdeal.Read
public import proofs.«01_k».proof.Proof.Gen.Dil2
public import proofs.«01_k».proof.Proof.Gen.Dil2.Frame
public import proofs.«01_k».proof.Proof.Gen.Dil2Ideal
public import proofs.«01_k».proof.Proof.Gen.Dil2Ideal.Frame
public import proofs.«01_k».proof.Proof.Gen.Dil2Ideal.Value
public import proofs.«01_k».proof.Proof.Gen.Dil2RefIdeal
public import proofs.«01_k».proof.Proof.Gen.Dil2RefIdeal.Run
public import proofs.«01_k».proof.Proof.Gen.Dil2RefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite_weights
public import proofs.«01_k».proof.Proof.Diff.Plain
public import proofs.«01_k».proof.Proof.Diff.Meet
public import proofs.«01_k».proof.Proof.Proj.Gates
public import proofs.«01_k».proof.Proof.Proj.Qkv
public import proofs.«01_k».proof.Proof.Proj.Dil0
public import proofs.«01_k».proof.Proof.Proj.Dil1
public import proofs.«01_k».proof.Proof.Proj.Dil2
public import proofs.«01_k».proof.Proof.Mix.Main
public import Idealize.ShloMosaic.Lib.Quiescent

@[expose] public section

noncomputable section

namespace Cert.Proof

open Idealize.ShloMosaic Idealize.SL.Sem

/-- The reference runs, its arguments end unchanged, and every semaphore reads zero. -/
theorem reference_runs : Cert.quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Value.run (F := Ideal) m g)

/-- Everything the certificate claims. -/
theorem claim : Cert.Claim := ⟨Cert.Kernel.Gen.facts, Cert.KernelIdeal.Gen.facts, Cert.ReferenceIdeal.Gen.facts,
  Cert.Gates.Gen.facts, Cert.GatesIdeal.Gen.facts, Cert.GatesRefIdeal.Gen.facts,
  Cert.Qkv.Gen.facts, Cert.QkvIdeal.Gen.facts, Cert.QkvRefIdeal.Gen.facts,
  Cert.Dil0.Gen.facts, Cert.Dil0Ideal.Gen.facts, Cert.Dil0RefIdeal.Gen.facts,
  Cert.Dil1.Gen.facts, Cert.Dil1Ideal.Gen.facts, Cert.Dil1RefIdeal.Gen.facts,
  Cert.Dil2.Gen.facts, Cert.Dil2Ideal.Gen.facts, Cert.Dil2RefIdeal.Gen.facts,
  Cert.Merge.Gen.facts, Cert.MergeIdeal.Gen.facts, Cert.MergeRefIdeal.Gen.facts,
  Cert.Pre_finite.Gen.facts, Cert.Pre_finite_weights.Gen.facts,
  Cert.KernelIdeal.Diff.quiescent_plain,
  fun m g _ => Cert.KernelIdeal.Diff.quiescent (F := Ideal) m g,
  fun m g _ => Cert.KernelIdeal.Diff.quiescent (F := Ideal) m g,
  reference_runs,
  fun m g _ => reference_runs m g trivial,
  fun m g _ => Cert.Gates.Gen.frame m g,
  fun m g _ => Cert.GatesIdeal.Gen.frame m g,
  Cert.GatesIdeal.Proj.reference_runs,
  fun m g _ => Cert.Qkv.Gen.frame m g,
  fun m g _ => Cert.QkvIdeal.Gen.frame m g,
  Cert.QkvIdeal.Proj.reference_runs,
  fun m g _ => Cert.Dil0.Gen.frame m g,
  fun m g _ => Cert.Dil0Ideal.Gen.frame m g,
  Cert.Dil0Ideal.Proj.reference_runs,
  fun m g _ => Cert.Dil1.Gen.frame m g,
  fun m g _ => Cert.Dil1Ideal.Gen.frame m g,
  Cert.Dil1Ideal.Proj.reference_runs,
  fun m g _ => Cert.Dil2.Gen.frame m g,
  fun m g _ => Cert.Dil2Ideal.Gen.frame m g,
  Cert.Dil2Ideal.Proj.reference_runs,
  fun m g _ => Cert.Merge.Gen.frame m g,
  fun m g _ => Cert.MergeIdeal.Gen.frame m g,
  fun m g _ => Cert.MergeIdeal.Gen.frame m g,
  Cert.Mix.reference_runs,
  fun m g _ => Cert.Mix.reference_runs m g trivial,
  IdealRules.named_const.statement _ _ _ _ _ rfl,
  Cert.KernelIdeal.Diff.algebraic,
  trivial,
  Cert.GatesIdeal.Proj.algebraic,
  IdealRules.named_const.statement _ _ _ _ _ rfl,
  Cert.QkvIdeal.Proj.algebraic,
  IdealRules.named_const.statement _ _ _ _ _ rfl,
  Cert.Dil0Ideal.Proj.algebraic,
  IdealRules.named_const.statement _ _ _ _ _ rfl,
  Cert.Dil1Ideal.Proj.algebraic,
  IdealRules.named_const.statement _ _ _ _ _ rfl,
  Cert.Dil2Ideal.Proj.algebraic,
  trivial,
  Cert.Mix.algebraic⟩

end Cert.Proof

end
